-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 128]⟩ ⟨2, ![1024, 1024]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 1024]⟩ ⟨2, ![1024, 1024]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x128 : Shape := ⟨2, ![1024, 128]⟩
abbrev S128x1024 : Shape := ⟨2, ![128, 1024]⟩
abbrev S1024x1024 : Shape := ⟨2, ![1024, 1024]⟩
abbrev S512x128 : Shape := ⟨2, ![512, 128]⟩
abbrev S256x128 : Shape := ⟨2, ![256, 128]⟩
abbrev S56 : Shape := ⟨1, ![56]⟩
abbrev S_ : Shape := ⟨0, ![]⟩
abbrev S128x128 : Shape := ⟨2, ![128, 128]⟩
abbrev S1 : Shape := ⟨1, ![1]⟩

abbrev nBuf : Space → Nat
  | .hbm => 3
  | .vmem => 35
  | .smem => 0
  | _ => 0

abbrev bufTy : (tb : Table) → Fin (tcTables nBuf tb) → BufTy
  | .hbm, ⟨0, _⟩ => ⟨S1024x128, .bf16⟩
  | .hbm, ⟨1, _⟩ => ⟨S128x1024, .bf16⟩
  | .hbm, ⟨2, _⟩ => ⟨S1024x1024, .f32⟩
  | .local _ .vmem, ⟨0, _⟩ => ⟨S1024x128, .bf16⟩
  | .local _ .vmem, ⟨1, _⟩ => ⟨S128x1024, .bf16⟩
  | .local _ .vmem, ⟨2, _⟩ => ⟨S1024x1024, .f32⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S1024x128, .bf16⟩
  | .local _ .vmem, ⟨11, _⟩ => ⟨S512x128, .bf16⟩
  | .local _ .vmem, ⟨12, _⟩ => ⟨S256x128, .bf16⟩
  | .local _ .vmem, ⟨13, _⟩ => ⟨S256x128, .bf16⟩
  | .local _ .vmem, ⟨14, _⟩ => ⟨S512x128, .bf16⟩
  | .local _ .vmem, ⟨15, _⟩ => ⟨S256x128, .bf16⟩
  | .local _ .vmem, ⟨16, _⟩ => ⟨S256x128, .bf16⟩
  | .local _ .vmem, ⟨17, _⟩ => ⟨S512x128, .bf16⟩
  | .local _ .vmem, ⟨18, _⟩ => ⟨S256x128, .bf16⟩
  | .local _ .vmem, ⟨19, _⟩ => ⟨S256x128, .bf16⟩
  | .local _ .vmem, ⟨20, _⟩ => ⟨S512x128, .bf16⟩
  | .local _ .vmem, ⟨21, _⟩ => ⟨S256x128, .bf16⟩
  | .local _ .vmem, ⟨22, _⟩ => ⟨S256x128, .bf16⟩
  | .local _ .vmem, ⟨23, _⟩ => ⟨S512x128, .bf16⟩
  | .local _ .vmem, ⟨24, _⟩ => ⟨S256x128, .bf16⟩
  | .local _ .vmem, ⟨25, _⟩ => ⟨S256x128, .bf16⟩
  | .local _ .vmem, ⟨26, _⟩ => ⟨S512x128, .bf16⟩
  | .local _ .vmem, ⟨27, _⟩ => ⟨S256x128, .bf16⟩
  | .local _ .vmem, ⟨28, _⟩ => ⟨S256x128, .bf16⟩
  | .local _ .vmem, ⟨29, _⟩ => ⟨S512x128, .bf16⟩
  | .local _ .vmem, ⟨30, _⟩ => ⟨S256x128, .bf16⟩
  | .local _ .vmem, ⟨31, _⟩ => ⟨S256x128, .bf16⟩
  | .local _ .vmem, ⟨32, _⟩ => ⟨S512x128, .bf16⟩
  | .local _ .vmem, ⟨33, _⟩ => ⟨S256x128, .bf16⟩
  | .local _ .vmem, ⟨34, _⟩ => ⟨S256x128, .bf16⟩
  | _, _ => ⟨S1024x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 1 → Bool
  | ⟨0, _⟩ => false
  | _ => false

abbrev dmaSemScoped : Fin 115 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | _ => false

abbrev sig : RefSig :=
  (ofTc nBuf bufTy 1 115 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_scratch12 : Ref sig .tc := ⟨.vmem, 15, rfl⟩
abbrev cc0_scratch13 : Ref sig .tc := ⟨.vmem, 16, rfl⟩
abbrev cc0_scratch14 : Ref sig .tc := ⟨.vmem, 17, rfl⟩
abbrev cc0_scratch15 : Ref sig .tc := ⟨.vmem, 18, rfl⟩
abbrev cc0_scratch16 : Ref sig .tc := ⟨.vmem, 19, rfl⟩
abbrev cc0_scratch17 : Ref sig .tc := ⟨.vmem, 20, rfl⟩
abbrev cc0_scratch18 : Ref sig .tc := ⟨.vmem, 21, rfl⟩
abbrev cc0_scratch19 : Ref sig .tc := ⟨.vmem, 22, rfl⟩
abbrev cc0_scratch20 : Ref sig .tc := ⟨.vmem, 23, rfl⟩
abbrev cc0_scratch21 : Ref sig .tc := ⟨.vmem, 24, rfl⟩
abbrev cc0_scratch22 : Ref sig .tc := ⟨.vmem, 25, rfl⟩
abbrev cc0_scratch23 : Ref sig .tc := ⟨.vmem, 26, rfl⟩
abbrev cc0_scratch24 : Ref sig .tc := ⟨.vmem, 27, rfl⟩
abbrev cc0_scratch25 : Ref sig .tc := ⟨.vmem, 28, rfl⟩
abbrev cc0_scratch26 : Ref sig .tc := ⟨.vmem, 29, rfl⟩
abbrev cc0_scratch27 : Ref sig .tc := ⟨.vmem, 30, rfl⟩
abbrev cc0_scratch28 : Ref sig .tc := ⟨.vmem, 31, rfl⟩
abbrev cc0_scratch29 : Ref sig .tc := ⟨.vmem, 32, rfl⟩
abbrev cc0_scratch30 : Ref sig .tc := ⟨.vmem, 33, rfl⟩
abbrev cc0_scratch31 : Ref sig .tc := ⟨.vmem, 34, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2 : BitVec 32 := 3#32
  let v8 : BitVec 32 := Scalar.xori v2 c3_i32_2
  let c1_i32_51 : BitVec 32 := 1#32
  let v108 : BitVec 32 := Scalar.muli v8 c1_i32_51
  let v109 : BitVec 32 := Scalar.addi c0_i32 v108
  v109.toNat
def k0_dev2 (d0 : Dev nD) : Nat :=
  let c0_i32_54 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.xori v2 c1_i32_3
  let c1_i32_53 : BitVec 32 := 1#32
  let v110 : BitVec 32 := Scalar.muli v9 c1_i32_53
  let v111 : BitVec 32 := Scalar.addi c0_i32_54 v110
  v111.toNat
def k0_dev3 (d0 : Dev nD) : Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_56 : BitVec 32 := 1#32
  let v112 : BitVec 32 := Scalar.muli v10 c1_i32_56
  let v113 : BitVec 32 := Scalar.addi c0_i32_57 v112
  v113.toNat
def k0_off1 (d0 : Dev nD) : Fin 2 → Nat :=
  let c1_i32_18 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v35 : BitVec 32 := Scalar.subi c1_i32_18 v4
  let c512_i32_19 : BitVec 32 := 512#32
  let v36 : BitVec 32 := Scalar.muli v35 c512_i32_19
  let v114 : Index := Scalar.indexCast v36
  let c0 : Index := 0#32
  ![v114.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let c512_i32 : BitVec 32 := 512#32
  let v11 : BitVec 32 := Scalar.muli v4 c512_i32
  let c1_i32_34 : BitVec 32 := 1#32
  let c1_i32_1 : BitVec 32 := 1#32
  let v5 : BitVec 32 := Scalar.andi v3 c1_i32_1
  let v6 : BitVec 32 := Scalar.xori v5 v4
  let v51 : BitVec 32 := Scalar.subi c1_i32_34 v6
  let c256_i32_35 : BitVec 32 := 256#32
  let v52 : BitVec 32 := Scalar.muli v51 c256_i32_35
  let v53 : BitVec 32 := Scalar.addi v11 v52
  let v75 : BitVec 32 := Scalar.subi v53 v11
  let c0_i32_66 : BitVec 32 := 0#32
  ![v75.toNat, 0]
def k0_off3 (d0 : Dev nD) : Fin 2 → Nat :=
  let c1_i32_18 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v35 : BitVec 32 := Scalar.subi c1_i32_18 v4
  let c512_i32_19 : BitVec 32 := 512#32
  let v36 : BitVec 32 := Scalar.muli v35 c512_i32_19
  let c512_i32 : BitVec 32 := 512#32
  let v11 : BitVec 32 := Scalar.muli v4 c512_i32
  let c1_i32_34 : BitVec 32 := 1#32
  let c1_i32_1 : BitVec 32 := 1#32
  let v5 : BitVec 32 := Scalar.andi v3 c1_i32_1
  let v6 : BitVec 32 := Scalar.xori v5 v4
  let v51 : BitVec 32 := Scalar.subi c1_i32_34 v6
  let c256_i32_35 : BitVec 32 := 256#32
  let v52 : BitVec 32 := Scalar.muli v51 c256_i32_35
  let v53 : BitVec 32 := Scalar.addi v11 v52
  let v75 : BitVec 32 := Scalar.subi v53 v11
  let v125 : BitVec 32 := Scalar.addi v36 v75
  let c0_i32_67 : BitVec 32 := 0#32
  ![v125.toNat, 0]
def k0_dev4 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2 : BitVec 32 := 3#32
  let v8 : BitVec 32 := Scalar.xori v2 c3_i32_2
  let c1_i32_64 : BitVec 32 := 1#32
  let v126 : BitVec 32 := Scalar.muli v8 c1_i32_64
  let v127 : BitVec 32 := Scalar.addi c0_i32_65 v126
  v127.toNat
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let c512_i32 : BitVec 32 := 512#32
  let v11 : BitVec 32 := Scalar.muli v4 c512_i32
  let c1_i32_1 : BitVec 32 := 1#32
  let v5 : BitVec 32 := Scalar.andi v3 c1_i32_1
  let v6 : BitVec 32 := Scalar.xori v5 v4
  let c256_i32 : BitVec 32 := 256#32
  let v19 : BitVec 32 := Scalar.muli v6 c256_i32
  let v20 : BitVec 32 := Scalar.addi v11 v19
  let v83 : BitVec 32 := Scalar.subi v20 v11
  let c0_i32_72 : BitVec 32 := 0#32
  ![v83.toNat, 0]
def k0_off5 (d0 : Dev nD) : Fin 2 → Nat :=
  let c1_i32_18 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v35 : BitVec 32 := Scalar.subi c1_i32_18 v4
  let c512_i32_19 : BitVec 32 := 512#32
  let v36 : BitVec 32 := Scalar.muli v35 c512_i32_19
  let c512_i32 : BitVec 32 := 512#32
  let v11 : BitVec 32 := Scalar.muli v4 c512_i32
  let c1_i32_1 : BitVec 32 := 1#32
  let v5 : BitVec 32 := Scalar.andi v3 c1_i32_1
  let v6 : BitVec 32 := Scalar.xori v5 v4
  let c256_i32 : BitVec 32 := 256#32
  let v19 : BitVec 32 := Scalar.muli v6 c256_i32
  let v20 : BitVec 32 := Scalar.addi v11 v19
  let v83 : BitVec 32 := Scalar.subi v20 v11
  let v134 : BitVec 32 := Scalar.addi v36 v83
  let c0_i32_73 : BitVec 32 := 0#32
  ![v134.toNat, 0]
def k0_dev5 (d0 : Dev nD) : Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2 : BitVec 32 := 3#32
  let v8 : BitVec 32 := Scalar.xori v2 c3_i32_2
  let c1_i32_70 : BitVec 32 := 1#32
  let v135 : BitVec 32 := Scalar.muli v8 c1_i32_70
  let v136 : BitVec 32 := Scalar.addi c0_i32_71 v135
  v136.toNat
def k0_off6 (d0 : Dev nD) : Fin 2 → Nat :=
  let c1_i32_20 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_1 : BitVec 32 := 1#32
  let v5 : BitVec 32 := Scalar.andi v3 c1_i32_1
  let c1_i32_0 : BitVec 32 := 1#32
  let v4 : BitVec 32 := Scalar.shrsi v3 c1_i32_0
  let v6 : BitVec 32 := Scalar.xori v5 v4
  let v37 : BitVec 32 := Scalar.subi c1_i32_20 v6
  let c512_i32_21 : BitVec 32 := 512#32
  let v38 : BitVec 32 := Scalar.muli v37 c512_i32_21
  let v143 : Index := Scalar.indexCast v38
  let c0_74 : Index := 0#32
  ![v143.toNat, 0]
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_1 : BitVec 32 := 1#32
  let v5 : BitVec 32 := Scalar.andi v3 c1_i32_1
  let c1_i32_0 : BitVec 32 := 1#32
  let v4 : BitVec 32 := Scalar.shrsi v3 c1_i32_0
  let v6 : BitVec 32 := Scalar.xori v5 v4
  let c512_i32_4 : BitVec 32 := 512#32
  let v12 : BitVec 32 := Scalar.muli v6 c512_i32_4
  let c1_i32_36 : BitVec 32 := 1#32
  let c2_i32 : BitVec 32 := 2#32
  let v7 : BitVec 32 := Scalar.shrsi v2 c2_i32
  let v54 : BitVec 32 := Scalar.subi c1_i32_36 v7
  let c256_i32_37 : BitVec 32 := 256#32
  let v55 : BitVec 32 := Scalar.muli v54 c256_i32_37
  let v56 : BitVec 32 := Scalar.addi v12 v55
  let v76 : BitVec 32 := Scalar.subi v56 v12
  let c0_i32_81 : BitVec 32 := 0#32
  ![v76.toNat, 0]
def k0_off8 (d0 : Dev nD) : Fin 2 → Nat :=
  let c1_i32_20 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_1 : BitVec 32 := 1#32
  let v5 : BitVec 32 := Scalar.andi v3 c1_i32_1
  let c1_i32_0 : BitVec 32 := 1#32
  let v4 : BitVec 32 := Scalar.shrsi v3 c1_i32_0
  let v6 : BitVec 32 := Scalar.xori v5 v4
  let v37 : BitVec 32 := Scalar.subi c1_i32_20 v6
  let c512_i32_21 : BitVec 32 := 512#32
  let v38 : BitVec 32 := Scalar.muli v37 c512_i32_21
  let c512_i32_4 : BitVec 32 := 512#32
  let v12 : BitVec 32 := Scalar.muli v6 c512_i32_4
  let c1_i32_36 : BitVec 32 := 1#32
  let c2_i32 : BitVec 32 := 2#32
  let v7 : BitVec 32 := Scalar.shrsi v2 c2_i32
  let v54 : BitVec 32 := Scalar.subi c1_i32_36 v7
  let c256_i32_37 : BitVec 32 := 256#32
  let v55 : BitVec 32 := Scalar.muli v54 c256_i32_37
  let v56 : BitVec 32 := Scalar.addi v12 v55
  let v76 : BitVec 32 := Scalar.subi v56 v12
  let v154 : BitVec 32 := Scalar.addi v38 v76
  let c0_i32_82 : BitVec 32 := 0#32
  ![v154.toNat, 0]
def k0_dev6 (d0 : Dev nD) : Nat :=
  let c0_i32_80 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.xori v2 c1_i32_3
  let c1_i32_79 : BitVec 32 := 1#32
  let v155 : BitVec 32 := Scalar.muli v9 c1_i32_79
  let v156 : BitVec 32 := Scalar.addi c0_i32_80 v155
  v156.toNat
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_1 : BitVec 32 := 1#32
  let v5 : BitVec 32 := Scalar.andi v3 c1_i32_1
  let c1_i32_0 : BitVec 32 := 1#32
  let v4 : BitVec 32 := Scalar.shrsi v3 c1_i32_0
  let v6 : BitVec 32 := Scalar.xori v5 v4
  let c512_i32_4 : BitVec 32 := 512#32
  let v12 : BitVec 32 := Scalar.muli v6 c512_i32_4
  let c2_i32 : BitVec 32 := 2#32
  let v7 : BitVec 32 := Scalar.shrsi v2 c2_i32
  let c256_i32_11 : BitVec 32 := 256#32
  let v21 : BitVec 32 := Scalar.muli v7 c256_i32_11
  let v22 : BitVec 32 := Scalar.addi v12 v21
  let v84 : BitVec 32 := Scalar.subi v22 v12
  let c0_i32_87 : BitVec 32 := 0#32
  ![v84.toNat, 0]
def k0_off10 (d0 : Dev nD) : Fin 2 → Nat :=
  let c1_i32_20 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_1 : BitVec 32 := 1#32
  let v5 : BitVec 32 := Scalar.andi v3 c1_i32_1
  let c1_i32_0 : BitVec 32 := 1#32
  let v4 : BitVec 32 := Scalar.shrsi v3 c1_i32_0
  let v6 : BitVec 32 := Scalar.xori v5 v4
  let v37 : BitVec 32 := Scalar.subi c1_i32_20 v6
  let c512_i32_21 : BitVec 32 := 512#32
  let v38 : BitVec 32 := Scalar.muli v37 c512_i32_21
  let c512_i32_4 : BitVec 32 := 512#32
  let v12 : BitVec 32 := Scalar.muli v6 c512_i32_4
  let c2_i32 : BitVec 32 := 2#32
  let v7 : BitVec 32 := Scalar.shrsi v2 c2_i32
  let c256_i32_11 : BitVec 32 := 256#32
  let v21 : BitVec 32 := Scalar.muli v7 c256_i32_11
  let v22 : BitVec 32 := Scalar.addi v12 v21
  let v84 : BitVec 32 := Scalar.subi v22 v12
  let v163 : BitVec 32 := Scalar.addi v38 v84
  let c0_i32_88 : BitVec 32 := 0#32
  ![v163.toNat, 0]
def k0_dev7 (d0 : Dev nD) : Nat :=
  let c0_i32_86 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.xori v2 c1_i32_3
  let c1_i32_85 : BitVec 32 := 1#32
  let v164 : BitVec 32 := Scalar.muli v9 c1_i32_85
  let v165 : BitVec 32 := Scalar.addi c0_i32_86 v164
  v165.toNat
def k0_off11 (d0 : Dev nD) : Fin 2 → Nat :=
  let c1_i32_22 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.shrsi v2 c2_i32
  let v39 : BitVec 32 := Scalar.subi c1_i32_22 v7
  let c512_i32_23 : BitVec 32 := 512#32
  let v40 : BitVec 32 := Scalar.muli v39 c512_i32_23
  let v172 : Index := Scalar.indexCast v40
  let c0_89 : Index := 0#32
  ![v172.toNat, 0]
def k0_off12 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.shrsi v2 c2_i32
  let c512_i32_5 : BitVec 32 := 512#32
  let v13 : BitVec 32 := Scalar.muli v7 c512_i32_5
  let c1_i32_38 : BitVec 32 := 1#32
  let c3_i32 : BitVec 32 := 3#32
  let v3 : BitVec 32 := Scalar.andi v2 c3_i32
  let c1_i32_0 : BitVec 32 := 1#32
  let v4 : BitVec 32 := Scalar.shrsi v3 c1_i32_0
  let v57 : BitVec 32 := Scalar.subi c1_i32_38 v4
  let c256_i32_39 : BitVec 32 := 256#32
  let v58 : BitVec 32 := Scalar.muli v57 c256_i32_39
  let v59 : BitVec 32 := Scalar.addi v13 v58
  let v77 : BitVec 32 := Scalar.subi v59 v13
  let c0_i32_96 : BitVec 32 := 0#32
  ![v77.toNat, 0]
def k0_off13 (d0 : Dev nD) : Fin 2 → Nat :=
  let c1_i32_22 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.shrsi v2 c2_i32
  let v39 : BitVec 32 := Scalar.subi c1_i32_22 v7
  let c512_i32_23 : BitVec 32 := 512#32
  let v40 : BitVec 32 := Scalar.muli v39 c512_i32_23
  let c512_i32_5 : BitVec 32 := 512#32
  let v13 : BitVec 32 := Scalar.muli v7 c512_i32_5
  let c1_i32_38 : BitVec 32 := 1#32
  let c3_i32 : BitVec 32 := 3#32
  let v3 : BitVec 32 := Scalar.andi v2 c3_i32
  let c1_i32_0 : BitVec 32 := 1#32
  let v4 : BitVec 32 := Scalar.shrsi v3 c1_i32_0
  let v57 : BitVec 32 := Scalar.subi c1_i32_38 v4
  let c256_i32_39 : BitVec 32 := 256#32
  let v58 : BitVec 32 := Scalar.muli v57 c256_i32_39
  let v59 : BitVec 32 := Scalar.addi v13 v58
  let v77 : BitVec 32 := Scalar.subi v59 v13
  let v183 : BitVec 32 := Scalar.addi v40 v77
  let c0_i32_97 : BitVec 32 := 0#32
  ![v183.toNat, 0]
def k0_dev8 (d0 : Dev nD) : Nat :=
  let c0_i32_95 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_94 : BitVec 32 := 1#32
  let v184 : BitVec 32 := Scalar.muli v10 c1_i32_94
  let v185 : BitVec 32 := Scalar.addi c0_i32_95 v184
  v185.toNat
def k0_off14 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.shrsi v2 c2_i32
  let c512_i32_5 : BitVec 32 := 512#32
  let v13 : BitVec 32 := Scalar.muli v7 c512_i32_5
  let c3_i32 : BitVec 32 := 3#32
  let v3 : BitVec 32 := Scalar.andi v2 c3_i32
  let c1_i32_0 : BitVec 32 := 1#32
  let v4 : BitVec 32 := Scalar.shrsi v3 c1_i32_0
  let c256_i32_12 : BitVec 32 := 256#32
  let v23 : BitVec 32 := Scalar.muli v4 c256_i32_12
  let v24 : BitVec 32 := Scalar.addi v13 v23
  let v85 : BitVec 32 := Scalar.subi v24 v13
  let c0_i32_101 : BitVec 32 := 0#32
  ![v85.toNat, 0]
def k0_off15 (d0 : Dev nD) : Fin 2 → Nat :=
  let c1_i32_22 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.shrsi v2 c2_i32
  let v39 : BitVec 32 := Scalar.subi c1_i32_22 v7
  let c512_i32_23 : BitVec 32 := 512#32
  let v40 : BitVec 32 := Scalar.muli v39 c512_i32_23
  let c512_i32_5 : BitVec 32 := 512#32
  let v13 : BitVec 32 := Scalar.muli v7 c512_i32_5
  let c3_i32 : BitVec 32 := 3#32
  let v3 : BitVec 32 := Scalar.andi v2 c3_i32
  let c1_i32_0 : BitVec 32 := 1#32
  let v4 : BitVec 32 := Scalar.shrsi v3 c1_i32_0
  let c256_i32_12 : BitVec 32 := 256#32
  let v23 : BitVec 32 := Scalar.muli v4 c256_i32_12
  let v24 : BitVec 32 := Scalar.addi v13 v23
  let v85 : BitVec 32 := Scalar.subi v24 v13
  let v192 : BitVec 32 := Scalar.addi v40 v85
  let c0_i32_102 : BitVec 32 := 0#32
  ![v192.toNat, 0]
def k0_dev9 (d0 : Dev nD) : Nat :=
  let c0_i32_100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_99 : BitVec 32 := 1#32
  let v193 : BitVec 32 := Scalar.muli v10 c1_i32_99
  let v194 : BitVec 32 := Scalar.addi c0_i32_100 v193
  v194.toNat
def k0_dev10 (d0 : Dev nD) : Nat :=
  let c0_i32_109 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2 : BitVec 32 := 3#32
  let v8 : BitVec 32 := Scalar.xori v2 c3_i32_2
  let c1_i32_108 : BitVec 32 := 1#32
  let v213 : BitVec 32 := Scalar.muli v8 c1_i32_108
  let v214 : BitVec 32 := Scalar.addi c0_i32_109 v213
  v214.toNat
def k0_dev11 (d0 : Dev nD) : Nat :=
  let c0_i32_114 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2 : BitVec 32 := 3#32
  let v8 : BitVec 32 := Scalar.xori v2 c3_i32_2
  let c1_i32_113 : BitVec 32 := 1#32
  let v222 : BitVec 32 := Scalar.muli v8 c1_i32_113
  let v223 : BitVec 32 := Scalar.addi c0_i32_114 v222
  v223.toNat
def k0_dev12 (d0 : Dev nD) : Nat :=
  let c0_i32_123 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.xori v2 c1_i32_3
  let c1_i32_122 : BitVec 32 := 1#32
  let v242 : BitVec 32 := Scalar.muli v9 c1_i32_122
  let v243 : BitVec 32 := Scalar.addi c0_i32_123 v242
  v243.toNat
def k0_dev13 (d0 : Dev nD) : Nat :=
  let c0_i32_128 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.xori v2 c1_i32_3
  let c1_i32_127 : BitVec 32 := 1#32
  let v251 : BitVec 32 := Scalar.muli v9 c1_i32_127
  let v252 : BitVec 32 := Scalar.addi c0_i32_128 v251
  v252.toNat
def k0_dev14 (d0 : Dev nD) : Nat :=
  let c0_i32_137 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_136 : BitVec 32 := 1#32
  let v271 : BitVec 32 := Scalar.muli v10 c1_i32_136
  let v272 : BitVec 32 := Scalar.addi c0_i32_137 v271
  v272.toNat
def k0_dev15 (d0 : Dev nD) : Nat :=
  let c0_i32_142 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_141 : BitVec 32 := 1#32
  let v280 : BitVec 32 := Scalar.muli v10 c1_i32_141
  let v281 : BitVec 32 := Scalar.addi c0_i32_142 v280
  v281.toNat
def k0_dev16 (d0 : Dev nD) : Nat :=
  let c0_i32_151 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2 : BitVec 32 := 3#32
  let v8 : BitVec 32 := Scalar.xori v2 c3_i32_2
  let c1_i32_150 : BitVec 32 := 1#32
  let v300 : BitVec 32 := Scalar.muli v8 c1_i32_150
  let v301 : BitVec 32 := Scalar.addi c0_i32_151 v300
  v301.toNat
def k0_dev17 (d0 : Dev nD) : Nat :=
  let c0_i32_156 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2 : BitVec 32 := 3#32
  let v8 : BitVec 32 := Scalar.xori v2 c3_i32_2
  let c1_i32_155 : BitVec 32 := 1#32
  let v309 : BitVec 32 := Scalar.muli v8 c1_i32_155
  let v310 : BitVec 32 := Scalar.addi c0_i32_156 v309
  v310.toNat
def k0_dev18 (d0 : Dev nD) : Nat :=
  let c0_i32_165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.xori v2 c1_i32_3
  let c1_i32_164 : BitVec 32 := 1#32
  let v329 : BitVec 32 := Scalar.muli v9 c1_i32_164
  let v330 : BitVec 32 := Scalar.addi c0_i32_165 v329
  v330.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.xori v2 c1_i32_3
  let c1_i32_169 : BitVec 32 := 1#32
  let v338 : BitVec 32 := Scalar.muli v9 c1_i32_169
  let v339 : BitVec 32 := Scalar.addi c0_i32_170 v338
  v339.toNat
def k0_off16 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let c512_i32 : BitVec 32 := 512#32
  let v11 : BitVec 32 := Scalar.muli v4 c512_i32
  let v346 : Index := Scalar.indexCast v11
  let c0_173 : Index := 0#32
  ![v346.toNat, 0]
def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_1 : BitVec 32 := 1#32
  let v5 : BitVec 32 := Scalar.andi v3 c1_i32_1
  let c1_i32_0 : BitVec 32 := 1#32
  let v4 : BitVec 32 := Scalar.shrsi v3 c1_i32_0
  let v6 : BitVec 32 := Scalar.xori v5 v4
  let c512_i32_4 : BitVec 32 := 512#32
  let v12 : BitVec 32 := Scalar.muli v6 c512_i32_4
  let v357 : Index := Scalar.indexCast v12
  let c0_178 : Index := 0#32
  ![v357.toNat, 0]
def k0_off18 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.shrsi v2 c2_i32
  let c512_i32_5 : BitVec 32 := 512#32
  let v13 : BitVec 32 := Scalar.muli v7 c512_i32_5
  let v368 : Index := Scalar.indexCast v13
  let c0_183 : Index := 0#32
  ![v368.toNat, 0]
def k0_off19 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let c512_i32 : BitVec 32 := 512#32
  let v11 : BitVec 32 := Scalar.muli v4 c512_i32
  let c1_i32_34 : BitVec 32 := 1#32
  let c1_i32_1 : BitVec 32 := 1#32
  let v5 : BitVec 32 := Scalar.andi v3 c1_i32_1
  let v6 : BitVec 32 := Scalar.xori v5 v4
  let v51 : BitVec 32 := Scalar.subi c1_i32_34 v6
  let c256_i32_35 : BitVec 32 := 256#32
  let v52 : BitVec 32 := Scalar.muli v51 c256_i32_35
  let v53 : BitVec 32 := Scalar.addi v11 v52
  let v444 : Index := Scalar.indexCast v53
  let c0_224 : Index := 0#32
  ![v444.toNat, 0]
def k0_off20 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let c512_i32 : BitVec 32 := 512#32
  let v11 : BitVec 32 := Scalar.muli v4 c512_i32
  let c1_i32_34 : BitVec 32 := 1#32
  let c1_i32_1 : BitVec 32 := 1#32
  let v5 : BitVec 32 := Scalar.andi v3 c1_i32_1
  let v6 : BitVec 32 := Scalar.xori v5 v4
  let v51 : BitVec 32 := Scalar.subi c1_i32_34 v6
  let c256_i32_35 : BitVec 32 := 256#32
  let v52 : BitVec 32 := Scalar.muli v51 c256_i32_35
  let v53 : BitVec 32 := Scalar.addi v11 v52
  let v75 : BitVec 32 := Scalar.subi v53 v11
  let v446 : Index := Scalar.indexCast v75
  let c0_225 : Index := 0#32
  ![v446.toNat, 0]
def k0_off21 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let c512_i32 : BitVec 32 := 512#32
  let v11 : BitVec 32 := Scalar.muli v4 c512_i32
  let c1_i32_34 : BitVec 32 := 1#32
  let c1_i32_1 : BitVec 32 := 1#32
  let v5 : BitVec 32 := Scalar.andi v3 c1_i32_1
  let v6 : BitVec 32 := Scalar.xori v5 v4
  let v51 : BitVec 32 := Scalar.subi c1_i32_34 v6
  let c256_i32_35 : BitVec 32 := 256#32
  let v52 : BitVec 32 := Scalar.muli v51 c256_i32_35
  let v53 : BitVec 32 := Scalar.addi v11 v52
  let c0_i32_231 : BitVec 32 := 0#32
  ![v53.toNat, 0]
def k0_dev20 (d0 : Dev nD) : Nat :=
  let c0_i32_230 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.xori v2 c1_i32_3
  let c1_i32_229 : BitVec 32 := 1#32
  let v453 : BitVec 32 := Scalar.muli v9 c1_i32_229
  let v454 : BitVec 32 := Scalar.addi c0_i32_230 v453
  v454.toNat
def k0_off22 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let c512_i32 : BitVec 32 := 512#32
  let v11 : BitVec 32 := Scalar.muli v4 c512_i32
  let c1_i32_1 : BitVec 32 := 1#32
  let v5 : BitVec 32 := Scalar.andi v3 c1_i32_1
  let v6 : BitVec 32 := Scalar.xori v5 v4
  let c256_i32 : BitVec 32 := 256#32
  let v19 : BitVec 32 := Scalar.muli v6 c256_i32
  let v20 : BitVec 32 := Scalar.addi v11 v19
  let v470 : Index := Scalar.indexCast v20
  let c0_243 : Index := 0#32
  ![v470.toNat, 0]
def k0_off23 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let c512_i32 : BitVec 32 := 512#32
  let v11 : BitVec 32 := Scalar.muli v4 c512_i32
  let c1_i32_1 : BitVec 32 := 1#32
  let v5 : BitVec 32 := Scalar.andi v3 c1_i32_1
  let v6 : BitVec 32 := Scalar.xori v5 v4
  let c256_i32 : BitVec 32 := 256#32
  let v19 : BitVec 32 := Scalar.muli v6 c256_i32
  let v20 : BitVec 32 := Scalar.addi v11 v19
  let v83 : BitVec 32 := Scalar.subi v20 v11
  let v472 : Index := Scalar.indexCast v83
  let c0_244 : Index := 0#32
  ![v472.toNat, 0]
def k0_off24 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_1 : BitVec 32 := 1#32
  let v5 : BitVec 32 := Scalar.andi v3 c1_i32_1
  let c1_i32_0 : BitVec 32 := 1#32
  let v4 : BitVec 32 := Scalar.shrsi v3 c1_i32_0
  let v6 : BitVec 32 := Scalar.xori v5 v4
  let c512_i32_4 : BitVec 32 := 512#32
  let v12 : BitVec 32 := Scalar.muli v6 c512_i32_4
  let c1_i32_36 : BitVec 32 := 1#32
  let c2_i32 : BitVec 32 := 2#32
  let v7 : BitVec 32 := Scalar.shrsi v2 c2_i32
  let v54 : BitVec 32 := Scalar.subi c1_i32_36 v7
  let c256_i32_37 : BitVec 32 := 256#32
  let v55 : BitVec 32 := Scalar.muli v54 c256_i32_37
  let v56 : BitVec 32 := Scalar.addi v12 v55
  let v489 : Index := Scalar.indexCast v56
  let c0_257 : Index := 0#32
  ![v489.toNat, 0]
def k0_off25 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_1 : BitVec 32 := 1#32
  let v5 : BitVec 32 := Scalar.andi v3 c1_i32_1
  let c1_i32_0 : BitVec 32 := 1#32
  let v4 : BitVec 32 := Scalar.shrsi v3 c1_i32_0
  let v6 : BitVec 32 := Scalar.xori v5 v4
  let c512_i32_4 : BitVec 32 := 512#32
  let v12 : BitVec 32 := Scalar.muli v6 c512_i32_4
  let c1_i32_36 : BitVec 32 := 1#32
  let c2_i32 : BitVec 32 := 2#32
  let v7 : BitVec 32 := Scalar.shrsi v2 c2_i32
  let v54 : BitVec 32 := Scalar.subi c1_i32_36 v7
  let c256_i32_37 : BitVec 32 := 256#32
  let v55 : BitVec 32 := Scalar.muli v54 c256_i32_37
  let v56 : BitVec 32 := Scalar.addi v12 v55
  let v76 : BitVec 32 := Scalar.subi v56 v12
  let v491 : Index := Scalar.indexCast v76
  let c0_258 : Index := 0#32
  ![v491.toNat, 0]
def k0_off26 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_1 : BitVec 32 := 1#32
  let v5 : BitVec 32 := Scalar.andi v3 c1_i32_1
  let c1_i32_0 : BitVec 32 := 1#32
  let v4 : BitVec 32 := Scalar.shrsi v3 c1_i32_0
  let v6 : BitVec 32 := Scalar.xori v5 v4
  let c512_i32_4 : BitVec 32 := 512#32
  let v12 : BitVec 32 := Scalar.muli v6 c512_i32_4
  let c1_i32_36 : BitVec 32 := 1#32
  let c2_i32 : BitVec 32 := 2#32
  let v7 : BitVec 32 := Scalar.shrsi v2 c2_i32
  let v54 : BitVec 32 := Scalar.subi c1_i32_36 v7
  let c256_i32_37 : BitVec 32 := 256#32
  let v55 : BitVec 32 := Scalar.muli v54 c256_i32_37
  let v56 : BitVec 32 := Scalar.addi v12 v55
  let c0_i32_263 : BitVec 32 := 0#32
  ![v56.toNat, 0]
def k0_dev21 (d0 : Dev nD) : Nat :=
  let c0_i32_262 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_261 : BitVec 32 := 1#32
  let v498 : BitVec 32 := Scalar.muli v10 c1_i32_261
  let v499 : BitVec 32 := Scalar.addi c0_i32_262 v498
  v499.toNat
def k0_off27 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_1 : BitVec 32 := 1#32
  let v5 : BitVec 32 := Scalar.andi v3 c1_i32_1
  let c1_i32_0 : BitVec 32 := 1#32
  let v4 : BitVec 32 := Scalar.shrsi v3 c1_i32_0
  let v6 : BitVec 32 := Scalar.xori v5 v4
  let c512_i32_4 : BitVec 32 := 512#32
  let v12 : BitVec 32 := Scalar.muli v6 c512_i32_4
  let c2_i32 : BitVec 32 := 2#32
  let v7 : BitVec 32 := Scalar.shrsi v2 c2_i32
  let c256_i32_11 : BitVec 32 := 256#32
  let v21 : BitVec 32 := Scalar.muli v7 c256_i32_11
  let v22 : BitVec 32 := Scalar.addi v12 v21
  let v515 : Index := Scalar.indexCast v22
  let c0_275 : Index := 0#32
  ![v515.toNat, 0]
def k0_off28 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_1 : BitVec 32 := 1#32
  let v5 : BitVec 32 := Scalar.andi v3 c1_i32_1
  let c1_i32_0 : BitVec 32 := 1#32
  let v4 : BitVec 32 := Scalar.shrsi v3 c1_i32_0
  let v6 : BitVec 32 := Scalar.xori v5 v4
  let c512_i32_4 : BitVec 32 := 512#32
  let v12 : BitVec 32 := Scalar.muli v6 c512_i32_4
  let c2_i32 : BitVec 32 := 2#32
  let v7 : BitVec 32 := Scalar.shrsi v2 c2_i32
  let c256_i32_11 : BitVec 32 := 256#32
  let v21 : BitVec 32 := Scalar.muli v7 c256_i32_11
  let v22 : BitVec 32 := Scalar.addi v12 v21
  let v84 : BitVec 32 := Scalar.subi v22 v12
  let v517 : Index := Scalar.indexCast v84
  let c0_276 : Index := 0#32
  ![v517.toNat, 0]
def k0_off29 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.shrsi v2 c2_i32
  let c512_i32_5 : BitVec 32 := 512#32
  let v13 : BitVec 32 := Scalar.muli v7 c512_i32_5
  let c1_i32_38 : BitVec 32 := 1#32
  let c3_i32 : BitVec 32 := 3#32
  let v3 : BitVec 32 := Scalar.andi v2 c3_i32
  let c1_i32_0 : BitVec 32 := 1#32
  let v4 : BitVec 32 := Scalar.shrsi v3 c1_i32_0
  let v57 : BitVec 32 := Scalar.subi c1_i32_38 v4
  let c256_i32_39 : BitVec 32 := 256#32
  let v58 : BitVec 32 := Scalar.muli v57 c256_i32_39
  let v59 : BitVec 32 := Scalar.addi v13 v58
  let v534 : Index := Scalar.indexCast v59
  let c0_289 : Index := 0#32
  ![v534.toNat, 0]
def k0_off30 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.shrsi v2 c2_i32
  let c512_i32_5 : BitVec 32 := 512#32
  let v13 : BitVec 32 := Scalar.muli v7 c512_i32_5
  let c1_i32_38 : BitVec 32 := 1#32
  let c3_i32 : BitVec 32 := 3#32
  let v3 : BitVec 32 := Scalar.andi v2 c3_i32
  let c1_i32_0 : BitVec 32 := 1#32
  let v4 : BitVec 32 := Scalar.shrsi v3 c1_i32_0
  let v57 : BitVec 32 := Scalar.subi c1_i32_38 v4
  let c256_i32_39 : BitVec 32 := 256#32
  let v58 : BitVec 32 := Scalar.muli v57 c256_i32_39
  let v59 : BitVec 32 := Scalar.addi v13 v58
  let v77 : BitVec 32 := Scalar.subi v59 v13
  let v536 : Index := Scalar.indexCast v77
  let c0_290 : Index := 0#32
  ![v536.toNat, 0]
def k0_off31 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.shrsi v2 c2_i32
  let c512_i32_5 : BitVec 32 := 512#32
  let v13 : BitVec 32 := Scalar.muli v7 c512_i32_5
  let c1_i32_38 : BitVec 32 := 1#32
  let c3_i32 : BitVec 32 := 3#32
  let v3 : BitVec 32 := Scalar.andi v2 c3_i32
  let c1_i32_0 : BitVec 32 := 1#32
  let v4 : BitVec 32 := Scalar.shrsi v3 c1_i32_0
  let v57 : BitVec 32 := Scalar.subi c1_i32_38 v4
  let c256_i32_39 : BitVec 32 := 256#32
  let v58 : BitVec 32 := Scalar.muli v57 c256_i32_39
  let v59 : BitVec 32 := Scalar.addi v13 v58
  let c0_i32_295 : BitVec 32 := 0#32
  ![v59.toNat, 0]
def k0_dev22 (d0 : Dev nD) : Nat :=
  let c0_i32_294 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2 : BitVec 32 := 3#32
  let v8 : BitVec 32 := Scalar.xori v2 c3_i32_2
  let c1_i32_293 : BitVec 32 := 1#32
  let v543 : BitVec 32 := Scalar.muli v8 c1_i32_293
  let v544 : BitVec 32 := Scalar.addi c0_i32_294 v543
  v544.toNat
def k0_off32 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.shrsi v2 c2_i32
  let c512_i32_5 : BitVec 32 := 512#32
  let v13 : BitVec 32 := Scalar.muli v7 c512_i32_5
  let c3_i32 : BitVec 32 := 3#32
  let v3 : BitVec 32 := Scalar.andi v2 c3_i32
  let c1_i32_0 : BitVec 32 := 1#32
  let v4 : BitVec 32 := Scalar.shrsi v3 c1_i32_0
  let c256_i32_12 : BitVec 32 := 256#32
  let v23 : BitVec 32 := Scalar.muli v4 c256_i32_12
  let v24 : BitVec 32 := Scalar.addi v13 v23
  let v560 : Index := Scalar.indexCast v24
  let c0_307 : Index := 0#32
  ![v560.toNat, 0]
def k0_off33 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.shrsi v2 c2_i32
  let c512_i32_5 : BitVec 32 := 512#32
  let v13 : BitVec 32 := Scalar.muli v7 c512_i32_5
  let c3_i32 : BitVec 32 := 3#32
  let v3 : BitVec 32 := Scalar.andi v2 c3_i32
  let c1_i32_0 : BitVec 32 := 1#32
  let v4 : BitVec 32 := Scalar.shrsi v3 c1_i32_0
  let c256_i32_12 : BitVec 32 := 256#32
  let v23 : BitVec 32 := Scalar.muli v4 c256_i32_12
  let v24 : BitVec 32 := Scalar.addi v13 v23
  let v85 : BitVec 32 := Scalar.subi v24 v13
  let v562 : Index := Scalar.indexCast v85
  let c0_308 : Index := 0#32
  ![v562.toNat, 0]
def k0_dev23 (d0 : Dev nD) : Nat :=
  let c0_i32_326 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.xori v2 c1_i32_3
  let c1_i32_325 : BitVec 32 := 1#32
  let v588 : BitVec 32 := Scalar.muli v9 c1_i32_325
  let v589 : BitVec 32 := Scalar.addi c0_i32_326 v588
  v589.toNat
def k0_dev24 (d0 : Dev nD) : Nat :=
  let c0_i32_358 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_357 : BitVec 32 := 1#32
  let v633 : BitVec 32 := Scalar.muli v10 c1_i32_357
  let v634 : BitVec 32 := Scalar.addi c0_i32_358 v633
  v634.toNat
def k0_dev25 (d0 : Dev nD) : Nat :=
  let c0_i32_390 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2 : BitVec 32 := 3#32
  let v8 : BitVec 32 := Scalar.xori v2 c3_i32_2
  let c1_i32_389 : BitVec 32 := 1#32
  let v678 : BitVec 32 := Scalar.muli v8 c1_i32_389
  let v679 : BitVec 32 := Scalar.addi c0_i32_390 v678
  v679.toNat
def k0_dev26 (d0 : Dev nD) : Nat :=
  let c0_i32_422 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.xori v2 c1_i32_3
  let c1_i32_421 : BitVec 32 := 1#32
  let v723 : BitVec 32 := Scalar.muli v9 c1_i32_421
  let v724 : BitVec 32 := Scalar.addi c0_i32_422 v723
  v724.toNat
def k0_dev27 (d0 : Dev nD) : Nat :=
  let c0_i32_454 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_453 : BitVec 32 := 1#32
  let v768 : BitVec 32 := Scalar.muli v10 c1_i32_453
  let v769 : BitVec 32 := Scalar.addi c0_i32_454 v768
  v769.toNat
def k0_off34 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let c512_i32 : BitVec 32 := 512#32
  let v11 : BitVec 32 := Scalar.muli v4 c512_i32
  let c1_i32_1 : BitVec 32 := 1#32
  let v5 : BitVec 32 := Scalar.andi v3 c1_i32_1
  let v6 : BitVec 32 := Scalar.xori v5 v4
  let c256_i32 : BitVec 32 := 256#32
  let v19 : BitVec 32 := Scalar.muli v6 c256_i32
  let v20 : BitVec 32 := Scalar.addi v11 v19
  let c0_i32_487 : BitVec 32 := 0#32
  ![v20.toNat, 0]
def k0_dev28 (d0 : Dev nD) : Nat :=
  let c0_i32_486 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_485 : BitVec 32 := 1#32
  let v810 : BitVec 32 := Scalar.muli v10 c1_i32_485
  let v811 : BitVec 32 := Scalar.addi c0_i32_486 v810
  v811.toNat
def k0_off35 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_1 : BitVec 32 := 1#32
  let v5 : BitVec 32 := Scalar.andi v3 c1_i32_1
  let c1_i32_0 : BitVec 32 := 1#32
  let v4 : BitVec 32 := Scalar.shrsi v3 c1_i32_0
  let v6 : BitVec 32 := Scalar.xori v5 v4
  let c512_i32_4 : BitVec 32 := 512#32
  let v12 : BitVec 32 := Scalar.muli v6 c512_i32_4
  let c2_i32 : BitVec 32 := 2#32
  let v7 : BitVec 32 := Scalar.shrsi v2 c2_i32
  let c256_i32_11 : BitVec 32 := 256#32
  let v21 : BitVec 32 := Scalar.muli v7 c256_i32_11
  let v22 : BitVec 32 := Scalar.addi v12 v21
  let c0_i32_504 : BitVec 32 := 0#32
  ![v22.toNat, 0]
def k0_dev29 (d0 : Dev nD) : Nat :=
  let c0_i32_503 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2 : BitVec 32 := 3#32
  let v8 : BitVec 32 := Scalar.xori v2 c3_i32_2
  let c1_i32_502 : BitVec 32 := 1#32
  let v833 : BitVec 32 := Scalar.muli v8 c1_i32_502
  let v834 : BitVec 32 := Scalar.addi c0_i32_503 v833
  v834.toNat
def k0_off36 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.shrsi v2 c2_i32
  let c512_i32_5 : BitVec 32 := 512#32
  let v13 : BitVec 32 := Scalar.muli v7 c512_i32_5
  let c3_i32 : BitVec 32 := 3#32
  let v3 : BitVec 32 := Scalar.andi v2 c3_i32
  let c1_i32_0 : BitVec 32 := 1#32
  let v4 : BitVec 32 := Scalar.shrsi v3 c1_i32_0
  let c256_i32_12 : BitVec 32 := 256#32
  let v23 : BitVec 32 := Scalar.muli v4 c256_i32_12
  let v24 : BitVec 32 := Scalar.addi v13 v23
  let c0_i32_521 : BitVec 32 := 0#32
  ![v24.toNat, 0]
def k0_dev30 (d0 : Dev nD) : Nat :=
  let c0_i32_520 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.xori v2 c1_i32_3
  let c1_i32_519 : BitVec 32 := 1#32
  let v856 : BitVec 32 := Scalar.muli v9 c1_i32_519
  let v857 : BitVec 32 := Scalar.addi c0_i32_520 v856
  v857.toNat
def k0_dev31 (d0 : Dev nD) : Nat :=
  let c0_i32_537 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_536 : BitVec 32 := 1#32
  let v879 : BitVec 32 := Scalar.muli v10 c1_i32_536
  let v880 : BitVec 32 := Scalar.addi c0_i32_537 v879
  v880.toNat
def k0_dev32 (d0 : Dev nD) : Nat :=
  let c0_i32_554 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2 : BitVec 32 := 3#32
  let v8 : BitVec 32 := Scalar.xori v2 c3_i32_2
  let c1_i32_553 : BitVec 32 := 1#32
  let v902 : BitVec 32 := Scalar.muli v8 c1_i32_553
  let v903 : BitVec 32 := Scalar.addi c0_i32_554 v902
  v903.toNat
def k0_dev33 (d0 : Dev nD) : Nat :=
  let c0_i32_571 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.xori v2 c1_i32_3
  let c1_i32_570 : BitVec 32 := 1#32
  let v925 : BitVec 32 := Scalar.muli v9 c1_i32_570
  let v926 : BitVec 32 := Scalar.addi c0_i32_571 v925
  v926.toNat
def k0_dev34 (d0 : Dev nD) : Nat :=
  let c0_i32_588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_587 : BitVec 32 := 1#32
  let v948 : BitVec 32 := Scalar.muli v10 c1_i32_587
  let v949 : BitVec 32 := Scalar.addi c0_i32_588 v948
  v949.toNat
def k0_dev35 (d0 : Dev nD) : Nat :=
  let c0_i32_605 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2 : BitVec 32 := 3#32
  let v8 : BitVec 32 := Scalar.xori v2 c3_i32_2
  let c1_i32_604 : BitVec 32 := 1#32
  let v971 : BitVec 32 := Scalar.muli v8 c1_i32_604
  let v972 : BitVec 32 := Scalar.addi c0_i32_605 v971
  v972.toNat
def k0_dev36 (d0 : Dev nD) : Nat :=
  let c0_i32_624 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.xori v2 c1_i32_3
  let c1_i32_623 : BitVec 32 := 1#32
  let v996 : BitVec 32 := Scalar.muli v9 c1_i32_623
  let v997 : BitVec 32 := Scalar.addi c0_i32_624 v996
  v997.toNat
def k0_dev37 (d0 : Dev nD) : Nat :=
  let c0_i32_629 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2 : BitVec 32 := 3#32
  let v8 : BitVec 32 := Scalar.xori v2 c3_i32_2
  let c1_i32_628 : BitVec 32 := 1#32
  let v1004 : BitVec 32 := Scalar.muli v8 c1_i32_628
  let v1005 : BitVec 32 := Scalar.addi c0_i32_629 v1004
  v1005.toNat
def k0_dev38 (d0 : Dev nD) : Nat :=
  let c0_i32_648 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_647 : BitVec 32 := 1#32
  let v1030 : BitVec 32 := Scalar.muli v10 c1_i32_647
  let v1031 : BitVec 32 := Scalar.addi c0_i32_648 v1030
  v1031.toNat
def k0_dev39 (d0 : Dev nD) : Nat :=
  let c0_i32_653 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.xori v2 c1_i32_3
  let c1_i32_652 : BitVec 32 := 1#32
  let v1038 : BitVec 32 := Scalar.muli v9 c1_i32_652
  let v1039 : BitVec 32 := Scalar.addi c0_i32_653 v1038
  v1039.toNat
def k0_dev40 (d0 : Dev nD) : Nat :=
  let c0_i32_672 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2 : BitVec 32 := 3#32
  let v8 : BitVec 32 := Scalar.xori v2 c3_i32_2
  let c1_i32_671 : BitVec 32 := 1#32
  let v1064 : BitVec 32 := Scalar.muli v8 c1_i32_671
  let v1065 : BitVec 32 := Scalar.addi c0_i32_672 v1064
  v1065.toNat
def k0_dev41 (d0 : Dev nD) : Nat :=
  let c0_i32_677 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_676 : BitVec 32 := 1#32
  let v1072 : BitVec 32 := Scalar.muli v10 c1_i32_676
  let v1073 : BitVec 32 := Scalar.addi c0_i32_677 v1072
  v1073.toNat
def k0_dev42 (d0 : Dev nD) : Nat :=
  let c0_i32_696 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.xori v2 c1_i32_3
  let c1_i32_695 : BitVec 32 := 1#32
  let v1098 : BitVec 32 := Scalar.muli v9 c1_i32_695
  let v1099 : BitVec 32 := Scalar.addi c0_i32_696 v1098
  v1099.toNat
def k0_dev43 (d0 : Dev nD) : Nat :=
  let c0_i32_701 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2 : BitVec 32 := 3#32
  let v8 : BitVec 32 := Scalar.xori v2 c3_i32_2
  let c1_i32_700 : BitVec 32 := 1#32
  let v1106 : BitVec 32 := Scalar.muli v8 c1_i32_700
  let v1107 : BitVec 32 := Scalar.addi c0_i32_701 v1106
  v1107.toNat
def k0_dev44 (d0 : Dev nD) : Nat :=
  let c0_i32_720 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_719 : BitVec 32 := 1#32
  let v1132 : BitVec 32 := Scalar.muli v10 c1_i32_719
  let v1133 : BitVec 32 := Scalar.addi c0_i32_720 v1132
  v1133.toNat
def k0_dev45 (d0 : Dev nD) : Nat :=
  let c0_i32_725 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.xori v2 c1_i32_3
  let c1_i32_724 : BitVec 32 := 1#32
  let v1140 : BitVec 32 := Scalar.muli v9 c1_i32_724
  let v1141 : BitVec 32 := Scalar.addi c0_i32_725 v1140
  v1141.toNat
def k0_dev46 (d0 : Dev nD) : Nat :=
  let c0_i32_744 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2 : BitVec 32 := 3#32
  let v8 : BitVec 32 := Scalar.xori v2 c3_i32_2
  let c1_i32_743 : BitVec 32 := 1#32
  let v1166 : BitVec 32 := Scalar.muli v8 c1_i32_743
  let v1167 : BitVec 32 := Scalar.addi c0_i32_744 v1166
  v1167.toNat
def k0_dev47 (d0 : Dev nD) : Nat :=
  let c0_i32_749 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_748 : BitVec 32 := 1#32
  let v1174 : BitVec 32 := Scalar.muli v10 c1_i32_748
  let v1175 : BitVec 32 := Scalar.addi c0_i32_749 v1174
  v1175.toNat
def k0_dev48 (d0 : Dev nD) : Nat :=
  let c0_i32_768 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.xori v2 c1_i32_3
  let c1_i32_767 : BitVec 32 := 1#32
  let v1200 : BitVec 32 := Scalar.muli v9 c1_i32_767
  let v1201 : BitVec 32 := Scalar.addi c0_i32_768 v1200
  v1201.toNat
def k0_dev49 (d0 : Dev nD) : Nat :=
  let c0_i32_773 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2 : BitVec 32 := 3#32
  let v8 : BitVec 32 := Scalar.xori v2 c3_i32_2
  let c1_i32_772 : BitVec 32 := 1#32
  let v1208 : BitVec 32 := Scalar.muli v8 c1_i32_772
  let v1209 : BitVec 32 := Scalar.addi c0_i32_773 v1208
  v1209.toNat
def k0_dev50 (d0 : Dev nD) : Nat :=
  let c0_i32_792 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_791 : BitVec 32 := 1#32
  let v1234 : BitVec 32 := Scalar.muli v10 c1_i32_791
  let v1235 : BitVec 32 := Scalar.addi c0_i32_792 v1234
  v1235.toNat
def k0_dev51 (d0 : Dev nD) : Nat :=
  let c0_i32_797 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.xori v2 c1_i32_3
  let c1_i32_796 : BitVec 32 := 1#32
  let v1242 : BitVec 32 := Scalar.muli v9 c1_i32_796
  let v1243 : BitVec 32 := Scalar.addi c0_i32_797 v1242
  v1243.toNat
def k0_off37 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let c512_i32 : BitVec 32 := 512#32
  let v11 : BitVec 32 := Scalar.muli v4 c512_i32
  let c1_i32_1 : BitVec 32 := 1#32
  let v5 : BitVec 32 := Scalar.andi v3 c1_i32_1
  let v6 : BitVec 32 := Scalar.xori v5 v4
  let c256_i32 : BitVec 32 := 256#32
  let v19 : BitVec 32 := Scalar.muli v6 c256_i32
  let v20 : BitVec 32 := Scalar.addi v11 v19
  let v1253 : Index := Scalar.indexCast v20
  let c0_801 : Index := 0#32
  ![v1253.toNat, 0]
def k0_off38 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_1 : BitVec 32 := 1#32
  let v5 : BitVec 32 := Scalar.andi v3 c1_i32_1
  let c1_i32_0 : BitVec 32 := 1#32
  let v4 : BitVec 32 := Scalar.shrsi v3 c1_i32_0
  let v6 : BitVec 32 := Scalar.xori v5 v4
  let c512_i32_4 : BitVec 32 := 512#32
  let v12 : BitVec 32 := Scalar.muli v6 c512_i32_4
  let c2_i32 : BitVec 32 := 2#32
  let v7 : BitVec 32 := Scalar.shrsi v2 c2_i32
  let c256_i32_11 : BitVec 32 := 256#32
  let v21 : BitVec 32 := Scalar.muli v7 c256_i32_11
  let v22 : BitVec 32 := Scalar.addi v12 v21
  let v1258 : Index := Scalar.indexCast v22
  let c128_803 : Index := 128#32
  ![v1258.toNat, 128]
def k0_off39 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.shrsi v2 c2_i32
  let c512_i32_5 : BitVec 32 := 512#32
  let v13 : BitVec 32 := Scalar.muli v7 c512_i32_5
  let c3_i32 : BitVec 32 := 3#32
  let v3 : BitVec 32 := Scalar.andi v2 c3_i32
  let c1_i32_0 : BitVec 32 := 1#32
  let v4 : BitVec 32 := Scalar.shrsi v3 c1_i32_0
  let c256_i32_12 : BitVec 32 := 256#32
  let v23 : BitVec 32 := Scalar.muli v4 c256_i32_12
  let v24 : BitVec 32 := Scalar.addi v13 v23
  let v1263 : Index := Scalar.indexCast v24
  let c256_805 : Index := 256#32
  ![v1263.toNat, 256]
def k0_off40 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let c512_i32_6 : BitVec 32 := 512#32
  let v14 : BitVec 32 := Scalar.muli v4 c512_i32_6
  let c1_i32_1 : BitVec 32 := 1#32
  let v5 : BitVec 32 := Scalar.andi v3 c1_i32_1
  let v6 : BitVec 32 := Scalar.xori v5 v4
  let c256_i32_13 : BitVec 32 := 256#32
  let v25 : BitVec 32 := Scalar.muli v6 c256_i32_13
  let v26 : BitVec 32 := Scalar.addi v14 v25
  let v1268 : Index := Scalar.indexCast v26
  let c384_807 : Index := 384#32
  ![v1268.toNat, 384]
def k0_off41 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_1 : BitVec 32 := 1#32
  let v5 : BitVec 32 := Scalar.andi v3 c1_i32_1
  let c1_i32_0 : BitVec 32 := 1#32
  let v4 : BitVec 32 := Scalar.shrsi v3 c1_i32_0
  let v6 : BitVec 32 := Scalar.xori v5 v4
  let c512_i32_7 : BitVec 32 := 512#32
  let v15 : BitVec 32 := Scalar.muli v6 c512_i32_7
  let c2_i32 : BitVec 32 := 2#32
  let v7 : BitVec 32 := Scalar.shrsi v2 c2_i32
  let c256_i32_14 : BitVec 32 := 256#32
  let v27 : BitVec 32 := Scalar.muli v7 c256_i32_14
  let v28 : BitVec 32 := Scalar.addi v15 v27
  let v1273 : Index := Scalar.indexCast v28
  let c512_809 : Index := 512#32
  ![v1273.toNat, 512]
def k0_off42 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.shrsi v2 c2_i32
  let c512_i32_8 : BitVec 32 := 512#32
  let v16 : BitVec 32 := Scalar.muli v7 c512_i32_8
  let c3_i32 : BitVec 32 := 3#32
  let v3 : BitVec 32 := Scalar.andi v2 c3_i32
  let c1_i32_0 : BitVec 32 := 1#32
  let v4 : BitVec 32 := Scalar.shrsi v3 c1_i32_0
  let c256_i32_15 : BitVec 32 := 256#32
  let v29 : BitVec 32 := Scalar.muli v4 c256_i32_15
  let v30 : BitVec 32 := Scalar.addi v16 v29
  let v1278 : Index := Scalar.indexCast v30
  let c640_811 : Index := 640#32
  ![v1278.toNat, 640]
def k0_off43 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let c512_i32_9 : BitVec 32 := 512#32
  let v17 : BitVec 32 := Scalar.muli v4 c512_i32_9
  let c1_i32_1 : BitVec 32 := 1#32
  let v5 : BitVec 32 := Scalar.andi v3 c1_i32_1
  let v6 : BitVec 32 := Scalar.xori v5 v4
  let c256_i32_16 : BitVec 32 := 256#32
  let v31 : BitVec 32 := Scalar.muli v6 c256_i32_16
  let v32 : BitVec 32 := Scalar.addi v17 v31
  let v1283 : Index := Scalar.indexCast v32
  let c768_813 : Index := 768#32
  ![v1283.toNat, 768]
def k0_off44 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_1 : BitVec 32 := 1#32
  let v5 : BitVec 32 := Scalar.andi v3 c1_i32_1
  let c1_i32_0 : BitVec 32 := 1#32
  let v4 : BitVec 32 := Scalar.shrsi v3 c1_i32_0
  let v6 : BitVec 32 := Scalar.xori v5 v4
  let c512_i32_10 : BitVec 32 := 512#32
  let v18 : BitVec 32 := Scalar.muli v6 c512_i32_10
  let c2_i32 : BitVec 32 := 2#32
  let v7 : BitVec 32 := Scalar.shrsi v2 c2_i32
  let c256_i32_17 : BitVec 32 := 256#32
  let v33 : BitVec 32 := Scalar.muli v7 c256_i32_17
  let v34 : BitVec 32 := Scalar.addi v18 v33
  let v1288 : Index := Scalar.indexCast v34
  let c896_815 : Index := 896#32
  ![v1288.toNat, 896]
def k0_dev52 (d0 : Dev nD) : Nat :=
  let c0_i32_829 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2 : BitVec 32 := 3#32
  let v8 : BitVec 32 := Scalar.xori v2 c3_i32_2
  let c1_i32_828 : BitVec 32 := 1#32
  let v1300 : BitVec 32 := Scalar.muli v8 c1_i32_828
  let v1301 : BitVec 32 := Scalar.addi c0_i32_829 v1300
  v1301.toNat
def k0_dev53 (d0 : Dev nD) : Nat :=
  let c0_i32_845 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.xori v2 c1_i32_3
  let c1_i32_844 : BitVec 32 := 1#32
  let v1318 : BitVec 32 := Scalar.muli v9 c1_i32_844
  let v1319 : BitVec 32 := Scalar.addi c0_i32_845 v1318
  v1319.toNat
def k0_dev54 (d0 : Dev nD) : Nat :=
  let c0_i32_861 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_860 : BitVec 32 := 1#32
  let v1336 : BitVec 32 := Scalar.muli v10 c1_i32_860
  let v1337 : BitVec 32 := Scalar.addi c0_i32_861 v1336
  v1337.toNat
def k0_dev55 (d0 : Dev nD) : Nat :=
  let c0_i32_877 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2 : BitVec 32 := 3#32
  let v8 : BitVec 32 := Scalar.xori v2 c3_i32_2
  let c1_i32_876 : BitVec 32 := 1#32
  let v1354 : BitVec 32 := Scalar.muli v8 c1_i32_876
  let v1355 : BitVec 32 := Scalar.addi c0_i32_877 v1354
  v1355.toNat
def k0_dev56 (d0 : Dev nD) : Nat :=
  let c0_i32_893 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.xori v2 c1_i32_3
  let c1_i32_892 : BitVec 32 := 1#32
  let v1372 : BitVec 32 := Scalar.muli v9 c1_i32_892
  let v1373 : BitVec 32 := Scalar.addi c0_i32_893 v1372
  v1373.toNat
def k0_dev57 (d0 : Dev nD) : Nat :=
  let c0_i32_909 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_908 : BitVec 32 := 1#32
  let v1390 : BitVec 32 := Scalar.muli v10 c1_i32_908
  let v1391 : BitVec 32 := Scalar.addi c0_i32_909 v1390
  v1391.toNat
def k0_dev58 (d0 : Dev nD) : Nat :=
  let c0_i32_925 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2 : BitVec 32 := 3#32
  let v8 : BitVec 32 := Scalar.xori v2 c3_i32_2
  let c1_i32_924 : BitVec 32 := 1#32
  let v1408 : BitVec 32 := Scalar.muli v8 c1_i32_924
  let v1409 : BitVec 32 := Scalar.addi c0_i32_925 v1408
  v1409.toNat
def k0_dev59 (d0 : Dev nD) : Nat :=
  let c0_i32_941 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v9 : BitVec 32 := Scalar.xori v2 c1_i32_3
  let c1_i32_940 : BitVec 32 := 1#32
  let v1426 : BitVec 32 := Scalar.muli v9 c1_i32_940
  let v1427 : BitVec 32 := Scalar.addi c0_i32_941 v1426
  v1427.toNat
def k0_off45 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let c512_i32 : BitVec 32 := 512#32
  let v11 : BitVec 32 := Scalar.muli v4 c512_i32
  let c1_i32_34 : BitVec 32 := 1#32
  let c1_i32_1 : BitVec 32 := 1#32
  let v5 : BitVec 32 := Scalar.andi v3 c1_i32_1
  let v6 : BitVec 32 := Scalar.xori v5 v4
  let v51 : BitVec 32 := Scalar.subi c1_i32_34 v6
  let c256_i32_35 : BitVec 32 := 256#32
  let v52 : BitVec 32 := Scalar.muli v51 c256_i32_35
  let v53 : BitVec 32 := Scalar.addi v11 v52
  let v1437 : Index := Scalar.indexCast v53
  let c0_945 : Index := 0#32
  ![v1437.toNat, 0]
def k0_off46 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_1 : BitVec 32 := 1#32
  let v5 : BitVec 32 := Scalar.andi v3 c1_i32_1
  let c1_i32_0 : BitVec 32 := 1#32
  let v4 : BitVec 32 := Scalar.shrsi v3 c1_i32_0
  let v6 : BitVec 32 := Scalar.xori v5 v4
  let c512_i32_4 : BitVec 32 := 512#32
  let v12 : BitVec 32 := Scalar.muli v6 c512_i32_4
  let c1_i32_36 : BitVec 32 := 1#32
  let c2_i32 : BitVec 32 := 2#32
  let v7 : BitVec 32 := Scalar.shrsi v2 c2_i32
  let v54 : BitVec 32 := Scalar.subi c1_i32_36 v7
  let c256_i32_37 : BitVec 32 := 256#32
  let v55 : BitVec 32 := Scalar.muli v54 c256_i32_37
  let v56 : BitVec 32 := Scalar.addi v12 v55
  let v1442 : Index := Scalar.indexCast v56
  let c128_947 : Index := 128#32
  ![v1442.toNat, 128]
def k0_off47 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.shrsi v2 c2_i32
  let c512_i32_5 : BitVec 32 := 512#32
  let v13 : BitVec 32 := Scalar.muli v7 c512_i32_5
  let c1_i32_38 : BitVec 32 := 1#32
  let c3_i32 : BitVec 32 := 3#32
  let v3 : BitVec 32 := Scalar.andi v2 c3_i32
  let c1_i32_0 : BitVec 32 := 1#32
  let v4 : BitVec 32 := Scalar.shrsi v3 c1_i32_0
  let v57 : BitVec 32 := Scalar.subi c1_i32_38 v4
  let c256_i32_39 : BitVec 32 := 256#32
  let v58 : BitVec 32 := Scalar.muli v57 c256_i32_39
  let v59 : BitVec 32 := Scalar.addi v13 v58
  let v1447 : Index := Scalar.indexCast v59
  let c256_949 : Index := 256#32
  ![v1447.toNat, 256]
def k0_off48 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let c512_i32_6 : BitVec 32 := 512#32
  let v14 : BitVec 32 := Scalar.muli v4 c512_i32_6
  let c1_i32_40 : BitVec 32 := 1#32
  let c1_i32_1 : BitVec 32 := 1#32
  let v5 : BitVec 32 := Scalar.andi v3 c1_i32_1
  let v6 : BitVec 32 := Scalar.xori v5 v4
  let v60 : BitVec 32 := Scalar.subi c1_i32_40 v6
  let c256_i32_41 : BitVec 32 := 256#32
  let v61 : BitVec 32 := Scalar.muli v60 c256_i32_41
  let v62 : BitVec 32 := Scalar.addi v14 v61
  let v1452 : Index := Scalar.indexCast v62
  let c384_951 : Index := 384#32
  ![v1452.toNat, 384]
def k0_off49 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_1 : BitVec 32 := 1#32
  let v5 : BitVec 32 := Scalar.andi v3 c1_i32_1
  let c1_i32_0 : BitVec 32 := 1#32
  let v4 : BitVec 32 := Scalar.shrsi v3 c1_i32_0
  let v6 : BitVec 32 := Scalar.xori v5 v4
  let c512_i32_7 : BitVec 32 := 512#32
  let v15 : BitVec 32 := Scalar.muli v6 c512_i32_7
  let c1_i32_42 : BitVec 32 := 1#32
  let c2_i32 : BitVec 32 := 2#32
  let v7 : BitVec 32 := Scalar.shrsi v2 c2_i32
  let v63 : BitVec 32 := Scalar.subi c1_i32_42 v7
  let c256_i32_43 : BitVec 32 := 256#32
  let v64 : BitVec 32 := Scalar.muli v63 c256_i32_43
  let v65 : BitVec 32 := Scalar.addi v15 v64
  let v1457 : Index := Scalar.indexCast v65
  let c512_953 : Index := 512#32
  ![v1457.toNat, 512]
def k0_off50 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.shrsi v2 c2_i32
  let c512_i32_8 : BitVec 32 := 512#32
  let v16 : BitVec 32 := Scalar.muli v7 c512_i32_8
  let c1_i32_44 : BitVec 32 := 1#32
  let c3_i32 : BitVec 32 := 3#32
  let v3 : BitVec 32 := Scalar.andi v2 c3_i32
  let c1_i32_0 : BitVec 32 := 1#32
  let v4 : BitVec 32 := Scalar.shrsi v3 c1_i32_0
  let v66 : BitVec 32 := Scalar.subi c1_i32_44 v4
  let c256_i32_45 : BitVec 32 := 256#32
  let v67 : BitVec 32 := Scalar.muli v66 c256_i32_45
  let v68 : BitVec 32 := Scalar.addi v16 v67
  let v1462 : Index := Scalar.indexCast v68
  let c640_955 : Index := 640#32
  ![v1462.toNat, 640]
def k0_off51 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let c512_i32_9 : BitVec 32 := 512#32
  let v17 : BitVec 32 := Scalar.muli v4 c512_i32_9
  let c1_i32_46 : BitVec 32 := 1#32
  let c1_i32_1 : BitVec 32 := 1#32
  let v5 : BitVec 32 := Scalar.andi v3 c1_i32_1
  let v6 : BitVec 32 := Scalar.xori v5 v4
  let v69 : BitVec 32 := Scalar.subi c1_i32_46 v6
  let c256_i32_47 : BitVec 32 := 256#32
  let v70 : BitVec 32 := Scalar.muli v69 c256_i32_47
  let v71 : BitVec 32 := Scalar.addi v17 v70
  let v1467 : Index := Scalar.indexCast v71
  let c768_957 : Index := 768#32
  ![v1467.toNat, 768]
def k0_off52 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_1 : BitVec 32 := 1#32
  let v5 : BitVec 32 := Scalar.andi v3 c1_i32_1
  let c1_i32_0 : BitVec 32 := 1#32
  let v4 : BitVec 32 := Scalar.shrsi v3 c1_i32_0
  let v6 : BitVec 32 := Scalar.xori v5 v4
  let c512_i32_10 : BitVec 32 := 512#32
  let v18 : BitVec 32 := Scalar.muli v6 c512_i32_10
  let c1_i32_48 : BitVec 32 := 1#32
  let c2_i32 : BitVec 32 := 2#32
  let v7 : BitVec 32 := Scalar.shrsi v2 c2_i32
  let v72 : BitVec 32 := Scalar.subi c1_i32_48 v7
  let c256_i32_49 : BitVec 32 := 256#32
  let v73 : BitVec 32 := Scalar.muli v72 c256_i32_49
  let v74 : BitVec 32 := Scalar.addi v18 v73
  let v1472 : Index := Scalar.indexCast v74
  let c896_959 : Index := 896#32
  ![v1472.toNat, 896]
def k0_off53 (d0 : Dev nD) : Fin 2 → Nat :=
  let c1_i32_18 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v35 : BitVec 32 := Scalar.subi c1_i32_18 v4
  let c512_i32_19 : BitVec 32 := 512#32
  let v36 : BitVec 32 := Scalar.muli v35 c512_i32_19
  let c512_i32 : BitVec 32 := 512#32
  let v11 : BitVec 32 := Scalar.muli v4 c512_i32
  let c1_i32_1 : BitVec 32 := 1#32
  let v5 : BitVec 32 := Scalar.andi v3 c1_i32_1
  let v6 : BitVec 32 := Scalar.xori v5 v4
  let c256_i32 : BitVec 32 := 256#32
  let v19 : BitVec 32 := Scalar.muli v6 c256_i32
  let v20 : BitVec 32 := Scalar.addi v11 v19
  let v83 : BitVec 32 := Scalar.subi v20 v11
  let v91 : BitVec 32 := Scalar.addi v36 v83
  let v1484 : Index := Scalar.indexCast v91
  let c0_971 : Index := 0#32
  ![v1484.toNat, 0]
def k0_off54 (d0 : Dev nD) : Fin 2 → Nat :=
  let c1_i32_18 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v35 : BitVec 32 := Scalar.subi c1_i32_18 v4
  let c512_i32_19 : BitVec 32 := 512#32
  let v36 : BitVec 32 := Scalar.muli v35 c512_i32_19
  let c512_i32 : BitVec 32 := 512#32
  let v11 : BitVec 32 := Scalar.muli v4 c512_i32
  let c1_i32_1 : BitVec 32 := 1#32
  let v5 : BitVec 32 := Scalar.andi v3 c1_i32_1
  let v6 : BitVec 32 := Scalar.xori v5 v4
  let c256_i32 : BitVec 32 := 256#32
  let v19 : BitVec 32 := Scalar.muli v6 c256_i32
  let v20 : BitVec 32 := Scalar.addi v11 v19
  let v83 : BitVec 32 := Scalar.subi v20 v11
  let v91 : BitVec 32 := Scalar.addi v36 v83
  let v1487 : Index := Scalar.indexCast v91
  let c0_972 : Index := 0#32
  ![v1487.toNat, 0]
def k0_off55 (d0 : Dev nD) : Fin 2 → Nat :=
  let c1_i32_20 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_1 : BitVec 32 := 1#32
  let v5 : BitVec 32 := Scalar.andi v3 c1_i32_1
  let c1_i32_0 : BitVec 32 := 1#32
  let v4 : BitVec 32 := Scalar.shrsi v3 c1_i32_0
  let v6 : BitVec 32 := Scalar.xori v5 v4
  let v37 : BitVec 32 := Scalar.subi c1_i32_20 v6
  let c512_i32_21 : BitVec 32 := 512#32
  let v38 : BitVec 32 := Scalar.muli v37 c512_i32_21
  let c512_i32_4 : BitVec 32 := 512#32
  let v12 : BitVec 32 := Scalar.muli v6 c512_i32_4
  let c2_i32 : BitVec 32 := 2#32
  let v7 : BitVec 32 := Scalar.shrsi v2 c2_i32
  let c256_i32_11 : BitVec 32 := 256#32
  let v21 : BitVec 32 := Scalar.muli v7 c256_i32_11
  let v22 : BitVec 32 := Scalar.addi v12 v21
  let v84 : BitVec 32 := Scalar.subi v22 v12
  let v92 : BitVec 32 := Scalar.addi v38 v84
  let v1499 : Index := Scalar.indexCast v92
  let c0_984 : Index := 0#32
  ![v1499.toNat, 0]
def k0_off56 (d0 : Dev nD) : Fin 2 → Nat :=
  let c1_i32_20 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_1 : BitVec 32 := 1#32
  let v5 : BitVec 32 := Scalar.andi v3 c1_i32_1
  let c1_i32_0 : BitVec 32 := 1#32
  let v4 : BitVec 32 := Scalar.shrsi v3 c1_i32_0
  let v6 : BitVec 32 := Scalar.xori v5 v4
  let v37 : BitVec 32 := Scalar.subi c1_i32_20 v6
  let c512_i32_21 : BitVec 32 := 512#32
  let v38 : BitVec 32 := Scalar.muli v37 c512_i32_21
  let c512_i32_4 : BitVec 32 := 512#32
  let v12 : BitVec 32 := Scalar.muli v6 c512_i32_4
  let c2_i32 : BitVec 32 := 2#32
  let v7 : BitVec 32 := Scalar.shrsi v2 c2_i32
  let c256_i32_11 : BitVec 32 := 256#32
  let v21 : BitVec 32 := Scalar.muli v7 c256_i32_11
  let v22 : BitVec 32 := Scalar.addi v12 v21
  let v84 : BitVec 32 := Scalar.subi v22 v12
  let v92 : BitVec 32 := Scalar.addi v38 v84
  let v1502 : Index := Scalar.indexCast v92
  let c128_985 : Index := 128#32
  ![v1502.toNat, 128]
def k0_off57 (d0 : Dev nD) : Fin 2 → Nat :=
  let c1_i32_22 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.shrsi v2 c2_i32
  let v39 : BitVec 32 := Scalar.subi c1_i32_22 v7
  let c512_i32_23 : BitVec 32 := 512#32
  let v40 : BitVec 32 := Scalar.muli v39 c512_i32_23
  let c512_i32_5 : BitVec 32 := 512#32
  let v13 : BitVec 32 := Scalar.muli v7 c512_i32_5
  let c3_i32 : BitVec 32 := 3#32
  let v3 : BitVec 32 := Scalar.andi v2 c3_i32
  let c1_i32_0 : BitVec 32 := 1#32
  let v4 : BitVec 32 := Scalar.shrsi v3 c1_i32_0
  let c256_i32_12 : BitVec 32 := 256#32
  let v23 : BitVec 32 := Scalar.muli v4 c256_i32_12
  let v24 : BitVec 32 := Scalar.addi v13 v23
  let v85 : BitVec 32 := Scalar.subi v24 v13
  let v93 : BitVec 32 := Scalar.addi v40 v85
  let v1514 : Index := Scalar.indexCast v93
  let c0_997 : Index := 0#32
  ![v1514.toNat, 0]
def k0_off58 (d0 : Dev nD) : Fin 2 → Nat :=
  let c1_i32_22 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.shrsi v2 c2_i32
  let v39 : BitVec 32 := Scalar.subi c1_i32_22 v7
  let c512_i32_23 : BitVec 32 := 512#32
  let v40 : BitVec 32 := Scalar.muli v39 c512_i32_23
  let c512_i32_5 : BitVec 32 := 512#32
  let v13 : BitVec 32 := Scalar.muli v7 c512_i32_5
  let c3_i32 : BitVec 32 := 3#32
  let v3 : BitVec 32 := Scalar.andi v2 c3_i32
  let c1_i32_0 : BitVec 32 := 1#32
  let v4 : BitVec 32 := Scalar.shrsi v3 c1_i32_0
  let c256_i32_12 : BitVec 32 := 256#32
  let v23 : BitVec 32 := Scalar.muli v4 c256_i32_12
  let v24 : BitVec 32 := Scalar.addi v13 v23
  let v85 : BitVec 32 := Scalar.subi v24 v13
  let v93 : BitVec 32 := Scalar.addi v40 v85
  let v1517 : Index := Scalar.indexCast v93
  let c256_998 : Index := 256#32
  ![v1517.toNat, 256]
def k0_off59 (d0 : Dev nD) : Fin 2 → Nat :=
  let c1_i32_24 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v41 : BitVec 32 := Scalar.subi c1_i32_24 v4
  let c512_i32_25 : BitVec 32 := 512#32
  let v42 : BitVec 32 := Scalar.muli v41 c512_i32_25
  let c512_i32_6 : BitVec 32 := 512#32
  let v14 : BitVec 32 := Scalar.muli v4 c512_i32_6
  let c1_i32_1 : BitVec 32 := 1#32
  let v5 : BitVec 32 := Scalar.andi v3 c1_i32_1
  let v6 : BitVec 32 := Scalar.xori v5 v4
  let c256_i32_13 : BitVec 32 := 256#32
  let v25 : BitVec 32 := Scalar.muli v6 c256_i32_13
  let v26 : BitVec 32 := Scalar.addi v14 v25
  let v86 : BitVec 32 := Scalar.subi v26 v14
  let v94 : BitVec 32 := Scalar.addi v42 v86
  let v1532 : Index := Scalar.indexCast v94
  let c384_1011 : Index := 384#32
  ![v1532.toNat, 384]
def k0_off60 (d0 : Dev nD) : Fin 2 → Nat :=
  let c1_i32_26 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_1 : BitVec 32 := 1#32
  let v5 : BitVec 32 := Scalar.andi v3 c1_i32_1
  let c1_i32_0 : BitVec 32 := 1#32
  let v4 : BitVec 32 := Scalar.shrsi v3 c1_i32_0
  let v6 : BitVec 32 := Scalar.xori v5 v4
  let v43 : BitVec 32 := Scalar.subi c1_i32_26 v6
  let c512_i32_27 : BitVec 32 := 512#32
  let v44 : BitVec 32 := Scalar.muli v43 c512_i32_27
  let c512_i32_7 : BitVec 32 := 512#32
  let v15 : BitVec 32 := Scalar.muli v6 c512_i32_7
  let c2_i32 : BitVec 32 := 2#32
  let v7 : BitVec 32 := Scalar.shrsi v2 c2_i32
  let c256_i32_14 : BitVec 32 := 256#32
  let v27 : BitVec 32 := Scalar.muli v7 c256_i32_14
  let v28 : BitVec 32 := Scalar.addi v15 v27
  let v87 : BitVec 32 := Scalar.subi v28 v15
  let v95 : BitVec 32 := Scalar.addi v44 v87
  let v1547 : Index := Scalar.indexCast v95
  let c512_1024 : Index := 512#32
  ![v1547.toNat, 512]
def k0_off61 (d0 : Dev nD) : Fin 2 → Nat :=
  let c1_i32_28 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.shrsi v2 c2_i32
  let v45 : BitVec 32 := Scalar.subi c1_i32_28 v7
  let c512_i32_29 : BitVec 32 := 512#32
  let v46 : BitVec 32 := Scalar.muli v45 c512_i32_29
  let c512_i32_8 : BitVec 32 := 512#32
  let v16 : BitVec 32 := Scalar.muli v7 c512_i32_8
  let c3_i32 : BitVec 32 := 3#32
  let v3 : BitVec 32 := Scalar.andi v2 c3_i32
  let c1_i32_0 : BitVec 32 := 1#32
  let v4 : BitVec 32 := Scalar.shrsi v3 c1_i32_0
  let c256_i32_15 : BitVec 32 := 256#32
  let v29 : BitVec 32 := Scalar.muli v4 c256_i32_15
  let v30 : BitVec 32 := Scalar.addi v16 v29
  let v88 : BitVec 32 := Scalar.subi v30 v16
  let v96 : BitVec 32 := Scalar.addi v46 v88
  let v1562 : Index := Scalar.indexCast v96
  let c640_1037 : Index := 640#32
  ![v1562.toNat, 640]
def k0_off62 (d0 : Dev nD) : Fin 2 → Nat :=
  let c1_i32_30 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v47 : BitVec 32 := Scalar.subi c1_i32_30 v4
  let c512_i32_31 : BitVec 32 := 512#32
  let v48 : BitVec 32 := Scalar.muli v47 c512_i32_31
  let c512_i32_9 : BitVec 32 := 512#32
  let v17 : BitVec 32 := Scalar.muli v4 c512_i32_9
  let c1_i32_1 : BitVec 32 := 1#32
  let v5 : BitVec 32 := Scalar.andi v3 c1_i32_1
  let v6 : BitVec 32 := Scalar.xori v5 v4
  let c256_i32_16 : BitVec 32 := 256#32
  let v31 : BitVec 32 := Scalar.muli v6 c256_i32_16
  let v32 : BitVec 32 := Scalar.addi v17 v31
  let v89 : BitVec 32 := Scalar.subi v32 v17
  let v97 : BitVec 32 := Scalar.addi v48 v89
  let v1577 : Index := Scalar.indexCast v97
  let c768_1050 : Index := 768#32
  ![v1577.toNat, 768]
def k0_off63 (d0 : Dev nD) : Fin 2 → Nat :=
  let c1_i32_32 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_1 : BitVec 32 := 1#32
  let v5 : BitVec 32 := Scalar.andi v3 c1_i32_1
  let c1_i32_0 : BitVec 32 := 1#32
  let v4 : BitVec 32 := Scalar.shrsi v3 c1_i32_0
  let v6 : BitVec 32 := Scalar.xori v5 v4
  let v49 : BitVec 32 := Scalar.subi c1_i32_32 v6
  let c512_i32_33 : BitVec 32 := 512#32
  let v50 : BitVec 32 := Scalar.muli v49 c512_i32_33
  let c512_i32_10 : BitVec 32 := 512#32
  let v18 : BitVec 32 := Scalar.muli v6 c512_i32_10
  let c2_i32 : BitVec 32 := 2#32
  let v7 : BitVec 32 := Scalar.shrsi v2 c2_i32
  let c256_i32_17 : BitVec 32 := 256#32
  let v33 : BitVec 32 := Scalar.muli v7 c256_i32_17
  let v34 : BitVec 32 := Scalar.addi v18 v33
  let v90 : BitVec 32 := Scalar.subi v34 v18
  let v98 : BitVec 32 := Scalar.addi v50 v90
  let v1592 : Index := Scalar.indexCast v98
  let c896_1063 : Index := 896#32
  ![v1592.toNat, 896]
def k0_off64 (d0 : Dev nD) : Fin 2 → Nat :=
  let c1_i32_18 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v35 : BitVec 32 := Scalar.subi c1_i32_18 v4
  let c512_i32_19 : BitVec 32 := 512#32
  let v36 : BitVec 32 := Scalar.muli v35 c512_i32_19
  let c512_i32 : BitVec 32 := 512#32
  let v11 : BitVec 32 := Scalar.muli v4 c512_i32
  let c1_i32_34 : BitVec 32 := 1#32
  let c1_i32_1 : BitVec 32 := 1#32
  let v5 : BitVec 32 := Scalar.andi v3 c1_i32_1
  let v6 : BitVec 32 := Scalar.xori v5 v4
  let v51 : BitVec 32 := Scalar.subi c1_i32_34 v6
  let c256_i32_35 : BitVec 32 := 256#32
  let v52 : BitVec 32 := Scalar.muli v51 c256_i32_35
  let v53 : BitVec 32 := Scalar.addi v11 v52
  let v75 : BitVec 32 := Scalar.subi v53 v11
  let v99 : BitVec 32 := Scalar.addi v36 v75
  let v1604 : Index := Scalar.indexCast v99
  let c0_1075 : Index := 0#32
  ![v1604.toNat, 0]
def k0_off65 (d0 : Dev nD) : Fin 2 → Nat :=
  let c1_i32_18 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v35 : BitVec 32 := Scalar.subi c1_i32_18 v4
  let c512_i32_19 : BitVec 32 := 512#32
  let v36 : BitVec 32 := Scalar.muli v35 c512_i32_19
  let c512_i32 : BitVec 32 := 512#32
  let v11 : BitVec 32 := Scalar.muli v4 c512_i32
  let c1_i32_34 : BitVec 32 := 1#32
  let c1_i32_1 : BitVec 32 := 1#32
  let v5 : BitVec 32 := Scalar.andi v3 c1_i32_1
  let v6 : BitVec 32 := Scalar.xori v5 v4
  let v51 : BitVec 32 := Scalar.subi c1_i32_34 v6
  let c256_i32_35 : BitVec 32 := 256#32
  let v52 : BitVec 32 := Scalar.muli v51 c256_i32_35
  let v53 : BitVec 32 := Scalar.addi v11 v52
  let v75 : BitVec 32 := Scalar.subi v53 v11
  let v99 : BitVec 32 := Scalar.addi v36 v75
  let v1607 : Index := Scalar.indexCast v99
  let c0_1076 : Index := 0#32
  ![v1607.toNat, 0]
def k0_off66 (d0 : Dev nD) : Fin 2 → Nat :=
  let c1_i32_20 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_1 : BitVec 32 := 1#32
  let v5 : BitVec 32 := Scalar.andi v3 c1_i32_1
  let c1_i32_0 : BitVec 32 := 1#32
  let v4 : BitVec 32 := Scalar.shrsi v3 c1_i32_0
  let v6 : BitVec 32 := Scalar.xori v5 v4
  let v37 : BitVec 32 := Scalar.subi c1_i32_20 v6
  let c512_i32_21 : BitVec 32 := 512#32
  let v38 : BitVec 32 := Scalar.muli v37 c512_i32_21
  let c512_i32_4 : BitVec 32 := 512#32
  let v12 : BitVec 32 := Scalar.muli v6 c512_i32_4
  let c1_i32_36 : BitVec 32 := 1#32
  let c2_i32 : BitVec 32 := 2#32
  let v7 : BitVec 32 := Scalar.shrsi v2 c2_i32
  let v54 : BitVec 32 := Scalar.subi c1_i32_36 v7
  let c256_i32_37 : BitVec 32 := 256#32
  let v55 : BitVec 32 := Scalar.muli v54 c256_i32_37
  let v56 : BitVec 32 := Scalar.addi v12 v55
  let v76 : BitVec 32 := Scalar.subi v56 v12
  let v100 : BitVec 32 := Scalar.addi v38 v76
  let v1619 : Index := Scalar.indexCast v100
  let c0_1088 : Index := 0#32
  ![v1619.toNat, 0]
def k0_off67 (d0 : Dev nD) : Fin 2 → Nat :=
  let c1_i32_20 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_1 : BitVec 32 := 1#32
  let v5 : BitVec 32 := Scalar.andi v3 c1_i32_1
  let c1_i32_0 : BitVec 32 := 1#32
  let v4 : BitVec 32 := Scalar.shrsi v3 c1_i32_0
  let v6 : BitVec 32 := Scalar.xori v5 v4
  let v37 : BitVec 32 := Scalar.subi c1_i32_20 v6
  let c512_i32_21 : BitVec 32 := 512#32
  let v38 : BitVec 32 := Scalar.muli v37 c512_i32_21
  let c512_i32_4 : BitVec 32 := 512#32
  let v12 : BitVec 32 := Scalar.muli v6 c512_i32_4
  let c1_i32_36 : BitVec 32 := 1#32
  let c2_i32 : BitVec 32 := 2#32
  let v7 : BitVec 32 := Scalar.shrsi v2 c2_i32
  let v54 : BitVec 32 := Scalar.subi c1_i32_36 v7
  let c256_i32_37 : BitVec 32 := 256#32
  let v55 : BitVec 32 := Scalar.muli v54 c256_i32_37
  let v56 : BitVec 32 := Scalar.addi v12 v55
  let v76 : BitVec 32 := Scalar.subi v56 v12
  let v100 : BitVec 32 := Scalar.addi v38 v76
  let v1622 : Index := Scalar.indexCast v100
  let c128_1089 : Index := 128#32
  ![v1622.toNat, 128]
def k0_off68 (d0 : Dev nD) : Fin 2 → Nat :=
  let c1_i32_22 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.shrsi v2 c2_i32
  let v39 : BitVec 32 := Scalar.subi c1_i32_22 v7
  let c512_i32_23 : BitVec 32 := 512#32
  let v40 : BitVec 32 := Scalar.muli v39 c512_i32_23
  let c512_i32_5 : BitVec 32 := 512#32
  let v13 : BitVec 32 := Scalar.muli v7 c512_i32_5
  let c1_i32_38 : BitVec 32 := 1#32
  let c3_i32 : BitVec 32 := 3#32
  let v3 : BitVec 32 := Scalar.andi v2 c3_i32
  let c1_i32_0 : BitVec 32 := 1#32
  let v4 : BitVec 32 := Scalar.shrsi v3 c1_i32_0
  let v57 : BitVec 32 := Scalar.subi c1_i32_38 v4
  let c256_i32_39 : BitVec 32 := 256#32
  let v58 : BitVec 32 := Scalar.muli v57 c256_i32_39
  let v59 : BitVec 32 := Scalar.addi v13 v58
  let v77 : BitVec 32 := Scalar.subi v59 v13
  let v101 : BitVec 32 := Scalar.addi v40 v77
  let v1634 : Index := Scalar.indexCast v101
  let c0_1101 : Index := 0#32
  ![v1634.toNat, 0]
def k0_off69 (d0 : Dev nD) : Fin 2 → Nat :=
  let c1_i32_22 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.shrsi v2 c2_i32
  let v39 : BitVec 32 := Scalar.subi c1_i32_22 v7
  let c512_i32_23 : BitVec 32 := 512#32
  let v40 : BitVec 32 := Scalar.muli v39 c512_i32_23
  let c512_i32_5 : BitVec 32 := 512#32
  let v13 : BitVec 32 := Scalar.muli v7 c512_i32_5
  let c1_i32_38 : BitVec 32 := 1#32
  let c3_i32 : BitVec 32 := 3#32
  let v3 : BitVec 32 := Scalar.andi v2 c3_i32
  let c1_i32_0 : BitVec 32 := 1#32
  let v4 : BitVec 32 := Scalar.shrsi v3 c1_i32_0
  let v57 : BitVec 32 := Scalar.subi c1_i32_38 v4
  let c256_i32_39 : BitVec 32 := 256#32
  let v58 : BitVec 32 := Scalar.muli v57 c256_i32_39
  let v59 : BitVec 32 := Scalar.addi v13 v58
  let v77 : BitVec 32 := Scalar.subi v59 v13
  let v101 : BitVec 32 := Scalar.addi v40 v77
  let v1637 : Index := Scalar.indexCast v101
  let c256_1102 : Index := 256#32
  ![v1637.toNat, 256]
def k0_off70 (d0 : Dev nD) : Fin 2 → Nat :=
  let c1_i32_24 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v41 : BitVec 32 := Scalar.subi c1_i32_24 v4
  let c512_i32_25 : BitVec 32 := 512#32
  let v42 : BitVec 32 := Scalar.muli v41 c512_i32_25
  let c512_i32_6 : BitVec 32 := 512#32
  let v14 : BitVec 32 := Scalar.muli v4 c512_i32_6
  let c1_i32_40 : BitVec 32 := 1#32
  let c1_i32_1 : BitVec 32 := 1#32
  let v5 : BitVec 32 := Scalar.andi v3 c1_i32_1
  let v6 : BitVec 32 := Scalar.xori v5 v4
  let v60 : BitVec 32 := Scalar.subi c1_i32_40 v6
  let c256_i32_41 : BitVec 32 := 256#32
  let v61 : BitVec 32 := Scalar.muli v60 c256_i32_41
  let v62 : BitVec 32 := Scalar.addi v14 v61
  let v78 : BitVec 32 := Scalar.subi v62 v14
  let v102 : BitVec 32 := Scalar.addi v42 v78
  let v1652 : Index := Scalar.indexCast v102
  let c384_1115 : Index := 384#32
  ![v1652.toNat, 384]
def k0_off71 (d0 : Dev nD) : Fin 2 → Nat :=
  let c1_i32_26 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_1 : BitVec 32 := 1#32
  let v5 : BitVec 32 := Scalar.andi v3 c1_i32_1
  let c1_i32_0 : BitVec 32 := 1#32
  let v4 : BitVec 32 := Scalar.shrsi v3 c1_i32_0
  let v6 : BitVec 32 := Scalar.xori v5 v4
  let v43 : BitVec 32 := Scalar.subi c1_i32_26 v6
  let c512_i32_27 : BitVec 32 := 512#32
  let v44 : BitVec 32 := Scalar.muli v43 c512_i32_27
  let c512_i32_7 : BitVec 32 := 512#32
  let v15 : BitVec 32 := Scalar.muli v6 c512_i32_7
  let c1_i32_42 : BitVec 32 := 1#32
  let c2_i32 : BitVec 32 := 2#32
  let v7 : BitVec 32 := Scalar.shrsi v2 c2_i32
  let v63 : BitVec 32 := Scalar.subi c1_i32_42 v7
  let c256_i32_43 : BitVec 32 := 256#32
  let v64 : BitVec 32 := Scalar.muli v63 c256_i32_43
  let v65 : BitVec 32 := Scalar.addi v15 v64
  let v79 : BitVec 32 := Scalar.subi v65 v15
  let v103 : BitVec 32 := Scalar.addi v44 v79
  let v1667 : Index := Scalar.indexCast v103
  let c512_1128 : Index := 512#32
  ![v1667.toNat, 512]
def k0_off72 (d0 : Dev nD) : Fin 2 → Nat :=
  let c1_i32_28 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.shrsi v2 c2_i32
  let v45 : BitVec 32 := Scalar.subi c1_i32_28 v7
  let c512_i32_29 : BitVec 32 := 512#32
  let v46 : BitVec 32 := Scalar.muli v45 c512_i32_29
  let c512_i32_8 : BitVec 32 := 512#32
  let v16 : BitVec 32 := Scalar.muli v7 c512_i32_8
  let c1_i32_44 : BitVec 32 := 1#32
  let c3_i32 : BitVec 32 := 3#32
  let v3 : BitVec 32 := Scalar.andi v2 c3_i32
  let c1_i32_0 : BitVec 32 := 1#32
  let v4 : BitVec 32 := Scalar.shrsi v3 c1_i32_0
  let v66 : BitVec 32 := Scalar.subi c1_i32_44 v4
  let c256_i32_45 : BitVec 32 := 256#32
  let v67 : BitVec 32 := Scalar.muli v66 c256_i32_45
  let v68 : BitVec 32 := Scalar.addi v16 v67
  let v80 : BitVec 32 := Scalar.subi v68 v16
  let v104 : BitVec 32 := Scalar.addi v46 v80
  let v1682 : Index := Scalar.indexCast v104
  let c640_1141 : Index := 640#32
  ![v1682.toNat, 640]
def k0_off73 (d0 : Dev nD) : Fin 2 → Nat :=
  let c1_i32_30 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_0 : BitVec 32 := 1#32
  let v4 : BitVec 32 := Scalar.shrsi v3 c1_i32_0
  let v47 : BitVec 32 := Scalar.subi c1_i32_30 v4
  let c512_i32_31 : BitVec 32 := 512#32
  let v48 : BitVec 32 := Scalar.muli v47 c512_i32_31
  let c512_i32_9 : BitVec 32 := 512#32
  let v17 : BitVec 32 := Scalar.muli v4 c512_i32_9
  let c1_i32_46 : BitVec 32 := 1#32
  let c1_i32_1 : BitVec 32 := 1#32
  let v5 : BitVec 32 := Scalar.andi v3 c1_i32_1
  let v6 : BitVec 32 := Scalar.xori v5 v4
  let v69 : BitVec 32 := Scalar.subi c1_i32_46 v6
  let c256_i32_47 : BitVec 32 := 256#32
  let v70 : BitVec 32 := Scalar.muli v69 c256_i32_47
  let v71 : BitVec 32 := Scalar.addi v17 v70
  let v81 : BitVec 32 := Scalar.subi v71 v17
  let v105 : BitVec 32 := Scalar.addi v48 v81
  let v1697 : Index := Scalar.indexCast v105
  let c768_1154 : Index := 768#32
  ![v1697.toNat, 768]
def k0_off74 (d0 : Dev nD) : Fin 2 → Nat :=
  let c1_i32_32 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v3 : BitVec 32 := Scalar.andi v2 c3_i32
  let c1_i32_1 : BitVec 32 := 1#32
  let v5 : BitVec 32 := Scalar.andi v3 c1_i32_1
  let c1_i32_0 : BitVec 32 := 1#32
  let v4 : BitVec 32 := Scalar.shrsi v3 c1_i32_0
  let v6 : BitVec 32 := Scalar.xori v5 v4
  let v49 : BitVec 32 := Scalar.subi c1_i32_32 v6
  let c512_i32_33 : BitVec 32 := 512#32
  let v50 : BitVec 32 := Scalar.muli v49 c512_i32_33
  let c512_i32_10 : BitVec 32 := 512#32
  let v18 : BitVec 32 := Scalar.muli v6 c512_i32_10
  let c1_i32_48 : BitVec 32 := 1#32
  let c2_i32 : BitVec 32 := 2#32
  let v7 : BitVec 32 := Scalar.shrsi v2 c2_i32
  let v72 : BitVec 32 := Scalar.subi c1_i32_48 v7
  let c256_i32_49 : BitVec 32 := 256#32
  let v73 : BitVec 32 := Scalar.muli v72 c256_i32_49
  let v74 : BitVec 32 := Scalar.addi v18 v73
  let v82 : BitVec 32 := Scalar.subi v74 v18
  let v106 : BitVec 32 := Scalar.addi v50 v82
  let v1712 : Index := Scalar.indexCast v106
  let c896_1167 : Index := 896#32
  ![v1712.toNat, 896]
abbrev stage0_0 : Fin 1 → Memref sig .tc .vmem S1024x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .bf16⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Mesh.lean ====
/-
# The mesh: who talks to whom, and where

The eight devices are the corners of a cube. Every group `g` of 128 columns goes through three exchanges, one along
each axis of the cube, in an order that depends on `g`. `par g j c` is the partner of device `c` in exchange `j` of group
`g`, `crd g j c` the side of that axis on which `c` lies. The offsets and device numbers the kernel computes from its own
number are brought to these names here, once each.
-/
module

public import proofs.«01_k».proof.Proof.Gen.KernelIdeal
public import proofs.«01_k».proof.Proof.Gen.KernelIdeal.Skeleton

@[expose] public section

namespace Cert.ReduceProof

open Cert.KernelIdeal Cert.KernelIdeal.Gen
open Idealize.ShloMosaic

set_option backward.proofsInPublic true

/-- The neighbour of a device along an axis of the cube: the axes change the device number by 3, 1 and 4. -/
def tb (a : Fin 3) (c : Dev nD) : Dev nD := ⟨(c.val ^^^ (![3, 1, 4] : Fin 3 → ℕ) a) % 8, Nat.mod_lt _ (by decide)⟩

/-- The side of an axis on which a device lies. -/
def bit (a : Fin 3) (c : Dev nD) : Fin 2 :=
  ⟨(![c.val / 2 % 2, (c.val % 2 + c.val / 2 % 2) % 2, c.val / 4 % 2] : Fin 3 → ℕ) a % 2, Nat.mod_lt _ (by decide)⟩

/-- The axis of exchange `j` of group `g`. -/
def axis (g : Fin 8) (j : Fin 3) : Fin 3 := ⟨(g.val + j.val) % 3, Nat.mod_lt _ (by decide)⟩

/-- The partner of a device in exchange `j` of group `g`. -/
def par (g : Fin 8) (j : Fin 3) (c : Dev nD) : Dev nD := tb (axis g j) c

/-- The side on which a device lies in exchange `j` of group `g`. -/
def crd (g : Fin 8) (j : Fin 3) (c : Dev nD) : Fin 2 := bit (axis g j) c

/-- The other side. -/
def fl (b : Fin 2) : Fin 2 := ⟨1 - b.val, by omega⟩

/-- Changing sides twice changes nothing. -/
theorem fl_fl (b : Fin 2) : fl (fl b) = b := by revert b; decide
/-- A side and the other are two. -/
theorem fl_ne (b : Fin 2) : fl b ≠ b := by revert b; decide
/-- Neighbours are mutual. -/
theorem tb_tb (a : Fin 3) (c : Dev nD) : tb a (tb a c) = c := by revert a c; decide +kernel
/-- Partners are mutual. -/
theorem par_par (g : Fin 8) (j : Fin 3) (c : Dev nD) : par g j (par g j c) = c := tb_tb _ _
/-- Neighbours along two axes can be taken in either order. -/
theorem tb_comm (a b : Fin 3) (c : Dev nD) : tb a (tb b c) = tb b (tb a c) := by revert a b c; decide +kernel
/-- Partners of two exchanges can be taken in either order. -/
theorem par_comm (g : Fin 8) (i j : Fin 3) (c : Dev nD) : par g i (par g j c) = par g j (par g i c) := tb_comm _ _ _
/-- A partner lies on the other side. -/
theorem crd_par_self (g : Fin 8) (j : Fin 3) (c : Dev nD) : crd g j (par g j c) = fl (crd g j c) := by
  revert g j c; decide +kernel
/-- A partner of one exchange lies on the same side of the others. -/
theorem crd_par_ne (g : Fin 8) (i j : Fin 3) (h : i ≠ j) (c : Dev nD) : crd g i (par g j c) = crd g i c := by
  revert g i j c; decide +kernel

/-- The side in the first exchange is the same across the second, -/
theorem crd01 (g : Fin 8) (c : Dev nD) : crd g 0 (par g 1 c) = crd g 0 c := crd_par_ne g 0 1 (by decide) c
/-- and across the third. -/
theorem crd02 (g : Fin 8) (c : Dev nD) : crd g 0 (par g 2 c) = crd g 0 c := crd_par_ne g 0 2 (by decide) c
/-- The side in the second exchange is the same across the first, -/
theorem crd10 (g : Fin 8) (c : Dev nD) : crd g 1 (par g 0 c) = crd g 1 c := crd_par_ne g 1 0 (by decide) c
/-- and across the third. -/
theorem crd12 (g : Fin 8) (c : Dev nD) : crd g 1 (par g 2 c) = crd g 1 c := crd_par_ne g 1 2 (by decide) c

/-! ## Offsets -/

/-- Where the half `b` of a 1024-row buffer starts. -/
def hOff (b : Fin 2) : Fin 2 → ℕ := ![b.val * 512, 0]
/-- Where the quarter `(b, e)` of a 1024-row buffer starts. -/
def qOff (b e : Fin 2) : Fin 2 → ℕ := ![b.val * 512 + e.val * 256, 0]
/-- Where the half `e` of a 512-row buffer starts. -/
def eOff (e : Fin 2) : Fin 2 → ℕ := ![e.val * 256, 0]
/-- Where the block of quarter `(b, e)` and column group `g` of the result starts. -/
def oOff (b e : Fin 2) (g : Fin 8) : Fin 2 → ℕ := ![b.val * 512 + e.val * 256, g.val * 128]
/-- Where the columns of group `g` start. -/
def cOff (g : Fin 8) : Fin 2 → ℕ := ![0, g.val * 128]

/-- A half lies in a 1024-row buffer; -/
theorem hOff_inb (b : Fin 2) : ∀ a, hOff b a + S512x128.size a ≤ S1024x128.size a := by revert b; decide
/-- so does a quarter; -/
theorem qOff_inb (b e : Fin 2) : ∀ a, qOff b e a + S256x128.size a ≤ S1024x128.size a := by revert b e; decide
/-- a half of a 512-row buffer lies in it; -/
theorem eOff_inb (e : Fin 2) : ∀ a, eOff e a + S256x128.size a ≤ S512x128.size a := by revert e; decide
/-- a block of the result lies in it; -/
theorem oOff_inb (b e : Fin 2) (g : Fin 8) : ∀ a, oOff b e g a + S256x128.size a ≤ S1024x1024.size a := by
  revert b e g; decide
/-- and the columns of a group lie in the second operand. -/
theorem cOff_inb (g : Fin 8) : ∀ a, cOff g a + S128x128.size a ≤ S128x1024.size a := by revert g; decide

/-! ## What the kernel computes from its device number -/

/-- In groups 0, 3, 6, the half on the other side of the first exchange. -/
theorem off1 (g : Fin 8) (h : g.val % 3 = 0) (c : Dev nD) : k0_off1 c = hOff (fl (crd g 0 c)) := by
  revert c g; decide +kernel
/-- In groups 0, 3, 6, the half of the receive buffer on the other side of the second exchange. -/
theorem off2 (g : Fin 8) (h : g.val % 3 = 0) (c : Dev nD) : k0_off2 c = eOff (fl (crd g 1 c)) := by
  revert c g; decide +kernel
/-- In groups 0, 3, 6, the quarter on the other side of the first exchange and the other side of the second. -/
theorem off3 (g : Fin 8) (h : g.val % 3 = 0) (c : Dev nD) : k0_off3 c = qOff (fl (crd g 0 c)) (fl (crd g 1 c)) := by
  revert c g; decide +kernel
/-- In groups 0, 3, 6, the half of the receive buffer on its own side of the second exchange. -/
theorem off4 (g : Fin 8) (h : g.val % 3 = 0) (c : Dev nD) : k0_off4 c = eOff (crd g 1 c) := by
  revert c g; decide +kernel
/-- In groups 0, 3, 6, the quarter on the other side of the first exchange and its own side of the second. -/
theorem off5 (g : Fin 8) (h : g.val % 3 = 0) (c : Dev nD) : k0_off5 c = qOff (fl (crd g 0 c)) (crd g 1 c) := by
  revert c g; decide +kernel
/-- In groups 1, 4, 7, the half on the other side of the first exchange. -/
theorem off6 (g : Fin 8) (h : g.val % 3 = 1) (c : Dev nD) : k0_off6 c = hOff (fl (crd g 0 c)) := by
  revert c g; decide +kernel
/-- In groups 1, 4, 7, the half of the receive buffer on the other side of the second exchange. -/
theorem off7 (g : Fin 8) (h : g.val % 3 = 1) (c : Dev nD) : k0_off7 c = eOff (fl (crd g 1 c)) := by
  revert c g; decide +kernel
/-- In groups 1, 4, 7, the quarter on the other side of the first exchange and the other side of the second. -/
theorem off8 (g : Fin 8) (h : g.val % 3 = 1) (c : Dev nD) : k0_off8 c = qOff (fl (crd g 0 c)) (fl (crd g 1 c)) := by
  revert c g; decide +kernel
/-- In groups 1, 4, 7, the half of the receive buffer on its own side of the second exchange. -/
theorem off9 (g : Fin 8) (h : g.val % 3 = 1) (c : Dev nD) : k0_off9 c = eOff (crd g 1 c) := by
  revert c g; decide +kernel
/-- In groups 1, 4, 7, the quarter on the other side of the first exchange and its own side of the second. -/
theorem off10 (g : Fin 8) (h : g.val % 3 = 1) (c : Dev nD) : k0_off10 c = qOff (fl (crd g 0 c)) (crd g 1 c) := by
  revert c g; decide +kernel
/-- In groups 2, 5, the half on the other side of the first exchange. -/
theorem off11 (g : Fin 8) (h : g.val % 3 = 2) (c : Dev nD) : k0_off11 c = hOff (fl (crd g 0 c)) := by
  revert c g; decide +kernel
/-- In groups 2, 5, the half of the receive buffer on the other side of the second exchange. -/
theorem off12 (g : Fin 8) (h : g.val % 3 = 2) (c : Dev nD) : k0_off12 c = eOff (fl (crd g 1 c)) := by
  revert c g; decide +kernel
/-- In groups 2, 5, the quarter on the other side of the first exchange and the other side of the second. -/
theorem off13 (g : Fin 8) (h : g.val % 3 = 2) (c : Dev nD) : k0_off13 c = qOff (fl (crd g 0 c)) (fl (crd g 1 c)) := by
  revert c g; decide +kernel
/-- In groups 2, 5, the half of the receive buffer on its own side of the second exchange. -/
theorem off14 (g : Fin 8) (h : g.val % 3 = 2) (c : Dev nD) : k0_off14 c = eOff (crd g 1 c) := by
  revert c g; decide +kernel
/-- In groups 2, 5, the quarter on the other side of the first exchange and its own side of the second. -/
theorem off15 (g : Fin 8) (h : g.val % 3 = 2) (c : Dev nD) : k0_off15 c = qOff (fl (crd g 0 c)) (crd g 1 c) := by
  revert c g; decide +kernel
/-- In groups 0, 3, 6, the half on its own side of the first exchange. -/
theorem off16 (g : Fin 8) (h : g.val % 3 = 0) (c : Dev nD) : k0_off16 c = hOff (crd g 0 c) := by
  revert c g; decide +kernel
/-- In groups 1, 4, 7, the half on its own side of the first exchange. -/
theorem off17 (g : Fin 8) (h : g.val % 3 = 1) (c : Dev nD) : k0_off17 c = hOff (crd g 0 c) := by
  revert c g; decide +kernel
/-- In groups 2, 5, the half on its own side of the first exchange. -/
theorem off18 (g : Fin 8) (h : g.val % 3 = 2) (c : Dev nD) : k0_off18 c = hOff (crd g 0 c) := by
  revert c g; decide +kernel
/-- In groups 0, 3, 6, the quarter on its own side of the first exchange and the other side of the second. -/
theorem off19 (g : Fin 8) (h : g.val % 3 = 0) (c : Dev nD) : k0_off19 c = qOff (crd g 0 c) (fl (crd g 1 c)) := by
  revert c g; decide +kernel
/-- In groups 0, 3, 6, the half of the receive buffer on the other side of the second exchange. -/
theorem off20 (g : Fin 8) (h : g.val % 3 = 0) (c : Dev nD) : k0_off20 c = eOff (fl (crd g 1 c)) := by
  revert c g; decide +kernel
/-- In groups 0, 3, 6, the quarter on its own side of the first exchange and the other side of the second. -/
theorem off21 (g : Fin 8) (h : g.val % 3 = 0) (c : Dev nD) : k0_off21 c = qOff (crd g 0 c) (fl (crd g 1 c)) := by
  revert c g; decide +kernel
/-- In groups 0, 3, 6, the quarter on its own side of the first exchange and its own side of the second. -/
theorem off22 (g : Fin 8) (h : g.val % 3 = 0) (c : Dev nD) : k0_off22 c = qOff (crd g 0 c) (crd g 1 c) := by
  revert c g; decide +kernel
/-- In groups 0, 3, 6, the half of the receive buffer on its own side of the second exchange. -/
theorem off23 (g : Fin 8) (h : g.val % 3 = 0) (c : Dev nD) : k0_off23 c = eOff (crd g 1 c) := by
  revert c g; decide +kernel
/-- In groups 1, 4, 7, the quarter on its own side of the first exchange and the other side of the second. -/
theorem off24 (g : Fin 8) (h : g.val % 3 = 1) (c : Dev nD) : k0_off24 c = qOff (crd g 0 c) (fl (crd g 1 c)) := by
  revert c g; decide +kernel
/-- In groups 1, 4, 7, the half of the receive buffer on the other side of the second exchange. -/
theorem off25 (g : Fin 8) (h : g.val % 3 = 1) (c : Dev nD) : k0_off25 c = eOff (fl (crd g 1 c)) := by
  revert c g; decide +kernel
/-- In groups 1, 4, 7, the quarter on its own side of the first exchange and the other side of the second. -/
theorem off26 (g : Fin 8) (h : g.val % 3 = 1) (c : Dev nD) : k0_off26 c = qOff (crd g 0 c) (fl (crd g 1 c)) := by
  revert c g; decide +kernel
/-- In groups 1, 4, 7, the quarter on its own side of the first exchange and its own side of the second. -/
theorem off27 (g : Fin 8) (h : g.val % 3 = 1) (c : Dev nD) : k0_off27 c = qOff (crd g 0 c) (crd g 1 c) := by
  revert c g; decide +kernel
/-- In groups 1, 4, 7, the half of the receive buffer on its own side of the second exchange. -/
theorem off28 (g : Fin 8) (h : g.val % 3 = 1) (c : Dev nD) : k0_off28 c = eOff (crd g 1 c) := by
  revert c g; decide +kernel
/-- In groups 2, 5, the quarter on its own side of the first exchange and the other side of the second. -/
theorem off29 (g : Fin 8) (h : g.val % 3 = 2) (c : Dev nD) : k0_off29 c = qOff (crd g 0 c) (fl (crd g 1 c)) := by
  revert c g; decide +kernel
/-- In groups 2, 5, the half of the receive buffer on the other side of the second exchange. -/
theorem off30 (g : Fin 8) (h : g.val % 3 = 2) (c : Dev nD) : k0_off30 c = eOff (fl (crd g 1 c)) := by
  revert c g; decide +kernel
/-- In groups 2, 5, the quarter on its own side of the first exchange and the other side of the second. -/
theorem off31 (g : Fin 8) (h : g.val % 3 = 2) (c : Dev nD) : k0_off31 c = qOff (crd g 0 c) (fl (crd g 1 c)) := by
  revert c g; decide +kernel
/-- In groups 2, 5, the quarter on its own side of the first exchange and its own side of the second. -/
theorem off32 (g : Fin 8) (h : g.val % 3 = 2) (c : Dev nD) : k0_off32 c = qOff (crd g 0 c) (crd g 1 c) := by
  revert c g; decide +kernel
/-- In groups 2, 5, the half of the receive buffer on its own side of the second exchange. -/
theorem off33 (g : Fin 8) (h : g.val % 3 = 2) (c : Dev nD) : k0_off33 c = eOff (crd g 1 c) := by
  revert c g; decide +kernel
/-- In groups 0, 3, 6, the quarter on its own side of the first exchange and its own side of the second. -/
theorem off34 (g : Fin 8) (h : g.val % 3 = 0) (c : Dev nD) : k0_off34 c = qOff (crd g 0 c) (crd g 1 c) := by
  revert c g; decide +kernel
/-- In groups 1, 4, 7, the quarter on its own side of the first exchange and its own side of the second. -/
theorem off35 (g : Fin 8) (h : g.val % 3 = 1) (c : Dev nD) : k0_off35 c = qOff (crd g 0 c) (crd g 1 c) := by
  revert c g; decide +kernel
/-- In groups 2, 5, the quarter on its own side of the first exchange and its own side of the second. -/
theorem off36 (g : Fin 8) (h : g.val % 3 = 2) (c : Dev nD) : k0_off36 c = qOff (crd g 0 c) (crd g 1 c) := by
  revert c g; decide +kernel
/-- In the result, the quarter on its own side of the first exchange and its own side of the second, for group 0. -/
theorem off37 (c : Dev nD) : k0_off37 c = oOff (crd 0 0 c) (crd 0 1 c) 0 := by revert c; decide +kernel
/-- In the result, the quarter on its own side of the first exchange and its own side of the second, for group 1. -/
theorem off38 (c : Dev nD) : k0_off38 c = oOff (crd 1 0 c) (crd 1 1 c) 1 := by revert c; decide +kernel
/-- In the result, the quarter on its own side of the first exchange and its own side of the second, for group 2. -/
theorem off39 (c : Dev nD) : k0_off39 c = oOff (crd 2 0 c) (crd 2 1 c) 2 := by revert c; decide +kernel
/-- In the result, the quarter on its own side of the first exchange and its own side of the second, for group 3. -/
theorem off40 (c : Dev nD) : k0_off40 c = oOff (crd 3 0 c) (crd 3 1 c) 3 := by revert c; decide +kernel
/-- In the result, the quarter on its own side of the first exchange and its own side of the second, for group 4. -/
theorem off41 (c : Dev nD) : k0_off41 c = oOff (crd 4 0 c) (crd 4 1 c) 4 := by revert c; decide +kernel
/-- In the result, the quarter on its own side of the first exchange and its own side of the second, for group 5. -/
theorem off42 (c : Dev nD) : k0_off42 c = oOff (crd 5 0 c) (crd 5 1 c) 5 := by revert c; decide +kernel
/-- In the result, the quarter on its own side of the first exchange and its own side of the second, for group 6. -/
theorem off43 (c : Dev nD) : k0_off43 c = oOff (crd 6 0 c) (crd 6 1 c) 6 := by revert c; decide +kernel
/-- In the result, the quarter on its own side of the first exchange and its own side of the second, for group 7. -/
theorem off44 (c : Dev nD) : k0_off44 c = oOff (crd 7 0 c) (crd 7 1 c) 7 := by revert c; decide +kernel
/-- In the result, the quarter on its own side of the first exchange and the other side of the second, for group 0. -/
theorem off45 (c : Dev nD) : k0_off45 c = oOff (crd 0 0 c) (fl (crd 0 1 c)) 0 := by revert c; decide +kernel
/-- In the result, the quarter on its own side of the first exchange and the other side of the second, for group 1. -/
theorem off46 (c : Dev nD) : k0_off46 c = oOff (crd 1 0 c) (fl (crd 1 1 c)) 1 := by revert c; decide +kernel
/-- In the result, the quarter on its own side of the first exchange and the other side of the second, for group 2. -/
theorem off47 (c : Dev nD) : k0_off47 c = oOff (crd 2 0 c) (fl (crd 2 1 c)) 2 := by revert c; decide +kernel
/-- In the result, the quarter on its own side of the first exchange and the other side of the second, for group 3. -/
theorem off48 (c : Dev nD) : k0_off48 c = oOff (crd 3 0 c) (fl (crd 3 1 c)) 3 := by revert c; decide +kernel
/-- In the result, the quarter on its own side of the first exchange and the other side of the second, for group 4. -/
theorem off49 (c : Dev nD) : k0_off49 c = oOff (crd 4 0 c) (fl (crd 4 1 c)) 4 := by revert c; decide +kernel
/-- In the result, the quarter on its own side of the first exchange and the other side of the second, for group 5. -/
theorem off50 (c : Dev nD) : k0_off50 c = oOff (crd 5 0 c) (fl (crd 5 1 c)) 5 := by revert c; decide +kernel
/-- In the result, the quarter on its own side of the first exchange and the other side of the second, for group 6. -/
theorem off51 (c : Dev nD) : k0_off51 c = oOff (crd 6 0 c) (fl (crd 6 1 c)) 6 := by revert c; decide +kernel
/-- In the result, the quarter on its own side of the first exchange and the other side of the second, for group 7. -/
theorem off52 (c : Dev nD) : k0_off52 c = oOff (crd 7 0 c) (fl (crd 7 1 c)) 7 := by revert c; decide +kernel
/-- In groups 0, 3, 6, the quarter on the other side of the first exchange and its own side of the second. -/
theorem off53 (g : Fin 8) (h : g.val % 3 = 0) (c : Dev nD) : k0_off53 c = qOff (fl (crd g 0 c)) (crd g 1 c) := by
  revert c g; decide +kernel
/-- In the result, the quarter on the other side of the first exchange and its own side of the second, for group 0. -/
theorem off54 (c : Dev nD) : k0_off54 c = oOff (fl (crd 0 0 c)) (crd 0 1 c) 0 := by revert c; decide +kernel
/-- In groups 1, 4, 7, the quarter on the other side of the first exchange and its own side of the second. -/
theorem off55 (g : Fin 8) (h : g.val % 3 = 1) (c : Dev nD) : k0_off55 c = qOff (fl (crd g 0 c)) (crd g 1 c) := by
  revert c g; decide +kernel
/-- In the result, the quarter on the other side of the first exchange and its own side of the second, for group 1. -/
theorem off56 (c : Dev nD) : k0_off56 c = oOff (fl (crd 1 0 c)) (crd 1 1 c) 1 := by revert c; decide +kernel
/-- In groups 2, 5, the quarter on the other side of the first exchange and its own side of the second. -/
theorem off57 (g : Fin 8) (h : g.val % 3 = 2) (c : Dev nD) : k0_off57 c = qOff (fl (crd g 0 c)) (crd g 1 c) := by
  revert c g; decide +kernel
/-- In the result, the quarter on the other side of the first exchange and its own side of the second, for group 2. -/
theorem off58 (c : Dev nD) : k0_off58 c = oOff (fl (crd 2 0 c)) (crd 2 1 c) 2 := by revert c; decide +kernel
/-- In the result, the quarter on the other side of the first exchange and its own side of the second, for group 3. -/
theorem off59 (c : Dev nD) : k0_off59 c = oOff (fl (crd 3 0 c)) (crd 3 1 c) 3 := by revert c; decide +kernel
/-- In the result, the quarter on the other side of the first exchange and its own side of the second, for group 4. -/
theorem off60 (c : Dev nD) : k0_off60 c = oOff (fl (crd 4 0 c)) (crd 4 1 c) 4 := by revert c; decide +kernel
/-- In the result, the quarter on the other side of the first exchange and its own side of the second, for group 5. -/
theorem off61 (c : Dev nD) : k0_off61 c = oOff (fl (crd 5 0 c)) (crd 5 1 c) 5 := by revert c; decide +kernel
/-- In the result, the quarter on the other side of the first exchange and its own side of the second, for group 6. -/
theorem off62 (c : Dev nD) : k0_off62 c = oOff (fl (crd 6 0 c)) (crd 6 1 c) 6 := by revert c; decide +kernel
/-- In the result, the quarter on the other side of the first exchange and its own side of the second, for group 7. -/
theorem off63 (c : Dev nD) : k0_off63 c = oOff (fl (crd 7 0 c)) (crd 7 1 c) 7 := by revert c; decide +kernel
/-- In groups 0, 3, 6, the quarter on the other side of the first exchange and the other side of the second. -/
theorem off64 (g : Fin 8) (h : g.val % 3 = 0) (c : Dev nD) : k0_off64 c = qOff (fl (crd g 0 c)) (fl (crd g 1 c)) := by
  revert c g; decide +kernel
/-- In the result, the quarter on the other side of the first exchange and the other side of the second, for group 0. -/
theorem off65 (c : Dev nD) : k0_off65 c = oOff (fl (crd 0 0 c)) (fl (crd 0 1 c)) 0 := by revert c; decide +kernel
/-- In groups 1, 4, 7, the quarter on the other side of the first exchange and the other side of the second. -/
theorem off66 (g : Fin 8) (h : g.val % 3 = 1) (c : Dev nD) : k0_off66 c = qOff (fl (crd g 0 c)) (fl (crd g 1 c)) := by
  revert c g; decide +kernel
/-- In the result, the quarter on the other side of the first exchange and the other side of the second, for group 1. -/
theorem off67 (c : Dev nD) : k0_off67 c = oOff (fl (crd 1 0 c)) (fl (crd 1 1 c)) 1 := by revert c; decide +kernel
/-- In groups 2, 5, the quarter on the other side of the first exchange and the other side of the second. -/
theorem off68 (g : Fin 8) (h : g.val % 3 = 2) (c : Dev nD) : k0_off68 c = qOff (fl (crd g 0 c)) (fl (crd g 1 c)) := by
  revert c g; decide +kernel
/-- In the result, the quarter on the other side of the first exchange and the other side of the second, for group 2. -/
theorem off69 (c : Dev nD) : k0_off69 c = oOff (fl (crd 2 0 c)) (fl (crd 2 1 c)) 2 := by revert c; decide +kernel
/-- In the result, the quarter on the other side of the first exchange and the other side of the second, for group 3. -/
theorem off70 (c : Dev nD) : k0_off70 c = oOff (fl (crd 3 0 c)) (fl (crd 3 1 c)) 3 := by revert c; decide +kernel
/-- In the result, the quarter on the other side of the first exchange and the other side of the second, for group 4. -/
theorem off71 (c : Dev nD) : k0_off71 c = oOff (fl (crd 4 0 c)) (fl (crd 4 1 c)) 4 := by revert c; decide +kernel
/-- In the result, the quarter on the other side of the first exchange and the other side of the second, for group 5. -/
theorem off72 (c : Dev nD) : k0_off72 c = oOff (fl (crd 5 0 c)) (fl (crd 5 1 c)) 5 := by revert c; decide +kernel
/-- In the result, the quarter on the other side of the first exchange and the other side of the second, for group 6. -/
theorem off73 (c : Dev nD) : k0_off73 c = oOff (fl (crd 6 0 c)) (fl (crd 6 1 c)) 6 := by revert c; decide +kernel
/-- In the result, the quarter on the other side of the first exchange and the other side of the second, for group 7. -/
theorem off74 (c : Dev nD) : k0_off74 c = oOff (fl (crd 7 0 c)) (fl (crd 7 1 c)) 7 := by revert c; decide +kernel
/-- The neighbour along the first axis, for the barrier. -/
theorem dev1 (c : Dev nD) : (⟨k0_dev1 c, k0_dev1_lt c⟩ : Dev nD) = tb 0 c := by revert c; decide +kernel
/-- The neighbour along the second axis, for the barrier. -/
theorem dev2 (c : Dev nD) : (⟨k0_dev2 c, k0_dev2_lt c⟩ : Dev nD) = tb 1 c := by revert c; decide +kernel
/-- The neighbour along the third axis, for the barrier. -/
theorem dev3 (c : Dev nD) : (⟨k0_dev3 c, k0_dev3_lt c⟩ : Dev nD) = tb 2 c := by revert c; decide +kernel
/-- The partner of group 0 in its first exchange. -/
theorem dev4 (c : Dev nD) : (⟨k0_dev4 c, k0_dev4_lt c⟩ : Dev nD) = par 0 0 c := by revert c; decide +kernel
/-- The partner of group 0 in its first exchange. -/
theorem dev5 (c : Dev nD) : (⟨k0_dev5 c, k0_dev5_lt c⟩ : Dev nD) = par 0 0 c := by revert c; decide +kernel
/-- The partner of group 1 in its first exchange. -/
theorem dev6 (c : Dev nD) : (⟨k0_dev6 c, k0_dev6_lt c⟩ : Dev nD) = par 1 0 c := by revert c; decide +kernel
/-- The partner of group 1 in its first exchange. -/
theorem dev7 (c : Dev nD) : (⟨k0_dev7 c, k0_dev7_lt c⟩ : Dev nD) = par 1 0 c := by revert c; decide +kernel
/-- The partner of group 2 in its first exchange. -/
theorem dev8 (c : Dev nD) : (⟨k0_dev8 c, k0_dev8_lt c⟩ : Dev nD) = par 2 0 c := by revert c; decide +kernel
/-- The partner of group 2 in its first exchange. -/
theorem dev9 (c : Dev nD) : (⟨k0_dev9 c, k0_dev9_lt c⟩ : Dev nD) = par 2 0 c := by revert c; decide +kernel
/-- The partner of group 3 in its first exchange. -/
theorem dev10 (c : Dev nD) : (⟨k0_dev10 c, k0_dev10_lt c⟩ : Dev nD) = par 3 0 c := by revert c; decide +kernel
/-- The partner of group 3 in its first exchange. -/
theorem dev11 (c : Dev nD) : (⟨k0_dev11 c, k0_dev11_lt c⟩ : Dev nD) = par 3 0 c := by revert c; decide +kernel
/-- The partner of group 4 in its first exchange. -/
theorem dev12 (c : Dev nD) : (⟨k0_dev12 c, k0_dev12_lt c⟩ : Dev nD) = par 4 0 c := by revert c; decide +kernel
/-- The partner of group 4 in its first exchange. -/
theorem dev13 (c : Dev nD) : (⟨k0_dev13 c, k0_dev13_lt c⟩ : Dev nD) = par 4 0 c := by revert c; decide +kernel
/-- The partner of group 5 in its first exchange. -/
theorem dev14 (c : Dev nD) : (⟨k0_dev14 c, k0_dev14_lt c⟩ : Dev nD) = par 5 0 c := by revert c; decide +kernel
/-- The partner of group 5 in its first exchange. -/
theorem dev15 (c : Dev nD) : (⟨k0_dev15 c, k0_dev15_lt c⟩ : Dev nD) = par 5 0 c := by revert c; decide +kernel
/-- The partner of group 6 in its first exchange. -/
theorem dev16 (c : Dev nD) : (⟨k0_dev16 c, k0_dev16_lt c⟩ : Dev nD) = par 6 0 c := by revert c; decide +kernel
/-- The partner of group 6 in its first exchange. -/
theorem dev17 (c : Dev nD) : (⟨k0_dev17 c, k0_dev17_lt c⟩ : Dev nD) = par 6 0 c := by revert c; decide +kernel
/-- The partner of group 7 in its first exchange. -/
theorem dev18 (c : Dev nD) : (⟨k0_dev18 c, k0_dev18_lt c⟩ : Dev nD) = par 7 0 c := by revert c; decide +kernel
/-- The partner of group 7 in its first exchange. -/
theorem dev19 (c : Dev nD) : (⟨k0_dev19 c, k0_dev19_lt c⟩ : Dev nD) = par 7 0 c := by revert c; decide +kernel
/-- The partner of group 0 in its second exchange. -/
theorem dev20 (c : Dev nD) : (⟨k0_dev20 c, k0_dev20_lt c⟩ : Dev nD) = par 0 1 c := by revert c; decide +kernel
/-- The partner of group 1 in its second exchange. -/
theorem dev21 (c : Dev nD) : (⟨k0_dev21 c, k0_dev21_lt c⟩ : Dev nD) = par 1 1 c := by revert c; decide +kernel
/-- The partner of group 2 in its second exchange. -/
theorem dev22 (c : Dev nD) : (⟨k0_dev22 c, k0_dev22_lt c⟩ : Dev nD) = par 2 1 c := by revert c; decide +kernel
/-- The partner of group 3 in its second exchange. -/
theorem dev23 (c : Dev nD) : (⟨k0_dev23 c, k0_dev23_lt c⟩ : Dev nD) = par 3 1 c := by revert c; decide +kernel
/-- The partner of group 4 in its second exchange. -/
theorem dev24 (c : Dev nD) : (⟨k0_dev24 c, k0_dev24_lt c⟩ : Dev nD) = par 4 1 c := by revert c; decide +kernel
/-- The partner of group 5 in its second exchange. -/
theorem dev25 (c : Dev nD) : (⟨k0_dev25 c, k0_dev25_lt c⟩ : Dev nD) = par 5 1 c := by revert c; decide +kernel
/-- The partner of group 6 in its second exchange. -/
theorem dev26 (c : Dev nD) : (⟨k0_dev26 c, k0_dev26_lt c⟩ : Dev nD) = par 6 1 c := by revert c; decide +kernel
/-- The partner of group 7 in its second exchange. -/
theorem dev27 (c : Dev nD) : (⟨k0_dev27 c, k0_dev27_lt c⟩ : Dev nD) = par 7 1 c := by revert c; decide +kernel
/-- The partner of group 0 in its third exchange. -/
theorem dev28 (c : Dev nD) : (⟨k0_dev28 c, k0_dev28_lt c⟩ : Dev nD) = par 0 2 c := by revert c; decide +kernel
/-- The partner of group 1 in its third exchange. -/
theorem dev29 (c : Dev nD) : (⟨k0_dev29 c, k0_dev29_lt c⟩ : Dev nD) = par 1 2 c := by revert c; decide +kernel
/-- The partner of group 2 in its third exchange. -/
theorem dev30 (c : Dev nD) : (⟨k0_dev30 c, k0_dev30_lt c⟩ : Dev nD) = par 2 2 c := by revert c; decide +kernel
/-- The partner of group 3 in its third exchange. -/
theorem dev31 (c : Dev nD) : (⟨k0_dev31 c, k0_dev31_lt c⟩ : Dev nD) = par 3 2 c := by revert c; decide +kernel
/-- The partner of group 4 in its third exchange. -/
theorem dev32 (c : Dev nD) : (⟨k0_dev32 c, k0_dev32_lt c⟩ : Dev nD) = par 4 2 c := by revert c; decide +kernel
/-- The partner of group 5 in its third exchange. -/
theorem dev33 (c : Dev nD) : (⟨k0_dev33 c, k0_dev33_lt c⟩ : Dev nD) = par 5 2 c := by revert c; decide +kernel
/-- The partner of group 6 in its third exchange. -/
theorem dev34 (c : Dev nD) : (⟨k0_dev34 c, k0_dev34_lt c⟩ : Dev nD) = par 6 2 c := by revert c; decide +kernel
/-- The partner of group 7 in its third exchange. -/
theorem dev35 (c : Dev nD) : (⟨k0_dev35 c, k0_dev35_lt c⟩ : Dev nD) = par 7 2 c := by revert c; decide +kernel
/-- The partner of group 0 in its second exchange. -/
theorem dev36 (c : Dev nD) : (⟨k0_dev36 c, k0_dev36_lt c⟩ : Dev nD) = par 0 1 c := by revert c; decide +kernel
/-- The partner of group 0 in its first exchange. -/
theorem dev37 (c : Dev nD) : (⟨k0_dev37 c, k0_dev37_lt c⟩ : Dev nD) = par 0 0 c := by revert c; decide +kernel
/-- The partner of group 1 in its second exchange. -/
theorem dev38 (c : Dev nD) : (⟨k0_dev38 c, k0_dev38_lt c⟩ : Dev nD) = par 1 1 c := by revert c; decide +kernel
/-- The partner of group 1 in its first exchange. -/
theorem dev39 (c : Dev nD) : (⟨k0_dev39 c, k0_dev39_lt c⟩ : Dev nD) = par 1 0 c := by revert c; decide +kernel
/-- The partner of group 2 in its second exchange. -/
theorem dev40 (c : Dev nD) : (⟨k0_dev40 c, k0_dev40_lt c⟩ : Dev nD) = par 2 1 c := by revert c; decide +kernel
/-- The partner of group 2 in its first exchange. -/
theorem dev41 (c : Dev nD) : (⟨k0_dev41 c, k0_dev41_lt c⟩ : Dev nD) = par 2 0 c := by revert c; decide +kernel
/-- The partner of group 3 in its second exchange. -/
theorem dev42 (c : Dev nD) : (⟨k0_dev42 c, k0_dev42_lt c⟩ : Dev nD) = par 3 1 c := by revert c; decide +kernel
/-- The partner of group 3 in its first exchange. -/
theorem dev43 (c : Dev nD) : (⟨k0_dev43 c, k0_dev43_lt c⟩ : Dev nD) = par 3 0 c := by revert c; decide +kernel
/-- The partner of group 4 in its second exchange. -/
theorem dev44 (c : Dev nD) : (⟨k0_dev44 c, k0_dev44_lt c⟩ : Dev nD) = par 4 1 c := by revert c; decide +kernel
/-- The partner of group 4 in its first exchange. -/
theorem dev45 (c : Dev nD) : (⟨k0_dev45 c, k0_dev45_lt c⟩ : Dev nD) = par 4 0 c := by revert c; decide +kernel
/-- The partner of group 5 in its second exchange. -/
theorem dev46 (c : Dev nD) : (⟨k0_dev46 c, k0_dev46_lt c⟩ : Dev nD) = par 5 1 c := by revert c; decide +kernel
/-- The partner of group 5 in its first exchange. -/
theorem dev47 (c : Dev nD) : (⟨k0_dev47 c, k0_dev47_lt c⟩ : Dev nD) = par 5 0 c := by revert c; decide +kernel
/-- The partner of group 6 in its second exchange. -/
theorem dev48 (c : Dev nD) : (⟨k0_dev48 c, k0_dev48_lt c⟩ : Dev nD) = par 6 1 c := by revert c; decide +kernel
/-- The partner of group 6 in its first exchange. -/
theorem dev49 (c : Dev nD) : (⟨k0_dev49 c, k0_dev49_lt c⟩ : Dev nD) = par 6 0 c := by revert c; decide +kernel
/-- The partner of group 7 in its second exchange. -/
theorem dev50 (c : Dev nD) : (⟨k0_dev50 c, k0_dev50_lt c⟩ : Dev nD) = par 7 1 c := by revert c; decide +kernel
/-- The partner of group 7 in its first exchange. -/
theorem dev51 (c : Dev nD) : (⟨k0_dev51 c, k0_dev51_lt c⟩ : Dev nD) = par 7 0 c := by revert c; decide +kernel
/-- The partner of group 0 in its first exchange. -/
theorem dev52 (c : Dev nD) : (⟨k0_dev52 c, k0_dev52_lt c⟩ : Dev nD) = par 0 0 c := by revert c; decide +kernel
/-- The partner of group 1 in its first exchange. -/
theorem dev53 (c : Dev nD) : (⟨k0_dev53 c, k0_dev53_lt c⟩ : Dev nD) = par 1 0 c := by revert c; decide +kernel
/-- The partner of group 2 in its first exchange. -/
theorem dev54 (c : Dev nD) : (⟨k0_dev54 c, k0_dev54_lt c⟩ : Dev nD) = par 2 0 c := by revert c; decide +kernel
/-- The partner of group 3 in its first exchange. -/
theorem dev55 (c : Dev nD) : (⟨k0_dev55 c, k0_dev55_lt c⟩ : Dev nD) = par 3 0 c := by revert c; decide +kernel
/-- The partner of group 4 in its first exchange. -/
theorem dev56 (c : Dev nD) : (⟨k0_dev56 c, k0_dev56_lt c⟩ : Dev nD) = par 4 0 c := by revert c; decide +kernel
/-- The partner of group 5 in its first exchange. -/
theorem dev57 (c : Dev nD) : (⟨k0_dev57 c, k0_dev57_lt c⟩ : Dev nD) = par 5 0 c := by revert c; decide +kernel
/-- The partner of group 6 in its first exchange. -/
theorem dev58 (c : Dev nD) : (⟨k0_dev58 c, k0_dev58_lt c⟩ : Dev nD) = par 6 0 c := by revert c; decide +kernel
/-- The partner of group 7 in its first exchange. -/
theorem dev59 (c : Dev nD) : (⟨k0_dev59 c, k0_dev59_lt c⟩ : Dev nD) = par 7 0 c := by revert c; decide +kernel

end Cert.ReduceProof
-- ==== Proof.Sched.lean ====
/-
# The protocol: buffers, values, cells, duties

Every group of columns has an accumulator of 1024 rows on each device, cut in four quarters `(b, e)`, and three receive
buffers. What each copy carries, what a device hands over with it, and what it owes are said here, once for all devices
and all groups, in terms of the partners and sides of `Mesh`.
-/
module

public import proofs.«01_k».proof.Proof.Mesh
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Memref
public import Idealize.ShloMosaic.Lib.MemrefSat

@[expose] public section

noncomputable section

namespace Cert.ReduceProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The protocol's copy of the rounds algebra; a cell's duties of a round are named by the three axes. -/
abbrev UB : Type := URounds (GSem nD τ sig) (Fin 3)
/-- The whole user algebra: the pipeline library's copy beside the protocol's. -/
abbrev UU : Type := UR sig nD τ × UB

local notation "𝕄" => MT nD τ sig Unit (Elt F) ℕ UU ℕ

/-- Where the launch's own part of the algebra lies, -/
abbrev EP : Emb (UR sig nD τ) (MT nD τ sig Unit (Elt F) ℕ UU ℕ) := embL
/-- and where the protocol's part does. -/
abbrev ER : Emb UB (MT nD τ sig Unit (Elt F) ℕ UU ℕ) := embR

/-- The kernel has no loop whose end needs a measure. -/
abbrev 𝒱₀ : Variants := Variants.none

/-! ## Buffers -/

/-- The kernel's first input, -/
abbrev xM : Memref sig .tc .vmem S1024x128 .bf16 := Memref.whole cc0_stg0_0
/-- its second, -/
abbrev wM : Memref sig .tc .vmem S128x1024 .bf16 := Memref.whole cc0_stg1_0
/-- and its result. -/
abbrev oM : Memref sig .tc .vmem S1024x1024 .f32 := Memref.whole cc0_stg2_0

/-- The accumulator of group `g`. -/
def accM (g : Fin 8) : Memref sig .tc .vmem S1024x128 .bf16 :=
  match g with
  | 0 => Memref.whole cc0_scratch0 | 1 => Memref.whole cc0_scratch1 | 2 => Memref.whole cc0_scratch2
  | 3 => Memref.whole cc0_scratch3 | 4 => Memref.whole cc0_scratch4 | 5 => Memref.whole cc0_scratch5
  | 6 => Memref.whole cc0_scratch6 | 7 => Memref.whole cc0_scratch7
/-- The receive buffer of the first exchange of group `g`. -/
def r0M (g : Fin 8) : Memref sig .tc .vmem S512x128 .bf16 :=
  match g with
  | 0 => Memref.whole cc0_scratch8 | 1 => Memref.whole cc0_scratch11 | 2 => Memref.whole cc0_scratch14
  | 3 => Memref.whole cc0_scratch17 | 4 => Memref.whole cc0_scratch20 | 5 => Memref.whole cc0_scratch23
  | 6 => Memref.whole cc0_scratch26 | 7 => Memref.whole cc0_scratch29
/-- The receive buffer of the second exchange of group `g`. -/
def r1M (g : Fin 8) : Memref sig .tc .vmem S256x128 .bf16 :=
  match g with
  | 0 => Memref.whole cc0_scratch9 | 1 => Memref.whole cc0_scratch12 | 2 => Memref.whole cc0_scratch15
  | 3 => Memref.whole cc0_scratch18 | 4 => Memref.whole cc0_scratch21 | 5 => Memref.whole cc0_scratch24
  | 6 => Memref.whole cc0_scratch27 | 7 => Memref.whole cc0_scratch30
/-- The receive buffer of the third exchange of group `g`. -/
def r2M (g : Fin 8) : Memref sig .tc .vmem S256x128 .bf16 :=
  match g with
  | 0 => Memref.whole cc0_scratch10 | 1 => Memref.whole cc0_scratch13 | 2 => Memref.whole cc0_scratch16
  | 3 => Memref.whole cc0_scratch19 | 4 => Memref.whole cc0_scratch22 | 5 => Memref.whole cc0_scratch25
  | 6 => Memref.whole cc0_scratch28 | 7 => Memref.whole cc0_scratch31

/-- A half of the rows of an accumulator, -/
abbrev hRect (b : Fin 2) : Rect S1024x128 := Rect.unit (s := S1024x128) (hOff b) S512x128.size (hOff_inb b)
/-- a quarter of them, -/
abbrev qRect (b e : Fin 2) : Rect S1024x128 := Rect.unit (s := S1024x128) (qOff b e) S256x128.size (qOff_inb b e)
/-- a half of a first receive buffer, -/
abbrev eRect (e : Fin 2) : Rect S512x128 := Rect.unit (s := S512x128) (eOff e) S256x128.size (eOff_inb e)
/-- a group's columns of the second input, -/
abbrev cRect (g : Fin 8) : Rect S128x1024 := Rect.unit (s := S128x1024) (cOff g) S128x128.size (cOff_inb g)
/-- and a block of the result. -/
abbrev oRect (b e : Fin 2) (g : Fin 8) : Rect S1024x1024 :=
  Rect.unit (s := S1024x1024) (oOff b e g) S256x128.size (oOff_inb b e g)

/-- The quarter `(b, e)` of an accumulator. -/
abbrev accQ (g : Fin 8) (b e : Fin 2) : Memref sig .tc .vmem S256x128 .bf16 := (accM g).slice (qRect b e) (fun _ => rfl)
/-- The half `e` of a first receive buffer. -/
abbrev r0H (g : Fin 8) (e : Fin 2) : Memref sig .tc .vmem S256x128 .bf16 := (r0M g).slice (eRect e) (fun _ => rfl)

/-! ## Values -/

section Values
variable (X : Dev nD → Vec F S1024x128 .bf16) (W : Dev nD → Vec F S128x1024 .bf16)

/-- Device `c`'s own contribution to group `g`, half `b` of the rows. -/
def M0 (c : Dev nD) (g : Fin 8) (b : Fin 2) : Vec F S512x128 .bf16 :=
  k0_pay2 (fun j => X c ((hRect b).emb j)) (fun j => W c ((cRect g).emb j))
/-- The same, one quarter. -/
def A0 (c : Dev nD) (g : Fin 8) (b e : Fin 2) : Vec F S256x128 .bf16 := fun j => M0 X W c g b ((eRect e).emb j)
/-- The sum over two devices, after the first exchange. -/
def A1 (c : Dev nD) (g : Fin 8) (e : Fin 2) : Vec F S256x128 .bf16 :=
  k0_pay23 (A0 X W c g (crd g 0 c) e) (A0 X W (par g 0 c) g (crd g 0 c) e)
/-- The sum over four devices, after the second exchange. -/
def A2 (c : Dev nD) (g : Fin 8) : Vec F S256x128 .bf16 :=
  k0_pay23 (A1 X W c g (crd g 1 c)) (A1 X W (par g 1 c) g (crd g 1 c))
/-- The sum over all eight devices, negative entries replaced by zero, after the third exchange. -/
def A3 (c : Dev nD) (g : Fin 8) : Vec F S256x128 .bf16 := k0_pay49 (A2 X W c g) (A2 X W (par g 2 c) g)
/-- The device that reduces quarter `(b, e)` of group `g` for device `c`. -/
def own (c : Dev nD) (g : Fin 8) (b e : Fin 2) : Dev nD :=
  if b = crd g 0 c then (if e = crd g 1 c then c else par g 1 c)
  else (if e = crd g 1 c then par g 0 c else par g 1 (par g 0 c))

end Values

/-! ## Cells -/

/-- A copy: its group and its place among the group's seven. -/
abbrev Cp : Type := Fin 8 × Fin 7
/-- A device's cells: the barrier, and a send and a receive cell for each copy. -/
abbrev CK : Type := Unit ⊕ (Cp ⊕ Cp)

set_option backward.proofsInPublic true in
/-- A copy's send semaphore, -/
def sendS (n : Cp) : DmaSem sig := ⟨3 + (7 * n.1.val + n.2.val), by have h : sig.nDmaSem = 115 := rfl; omega⟩
set_option backward.proofsInPublic true in
/-- its receive semaphore, -/
def recvS (n : Cp) : DmaSem sig := ⟨59 + (7 * n.1.val + n.2.val), by have h : sig.nDmaSem = 115 := rfl; omega⟩

/-- and the barrier semaphore. -/
abbrev barS : Sem sig := (SemArray.scalar (sig.barrier 0 rfl) : Sems sig S_).sem

/-- The semaphore behind a send or receive cell, -/
def osem : Cp ⊕ Cp → SemLoc sig
  | .inl n => .dma (sendS n)
  | .inr n => .dma (recvS n)
/-- and behind any cell. -/
def csem : CK → SemLoc sig
  | .inl _ => .reg barS
  | .inr k => osem k

/-- A device's barrier cell, -/
abbrev barCell (c : Dev nD) : GSem nD τ sig := ((c : Thread nD τ), .reg barS)
/-- its send cell of a copy, -/
abbrev sendCell (c : Dev nD) (n : Cp) : GSem nD τ sig := ((c : Thread nD τ), .dma (sendS n))
/-- its receive cell of a copy, -/
abbrev recvCell (c : Dev nD) (n : Cp) : GSem nD τ sig := ((c : Thread nD τ), .dma (recvS n))
/-- and any of these by name. -/
abbrev kcell (ck : Dev nD × CK) : GSem nD τ sig := ((ck.1 : Thread nD τ), csem ck.2)

set_option backward.proofsInPublic true in
/-- Copy number `n`. -/
def cpOf (n : ℕ) : Cp := (⟨n / 7 % 8, Nat.mod_lt _ (by decide)⟩, ⟨n % 7, Nat.mod_lt _ (by decide)⟩)

/-- Which of the protocol's cells a semaphore is. -/
def ckOf : SemLoc sig → Option CK
  | .reg s => if s = barS then some (.inl ()) else none
  | .dma q => if q.val < 3 then none else if q.val < 59 then some (.inr (.inl (cpOf (q.val - 3)))) else some (.inr (.inr (cpOf (q.val - 59))))

/-- A copy's number gives back the copy. -/
theorem cpOf_val (n : Cp) : cpOf (7 * n.1.val + n.2.val) = n := by
  obtain ⟨⟨g, hg⟩, ⟨r, hr⟩⟩ := n
  unfold cpOf
  ext
  · simp only; omega
  · simp only; omega

/-- The barrier's semaphore names the barrier, -/
theorem ckOf_bar : ckOf (.reg barS) = some (.inl ()) := by simp [ckOf]
/-- a send semaphore its copy, -/
theorem ckOf_send (n : Cp) : ckOf (.dma (sendS n)) = some (.inr (.inl n)) := by revert n; decide +kernel
/-- a receive semaphore its copy; -/
theorem ckOf_recv (n : Cp) : ckOf (.dma (recvS n)) = some (.inr (.inr n)) := by revert n; decide +kernel
/-- so a cell's semaphore gives back the cell, -/
theorem ckOf_csem (k : CK) : ckOf (csem k) = some k := by
  rcases k with ⟨⟩ | n | n
  · exact ckOf_bar
  · exact ckOf_send n
  · exact ckOf_recv n
/-- and different cells have different semaphores. -/
theorem csem_injective : Function.Injective csem := fun a b h => by
  have := congrArg ckOf h; rw [ckOf_csem, ckOf_csem] at this; exact Option.some.inj this

/-- The credit of one copy. -/
def N : ℕ := (accQ 0 0 0).view.dmaCredit
/-- A copy's count is positive. -/
theorem N_pos : 0 < N := View.dmaCredit_pos _ (by decide)
/-- Every copy counts the same: from or to a quarter of an accumulator, -/
theorem credit_acc (g : Fin 8) (b e : Fin 2) : (accQ g b e).view.dmaCredit = N := by fin_cases g <;> rfl
/-- to a half of a first receive buffer, -/
theorem credit_r0 (g : Fin 8) (e : Fin 2) : (r0H g e).view.dmaCredit = N := by fin_cases g <;> rfl
/-- to a second receive buffer, -/
theorem credit_r1 (g : Fin 8) : (r1M g).view.dmaCredit = N := by fin_cases g <;> rfl
/-- or to a third. -/
theorem credit_r2 (g : Fin 8) : (r2M g).view.dmaCredit = N := by fin_cases g <;> rfl

/-- The device a copy goes to. -/
def dst (c : Dev nD) (n : Cp) : Dev nD := par n.1 ((![0, 0, 1, 2, 1, 0, 0] : Fin 7 → Fin 3) n.2) c
/-- Partners send each other the same copy. -/
theorem dst_dst (c : Dev nD) (n : Cp) : dst (dst c n) n = c := par_par _ _ _

/-! ## What changes hands -/

/-- A quarter of an accumulator of device `d`, whatever it holds. -/
def anyQ (d : Dev nD) (g : Fin 8) (b e : Fin 2) : sProp 𝕄 := iprop(∃ V, owns (d : Thread nD τ) (accQ g b e) fullShare V)
/-- A quarter of an accumulator of device `d`, at share `q`, holding `V`. -/
abbrev valQ (d : Dev nD) (g : Fin 8) (b e : Fin 2) (q : PosShare TreeShare) (V : Vec F S256x128 .bf16) : sProp 𝕄 :=
  owns (d : Thread nD τ) (accQ g b e) q V
/-- The receive buffer of exchange `j`, group `g`, of device `d`, whatever it holds. -/
def rbuf (d : Dev nD) (g : Fin 8) (j : Fin 3) : sProp 𝕄 :=
  match j with
  | 0 => iprop((∃ V, owns (d : Thread nD τ) (r0H g (fl (crd g 1 d))) fullShare V) ∗ ∃ V, owns (d : Thread nD τ) (r0H g (crd g 1 d)) fullShare V)
  | 1 => iprop(∃ V, owns (d : Thread nD τ) (r1M g) fullShare V)
  | 2 => iprop(∃ V, owns (d : Thread nD τ) (r2M g) fullShare V)

/-- The exchange of group `g` that runs along axis `a`. -/
def slot (a : Fin 3) (g : Fin 8) : Fin 3 := ⟨(a.val + 3 * 8 - g.val) % 3, Nat.mod_lt _ (by decide)⟩
/-- The exchange in which a group takes an axis takes it, -/
theorem axis_slot (a : Fin 3) (g : Fin 8) : axis g (slot a g) = a := by revert a g; decide
/-- and conversely. -/
theorem slot_axis (g : Fin 8) (j : Fin 3) : slot (axis g j) g = j := by revert g j; decide

/-- What the barrier signal of the neighbour along axis `a` hands device `c`: the neighbour's receive buffers that `c` writes. -/
def barPay (c : Dev nD) (a : Fin 3) : sProp 𝕄 := bigSep Finset.univ fun g : Fin 8 => rbuf (F := F) (tb a c) g (slot a g)

section Pay
variable (X : Dev nD → Vec F S1024x128 .bf16) (W : Dev nD → Vec F S128x1024 .bf16)

/-- What a device has back when a copy of its own has left. -/
def sendPay (c : Dev nD) (n : Cp) : sProp 𝕄 :=
  match n.2 with
  | 0 => iprop(emp) | 1 => iprop(emp) | 2 => iprop(emp)
  | 3 => valQ c n.1 (crd n.1 0 c) (crd n.1 1 c) fullShare (A2 X W c n.1)
  | 4 => valQ c n.1 (crd n.1 0 c) (crd n.1 1 c) fullShare.left (A3 X W c n.1)
  | 5 => valQ c n.1 (crd n.1 0 c) (crd n.1 1 c) fullShare.right.left (A3 X W c n.1)
  | 6 => valQ c n.1 (crd n.1 0 c) (fl (crd n.1 1 c)) fullShare.left (A3 X W (par n.1 1 c) n.1)

/-- What a device has when a copy has arrived: the place written, and for the first three copies of a group the
    sender's place it came from, to be written later on. -/
def recvPay (c : Dev nD) (n : Cp) : sProp 𝕄 :=
  match n.2 with
  | 0 => iprop(owns (c : Thread nD τ) (r0H n.1 (fl (crd n.1 1 c))) fullShare (A0 X W (par n.1 0 c) n.1 (crd n.1 0 c) (fl (crd n.1 1 c)))
      ∗ anyQ (par n.1 0 c) n.1 (crd n.1 0 c) (fl (crd n.1 1 c)))
  | 1 => iprop(owns (c : Thread nD τ) (r0H n.1 (crd n.1 1 c)) fullShare (A0 X W (par n.1 0 c) n.1 (crd n.1 0 c) (crd n.1 1 c))
      ∗ anyQ (par n.1 0 c) n.1 (crd n.1 0 c) (crd n.1 1 c))
  | 2 => iprop(owns (c : Thread nD τ) (r1M n.1) fullShare (A1 X W (par n.1 1 c) n.1 (crd n.1 1 c))
      ∗ anyQ (par n.1 1 c) n.1 (crd n.1 0 c) (crd n.1 1 c))
  | 3 => owns (c : Thread nD τ) (r2M n.1) fullShare (A2 X W (par n.1 2 c) n.1)
  | 4 => valQ c n.1 (crd n.1 0 c) (fl (crd n.1 1 c)) fullShare (A3 X W (par n.1 1 c) n.1)
  | 5 => valQ c n.1 (fl (crd n.1 0 c)) (crd n.1 1 c) fullShare (A3 X W (par n.1 0 c) n.1)
  | 6 => valQ c n.1 (fl (crd n.1 0 c)) (fl (crd n.1 1 c)) fullShare (A3 X W (par n.1 1 (par n.1 0 c)) n.1)

omit [FloatOps F] in
/-- What a cell hands over can be kept in its invariant: a quarter at any contents, -/
instance anyQ_storable (d : Dev nD) (g : Fin 8) (b e : Fin 2) : BI.Storable (upEmb : UEmb _ 𝕄) (anyQ (F := F) d g b e) := by
  unfold anyQ; infer_instance
omit [FloatOps F] in
/-- a quarter at a value, -/
instance valQ_storable (d : Dev nD) (g : Fin 8) (b e : Fin 2) (q) (V) : BI.Storable (upEmb : UEmb _ 𝕄) (valQ (F := F) d g b e q V) := by
  unfold valQ; infer_instance
omit [FloatOps F] in
/-- a receive buffer, -/
instance rbuf_storable (d : Dev nD) (g : Fin 8) (j : Fin 3) : BI.Storable (upEmb : UEmb _ 𝕄) (rbuf (F := F) d g j) := by
  unfold rbuf; fin_cases j <;> infer_instance
omit [FloatOps F] in
/-- a barrier signal's payload, -/
instance barPay_storable (c : Dev nD) (a : Fin 3) : BI.Storable (upEmb : UEmb _ 𝕄) (barPay (F := F) c a) := by
  unfold barPay; infer_instance
/-- a send's, -/
instance sendPay_storable (c : Dev nD) (n : Cp) : BI.Storable (upEmb : UEmb _ 𝕄) (sendPay X W c n) := by
  obtain ⟨g, r⟩ := n; unfold sendPay; fin_cases r <;> infer_instance
/-- a receive's, -/
instance recvPay_storable (c : Dev nD) (n : Cp) : BI.Storable (upEmb : UEmb _ 𝕄) (recvPay X W c n) := by
  obtain ⟨g, r⟩ := n; unfold recvPay; fin_cases r <;> infer_instance

/-- One round: a barrier cell has three duties of one unit, every send and receive cell one of a copy's credit. -/
def Rd : Rounds.Schedule (GSem nD τ sig) (Fin 3) 𝕄 where
  duties g r := if r = 0 ∧ g.1.2 = .tc then
      (match ckOf g.2 with
        | some (.inl _) => Finset.univ
        | some (.inr _) => {0}
        | none => ∅)
    else ∅
  unitless _ := False
  amount g _ _ := match ckOf g.2 with
    | some (.inl _) => 1
    | _ => N
  payload g _ d := match ckOf g.2 with
    | some (.inl _) => barPay g.1.1 d
    | some (.inr (.inl n)) => sendPay X W g.1.1 n
    | some (.inr (.inr n)) => recvPay X W g.1.1 n
    | none => iprop(emp)
  amount_pos g _ _ _ := by
    split
    · exact Nat.one_pos
    · exact N_pos

/-- and so any duty of the protocol. -/
instance Rd_payload_storable (g : GSem nD τ sig) (r : ℕ) (d : Fin 3) :
    BI.Storable (upEmb : UEmb _ 𝕄) ((Rd X W).payload g r d) := by
  simp only [Rd]
  split <;> infer_instance

section Facts
variable (c : Dev nD) (n : Cp)

/-- The barrier has three duties, one per axis; -/
theorem duties_bar : (Rd X W).duties (barCell c) 0 = Finset.univ := by
  dsimp only [Rd]; rw [if_pos ⟨rfl, rfl⟩, ckOf_bar]
/-- a send cell has one, -/
theorem duties_send : (Rd X W).duties (sendCell c n) 0 = {0} := by
  dsimp only [Rd]; rw [if_pos ⟨rfl, rfl⟩, ckOf_send]
/-- a receive cell has one, -/
theorem duties_recv : (Rd X W).duties (recvCell c n) 0 = {0} := by
  dsimp only [Rd]; rw [if_pos ⟨rfl, rfl⟩, ckOf_recv]
/-- and no cell has any after the first round. -/
theorem duties_later (g : GSem nD τ sig) : ∀ r, 1 ≤ r → (Rd X W).duties g r = ∅ :=
  fun r hr => by dsimp only [Rd]; exact if_neg fun h => by omega
/-- A barrier signal counts one; -/
theorem amount_bar (d : Fin 3) : (Rd X W).amount (barCell c) 0 d = 1 := by dsimp only [Rd]; rw [ckOf_bar]
/-- the end of a send counts a copy, -/
theorem amount_send (d : Fin 3) : (Rd X W).amount (sendCell c n) 0 d = N := by dsimp only [Rd]; rw [ckOf_send]
/-- and so does an arrival. -/
theorem amount_recv (d : Fin 3) : (Rd X W).amount (recvCell c n) 0 d = N := by dsimp only [Rd]; rw [ckOf_recv]
/-- So the barrier waits for three, -/
theorem expect_bar : (Rd X W).expect (barCell c) 0 = 3 := by
  unfold Schedule.expect Schedule.amountOf
  rw [duties_bar, Finset.sum_congr rfl fun d _ => amount_bar X W c d]; rfl
/-- a send cell for a copy, -/
theorem expect_send : (Rd X W).expect (sendCell c n) 0 = N := by
  unfold Schedule.expect Schedule.amountOf; rw [duties_send, Finset.sum_singleton, amount_send]
/-- a receive cell for a copy. -/
theorem expect_recv : (Rd X W).expect (recvCell c n) 0 = N := by
  unfold Schedule.expect Schedule.amountOf; rw [duties_recv, Finset.sum_singleton, amount_recv]
/-- What the barrier hands over, -/
theorem payload_bar (d : Fin 3) : (Rd X W).payload (barCell c) 0 d = barPay c d := by dsimp only [Rd]; rw [ckOf_bar]
/-- what a send cell does, -/
theorem payload_send (d : Fin 3) : (Rd X W).payload (sendCell c n) 0 d = sendPay X W c n := by dsimp only [Rd]; rw [ckOf_send]
/-- and what a receive cell does. -/
theorem payload_recv (d : Fin 3) : (Rd X W).payload (recvCell c n) 0 d = recvPay X W c n := by dsimp only [Rd]; rw [ckOf_recv]
/-- All that a wait on the barrier brings, -/
theorem rest_bar : bigSep ((Rd X W).duties (barCell c) 0 \ ∅) (fun d => (Rd X W).payload (barCell c) 0 d)
    = (iprop(barPay c 0 ∗ barPay c 1 ∗ barPay c 2) : sProp 𝕄) := by
  rw [Finset.sdiff_empty, duties_bar, bigSep_univ_eq_bigSepL [0, 1, 2] (by decide) (by decide), bigSepL_cons_cons, bigSepL_cons_cons,
    bigSepL_singleton, payload_bar, payload_bar, payload_bar]; rfl
/-- on a send cell, -/
theorem rest_send : bigSep ((Rd X W).duties (sendCell c n) 0 \ ∅) (fun d => (Rd X W).payload (sendCell c n) 0 d) = sendPay X W c n := by
  rw [Finset.sdiff_empty, duties_send, bigSep_singleton, payload_send]
/-- and on a receive cell. -/
theorem rest_recv : bigSep ((Rd X W).duties (recvCell c n) 0 \ ∅) (fun d => (Rd X W).payload (recvCell c n) 0 d) = recvPay X W c n := by
  rw [Finset.sdiff_empty, duties_recv, bigSep_singleton, payload_recv]

end Facts
end Pay

/-! ## What a device owes, and the levels -/

/-- The order in which every device starts its copies. -/
def sends : List Cp :=
  [(0, 0), (0, 1), (1, 0), (1, 1), (2, 0), (2, 1), (3, 0), (3, 1), (4, 0), (4, 1), (5, 0), (5, 1), (6, 0), (6, 1), (7, 0), (7, 1),
   (0, 2), (1, 2), (2, 2), (3, 2), (4, 2), (5, 2), (6, 2), (7, 2),
   (0, 3), (1, 3), (2, 3), (3, 3), (4, 3), (5, 3), (6, 3), (7, 3),
   (0, 4), (0, 5), (1, 4), (1, 5), (2, 4), (2, 5), (3, 4), (3, 5), (4, 4), (4, 5), (5, 4), (5, 5), (6, 4), (6, 5), (7, 4), (7, 5),
   (0, 6), (1, 6), (2, 6), (3, 6), (4, 6), (5, 6), (6, 6), (7, 6)]
/-- The order of a device's sends names no copy twice, -/
theorem sends_nodup : sends.Nodup := by decide +kernel
/-- and names every copy. -/
theorem mem_sends (n : Cp) : n ∈ sends := by revert n; decide +kernel

/-- What a device owes the receivers of the copies of a list. -/
def owe (c : Dev nD) : List Cp → CellTallies nD τ sig Unit
  | [] => 0
  | n :: l => owe c l + tallyAt (recvCell (dst c n) n) () N

/-- What a device owes at its barrier signals: the copies, and a unit to each of its three neighbours. -/
def O₂ (c : Dev nD) : CellTallies nD τ sig Unit := owe c sends + tallyAt (barCell (tb 2 c)) () 1
/-- What is owed after the first barrier signal, -/
def O₁ (c : Dev nD) : CellTallies nD τ sig Unit := O₂ c + tallyAt (barCell (tb 1 c)) () 1
/-- and at the start. -/
def O₀ (c : Dev nD) : CellTallies nD τ sig Unit := O₁ c + tallyAt (barCell (tb 0 c)) () 1

/-- Every cell of a core has one label, and no other cell has any. -/
def L (g : GSem nD τ sig) : Finset Unit := if g.1.2 = .tc then {()} else ∅
/-- The stage of a copy. -/
def stage (r : Fin 7) : ℕ := (![0, 0, 1, 2, 3, 3, 4] : Fin 7 → ℕ) r
/-- The staging semaphores are lowest, then the barrier, then the copies by stage. -/
def lv (g : GSem nD τ sig) (_ : Unit) : ℕ := match ckOf g.2 with
  | none => 0
  | some (.inl _) => 1
  | some (.inr (.inl n)) => 2 + stage n.2
  | some (.inr (.inr n)) => 2 + stage n.2

/-- A cell of no core has no label; -/
theorem L_of_ne (g : GSem nD τ sig) (h : g.1.2 ≠ .tc) : L g = ∅ := if_neg h
/-- a core's cell has the one. -/
theorem L_tc (c : Dev nD) (sm : SemLoc sig) : L ((c : Thread nD τ), sm) = {()} := if_pos rfl
/-- The level of the barrier, -/
theorem lv_bar (c : Dev nD) (u : Unit) : lv (barCell c) u = 1 := by unfold lv; rw [ckOf_bar]
/-- of a send cell, -/
theorem lv_send (c : Dev nD) (n : Cp) (u : Unit) : lv (sendCell c n) u = 2 + stage n.2 := by unfold lv; rw [ckOf_send]
/-- and of a receive cell. -/
theorem lv_recv (c : Dev nD) (n : Cp) (u : Unit) : lv (recvCell c n) u = 2 + stage n.2 := by unfold lv; rw [ckOf_recv]

/-- A debt for copies still to be sent is for one of those copies; -/
theorem owe_pos {c : Dev nD} {l : List Cp} {g : GSem nD τ sig} {u : Unit} (h : 0 < owe c l g u) :
    ∃ n ∈ l, g = recvCell (dst c n) n := by
  induction l with
  | nil => exact absurd h (Nat.lt_irrefl 0)
  | cons n l ih =>
    unfold owe at h
    rw [Pi.add_apply, Finsupp.add_apply, tallyAt_apply] at h
    by_cases hn : g = recvCell (dst c n) n
    · exact ⟨n, List.mem_cons_self, hn⟩
    · rw [if_neg (fun h' => hn h'.1), Nat.add_zero] at h
      obtain ⟨k, hk, e⟩ := ih h
      exact ⟨k, List.mem_cons_of_mem _ hk, e⟩

/-- a debt at the start is for a copy or for a barrier signal. -/
theorem O₀_pos {c : Dev nD} {g : GSem nD τ sig} {u : Unit} (h : 0 < O₀ c g u) :
    (∃ n, g = recvCell (dst c n) n) ∨ ∃ a, g = barCell (tb a c) := by
  unfold O₀ O₁ O₂ at h
  simp only [Pi.add_apply, Finsupp.add_apply, tallyAt_apply] at h
  by_cases h0 : g = barCell (tb 0 c); · exact .inr ⟨0, h0⟩
  by_cases h1 : g = barCell (tb 1 c); · exact .inr ⟨1, h1⟩
  by_cases h2 : g = barCell (tb 2 c); · exact .inr ⟨2, h2⟩
  rw [if_neg (fun h' => h2 h'.1), if_neg (fun h' => h1 h'.1), if_neg (fun h' => h0 h'.1)] at h
  obtain ⟨n, -, hn⟩ := owe_pos (c := c) (l := sends) (g := g) (u := u) h
  exact .inl ⟨n, hn⟩

omit [FloatOps F] in
/-- A device may wait on a cell that lies below everything it owes. -/
theorem mayWait_owe (c : Dev nD) (sm : SemLoc sig) (v : ℕ) (hv : lv ((c : Thread nD τ), sm) () ≤ v) (l : List Cp)
    (hl : ∀ n ∈ l, v < 2 + stage n.2) : (levAts L lv : sProp 𝕄) ⊢ MayWait (c : Thread nD τ) sm () (owe c l) :=
  MayOwe.of_cut (L := L) (lev := lv) v (fun p hp => by rw [Finset.mem_singleton.mp hp, L_tc]; exact Finset.mem_singleton_self _)
    (fun g u hg => by obtain ⟨n, -, rfl⟩ := owe_pos hg; exact Finset.mem_singleton_self _)
    (fun p hp => by rw [Finset.mem_singleton.mp hp]; exact hv)
    (fun g u hg => by obtain ⟨n, hn, rfl⟩ := owe_pos hg; rw [lv_recv]; exact hl n hn)

omit [FloatOps F] in
/-- A device may wait on a staging semaphore while it owes everything, and when it owes nothing. -/
theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨n, rfl⟩ | ⟨a, rfl⟩ <;> exact Finset.mem_singleton_self _)
      (fun p hp => by rw [Finset.mem_singleton.mp hp]; unfold lv; simp only [ckOf]; rw [if_pos hq])
      (fun g u hg => by
        rcases O₀_pos hg with ⟨n, rfl⟩ | ⟨a, rfl⟩
        · rw [lv_recv]; omega
        · rw [lv_bar]; exact Nat.one_pos)
  · rw [MayWait_zero]; iintro -; iempintro

end Cert.ReduceProof

end
-- ==== Proof.Steps.lean ====
/-
# One effect at a time

The effects of the body as steps over owned memrefs, at any buffer, any group and any copy.
-/
module

public import proofs.«01_k».proof.Proof.Sched

@[expose] public section

noncomputable section

namespace Cert.ReduceProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Running a program on device `c`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Memrefs -/

/-- Slices of the same memref at the same offset are the same. -/
theorem slice_congr {s : Shape} {e : EltTy} {m m' : Memref sig .tc .vmem s e} (hm : m = m') {o o' z : Fin s.rank → ℕ}
    (ho : o = o') {h h'} {hr hr'} : m.slice (Rect.unit o z h) hr = m'.slice (Rect.unit o' z h') hr' := by
  subst hm ho; rfl

/-- A rectangle that is the whole shape leaves every index in its place. -/
theorem unit_zero_emb {s : Shape} {o : Fin s.rank → ℕ} (ho : ∀ a, o a = 0) {h} (j : s.Idx) :
    (Rect.unit (s := s) o s.size h).emb j = j := by
  funext a
  apply Fin.ext
  show o a + 1 * (j a).val = (j a).val
  rw [ho a]; omega

section Cover
variable (c : Dev nD) {s : Shape} {e : EltTy} (m : Memref sig .tc .vmem s e) (q : PosShare TreeShare)
  (r : Fin 2 → Rect s) (hr : ∀ t a, (r t).stride a = 1)
  (hd : ∀ t t', t ≠ t' → Disjoint (r t).set (r t').set)
  (hcov : (Finset.univ : Finset (Fin 2)).biUnion (fun t => (r t).set) = Finset.univ)
include hd hcov

omit [FloatOps F] in
/-- A memref covered by two rectangles, taken apart. -/
theorem two_split (i : Fin 2) (V : s.Idx → Elt F e) :
    (owns (c : Thread nD τ) m q V : sProp 𝕄) ⊢ iprop(owns (c : Thread nD τ) (m.slice (r i) (hr i)) q (fun j => V ((r i).emb j))
      ∗ owns (c : Thread nD τ) (m.slice (r (fl i)) (hr (fl i))) q (fun j => V ((r (fl i)).emb j))) := by
  refine (owns_rects (c : Thread nD τ) m q r hr hd hcov V).trans ?_
  rw [bigSep_fin_two]
  fin_cases i
  · exact .rfl
  · exact sep_comm.1

/-- The two rectangles at any contents, put together. -/
theorem two_join (i : Fin 2) (V₀ : (r i).shape.Idx → Elt F e) (V₁ : (r (fl i)).shape.Idx → Elt F e) :
    iprop(owns (c : Thread nD τ) (m.slice (r i) (hr i)) q V₀ ∗ owns (c : Thread nD τ) (m.slice (r (fl i)) (hr (fl i))) q V₁)
      ⊢ (iprop(∃ V, owns (c : Thread nD τ) m q V) : sProp 𝕄) := by
  have : ∀ e, Nonempty (Elt F e) := fun _ => inferInstance
  have hV₀ : (fun j => ((r i).overlay ((r (fl i)).overlay (fun _ => Classical.arbitrary _) V₁) V₀) ((r i).emb j)) = V₀ :=
    funext fun j => Rect.overlay_emb _ _ _ _
  have hV₁ : (fun j => ((r i).overlay ((r (fl i)).overlay (fun _ => Classical.arbitrary _) V₁) V₀) ((r (fl i)).emb j)) = V₁ :=
    funext fun j => by
      rw [Rect.overlay_of_not_mem, Rect.overlay_emb]
      exact Finset.disjoint_left.mp (hd (fl i) i (fl_ne i)) ((r (fl i)).map_emb_univ ▸ Finset.mem_map_of_mem _ (Finset.mem_univ j))
  have h := owns_of_rects (U := UU) (Ix := Unit) (Name := ℕ) (Lvl := ℕ) (c : Thread nD τ) m q r hr hd hcov
    ((r i).overlay ((r (fl i)).overlay (fun _ => Classical.arbitrary _) V₁) V₀)
  rw [bigSep_fin_two] at h
  have hs : iprop(owns (c : Thread nD τ) (m.slice (r i) (hr i)) q (fun j => ((r i).overlay ((r (fl i)).overlay (fun _ => Classical.arbitrary _) V₁) V₀) ((r i).emb j))
      ∗ owns (c : Thread nD τ) (m.slice (r (fl i)) (hr (fl i))) q (fun j => ((r i).overlay ((r (fl i)).overlay (fun _ => Classical.arbitrary _) V₁) V₀) ((r (fl i)).emb j)))
      ⊢ (owns (c : Thread nD τ) m q ((r i).overlay ((r (fl i)).overlay (fun _ => Classical.arbitrary _) V₁) V₀) : sProp 𝕄) := by
    clear hV₀ hV₁
    fin_cases i
    · exact h
    · exact sep_comm.1.trans h
  rw [show (fun j => ((r i).overlay ((r (fl i)).overlay (fun _ => Classical.arbitrary _) V₁) V₀) ((r i).emb j)) = V₀ from hV₀] at hs
  rw [show (fun j => ((r i).overlay ((r (fl i)).overlay (fun _ => Classical.arbitrary _) V₁) V₀) ((r (fl i)).emb j)) = V₁ from hV₁] at hs
  exact hs.trans (exists_intro (Φ := fun V => owns (c : Thread nD τ) m q V) _)

end Cover

/-- Where an element of a unit-stride rectangle lies. -/
theorem mem_unit {s : Shape} {o z : Fin s.rank → ℕ} {h} (j : s.Idx) :
    j ∈ (Rect.unit (s := s) o z h).set ↔ ∀ a, o a ≤ (j a).val ∧ (j a).val < o a + z a := by
  constructor
  · intro hj
    rw [← Rect.map_emb_univ, Finset.mem_map] at hj
    obtain ⟨x, -, rfl⟩ := hj
    intro a
    have hx : ((Rect.unit (s := s) o z h).emb x a).val = o a + 1 * (x a).val := rfl
    have := (x a).isLt
    have hz : (x a).val < z a := this
    rw [hx]; omega
  · intro hj
    rw [← Rect.map_emb_univ, Finset.mem_map]
    refine ⟨fun a => ⟨(j a).val - o a, ?_⟩, Finset.mem_univ _, ?_⟩
    · have := hj a
      show (j a).val - o a < z a
      omega
    · funext a; apply Fin.ext
      have := hj a
      show o a + 1 * ((j a).val - o a) = (j a).val
      omega

/-- The halves of an accumulator are disjoint -/
theorem hRect_disj : ∀ t t' : Fin 2, t ≠ t' → Disjoint (hRect t).set (hRect t').set := by
  intro t t' ht
  rw [Finset.disjoint_left]
  intro j hj hj'
  have h1 := (mem_unit j).mp hj 0
  have h2 := (mem_unit j).mp hj' 0
  have hne : t.val ≠ t'.val := fun h => ht (Fin.ext h)
  have e1 : hOff t 0 = t.val * 512 := rfl
  have e2 : hOff t' 0 = t'.val * 512 := rfl
  have e3 : S512x128.size 0 = 512 := rfl
  rw [e1, e3] at h1; rw [e2, e3] at h2
  have := t.isLt; have := t'.isLt
  omega
/-- and make it up. -/
theorem hRect_cov : (Finset.univ : Finset (Fin 2)).biUnion (fun t => (hRect t).set) = Finset.univ := by
  ext j
  simp only [Finset.mem_biUnion, Finset.mem_univ, true_and, iff_true]
  have h0 : (j 0).val < 1024 := (j 0).isLt
  have h1 : (j 1).val < 128 := (j 1).isLt
  refine ⟨⟨(j 0).val / 512, by omega⟩, (mem_unit j).mpr ?_⟩
  intro a
  fin_cases a
  · show (j 0).val / 512 * 512 ≤ (j 0).val ∧ (j 0).val < (j 0).val / 512 * 512 + 512
    omega
  · show 0 ≤ (j 1).val ∧ (j 1).val < 0 + 128
    omega
/-- So are those of a first receive buffer, -/
theorem eRect_disj : ∀ t t' : Fin 2, t ≠ t' → Disjoint (eRect t).set (eRect t').set := by
  intro t t' ht
  rw [Finset.disjoint_left]
  intro j hj hj'
  have h1 := (mem_unit j).mp hj 0
  have h2 := (mem_unit j).mp hj' 0
  have hne : t.val ≠ t'.val := fun h => ht (Fin.ext h)
  have e1 : eOff t 0 = t.val * 256 := rfl
  have e2 : eOff t' 0 = t'.val * 256 := rfl
  have e3 : S256x128.size 0 = 256 := rfl
  rw [e1, e3] at h1; rw [e2, e3] at h2
  have := t.isLt; have := t'.isLt
  omega
/-- which make it up too. -/
theorem eRect_cov : (Finset.univ : Finset (Fin 2)).biUnion (fun t => (eRect t).set) = Finset.univ := by
  ext j
  simp only [Finset.mem_biUnion, Finset.mem_univ, true_and, iff_true]
  have h0 : (j 0).val < 512 := (j 0).isLt
  have h1 : (j 1).val < 128 := (j 1).isLt
  refine ⟨⟨(j 0).val / 256, by omega⟩, (mem_unit j).mpr ?_⟩
  intro a
  fin_cases a
  · show (j 0).val / 256 * 256 ≤ (j 0).val ∧ (j 0).val < (j 0).val / 256 * 256 + 256
    omega
  · show 0 ≤ (j 1).val ∧ (j 1).val < 0 + 128
    omega

/-- A quarter is a half of a half. -/
theorem qRect_emb (b e : Fin 2) (j : S256x128.Idx) : (qRect b e).emb j = (hRect b).emb ((eRect e).emb j) := by
  funext a; apply Fin.ext
  fin_cases a
  · show b.val * 512 + e.val * 256 + 1 * (j 0).val = b.val * 512 + 1 * (e.val * 256 + 1 * (j 0).val)
    omega
  · show 0 + 1 * (j 1).val = 0 + 1 * (0 + 1 * (j 1).val)
    omega

/-- Half of an accumulator. -/
abbrev accH (g : Fin 8) (b : Fin 2) : Memref sig .tc .vmem S512x128 .bf16 := (accM g).slice (hRect b) (fun _ => rfl)

omit [FloatOps F] in
/-- Owning a quarter is owning a half of a half. -/
theorem owns_quarter (c : Dev nD) (g : Fin 8) (b e : Fin 2) (q : PosShare TreeShare) (V : Vec F S256x128 .bf16) :
    (owns (c : Thread nD τ) (accQ g b e) q V : sProp 𝕄) = owns (c : Thread nD τ) ((accH g b).slice (eRect e) (fun _ => rfl)) q V := by
  have hset : (accQ g b e).view.set = ((accH g b).slice (eRect e) (fun _ => rfl)).view.set := by
    rw [View.set, View.set]
    congr 1
    ext j : 1
    show (accM g).view.emb ((qRect b e).emb j) = (accM g).view.emb ((hRect b).emb ((eRect e).emb j))
    rw [qRect_emb]
  have hread : ∀ f, (accQ g b e).view.read (Elt F) f = ((accH g b).slice (eRect e) (fun _ => rfl)).view.read (Elt F) f := fun f => by
    funext j
    show (accM g).view.read (Elt F) f ((qRect b e).emb j) = (accM g).view.read (Elt F) f ((hRect b).emb ((eRect e).emb j))
    rw [qRect_emb]
  unfold owns
  simp only [hset, hread]

/-- Two quarters of a half, joined. -/
theorem half_join (c : Dev nD) (g : Fin 8) (b e : Fin 2) (V₀ V₁ : Vec F S256x128 .bf16) :
    iprop(owns (c : Thread nD τ) (accQ g b e) fullShare V₀ ∗ owns (c : Thread nD τ) (accQ g b (fl e)) fullShare V₁)
      ⊢ (iprop(∃ V, owns (c : Thread nD τ) (accH g b) fullShare V) : sProp 𝕄) := by
  rw [owns_quarter, owns_quarter]
  exact two_join c (accH g b) fullShare eRect (fun _ _ => rfl) eRect_disj eRect_cov e V₀ V₁

omit [FloatOps F] in
/-- A half, taken apart. -/
theorem half_split (c : Dev nD) (g : Fin 8) (b e : Fin 2) (V : Vec F S512x128 .bf16) :
    (owns (c : Thread nD τ) (accH g b) fullShare V : sProp 𝕄)
      ⊢ iprop(owns (c : Thread nD τ) (accQ g b e) fullShare (fun j => V ((eRect e).emb j))
        ∗ owns (c : Thread nD τ) (accQ g b (fl e)) fullShare (fun j => V ((eRect (fl e)).emb j))) := by
  rw [owns_quarter, owns_quarter]
  exact two_split c (accH g b) fullShare eRect (fun _ _ => rfl) eRect_disj eRect_cov e V

omit [FloatOps F] in
/-- A whole accumulator, taken apart in its four quarters. -/
theorem acc_split (c : Dev nD) (g : Fin 8) (b e : Fin 2) (V : Vec F S1024x128 .bf16) :
    (owns (c : Thread nD τ) (accM g) fullShare V : sProp 𝕄)
      ⊢ iprop((anyQ c g b e ∗ anyQ c g b (fl e)) ∗ (anyQ c g (fl b) e ∗ anyQ c g (fl b) (fl e))) := by
  refine (two_split c (accM g) fullShare hRect (fun _ _ => rfl) hRect_disj hRect_cov b V).trans ?_
  iintro ⟨H0, H1⟩
  ihave H0 := (half_split c g b e _) $$ H0
  ihave H1 := (half_split c g (fl b) e _) $$ H1
  icases H0 with ⟨A, B⟩
  icases H1 with ⟨C, D⟩
  unfold anyQ
  isplitl [A B]
  · isplitl [A]
    · iexists _; iexact A
    · iexists _; iexact B
  · isplitl [C]
    · iexists _; iexact C
    · iexists _; iexact D

/-- The four quarters of an accumulator, joined. -/
theorem acc_join (c : Dev nD) (g : Fin 8) (b e : Fin 2) :
    iprop((anyQ c g b e ∗ anyQ c g b (fl e)) ∗ (anyQ c g (fl b) e ∗ anyQ c g (fl b) (fl e)))
      ⊢ (iprop(∃ V, owns (c : Thread nD τ) (accM g) fullShare V) : sProp 𝕄) := by
  unfold anyQ
  iintro ⟨⟨⟨%V0, A⟩, ⟨%V1, B⟩⟩, ⟨⟨%V2, C⟩, ⟨%V3, D⟩⟩⟩
  ihave H0 := (half_join c g b e V0 V1) $$ [A B]
  · isplitl [A]; · iexact A
    iexact B
  ihave H1 := (half_join c g (fl b) e V2 V3) $$ [C D]
  · isplitl [C]; · iexact C
    iexact D
  icases H0 with ⟨%U0, H0⟩
  icases H1 with ⟨%U1, H1⟩
  iapply (two_join c (accM g) fullShare hRect (fun _ _ => rfl) hRect_disj hRect_cov b U0 U1)
  isplitl [H0]; · iexact H0
  iexact H1

omit [FloatOps F] in
/-- A whole first receive buffer, taken apart. -/
theorem r0_split (c : Dev nD) (g : Fin 8) (e : Fin 2) (V : Vec F S512x128 .bf16) :
    (owns (c : Thread nD τ) (r0M g) fullShare V : sProp 𝕄)
      ⊢ iprop((∃ V, owns (c : Thread nD τ) (r0H g (fl e)) fullShare V) ∗ (∃ V, owns (c : Thread nD τ) (r0H g e) fullShare V)) := by
  refine (two_split c (r0M g) fullShare eRect (fun _ _ => rfl) eRect_disj eRect_cov e V).trans ?_
  iintro ⟨A, B⟩
  isplitl [B]
  · iexists _; iexact B
  · iexists _; iexact A

/-- Its two halves, joined. -/
theorem r0_join (c : Dev nD) (g : Fin 8) (e : Fin 2) :
    iprop((∃ V, owns (c : Thread nD τ) (r0H g (fl e)) fullShare V) ∗ (∃ V, owns (c : Thread nD τ) (r0H g e) fullShare V))
      ⊢ (iprop(∃ V, owns (c : Thread nD τ) (r0M g) fullShare V) : sProp 𝕄) := by
  iintro ⟨⟨%V0, A⟩, ⟨%V1, B⟩⟩
  iapply (two_join c (r0M g) fullShare eRect (fun _ _ => rfl) eRect_disj eRect_cov e V1 V0)
  isplitl [B]; · iexact B
  iexact A

/-! ## Loads and stores -/

section Mem
variable (c : Dev nD) {s : Shape} {e : EltTy} {m m' : Memref sig .tc .vmem s e}

/-- A load of the part of a memref that is owned. -/
theorem load_part {α : Type} {Q : α → sProp 𝕄} (hm : m = m') {o o' z : Fin s.rank → ℕ} {h h'} (ho : o = o') {hr} {hl} {q : PosShare TreeShare}
    {V : (Rect.unit o' z h').shape.Idx → Elt F e} {k : ((Rect.unit o z h).shape.Idx → Elt F e) → Prog (TpuEff nD τ sig (Elt F) Λ₀ .tc) α} :
    (owns (c : Thread nD τ) (m'.slice (Rect.unit o' z h') hr) q V)
      ⊢ iprop((owns (c : Thread nD τ) (m'.slice (Rect.unit o' z h') hr) q V -∗ run c (k V) Q)
        -∗ run c (.op (.load m (Rect.unit o z h).toLoadRect hl) k) Q) := by
  subst hm ho
  unfold owns
  iintro ⟨%f, %hf, H⟩
  iintro Hk
  iapply (wp_load_rect 𝒱₀ (c : Thread nD τ) none Set.univ (m := m) (r := Rect.unit o z h) (Finset.Subset.refl _)) $$ H
  iintro H
  have e : (m.access (Rect.unit o z h)).read (Elt F) f = V := hf
  rw [e]
  iapply Hk
  iexists f
  isplitr; · ipureintro; exact hf
  iexact H

/-- A load of any part of a memref that is owned whole. -/
theorem load_of {α : Type} {Q : α → sProp 𝕄} (hm : m = m') {r : Rect s} {hl} {q : PosShare TreeShare}
    {V : s.Idx → Elt F e} {k : (r.shape.Idx → Elt F e) → Prog (TpuEff nD τ sig (Elt F) Λ₀ .tc) α} :
    (owns (c : Thread nD τ) m' q V)
      ⊢ iprop((owns (c : Thread nD τ) m' q V -∗ run c (k (fun j => V (r.emb j))) Q)
        -∗ run c (.op (.load m r.toLoadRect hl) k) Q) := by
  subst hm
  unfold owns
  iintro ⟨%f, %hf, H⟩
  iintro Hk
  iapply (wp_load_rect 𝒱₀ (c : Thread nD τ) none Set.univ (m := m) (r := r) (View.set_slice_subset _ _)) $$ H
  iintro H
  have e : (m.access r).read (Elt F) f = fun j => V (r.emb j) := by rw [← hf]; rfl
  rw [e]
  iapply Hk
  iexists f
  isplitr; · ipureintro; exact hf
  iexact H

/-- A load at a known offset of a memref that is owned whole. -/
theorem load_at {α : Type} {Q : α → sProp 𝕄} (hm : m = m') {o o' z : Fin s.rank → ℕ} {h} (h') (ho : o = o') {hl} {q : PosShare TreeShare}
    {V : s.Idx → Elt F e} {k : ((Rect.unit o z h).shape.Idx → Elt F e) → Prog (TpuEff nD τ sig (Elt F) Λ₀ .tc) α} :
    (owns (c : Thread nD τ) m' q V)
      ⊢ iprop((owns (c : Thread nD τ) m' q V -∗ run c (k (fun j => V ((Rect.unit o' z h').emb j))) Q)
        -∗ run c (.op (.load m (Rect.unit o z h).toLoadRect hl) k) Q) := by
  subst ho
  exact load_of c hm

/-- A load of a whole memref. -/
theorem load_full {α : Type} {Q : α → sProp 𝕄} (hm : m = m') {o : Fin s.rank → ℕ} (ho : ∀ a, o a = 0) {h} {hl} {q : PosShare TreeShare}
    {V : s.Idx → Elt F e} {k : ((Rect.unit o s.size h).shape.Idx → Elt F e) → Prog (TpuEff nD τ sig (Elt F) Λ₀ .tc) α} :
    (owns (c : Thread nD τ) m' q V)
      ⊢ iprop((owns (c : Thread nD τ) m' q V -∗ run c (k V) Q)
        -∗ run c (.op (.load m (Rect.unit o s.size h).toLoadRect hl) k) Q) := by
  have e : (fun j => V ((Rect.unit o s.size h).emb j)) = V := funext fun j => congrArg V (unit_zero_emb ho j)
  have := load_of (F := F) c (Q := Q) hm (r := Rect.unit o s.size h) (hl := hl) (q := q) (V := V) (k := k)
  rwa [e] at this

/-- A store over the part of a memref that is owned. -/
theorem store_part {α : Type} {Q : α → sProp 𝕄} (hm : m = m') {o o' z : Fin s.rank → ℕ} {h h'} (ho : o = o') {hr} {hx} {hmk}
    {V w' : (Rect.unit o' z h').shape.Idx → Elt F e} {w : (Rect.unit o z h).shape.Idx → Elt F e} (hw : w = w')
    {k : PUnit → Prog (TpuEff nD τ sig (Elt F) Λ₀ .tc) α} :
    (owns (c : Thread nD τ) (m'.slice (Rect.unit o' z h') hr) fullShare V)
      ⊢ iprop((owns (c : Thread nD τ) (m'.slice (Rect.unit o' z h') hr) fullShare w' -∗ run c (k ⟨⟩) Q)
        -∗ run c (.op (.store m (Rect.unit o z h) w Finset.univ hx hmk) k) Q) := by
  subst hm ho hw
  unfold owns
  iintro ⟨%f, %hf, H⟩
  iintro Hk
  iapply (wp_store 𝒱₀ (c : Thread nD τ) none Set.univ (m := m) (r := Rect.unit o z h) (Mk := Finset.univ) (hm := hmk)
    (S := (m.access (Rect.unit o z h)).set) (by rw [View.setOn_univ])) $$ H
  iintro H
  iapply Hk
  iexists (m.access (Rect.unit o z h)).write (Elt F) f w Finset.univ
  isplitr; · ipureintro; exact View.read_write_univ _ _
  iexact H

end Mem

/-! ## Copies and waits -/

section Sync
variable (X : Dev nD → Vec F S1024x128 .bf16) (W : Dev nD → Vec F S128x1024 .bf16) (K : Dev nD × CK → ℕ)

/-- What every device knows: every cell runs the schedule, has been reached, and has its level. -/
def recs : sProp 𝕄 :=
  iprop((bigSep Finset.univ fun ck : Dev nD × CK => cellInv ER (Rd X W) (K ck) (kcell ck))
    ∗ (bigSep Finset.univ fun ck : Dev nD × CK => reached ER (kcell ck) 0) ∗ levAts L lv)

/-- The common facts can be kept while they are used. -/
instance recs_persistent : Persistent (recs X W K) := by unfold recs; infer_instance

/-- They hold the invariant of every cell, -/
theorem recs_inv (d : Dev nD) (k : CK) : recs X W K ⊢ cellInv ER (Rd X W) (K (d, k)) (kcell (d, k)) := by
  have h : (bigSep Finset.univ fun ck : Dev nD × CK => cellInv ER (Rd X W) (K ck) (kcell ck)) ⊢ (cellInv ER (Rd X W) (K (d, k)) (kcell (d, k)) : sProp 𝕄) :=
    bigSep_elim (Finset.mem_univ (d, k))
  unfold recs; iintro ⟨H, -, -⟩; iapply h; iexact H
/-- that every cell is at its first round, -/
theorem recs_reached (d : Dev nD) (k : CK) : recs X W K ⊢ (reached ER (kcell (d, k)) 0 : sProp 𝕄) := by
  have h : (bigSep Finset.univ fun ck : Dev nD × CK => reached ER (kcell ck) 0) ⊢ (reached ER (kcell (d, k)) 0 : sProp 𝕄) :=
    bigSep_elim (Φ := fun ck : Dev nD × CK => (reached ER (kcell ck) 0 : sProp 𝕄)) (Finset.mem_univ (d, k))
  unfold recs; iintro ⟨-, H, -⟩; iapply h; iexact H
/-- and the levels. -/
theorem recs_lev : recs X W K ⊢ (levAts L lv : sProp 𝕄) := by
  unfold recs; iintro ⟨-, -, H⟩; iexact H

/-- What a device owes, whatever it has waited for. -/
def owing (c : Dev nD) (l : List Cp) : sProp 𝕄 := iprop(∃ Wt, owes (c : Thread nD τ) (owe c l) Wt)

/-- A copy not started. -/
def tok0 (c : Dev nD) (n : Cp) : sProp 𝕄 :=
  iprop(dutyTok ER (sendCell c n) 0 (0 : Fin 3) ∗ dutyTok ER (recvCell (dst c n) n) 0 (0 : Fin 3)
    ∗ atPos ER (sendCell c n) 0 ∅ 0 ∗ atPos ER (recvCell c n) 0 ∅ 0 ∗ cred (tallyAt (recvCell c n) () N))
/-- A copy started. -/
def tok1 (c : Dev nD) (n : Cp) : sProp 𝕄 :=
  iprop(cred (tallyAt (sendCell c n) () N)
    ∗ atPos ER (sendCell c n) 0 ∅ 0 ∗ atPos ER (recvCell c n) 0 ∅ 0 ∗ cred (tallyAt (recvCell c n) () N))
/-- A copy that has left. -/
def tok2 (c : Dev nD) (n : Cp) : sProp 𝕄 :=
  iprop(semVal (sendCell c n) 0 ∗ atPos ER (recvCell c n) 0 ∅ 0 ∗ cred (tallyAt (recvCell c n) () N))
/-- A copy that has left, and the partner's that has arrived. -/
def tok3 (c : Dev nD) (n : Cp) : sProp 𝕄 := iprop(semVal (sendCell c n) 0 ∗ semVal (recvCell c n) 0)

/-- Starting a copy whose source comes back when it has left. -/
theorem send_back (c : Dev nD) (n : Cp) (l : List Cp) {src src' dm dm' : Memref sig .tc .vmem S256x128 .bf16} (hs : src = src') (hd : dm = dm')
    {dv d : Dev nD} (hdv : dv = d) (hdd : d = dst c n) {sS sR : DmaSem sig} (hS : sS = sendS n) (hR : sR = recvS n)
    (hN : dm'.view.dmaCredit = N) {q : PosShare TreeShare} {V V' : Vec F S256x128 .bf16}
    (h₁ : (owns (c : Thread nD τ) src' q V : sProp 𝕄) ⊢ sendPay X W c n)
    (h₂ : (owns (d : Thread nD τ) dm' fullShare V : sProp 𝕄) ⊢ recvPay X W d n)
    {hsc} {hsrc hdst} {hsem} {α : Type} {Q : α → sProp 𝕄} {k : PUnit → Prog (TpuEff nD τ sig (Elt F) Λ₀ .tc) α} :
    iprop(recs X W K ∗ owns (c : Thread nD τ) src' q V ∗ owns (d : Thread nD τ) dm' fullShare V'
        ∗ owing c (n :: l) ∗ tok0 c n)
      ⊢ iprop(((tok1 c n ∗ owing c l) -∗ run c (k ⟨⟩) Q)
          -∗ run c (.op (.enqueueDma src (.remote (Dev.tc dv : Thread nD τ) dm (.dma sS) hsc) (.dma sR) hsrc hdst hsem) k) Q) := by
  subst hs hd hdv hdd hS hR
  unfold tok0 owing
  iintro ⟨#Hr, Hs, Hd, ⟨%Wt, HO⟩, Ht⟩
  icases Ht with ⟨T1, T2, A1, A2, C⟩
  ihave #I1 := (recs_inv X W K c (.inr (.inl n))) $$ Hr
  ihave #I2 := (recs_inv X W K (dst c n) (.inr (.inr n))) $$ Hr
  ihave #E1 := (recs_reached X W K c (.inr (.inl n))) $$ Hr
  ihave #E2 := (recs_reached X W K (dst c n) (.inr (.inr n))) $$ Hr
  ihave Hs := (show owns (c : Thread nD τ) src q V ⊢ iprop(∃ f, ⌜src.view.read (Elt F) f = V⌝ ∗ (src.view.loc (c : Thread nD τ) ↦[src.view.set]{q} f)) from .rfl) $$ Hs
  ihave Hd := (show owns (dst c n : Thread nD τ) dm fullShare V' ⊢ iprop(∃ f, ⌜dm.view.read (Elt F) f = V'⌝ ∗ (dm.view.loc (dst c n : Thread nD τ) ↦[dm.view.set]{fullShare} f)) from .rfl) $$ Hd
  icases Hs with ⟨%fs, %hfs, Hs⟩
  icases Hd with ⟨%fd, %hfd, Hd⟩
  subst hfs
  iintro Hk
  iapply (Rounds.wp_send_pointsTo 𝒱₀ ER (Rd X W) (c : Thread nD τ) none (κ₁ := K (c, .inr (.inl n))) (κ₂ := K (dst c n, .inr (.inr n)))
    (r₁ := 0) (r₂ := 0) (d₁ := 0) (d₂ := 0) (fd := fd)
    (by rw [duties_send]; exact Finset.mem_singleton_self _) (by rw [duties_recv]; exact Finset.mem_singleton_self _)
    () () N (show dm.view.amount (SemLoc.dma (recvS n)) = N from hN) (amount_send X W c n 0) (amount_recv X W (dst c n) n 0) (owe c l) rfl (W := Wt)
    (by rw [payload_send]; exact (owns_intro (c : Thread nD τ) src q fs).trans h₁)
    (by
      rw [payload_recv]
      refine (owns_intro (dst c n : Thread nD τ) dm fullShare _).trans ?_
      rw [View.read_write_univ]; exact h₂)) $$ [Hs Hd HO T1 T2]
  · isplitr; · iexact I1
    isplitr; · iexact I2
    isplitl [Hs]; · iexact Hs
    isplitl [Hd]; · iexact Hd
    isplitl [HO]; · iexact HO
    isplitl [T1]; · iexact T1
    isplitr; · iexact E1
    isplitl [T2]; · iexact T2
    iexact E2
  iintro ⟨Hc, HO⟩
  iapply Hk
  unfold tok1
  isplitl [Hc A1 A2 C]
  · isplitl [Hc]; · iexact Hc
    isplitl [A1]; · iexact A1
    isplitl [A2]; · iexact A2
    iexact C
  · iexists Wt; iexact HO

/-- Starting a copy whose source goes to the receiver. -/
theorem send_give (c : Dev nD) (n : Cp) (l : List Cp) {src src' dm dm' : Memref sig .tc .vmem S256x128 .bf16} (hs : src = src') (hd : dm = dm')
    {dv d : Dev nD} (hdv : dv = d) (hdd : d = dst c n) {sS sR : DmaSem sig} (hS : sS = sendS n) (hR : sR = recvS n)
    (hN : dm'.view.dmaCredit = N) {q : PosShare TreeShare} {V V' : Vec F S256x128 .bf16}
    (h₁ : (emp : sProp 𝕄) ⊢ sendPay X W c n)
    (h₂ : (iprop(owns (d : Thread nD τ) dm' fullShare V ∗ owns (c : Thread nD τ) src' q V) : sProp 𝕄) ⊢ recvPay X W d n)
    {hsc} {hsrc hdst} {hsem} {α : Type} {Q : α → sProp 𝕄} {k : PUnit → Prog (TpuEff nD τ sig (Elt F) Λ₀ .tc) α} :
    iprop(recs X W K ∗ owns (c : Thread nD τ) src' q V ∗ owns (d : Thread nD τ) dm' fullShare V'
        ∗ owing c (n :: l) ∗ tok0 c n)
      ⊢ iprop(((tok1 c n ∗ owing c l) -∗ run c (k ⟨⟩) Q)
          -∗ run c (.op (.enqueueDma src (.remote (Dev.tc dv : Thread nD τ) dm (.dma sS) hsc) (.dma sR) hsrc hdst hsem) k) Q) := by
  subst hs hd hdv hdd hS hR
  unfold tok0 owing
  iintro ⟨#Hr, Hs, Hd, ⟨%Wt, HO⟩, Ht⟩
  icases Ht with ⟨T1, T2, A1, A2, C⟩
  ihave #I1 := (recs_inv X W K c (.inr (.inl n))) $$ Hr
  ihave #I2 := (recs_inv X W K (dst c n) (.inr (.inr n))) $$ Hr
  ihave #E1 := (recs_reached X W K c (.inr (.inl n))) $$ Hr
  ihave #E2 := (recs_reached X W K (dst c n) (.inr (.inr n))) $$ Hr
  ihave Hs := (show owns (c : Thread nD τ) src q V ⊢ iprop(∃ f, ⌜src.view.read (Elt F) f = V⌝ ∗ (src.view.loc (c : Thread nD τ) ↦[src.view.set]{q} f)) from .rfl) $$ Hs
  ihave Hd := (show owns (dst c n : Thread nD τ) dm fullShare V' ⊢ iprop(∃ f, ⌜dm.view.read (Elt F) f = V'⌝ ∗ (dm.view.loc (dst c n : Thread nD τ) ↦[dm.view.set]{fullShare} f)) from .rfl) $$ Hd
  icases Hs with ⟨%fs, %hfs, Hs⟩
  icases Hd with ⟨%fd, %hfd, Hd⟩
  subst hfs
  iintro Hk
  iapply (Rounds.wp_send_landing_pointsTo 𝒱₀ ER (Rd X W) (c : Thread nD τ) none (κ₁ := K (c, .inr (.inl n))) (κ₂ := K (dst c n, .inr (.inr n)))
    (r₁ := 0) (r₂ := 0) (d₁ := 0) (d₂ := 0) (fd := fd)
    (by rw [duties_send]; exact Finset.mem_singleton_self _) (by rw [duties_recv]; exact Finset.mem_singleton_self _)
    () () N (show dm.view.amount (SemLoc.dma (recvS n)) = N from hN) (amount_send X W c n 0) (amount_recv X W (dst c n) n 0) (owe c l) rfl (W := Wt)
    (by rw [payload_send]; exact h₁)
    (by
      rw [payload_recv]
      refine (BI.sep_mono (owns_intro (dst c n : Thread nD τ) dm fullShare _) (owns_intro (c : Thread nD τ) src q fs)).trans ?_
      rw [View.read_write_univ]; exact h₂)) $$ [Hs Hd HO T1 T2]
  · isplitr; · iexact I1
    isplitr; · iexact I2
    isplitl [Hs]; · iexact Hs
    isplitl [Hd]; · iexact Hd
    isplitl [HO]; · iexact HO
    isplitl [T1]; · iexact T1
    isplitr; · iexact E1
    isplitl [T2]; · iexact T2
    iexact E2
  iintro ⟨Hc, HO⟩
  iapply Hk
  unfold tok1
  isplitl [Hc A1 A2 C]
  · isplitl [Hc]; · iexact Hc
    isplitl [A1]; · iexact A1
    isplitl [A2]; · iexact A2
    iexact C
  · iexists Wt; iexact HO

/-- Waiting until a copy has left. -/
theorem wait_send (c : Dev nD) (n : Cp) (l : List Cp) (hl : ∀ k ∈ l, 2 + stage n.2 < 2 + stage k.2)
    {sp sp' : Space} {s s' : Shape} {e e' : EltTy} {m₁ : Memref sig (c : Thread nD τ).2.kind sp s e} {m₂ : Memref sig .tc sp' s' e'} {sm : DmaSem sig} (hS : sm = sendS n) (hN : m₂.view.dmaCredit = N)
    {h1 h2} {α : Type} {Q : α → sProp 𝕄} {k : PUnit → Prog (TpuEff nD τ sig (Elt F) Λ₀ .tc) α} :
    iprop(recs X W K ∗ owing c l ∗ tok1 c n)
      ⊢ iprop(((tok2 c n ∗ sendPay X W c n ∗ owing c l) -∗ run c (k ⟨⟩) Q)
          -∗ run c (.op (.waitDma2 sm m₁ m₂ h1 h2) k) Q) := by
  subst hS
  unfold tok1 owing
  iintro ⟨#Hr, ⟨%Wt, HO⟩, Ht⟩
  icases Ht with ⟨C, A1, A2, C2⟩
  ihave #I1 := (recs_inv X W K c (.inr (.inl n))) $$ Hr
  ihave #HL := (recs_lev X W K) $$ Hr
  iintro Hk
  iapply (Rounds.wp_wait_rest_token 𝒱₀ ER (Rd X W) (c : Thread nD τ) none (κ := K (c, .inr (.inl n)))
      (wpE_waitDma2_eq 𝒱₀ (c : Thread nD τ) none Set.univ) (Set.mem_univ _) () (O := owe c l) (W := Wt) (R := 0) (m := 0) (T := ∅)
      (by rw [Nat.zero_add, expect_send]; exact hN)) $$ [C HO A1]
  · isplitr; · iexact I1
    isplitl [C]; · rw [hN]; iexact C
    isplitl [HO]; · iexact HO
    isplitr; · iapply (mayWait_owe c (.dma (sendS n)) (2 + stage n.2) (le_of_eq (lv_send c n ())) l hl); iexact HL
    iexact A1
  iintro ⟨HO, A1, -, P⟩
  ihave P := (Entails.of_eq (rest_send X W c n)) $$ P
  imod (Rounds.cell_close ER (Rd X W) (Set.mem_univ (K (c, .inr (.inl n)))) (fun h => h) (R := 0 + 1) (duties_later X W (sendCell c n))) $$ [A1] with Z
  · isplitr; · iexact I1
    iexact A1
  iapply Hk
  unfold tok2
  isplitl [Z A2 C2]
  · isplitl [Z]; · iexact Z
    isplitl [A2]; · iexact A2
    iexact C2
  isplitl [P]; · iexact P
  iexists _; iexact HO

/-- Waiting until the partner's copy has arrived. -/
theorem wait_recv (c : Dev nD) (n : Cp) (l : List Cp) (hl : ∀ k ∈ l, 2 + stage n.2 < 2 + stage k.2)
    {sp sp' : Space} {s s' : Shape} {e e' : EltTy} {m₁ : Memref sig (c : Thread nD τ).2.kind sp s e} {m₂ : Memref sig .tc sp' s' e'} {sm : DmaSem sig} (hS : sm = recvS n) (hN : m₂.view.dmaCredit = N)
    {h1 h2} {α : Type} {Q : α → sProp 𝕄} {k : PUnit → Prog (TpuEff nD τ sig (Elt F) Λ₀ .tc) α} :
    iprop(recs X W K ∗ owing c l ∗ tok2 c n)
      ⊢ iprop(((tok3 c n ∗ recvPay X W c n ∗ owing c l) -∗ run c (k ⟨⟩) Q)
          -∗ run c (.op (.waitDma2 sm m₁ m₂ h1 h2) k) Q) := by
  subst hS
  unfold tok2 owing
  iintro ⟨#Hr, ⟨%Wt, HO⟩, Ht⟩
  icases Ht with ⟨Z1, A2, C⟩
  ihave #I1 := (recs_inv X W K c (.inr (.inr n))) $$ Hr
  ihave #HL := (recs_lev X W K) $$ Hr
  iintro Hk
  iapply (Rounds.wp_wait_rest_token 𝒱₀ ER (Rd X W) (c : Thread nD τ) none (κ := K (c, .inr (.inr n)))
      (wpE_waitDma2_eq 𝒱₀ (c : Thread nD τ) none Set.univ) (Set.mem_univ _) () (O := owe c l) (W := Wt) (R := 0) (m := 0) (T := ∅)
      (by rw [Nat.zero_add, expect_recv]; exact hN)) $$ [C HO A2]
  · isplitr; · iexact I1
    isplitl [C]; · rw [hN]; iexact C
    isplitl [HO]; · iexact HO
    isplitr; · iapply (mayWait_owe c (.dma (recvS n)) (2 + stage n.2) (le_of_eq (lv_recv c n ())) l hl); iexact HL
    iexact A2
  iintro ⟨HO, A2, -, P⟩
  ihave P := (Entails.of_eq (rest_recv X W c n)) $$ P
  imod (Rounds.cell_close ER (Rd X W) (Set.mem_univ (K (c, .inr (.inr n)))) (fun h => h) (R := 0 + 1) (duties_later X W (recvCell c n))) $$ [A2] with Z
  · isplitr; · iexact I1
    iexact A2
  iapply Hk
  unfold tok3
  isplitl [Z1 Z]
  · isplitl [Z1]; · iexact Z1
    iexact Z
  isplitl [P]; · iexact P
  iexists _; iexact HO

end Sync

end Cert.ReduceProof

end
-- ==== Proof.Events.lean ====
/-
# A group's life

What device `c` holds of group `g` after each of its effects on that group, and each effect as a step from one such
state to the next. `G0` is the start and `G27` the end; every statement is for all devices and all groups.
-/
module

public import proofs.«01_k».proof.Proof.Steps

@[expose] public section

noncomputable section

namespace Cert.ReduceProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Events
variable (X : Dev nD → Vec F S1024x128 .bf16) (W : Dev nD → Vec F S128x1024 .bf16) (K : Dev nD × CK → ℕ)

/-- Group `g` on device `c`: nothing done. -/
def G0 (c : Dev nD) (g : Fin 8) : sProp 𝕄 := iprop(
  tok0 c (g, 0) ∗ tok0 c (g, 1) ∗ tok0 c (g, 2) ∗ tok0 c (g, 3) ∗ tok0 c (g, 4) ∗ tok0 c (g, 5) ∗ tok0 c (g, 6) ∗ anyQ c g (crd g 0 c) (crd g 1 c) ∗ anyQ c g (crd g 0 c) (fl (crd g 1 c)) ∗ anyQ c g (fl (crd g 0 c)) (crd g 1 c) ∗ anyQ c g (fl (crd g 0 c)) (fl (crd g 1 c)))

/-- Group `g` on device `c`: the half to be sent is computed. -/
def G1 (c : Dev nD) (g : Fin 8) : sProp 𝕄 := iprop(
  tok0 c (g, 0) ∗ tok0 c (g, 1) ∗ tok0 c (g, 2) ∗ tok0 c (g, 3) ∗ tok0 c (g, 4) ∗ tok0 c (g, 5) ∗ tok0 c (g, 6) ∗ anyQ c g (crd g 0 c) (crd g 1 c) ∗ anyQ c g (crd g 0 c) (fl (crd g 1 c)) ∗ valQ c g (fl (crd g 0 c)) (crd g 1 c) fullShare (A0 X W c g (fl (crd g 0 c)) (crd g 1 c)) ∗ valQ c g (fl (crd g 0 c)) (fl (crd g 1 c)) fullShare (A0 X W c g (fl (crd g 0 c)) (fl (crd g 1 c))))

/-- Group `g` on device `c`: the first copy is started. -/
def G2 (c : Dev nD) (g : Fin 8) : sProp 𝕄 := iprop(
  tok1 c (g, 0) ∗ tok0 c (g, 1) ∗ tok0 c (g, 2) ∗ tok0 c (g, 3) ∗ tok0 c (g, 4) ∗ tok0 c (g, 5) ∗ tok0 c (g, 6) ∗ anyQ c g (crd g 0 c) (crd g 1 c) ∗ anyQ c g (crd g 0 c) (fl (crd g 1 c)) ∗ valQ c g (fl (crd g 0 c)) (crd g 1 c) fullShare (A0 X W c g (fl (crd g 0 c)) (crd g 1 c)) ∗ (∃ V, owns (par g 0 c : Thread nD τ) (r0H g (crd g 1 c)) fullShare V) ∗ (∃ V, owns (par g 1 c : Thread nD τ) (r1M g) fullShare V) ∗ (∃ V, owns (par g 2 c : Thread nD τ) (r2M g) fullShare V))

/-- Group `g` on device `c`: the second copy is started. -/
def G3 (c : Dev nD) (g : Fin 8) : sProp 𝕄 := iprop(
  tok1 c (g, 0) ∗ tok1 c (g, 1) ∗ tok0 c (g, 2) ∗ tok0 c (g, 3) ∗ tok0 c (g, 4) ∗ tok0 c (g, 5) ∗ tok0 c (g, 6) ∗ anyQ c g (crd g 0 c) (crd g 1 c) ∗ anyQ c g (crd g 0 c) (fl (crd g 1 c)) ∗ (∃ V, owns (par g 1 c : Thread nD τ) (r1M g) fullShare V) ∗ (∃ V, owns (par g 2 c : Thread nD τ) (r2M g) fullShare V))

/-- Group `g` on device `c`: the half to be kept is computed. -/
def G4 (c : Dev nD) (g : Fin 8) : sProp 𝕄 := iprop(
  tok1 c (g, 0) ∗ tok1 c (g, 1) ∗ tok0 c (g, 2) ∗ tok0 c (g, 3) ∗ tok0 c (g, 4) ∗ tok0 c (g, 5) ∗ tok0 c (g, 6) ∗ valQ c g (crd g 0 c) (crd g 1 c) fullShare (A0 X W c g (crd g 0 c) (crd g 1 c)) ∗ valQ c g (crd g 0 c) (fl (crd g 1 c)) fullShare (A0 X W c g (crd g 0 c) (fl (crd g 1 c))) ∗ (∃ V, owns (par g 1 c : Thread nD τ) (r1M g) fullShare V) ∗ (∃ V, owns (par g 2 c : Thread nD τ) (r2M g) fullShare V))

/-- Group `g` on device `c`: the first copy has left. -/
def G5 (c : Dev nD) (g : Fin 8) : sProp 𝕄 := iprop(
  tok2 c (g, 0) ∗ tok1 c (g, 1) ∗ tok0 c (g, 2) ∗ tok0 c (g, 3) ∗ tok0 c (g, 4) ∗ tok0 c (g, 5) ∗ tok0 c (g, 6) ∗ valQ c g (crd g 0 c) (crd g 1 c) fullShare (A0 X W c g (crd g 0 c) (crd g 1 c)) ∗ valQ c g (crd g 0 c) (fl (crd g 1 c)) fullShare (A0 X W c g (crd g 0 c) (fl (crd g 1 c))) ∗ (∃ V, owns (par g 1 c : Thread nD τ) (r1M g) fullShare V) ∗ (∃ V, owns (par g 2 c : Thread nD τ) (r2M g) fullShare V))

/-- Group `g` on device `c`: the partner's first copy has arrived. -/
def G6 (c : Dev nD) (g : Fin 8) : sProp 𝕄 := iprop(
  tok3 c (g, 0) ∗ tok1 c (g, 1) ∗ tok0 c (g, 2) ∗ tok0 c (g, 3) ∗ tok0 c (g, 4) ∗ tok0 c (g, 5) ∗ tok0 c (g, 6) ∗ valQ c g (crd g 0 c) (crd g 1 c) fullShare (A0 X W c g (crd g 0 c) (crd g 1 c)) ∗ valQ c g (crd g 0 c) (fl (crd g 1 c)) fullShare (A0 X W c g (crd g 0 c) (fl (crd g 1 c))) ∗ owns (c : Thread nD τ) (r0H g (fl (crd g 1 c))) fullShare (A0 X W (par g 0 c) g (crd g 0 c) (fl (crd g 1 c))) ∗ (∃ V, owns (par g 1 c : Thread nD τ) (r1M g) fullShare V) ∗ (∃ V, owns (par g 2 c : Thread nD τ) (r2M g) fullShare V) ∗ anyQ (par g 0 c) g (crd g 0 c) (fl (crd g 1 c)))

/-- Group `g` on device `c`: the quarter to be sent next is summed. -/
def G7 (c : Dev nD) (g : Fin 8) : sProp 𝕄 := iprop(
  tok3 c (g, 0) ∗ tok1 c (g, 1) ∗ tok0 c (g, 2) ∗ tok0 c (g, 3) ∗ tok0 c (g, 4) ∗ tok0 c (g, 5) ∗ tok0 c (g, 6) ∗ valQ c g (crd g 0 c) (crd g 1 c) fullShare (A0 X W c g (crd g 0 c) (crd g 1 c)) ∗ valQ c g (crd g 0 c) (fl (crd g 1 c)) fullShare (A1 X W c g (fl (crd g 1 c))) ∗ owns (c : Thread nD τ) (r0H g (fl (crd g 1 c))) fullShare (A0 X W (par g 0 c) g (crd g 0 c) (fl (crd g 1 c))) ∗ (∃ V, owns (par g 1 c : Thread nD τ) (r1M g) fullShare V) ∗ (∃ V, owns (par g 2 c : Thread nD τ) (r2M g) fullShare V) ∗ anyQ (par g 0 c) g (crd g 0 c) (fl (crd g 1 c)))

/-- Group `g` on device `c`: the third copy is started. -/
def G8 (c : Dev nD) (g : Fin 8) : sProp 𝕄 := iprop(
  tok3 c (g, 0) ∗ tok1 c (g, 1) ∗ tok1 c (g, 2) ∗ tok0 c (g, 3) ∗ tok0 c (g, 4) ∗ tok0 c (g, 5) ∗ tok0 c (g, 6) ∗ valQ c g (crd g 0 c) (crd g 1 c) fullShare (A0 X W c g (crd g 0 c) (crd g 1 c)) ∗ owns (c : Thread nD τ) (r0H g (fl (crd g 1 c))) fullShare (A0 X W (par g 0 c) g (crd g 0 c) (fl (crd g 1 c))) ∗ (∃ V, owns (par g 2 c : Thread nD τ) (r2M g) fullShare V) ∗ anyQ (par g 0 c) g (crd g 0 c) (fl (crd g 1 c)))

/-- Group `g` on device `c`: the second copy has left. -/
def G9 (c : Dev nD) (g : Fin 8) : sProp 𝕄 := iprop(
  tok3 c (g, 0) ∗ tok2 c (g, 1) ∗ tok1 c (g, 2) ∗ tok0 c (g, 3) ∗ tok0 c (g, 4) ∗ tok0 c (g, 5) ∗ tok0 c (g, 6) ∗ valQ c g (crd g 0 c) (crd g 1 c) fullShare (A0 X W c g (crd g 0 c) (crd g 1 c)) ∗ owns (c : Thread nD τ) (r0H g (fl (crd g 1 c))) fullShare (A0 X W (par g 0 c) g (crd g 0 c) (fl (crd g 1 c))) ∗ (∃ V, owns (par g 2 c : Thread nD τ) (r2M g) fullShare V) ∗ anyQ (par g 0 c) g (crd g 0 c) (fl (crd g 1 c)))

/-- Group `g` on device `c`: the partner's second copy has arrived. -/
def G10 (c : Dev nD) (g : Fin 8) : sProp 𝕄 := iprop(
  tok3 c (g, 0) ∗ tok3 c (g, 1) ∗ tok1 c (g, 2) ∗ tok0 c (g, 3) ∗ tok0 c (g, 4) ∗ tok0 c (g, 5) ∗ tok0 c (g, 6) ∗ valQ c g (crd g 0 c) (crd g 1 c) fullShare (A0 X W c g (crd g 0 c) (crd g 1 c)) ∗ owns (c : Thread nD τ) (r0H g (fl (crd g 1 c))) fullShare (A0 X W (par g 0 c) g (crd g 0 c) (fl (crd g 1 c))) ∗ owns (c : Thread nD τ) (r0H g (crd g 1 c)) fullShare (A0 X W (par g 0 c) g (crd g 0 c) (crd g 1 c)) ∗ (∃ V, owns (par g 2 c : Thread nD τ) (r2M g) fullShare V) ∗ anyQ (par g 0 c) g (crd g 0 c) (crd g 1 c) ∗ anyQ (par g 0 c) g (crd g 0 c) (fl (crd g 1 c)))

/-- Group `g` on device `c`: the quarter to be kept is summed. -/
def G11 (c : Dev nD) (g : Fin 8) : sProp 𝕄 := iprop(
  tok3 c (g, 0) ∗ tok3 c (g, 1) ∗ tok1 c (g, 2) ∗ tok0 c (g, 3) ∗ tok0 c (g, 4) ∗ tok0 c (g, 5) ∗ tok0 c (g, 6) ∗ valQ c g (crd g 0 c) (crd g 1 c) fullShare (A1 X W c g (crd g 1 c)) ∗ owns (c : Thread nD τ) (r0H g (fl (crd g 1 c))) fullShare (A0 X W (par g 0 c) g (crd g 0 c) (fl (crd g 1 c))) ∗ owns (c : Thread nD τ) (r0H g (crd g 1 c)) fullShare (A0 X W (par g 0 c) g (crd g 0 c) (crd g 1 c)) ∗ (∃ V, owns (par g 2 c : Thread nD τ) (r2M g) fullShare V) ∗ anyQ (par g 0 c) g (crd g 0 c) (crd g 1 c) ∗ anyQ (par g 0 c) g (crd g 0 c) (fl (crd g 1 c)))

/-- Group `g` on device `c`: the third copy has left. -/
def G12 (c : Dev nD) (g : Fin 8) : sProp 𝕄 := iprop(
  tok3 c (g, 0) ∗ tok3 c (g, 1) ∗ tok2 c (g, 2) ∗ tok0 c (g, 3) ∗ tok0 c (g, 4) ∗ tok0 c (g, 5) ∗ tok0 c (g, 6) ∗ valQ c g (crd g 0 c) (crd g 1 c) fullShare (A1 X W c g (crd g 1 c)) ∗ owns (c : Thread nD τ) (r0H g (fl (crd g 1 c))) fullShare (A0 X W (par g 0 c) g (crd g 0 c) (fl (crd g 1 c))) ∗ owns (c : Thread nD τ) (r0H g (crd g 1 c)) fullShare (A0 X W (par g 0 c) g (crd g 0 c) (crd g 1 c)) ∗ (∃ V, owns (par g 2 c : Thread nD τ) (r2M g) fullShare V) ∗ anyQ (par g 0 c) g (crd g 0 c) (crd g 1 c) ∗ anyQ (par g 0 c) g (crd g 0 c) (fl (crd g 1 c)))

/-- Group `g` on device `c`: the partner's third copy has arrived. -/
def G13 (c : Dev nD) (g : Fin 8) : sProp 𝕄 := iprop(
  tok3 c (g, 0) ∗ tok3 c (g, 1) ∗ tok3 c (g, 2) ∗ tok0 c (g, 3) ∗ tok0 c (g, 4) ∗ tok0 c (g, 5) ∗ tok0 c (g, 6) ∗ valQ c g (crd g 0 c) (crd g 1 c) fullShare (A1 X W c g (crd g 1 c)) ∗ owns (c : Thread nD τ) (r0H g (fl (crd g 1 c))) fullShare (A0 X W (par g 0 c) g (crd g 0 c) (fl (crd g 1 c))) ∗ owns (c : Thread nD τ) (r0H g (crd g 1 c)) fullShare (A0 X W (par g 0 c) g (crd g 0 c) (crd g 1 c)) ∗ owns (c : Thread nD τ) (r1M g) fullShare (A1 X W (par g 1 c) g (crd g 1 c)) ∗ (∃ V, owns (par g 2 c : Thread nD τ) (r2M g) fullShare V) ∗ anyQ (par g 0 c) g (crd g 0 c) (crd g 1 c) ∗ anyQ (par g 0 c) g (crd g 0 c) (fl (crd g 1 c)) ∗ anyQ (par g 1 c) g (crd g 0 c) (crd g 1 c))

/-- Group `g` on device `c`: the quarter is the sum of four. -/
def G14 (c : Dev nD) (g : Fin 8) : sProp 𝕄 := iprop(
  tok3 c (g, 0) ∗ tok3 c (g, 1) ∗ tok3 c (g, 2) ∗ tok0 c (g, 3) ∗ tok0 c (g, 4) ∗ tok0 c (g, 5) ∗ tok0 c (g, 6) ∗ valQ c g (crd g 0 c) (crd g 1 c) fullShare (A2 X W c g) ∗ owns (c : Thread nD τ) (r0H g (fl (crd g 1 c))) fullShare (A0 X W (par g 0 c) g (crd g 0 c) (fl (crd g 1 c))) ∗ owns (c : Thread nD τ) (r0H g (crd g 1 c)) fullShare (A0 X W (par g 0 c) g (crd g 0 c) (crd g 1 c)) ∗ owns (c : Thread nD τ) (r1M g) fullShare (A1 X W (par g 1 c) g (crd g 1 c)) ∗ (∃ V, owns (par g 2 c : Thread nD τ) (r2M g) fullShare V) ∗ anyQ (par g 0 c) g (crd g 0 c) (crd g 1 c) ∗ anyQ (par g 0 c) g (crd g 0 c) (fl (crd g 1 c)) ∗ anyQ (par g 1 c) g (crd g 0 c) (crd g 1 c))

/-- Group `g` on device `c`: the fourth copy is started. -/
def G15 (c : Dev nD) (g : Fin 8) : sProp 𝕄 := iprop(
  tok3 c (g, 0) ∗ tok3 c (g, 1) ∗ tok3 c (g, 2) ∗ tok1 c (g, 3) ∗ tok0 c (g, 4) ∗ tok0 c (g, 5) ∗ tok0 c (g, 6) ∗ owns (c : Thread nD τ) (r0H g (fl (crd g 1 c))) fullShare (A0 X W (par g 0 c) g (crd g 0 c) (fl (crd g 1 c))) ∗ owns (c : Thread nD τ) (r0H g (crd g 1 c)) fullShare (A0 X W (par g 0 c) g (crd g 0 c) (crd g 1 c)) ∗ owns (c : Thread nD τ) (r1M g) fullShare (A1 X W (par g 1 c) g (crd g 1 c)) ∗ anyQ (par g 0 c) g (crd g 0 c) (crd g 1 c) ∗ anyQ (par g 0 c) g (crd g 0 c) (fl (crd g 1 c)) ∗ anyQ (par g 1 c) g (crd g 0 c) (crd g 1 c))

/-- Group `g` on device `c`: it has left. -/
def G16 (c : Dev nD) (g : Fin 8) : sProp 𝕄 := iprop(
  tok3 c (g, 0) ∗ tok3 c (g, 1) ∗ tok3 c (g, 2) ∗ tok2 c (g, 3) ∗ tok0 c (g, 4) ∗ tok0 c (g, 5) ∗ tok0 c (g, 6) ∗ valQ c g (crd g 0 c) (crd g 1 c) fullShare (A2 X W c g) ∗ owns (c : Thread nD τ) (r0H g (fl (crd g 1 c))) fullShare (A0 X W (par g 0 c) g (crd g 0 c) (fl (crd g 1 c))) ∗ owns (c : Thread nD τ) (r0H g (crd g 1 c)) fullShare (A0 X W (par g 0 c) g (crd g 0 c) (crd g 1 c)) ∗ owns (c : Thread nD τ) (r1M g) fullShare (A1 X W (par g 1 c) g (crd g 1 c)) ∗ anyQ (par g 0 c) g (crd g 0 c) (crd g 1 c) ∗ anyQ (par g 0 c) g (crd g 0 c) (fl (crd g 1 c)) ∗ anyQ (par g 1 c) g (crd g 0 c) (crd g 1 c))

/-- Group `g` on device `c`: the partner's fourth copy has arrived. -/
def G17 (c : Dev nD) (g : Fin 8) : sProp 𝕄 := iprop(
  tok3 c (g, 0) ∗ tok3 c (g, 1) ∗ tok3 c (g, 2) ∗ tok3 c (g, 3) ∗ tok0 c (g, 4) ∗ tok0 c (g, 5) ∗ tok0 c (g, 6) ∗ valQ c g (crd g 0 c) (crd g 1 c) fullShare (A2 X W c g) ∗ owns (c : Thread nD τ) (r0H g (fl (crd g 1 c))) fullShare (A0 X W (par g 0 c) g (crd g 0 c) (fl (crd g 1 c))) ∗ owns (c : Thread nD τ) (r0H g (crd g 1 c)) fullShare (A0 X W (par g 0 c) g (crd g 0 c) (crd g 1 c)) ∗ owns (c : Thread nD τ) (r1M g) fullShare (A1 X W (par g 1 c) g (crd g 1 c)) ∗ owns (c : Thread nD τ) (r2M g) fullShare (A2 X W (par g 2 c) g) ∗ anyQ (par g 0 c) g (crd g 0 c) (crd g 1 c) ∗ anyQ (par g 0 c) g (crd g 0 c) (fl (crd g 1 c)) ∗ anyQ (par g 1 c) g (crd g 0 c) (crd g 1 c))

/-- Group `g` on device `c`: the quarter is done. -/
def G18 (c : Dev nD) (g : Fin 8) : sProp 𝕄 := iprop(
  tok3 c (g, 0) ∗ tok3 c (g, 1) ∗ tok3 c (g, 2) ∗ tok3 c (g, 3) ∗ tok0 c (g, 4) ∗ tok0 c (g, 5) ∗ tok0 c (g, 6) ∗ valQ c g (crd g 0 c) (crd g 1 c) fullShare (A3 X W c g) ∗ owns (c : Thread nD τ) (r0H g (fl (crd g 1 c))) fullShare (A0 X W (par g 0 c) g (crd g 0 c) (fl (crd g 1 c))) ∗ owns (c : Thread nD τ) (r0H g (crd g 1 c)) fullShare (A0 X W (par g 0 c) g (crd g 0 c) (crd g 1 c)) ∗ owns (c : Thread nD τ) (r1M g) fullShare (A1 X W (par g 1 c) g (crd g 1 c)) ∗ owns (c : Thread nD τ) (r2M g) fullShare (A2 X W (par g 2 c) g) ∗ anyQ (par g 0 c) g (crd g 0 c) (crd g 1 c) ∗ anyQ (par g 0 c) g (crd g 0 c) (fl (crd g 1 c)) ∗ anyQ (par g 1 c) g (crd g 0 c) (crd g 1 c))

/-- Group `g` on device `c`: the fifth copy is started. -/
def G19 (c : Dev nD) (g : Fin 8) : sProp 𝕄 := iprop(
  tok3 c (g, 0) ∗ tok3 c (g, 1) ∗ tok3 c (g, 2) ∗ tok3 c (g, 3) ∗ tok1 c (g, 4) ∗ tok0 c (g, 5) ∗ tok0 c (g, 6) ∗ valQ c g (crd g 0 c) (crd g 1 c) fullShare.right (A3 X W c g) ∗ owns (c : Thread nD τ) (r0H g (fl (crd g 1 c))) fullShare (A0 X W (par g 0 c) g (crd g 0 c) (fl (crd g 1 c))) ∗ owns (c : Thread nD τ) (r0H g (crd g 1 c)) fullShare (A0 X W (par g 0 c) g (crd g 0 c) (crd g 1 c)) ∗ owns (c : Thread nD τ) (r1M g) fullShare (A1 X W (par g 1 c) g (crd g 1 c)) ∗ owns (c : Thread nD τ) (r2M g) fullShare (A2 X W (par g 2 c) g) ∗ anyQ (par g 0 c) g (crd g 0 c) (crd g 1 c) ∗ anyQ (par g 0 c) g (crd g 0 c) (fl (crd g 1 c)))

/-- Group `g` on device `c`: the sixth copy is started. -/
def G20 (c : Dev nD) (g : Fin 8) : sProp 𝕄 := iprop(
  tok3 c (g, 0) ∗ tok3 c (g, 1) ∗ tok3 c (g, 2) ∗ tok3 c (g, 3) ∗ tok1 c (g, 4) ∗ tok1 c (g, 5) ∗ tok0 c (g, 6) ∗ valQ c g (crd g 0 c) (crd g 1 c) fullShare.right.right (A3 X W c g) ∗ owns (c : Thread nD τ) (r0H g (fl (crd g 1 c))) fullShare (A0 X W (par g 0 c) g (crd g 0 c) (fl (crd g 1 c))) ∗ owns (c : Thread nD τ) (r0H g (crd g 1 c)) fullShare (A0 X W (par g 0 c) g (crd g 0 c) (crd g 1 c)) ∗ owns (c : Thread nD τ) (r1M g) fullShare (A1 X W (par g 1 c) g (crd g 1 c)) ∗ owns (c : Thread nD τ) (r2M g) fullShare (A2 X W (par g 2 c) g) ∗ anyQ (par g 0 c) g (crd g 0 c) (fl (crd g 1 c)))

/-- Group `g` on device `c`: the fifth copy has left. -/
def G21 (c : Dev nD) (g : Fin 8) : sProp 𝕄 := iprop(
  tok3 c (g, 0) ∗ tok3 c (g, 1) ∗ tok3 c (g, 2) ∗ tok3 c (g, 3) ∗ tok2 c (g, 4) ∗ tok1 c (g, 5) ∗ tok0 c (g, 6) ∗ valQ c g (crd g 0 c) (crd g 1 c) fullShare.right.right (A3 X W c g) ∗ valQ c g (crd g 0 c) (crd g 1 c) fullShare.left (A3 X W c g) ∗ owns (c : Thread nD τ) (r0H g (fl (crd g 1 c))) fullShare (A0 X W (par g 0 c) g (crd g 0 c) (fl (crd g 1 c))) ∗ owns (c : Thread nD τ) (r0H g (crd g 1 c)) fullShare (A0 X W (par g 0 c) g (crd g 0 c) (crd g 1 c)) ∗ owns (c : Thread nD τ) (r1M g) fullShare (A1 X W (par g 1 c) g (crd g 1 c)) ∗ owns (c : Thread nD τ) (r2M g) fullShare (A2 X W (par g 2 c) g) ∗ anyQ (par g 0 c) g (crd g 0 c) (fl (crd g 1 c)))

/-- Group `g` on device `c`: the partner's fifth copy has arrived. -/
def G22 (c : Dev nD) (g : Fin 8) : sProp 𝕄 := iprop(
  tok3 c (g, 0) ∗ tok3 c (g, 1) ∗ tok3 c (g, 2) ∗ tok3 c (g, 3) ∗ tok3 c (g, 4) ∗ tok1 c (g, 5) ∗ tok0 c (g, 6) ∗ valQ c g (crd g 0 c) (crd g 1 c) fullShare.right.right (A3 X W c g) ∗ valQ c g (crd g 0 c) (crd g 1 c) fullShare.left (A3 X W c g) ∗ valQ c g (crd g 0 c) (fl (crd g 1 c)) fullShare (A3 X W (par g 1 c) g) ∗ owns (c : Thread nD τ) (r0H g (fl (crd g 1 c))) fullShare (A0 X W (par g 0 c) g (crd g 0 c) (fl (crd g 1 c))) ∗ owns (c : Thread nD τ) (r0H g (crd g 1 c)) fullShare (A0 X W (par g 0 c) g (crd g 0 c) (crd g 1 c)) ∗ owns (c : Thread nD τ) (r1M g) fullShare (A1 X W (par g 1 c) g (crd g 1 c)) ∗ owns (c : Thread nD τ) (r2M g) fullShare (A2 X W (par g 2 c) g) ∗ anyQ (par g 0 c) g (crd g 0 c) (fl (crd g 1 c)))

/-- Group `g` on device `c`: the seventh copy is started. -/
def G23 (c : Dev nD) (g : Fin 8) : sProp 𝕄 := iprop(
  tok3 c (g, 0) ∗ tok3 c (g, 1) ∗ tok3 c (g, 2) ∗ tok3 c (g, 3) ∗ tok3 c (g, 4) ∗ tok1 c (g, 5) ∗ tok1 c (g, 6) ∗ valQ c g (crd g 0 c) (crd g 1 c) fullShare.right.right (A3 X W c g) ∗ valQ c g (crd g 0 c) (crd g 1 c) fullShare.left (A3 X W c g) ∗ valQ c g (crd g 0 c) (fl (crd g 1 c)) fullShare.right (A3 X W (par g 1 c) g) ∗ owns (c : Thread nD τ) (r0H g (fl (crd g 1 c))) fullShare (A0 X W (par g 0 c) g (crd g 0 c) (fl (crd g 1 c))) ∗ owns (c : Thread nD τ) (r0H g (crd g 1 c)) fullShare (A0 X W (par g 0 c) g (crd g 0 c) (crd g 1 c)) ∗ owns (c : Thread nD τ) (r1M g) fullShare (A1 X W (par g 1 c) g (crd g 1 c)) ∗ owns (c : Thread nD τ) (r2M g) fullShare (A2 X W (par g 2 c) g))

/-- Group `g` on device `c`: the sixth copy has left. -/
def G24 (c : Dev nD) (g : Fin 8) : sProp 𝕄 := iprop(
  tok3 c (g, 0) ∗ tok3 c (g, 1) ∗ tok3 c (g, 2) ∗ tok3 c (g, 3) ∗ tok3 c (g, 4) ∗ tok2 c (g, 5) ∗ tok1 c (g, 6) ∗ valQ c g (crd g 0 c) (crd g 1 c) fullShare (A3 X W c g) ∗ valQ c g (crd g 0 c) (fl (crd g 1 c)) fullShare.right (A3 X W (par g 1 c) g) ∗ owns (c : Thread nD τ) (r0H g (fl (crd g 1 c))) fullShare (A0 X W (par g 0 c) g (crd g 0 c) (fl (crd g 1 c))) ∗ owns (c : Thread nD τ) (r0H g (crd g 1 c)) fullShare (A0 X W (par g 0 c) g (crd g 0 c) (crd g 1 c)) ∗ owns (c : Thread nD τ) (r1M g) fullShare (A1 X W (par g 1 c) g (crd g 1 c)) ∗ owns (c : Thread nD τ) (r2M g) fullShare (A2 X W (par g 2 c) g))

/-- Group `g` on device `c`: the partner's sixth copy has arrived. -/
def G25 (c : Dev nD) (g : Fin 8) : sProp 𝕄 := iprop(
  tok3 c (g, 0) ∗ tok3 c (g, 1) ∗ tok3 c (g, 2) ∗ tok3 c (g, 3) ∗ tok3 c (g, 4) ∗ tok3 c (g, 5) ∗ tok1 c (g, 6) ∗ valQ c g (crd g 0 c) (crd g 1 c) fullShare (A3 X W c g) ∗ valQ c g (crd g 0 c) (fl (crd g 1 c)) fullShare.right (A3 X W (par g 1 c) g) ∗ valQ c g (fl (crd g 0 c)) (crd g 1 c) fullShare (A3 X W (par g 0 c) g) ∗ owns (c : Thread nD τ) (r0H g (fl (crd g 1 c))) fullShare (A0 X W (par g 0 c) g (crd g 0 c) (fl (crd g 1 c))) ∗ owns (c : Thread nD τ) (r0H g (crd g 1 c)) fullShare (A0 X W (par g 0 c) g (crd g 0 c) (crd g 1 c)) ∗ owns (c : Thread nD τ) (r1M g) fullShare (A1 X W (par g 1 c) g (crd g 1 c)) ∗ owns (c : Thread nD τ) (r2M g) fullShare (A2 X W (par g 2 c) g))

/-- Group `g` on device `c`: the seventh copy has left. -/
def G26 (c : Dev nD) (g : Fin 8) : sProp 𝕄 := iprop(
  tok3 c (g, 0) ∗ tok3 c (g, 1) ∗ tok3 c (g, 2) ∗ tok3 c (g, 3) ∗ tok3 c (g, 4) ∗ tok3 c (g, 5) ∗ tok2 c (g, 6) ∗ valQ c g (crd g 0 c) (crd g 1 c) fullShare (A3 X W c g) ∗ valQ c g (crd g 0 c) (fl (crd g 1 c)) fullShare (A3 X W (par g 1 c) g) ∗ valQ c g (fl (crd g 0 c)) (crd g 1 c) fullShare (A3 X W (par g 0 c) g) ∗ owns (c : Thread nD τ) (r0H g (fl (crd g 1 c))) fullShare (A0 X W (par g 0 c) g (crd g 0 c) (fl (crd g 1 c))) ∗ owns (c : Thread nD τ) (r0H g (crd g 1 c)) fullShare (A0 X W (par g 0 c) g (crd g 0 c) (crd g 1 c)) ∗ owns (c : Thread nD τ) (r1M g) fullShare (A1 X W (par g 1 c) g (crd g 1 c)) ∗ owns (c : Thread nD τ) (r2M g) fullShare (A2 X W (par g 2 c) g))

/-- Group `g` on device `c`: everything has arrived. -/
def G27 (c : Dev nD) (g : Fin 8) : sProp 𝕄 := iprop(
  tok3 c (g, 0) ∗ tok3 c (g, 1) ∗ tok3 c (g, 2) ∗ tok3 c (g, 3) ∗ tok3 c (g, 4) ∗ tok3 c (g, 5) ∗ tok3 c (g, 6) ∗ valQ c g (crd g 0 c) (crd g 1 c) fullShare (A3 X W c g) ∗ valQ c g (crd g 0 c) (fl (crd g 1 c)) fullShare (A3 X W (par g 1 c) g) ∗ valQ c g (fl (crd g 0 c)) (crd g 1 c) fullShare (A3 X W (par g 0 c) g) ∗ valQ c g (fl (crd g 0 c)) (fl (crd g 1 c)) fullShare (A3 X W (par g 1 (par g 0 c)) g) ∗ owns (c : Thread nD τ) (r0H g (fl (crd g 1 c))) fullShare (A0 X W (par g 0 c) g (crd g 0 c) (fl (crd g 1 c))) ∗ owns (c : Thread nD τ) (r0H g (crd g 1 c)) fullShare (A0 X W (par g 0 c) g (crd g 0 c) (crd g 1 c)) ∗ owns (c : Thread nD τ) (r1M g) fullShare (A1 X W (par g 1 c) g (crd g 1 c)) ∗ owns (c : Thread nD τ) (r2M g) fullShare (A2 X W (par g 2 c) g))

/-- The receive buffers of its three partners that a device writes for group `g`. -/
def Rem (c : Dev nD) (g : Fin 8) : sProp 𝕄 := iprop(rbuf (par g 0 c) g 0 ∗ rbuf (par g 1 c) g 1 ∗ rbuf (par g 2 c) g 2)

/-- The first copy of a group gives nothing back to its sender; -/
theorem sendPay_0 (c : Dev nD) (g : Fin 8) : sendPay X W c (g, 0) = iprop(emp) := rfl
/-- nor does the second, -/
theorem sendPay_1 (c : Dev nD) (g : Fin 8) : sendPay X W c (g, 1) = iprop(emp) := rfl
/-- nor the third: the quarters they read stay with the receiver for later copies. -/
theorem sendPay_2 (c : Dev nD) (g : Fin 8) : sendPay X W c (g, 2) = iprop(emp) := rfl
/-- The fourth gives back the quarter it read, the sum over four devices; -/
theorem sendPay_3 (c : Dev nD) (g : Fin 8) : sendPay X W c (g, 3) = valQ c g (crd g 0 c) (crd g 1 c) fullShare (A2 X W c g) := rfl
/-- the fifth the share of the reduced quarter it read, -/
theorem sendPay_4 (c : Dev nD) (g : Fin 8) : sendPay X W c (g, 4) = valQ c g (crd g 0 c) (crd g 1 c) fullShare.left (A3 X W c g) := rfl
/-- the sixth another share of it, -/
theorem sendPay_5 (c : Dev nD) (g : Fin 8) : sendPay X W c (g, 5) = valQ c g (crd g 0 c) (crd g 1 c) fullShare.right.left (A3 X W c g) := rfl
/-- and the seventh the share it read of the quarter from the second partner. -/
theorem sendPay_6 (c : Dev nD) (g : Fin 8) : sendPay X W c (g, 6) = valQ c g (crd g 0 c) (fl (crd g 1 c)) fullShare.left (A3 X W (par g 1 c) g) := rfl
/-- The first copy of a group brings the first partner's contribution to the quarter the device passes on; -/
theorem recvPay_0 (c : Dev nD) (g : Fin 8) : recvPay X W c (g, 0) = iprop(owns (c : Thread nD τ) (r0H g (fl (crd g 1 c))) fullShare (A0 X W (par g 0 c) g (crd g 0 c) (fl (crd g 1 c))) ∗ anyQ (par g 0 c) g (crd g 0 c) (fl (crd g 1 c))) := rfl
/-- the second its contribution to the quarter the device keeps; -/
theorem recvPay_1 (c : Dev nD) (g : Fin 8) : recvPay X W c (g, 1) = iprop(owns (c : Thread nD τ) (r0H g (crd g 1 c)) fullShare (A0 X W (par g 0 c) g (crd g 0 c) (crd g 1 c)) ∗ anyQ (par g 0 c) g (crd g 0 c) (crd g 1 c)) := rfl
/-- the third the second partner's sum over two devices; -/
theorem recvPay_2 (c : Dev nD) (g : Fin 8) : recvPay X W c (g, 2) = iprop(owns (c : Thread nD τ) (r1M g) fullShare (A1 X W (par g 1 c) g (crd g 1 c)) ∗ anyQ (par g 1 c) g (crd g 0 c) (crd g 1 c)) := rfl
/-- the fourth the third partner's sum over four devices; -/
theorem recvPay_3 (c : Dev nD) (g : Fin 8) : recvPay X W c (g, 3) = owns (c : Thread nD τ) (r2M g) fullShare (A2 X W (par g 2 c) g) := rfl
/-- the fifth the second partner's reduced quarter, -/
theorem recvPay_4 (c : Dev nD) (g : Fin 8) : recvPay X W c (g, 4) = valQ c g (crd g 0 c) (fl (crd g 1 c)) fullShare (A3 X W (par g 1 c) g) := rfl
/-- the sixth the first partner's, -/
theorem recvPay_5 (c : Dev nD) (g : Fin 8) : recvPay X W c (g, 5) = valQ c g (fl (crd g 0 c)) (crd g 1 c) fullShare (A3 X W (par g 0 c) g) := rfl
/-- and the seventh, from the first partner, the quarter reduced across both. -/
theorem recvPay_6 (c : Dev nD) (g : Fin 8) : recvPay X W c (g, 6) = valQ c g (fl (crd g 0 c)) (fl (crd g 1 c)) fullShare (A3 X W (par g 1 (par g 0 c)) g) := rfl

variable (c : Dev nD) (g : Fin 8)

/-- Reading the half to be sent before it is computed. -/
theorem ev_half0 {m : Memref sig .tc .vmem S1024x128 .bf16} (hm : m = accM g) {o : Fin 2 → ℕ} (ho : o = hOff (fl (crd g 0 c))) {h} {hl} {α : Type} {Q : α → sProp 𝕄}
    {k : ((Rect.unit (s := S1024x128) o S512x128.size h).shape.Idx → Elt F .bf16) → Prog (TpuEff nD τ sig (Elt F) Λ₀ .tc) α} :
    G0 c g ⊢ iprop((∀ v, G0 c g -∗ run c (k v) Q)
      -∗ run c (.op (.load m (Rect.unit (s := S1024x128) o S512x128.size h).toLoadRect hl) k) Q) := by
  unfold G0 anyQ
  iintro ⟨t0, t1, t2, t3, t4, t5, t6, k1, s1, d0, d1⟩
  iintro Hk
  icases d0 with ⟨%Va, d0⟩
  icases d1 with ⟨%Vb, d1⟩
  ihave Hh := (half_join c g (fl (crd g 0 c)) (crd g 1 c) Va Vb) $$ [d0 d1]
  · isplitl [d0]
    · iexact d0
    · iexact d1
  icases Hh with ⟨%Vh, Hh⟩
  iapply (load_part c (Q := Q) hm ho) $$ Hh
  iintro Hh
  ihave Hh := (half_split c g (fl (crd g 0 c)) (crd g 1 c) Vh) $$ Hh
  icases Hh with ⟨d0, d1⟩
  iapply Hk
  isplitl [t0]
  · iexact t0
  isplitl [t1]
  · iexact t1
  isplitl [t2]
  · iexact t2
  isplitl [t3]
  · iexact t3
  isplitl [t4]
  · iexact t4
  isplitl [t5]
  · iexact t5
  isplitl [t6]
  · iexact t6
  isplitl [k1]
  · iexact k1
  isplitl [s1]
  · iexact s1
  isplitl [d0]
  · iexists _
    iexact d0
  iexists _
  iexact d1

/-- The half to be sent is computed. -/
theorem ev_st0 {m : Memref sig .tc .vmem S1024x128 .bf16} (hm : m = accM g) {o : Fin 2 → ℕ} (ho : o = hOff (fl (crd g 0 c))) {h} {hx} {hmk} {α : Type} {Q : α → sProp 𝕄}
    {w : (Rect.unit (s := S1024x128) o S512x128.size h).shape.Idx → Elt F .bf16} (hw : w = M0 X W c g (fl (crd g 0 c)))
    {k : PUnit → Prog (TpuEff nD τ sig (Elt F) Λ₀ .tc) α} :
    G0 c g ⊢ iprop((G1 X W c g -∗ run c (k ⟨⟩) Q)
      -∗ run c (.op (.store m (Rect.unit (s := S1024x128) o S512x128.size h) w Finset.univ hx hmk) k) Q) := by
  unfold G0 G1 anyQ
  iintro ⟨t0, t1, t2, t3, t4, t5, t6, k1, s1, d0, d1⟩
  iintro Hk
  icases d0 with ⟨%Va, d0⟩
  icases d1 with ⟨%Vb, d1⟩
  ihave Hh := (half_join c g (fl (crd g 0 c)) (crd g 1 c) Va Vb) $$ [d0 d1]
  · isplitl [d0]
    · iexact d0
    · iexact d1
  icases Hh with ⟨%Vh, Hh⟩
  iapply (store_part c (Q := Q) hm ho hw) $$ Hh
  iintro Hh
  ihave Hh := (half_split c g (fl (crd g 0 c)) (crd g 1 c) (M0 X W c g (fl (crd g 0 c)))) $$ Hh
  icases Hh with ⟨d0, d1⟩
  iapply Hk
  isplitl [t0]
  · iexact t0
  isplitl [t1]
  · iexact t1
  isplitl [t2]
  · iexact t2
  isplitl [t3]
  · iexact t3
  isplitl [t4]
  · iexact t4
  isplitl [t5]
  · iexact t5
  isplitl [t6]
  · iexact t6
  isplitl [k1]
  · iexact k1
  isplitl [s1]
  · iexact s1
  isplitl [d0]
  · iexact d0
  iexact d1

/-- Reading the half to be kept before it is computed. -/
theorem ev_half3 {m : Memref sig .tc .vmem S1024x128 .bf16} (hm : m = accM g) {o : Fin 2 → ℕ} (ho : o = hOff (crd g 0 c)) {h} {hl} {α : Type} {Q : α → sProp 𝕄}
    {k : ((Rect.unit (s := S1024x128) o S512x128.size h).shape.Idx → Elt F .bf16) → Prog (TpuEff nD τ sig (Elt F) Λ₀ .tc) α} :
    G3 c g ⊢ iprop((∀ v, G3 c g -∗ run c (k v) Q)
      -∗ run c (.op (.load m (Rect.unit (s := S1024x128) o S512x128.size h).toLoadRect hl) k) Q) := by
  unfold G3 anyQ
  iintro ⟨t0, t1, t2, t3, t4, t5, t6, k1, s1, w1, w2⟩
  iintro Hk
  icases k1 with ⟨%Va, k1⟩
  icases s1 with ⟨%Vb, s1⟩
  ihave Hh := (half_join c g (crd g 0 c) (crd g 1 c) Va Vb) $$ [k1 s1]
  · isplitl [k1]
    · iexact k1
    · iexact s1
  icases Hh with ⟨%Vh, Hh⟩
  iapply (load_part c (Q := Q) hm ho) $$ Hh
  iintro Hh
  ihave Hh := (half_split c g (crd g 0 c) (crd g 1 c) Vh) $$ Hh
  icases Hh with ⟨k1, s1⟩
  iapply Hk
  isplitl [t0]
  · iexact t0
  isplitl [t1]
  · iexact t1
  isplitl [t2]
  · iexact t2
  isplitl [t3]
  · iexact t3
  isplitl [t4]
  · iexact t4
  isplitl [t5]
  · iexact t5
  isplitl [t6]
  · iexact t6
  isplitl [k1]
  · iexists _
    iexact k1
  isplitl [s1]
  · iexists _
    iexact s1
  isplitl [w1]
  · iexact w1
  iexact w2

/-- The half to be kept is computed. -/
theorem ev_st3 {m : Memref sig .tc .vmem S1024x128 .bf16} (hm : m = accM g) {o : Fin 2 → ℕ} (ho : o = hOff (crd g 0 c)) {h} {hx} {hmk} {α : Type} {Q : α → sProp 𝕄}
    {w : (Rect.unit (s := S1024x128) o S512x128.size h).shape.Idx → Elt F .bf16} (hw : w = M0 X W c g (crd g 0 c))
    {k : PUnit → Prog (TpuEff nD τ sig (Elt F) Λ₀ .tc) α} :
    G3 c g ⊢ iprop((G4 X W c g -∗ run c (k ⟨⟩) Q)
      -∗ run c (.op (.store m (Rect.unit (s := S1024x128) o S512x128.size h) w Finset.univ hx hmk) k) Q) := by
  unfold G3 G4 anyQ
  iintro ⟨t0, t1, t2, t3, t4, t5, t6, k1, s1, w1, w2⟩
  iintro Hk
  icases k1 with ⟨%Va, k1⟩
  icases s1 with ⟨%Vb, s1⟩
  ihave Hh := (half_join c g (crd g 0 c) (crd g 1 c) Va Vb) $$ [k1 s1]
  · isplitl [k1]
    · iexact k1
    · iexact s1
  icases Hh with ⟨%Vh, Hh⟩
  iapply (store_part c (Q := Q) hm ho hw) $$ Hh
  iintro Hh
  ihave Hh := (half_split c g (crd g 0 c) (crd g 1 c) (M0 X W c g (crd g 0 c))) $$ Hh
  icases Hh with ⟨k1, s1⟩
  iapply Hk
  isplitl [t0]
  · iexact t0
  isplitl [t1]
  · iexact t1
  isplitl [t2]
  · iexact t2
  isplitl [t3]
  · iexact t3
  isplitl [t4]
  · iexact t4
  isplitl [t5]
  · iexact t5
  isplitl [t6]
  · iexact t6
  isplitl [k1]
  · iexact k1
  isplitl [s1]
  · iexact s1
  isplitl [w1]
  · iexact w1
  iexact w2

/-- The first partner's receive buffer, as the two halves the device fills; -/
theorem rbuf0 : (rbuf (par g 0 c) g 0 : sProp 𝕄) = iprop((∃ V, owns (par g 0 c : Thread nD τ) (r0H g (fl (crd g 1 c))) fullShare V) ∗ (∃ V, owns (par g 0 c : Thread nD τ) (r0H g (crd g 1 c)) fullShare V)) := by
  unfold rbuf; simp only [crd10]
/-- the second partner's, -/
theorem rbuf1 : (rbuf (par g 1 c) g 1 : sProp 𝕄) = iprop(∃ V, owns (par g 1 c : Thread nD τ) (r1M g) fullShare V) := rfl
/-- and the third's, each filled at once. -/
theorem rbuf2 : (rbuf (par g 2 c) g 2 : sProp 𝕄) = iprop(∃ V, owns (par g 2 c : Thread nD τ) (r2M g) fullShare V) := rfl

/-- The first copy is started. -/
theorem ev_s0 (l : List Cp) {src dm : Memref sig .tc .vmem S256x128 .bf16} (hs : src = accQ g (fl (crd g 0 c)) (fl (crd g 1 c))) (hd : dm = r0H g (fl (crd g 1 c)))
    {dv : Dev nD} (hdv : dv = par g 0 c) {sS sR : DmaSem sig} (hS : sS = sendS (g, 0)) (hR : sR = recvS (g, 0))
    {hsc} {hsrc hdst} {hsem} {α : Type} {Q : α → sProp 𝕄} {k : PUnit → Prog (TpuEff nD τ sig (Elt F) Λ₀ .tc) α} :
    iprop(recs X W K ∗ G1 X W c g ∗ Rem c g ∗ owing c ((g, 0) :: l))
      ⊢ iprop(((G2 X W c g ∗ owing c l) -∗ run c (k ⟨⟩) Q)
        -∗ run c (.op (.enqueueDma src (.remote (Dev.tc dv : Thread nD τ) dm (.dma sS) hsc) (.dma sR) hsrc hdst hsem) k) Q) := by
  have h₂ : (iprop(owns (par g 0 c : Thread nD τ) (r0H g (fl (crd g 1 c))) fullShare (A0 X W c g (fl (crd g 0 c)) (fl (crd g 1 c))) ∗ owns (c : Thread nD τ) (accQ g (fl (crd g 0 c)) (fl (crd g 1 c))) fullShare (A0 X W c g (fl (crd g 0 c)) (fl (crd g 1 c)))) : sProp 𝕄) ⊢ recvPay X W (par g 0 c) (g, 0) := by
    rw [recvPay_0]
    simp only [par_par, crd_par_self, crd10, crd01, crd02, crd12, fl_fl]
    iintro ⟨A, B⟩
    isplitl [A]
    · iexact A
    unfold anyQ
    iexists _
    iexact B
  unfold G1 G2
  iintro ⟨#Hr, ⟨t0, t1, t2, t3, t4, t5, t6, k1, s1, d0, d1⟩, HR, HO⟩
  iintro Hk
  unfold Rem
  icases HR with ⟨HR0, w1, w2⟩
  ihave HR0 := (Entails.of_eq (rbuf0 c g)) $$ HR0
  ihave w1 := (Entails.of_eq (rbuf1 c g)) $$ w1
  ihave w2 := (Entails.of_eq (rbuf2 c g)) $$ w2
  icases HR0 with ⟨z0, w0⟩
  irename d1 => SRC
  icases z0 with ⟨%Vd, z0⟩
  iapply (send_give X W K c (g, 0) l hs hd hdv rfl hS hR (credit_r0 _ _)
    (q := fullShare) (V := A0 X W c g (fl (crd g 0 c)) (fl (crd g 1 c))) (Entails.of_eq (sendPay_0 X W c g).symm) h₂ (Q := Q)) $$ [SRC z0 HO t0]
  · isplitr; · iexact Hr
    isplitl [SRC]; · iexact SRC
    isplitl [z0]; · iexact z0
    isplitl [HO]; · iexact HO
    iexact t0
  iintro ⟨t0, HO⟩
  iapply Hk
  isplitr [HO]; rotate_left; · iexact HO
  isplitl [t0]
  · iexact t0
  isplitl [t1]
  · iexact t1
  isplitl [t2]
  · iexact t2
  isplitl [t3]
  · iexact t3
  isplitl [t4]
  · iexact t4
  isplitl [t5]
  · iexact t5
  isplitl [t6]
  · iexact t6
  isplitl [k1]
  · iexact k1
  isplitl [s1]
  · iexact s1
  isplitl [d0]
  · iexact d0
  isplitl [w0]
  · iexact w0
  isplitl [w1]
  · iexact w1
  iexact w2

/-- The second copy is started. -/
theorem ev_s1 (l : List Cp) {src dm : Memref sig .tc .vmem S256x128 .bf16} (hs : src = accQ g (fl (crd g 0 c)) (crd g 1 c)) (hd : dm = r0H g (crd g 1 c))
    {dv : Dev nD} (hdv : dv = par g 0 c) {sS sR : DmaSem sig} (hS : sS = sendS (g, 1)) (hR : sR = recvS (g, 1))
    {hsc} {hsrc hdst} {hsem} {α : Type} {Q : α → sProp 𝕄} {k : PUnit → Prog (TpuEff nD τ sig (Elt F) Λ₀ .tc) α} :
    iprop(recs X W K ∗ G2 X W c g ∗ owing c ((g, 1) :: l))
      ⊢ iprop(((G3 c g ∗ owing c l) -∗ run c (k ⟨⟩) Q)
        -∗ run c (.op (.enqueueDma src (.remote (Dev.tc dv : Thread nD τ) dm (.dma sS) hsc) (.dma sR) hsrc hdst hsem) k) Q) := by
  have h₂ : (iprop(owns (par g 0 c : Thread nD τ) (r0H g (crd g 1 c)) fullShare (A0 X W c g (fl (crd g 0 c)) (crd g 1 c)) ∗ owns (c : Thread nD τ) (accQ g (fl (crd g 0 c)) (crd g 1 c)) fullShare (A0 X W c g (fl (crd g 0 c)) (crd g 1 c))) : sProp 𝕄) ⊢ recvPay X W (par g 0 c) (g, 1) := by
    rw [recvPay_1]
    simp only [par_par, crd_par_self, crd10, crd01, crd02, crd12, fl_fl]
    iintro ⟨A, B⟩
    isplitl [A]
    · iexact A
    unfold anyQ
    iexists _
    iexact B
  unfold G2 G3
  iintro ⟨#Hr, ⟨t0, t1, t2, t3, t4, t5, t6, k1, s1, d0, w0, w1, w2⟩, HO⟩
  iintro Hk
  irename d0 => SRC
  icases w0 with ⟨%Vd, w0⟩
  iapply (send_give X W K c (g, 1) l hs hd hdv rfl hS hR (credit_r0 _ _)
    (q := fullShare) (V := A0 X W c g (fl (crd g 0 c)) (crd g 1 c)) (Entails.of_eq (sendPay_1 X W c g).symm) h₂ (Q := Q)) $$ [SRC w0 HO t1]
  · isplitr; · iexact Hr
    isplitl [SRC]; · iexact SRC
    isplitl [w0]; · iexact w0
    isplitl [HO]; · iexact HO
    iexact t1
  iintro ⟨t1, HO⟩
  iapply Hk
  isplitr [HO]; rotate_left; · iexact HO
  isplitl [t0]
  · iexact t0
  isplitl [t1]
  · iexact t1
  isplitl [t2]
  · iexact t2
  isplitl [t3]
  · iexact t3
  isplitl [t4]
  · iexact t4
  isplitl [t5]
  · iexact t5
  isplitl [t6]
  · iexact t6
  isplitl [k1]
  · iexact k1
  isplitl [s1]
  · iexact s1
  isplitl [w1]
  · iexact w1
  iexact w2

/-- The first copy has left. -/
theorem ev_ws0 (l : List Cp) (hl : ∀ k ∈ l, 2 + stage 0 < 2 + stage k.2)
    {sp sp' : Space} {s s' : Shape} {e e' : EltTy} {m₁ : Memref sig (c : Thread nD τ).2.kind sp s e} {m₂ : Memref sig .tc sp' s' e'} {sm : DmaSem sig}
    (hS : sm = sendS (g, 0)) (hN : m₂.view.dmaCredit = N) {h1 h2} {α : Type} {Q : α → sProp 𝕄} {k : PUnit → Prog (TpuEff nD τ sig (Elt F) Λ₀ .tc) α} :
    iprop(recs X W K ∗ G4 X W c g ∗ owing c l)
      ⊢ iprop(((G5 X W c g ∗ owing c l) -∗ run c (k ⟨⟩) Q) -∗ run c (.op (.waitDma2 sm m₁ m₂ h1 h2) k) Q) := by
  unfold G4 G5
  iintro ⟨#Hr, ⟨t0, t1, t2, t3, t4, t5, t6, k1, s1, w1, w2⟩, HO⟩
  iintro Hk
  iapply (wait_send X W K c (g, 0) l hl hS hN (Q := Q)) $$ [t0 HO]
  · isplitr; · iexact Hr
    isplitl [HO]; · iexact HO
    iexact t0
  iintro ⟨t0, P, HO⟩
  ihave P := (Entails.of_eq (sendPay_0 X W c g)) $$ P
  iclear P
  iapply Hk
  isplitr [HO]; rotate_left; · iexact HO
  isplitl [t0]
  · iexact t0
  isplitl [t1]
  · iexact t1
  isplitl [t2]
  · iexact t2
  isplitl [t3]
  · iexact t3
  isplitl [t4]
  · iexact t4
  isplitl [t5]
  · iexact t5
  isplitl [t6]
  · iexact t6
  isplitl [k1]
  · iexact k1
  isplitl [s1]
  · iexact s1
  isplitl [w1]
  · iexact w1
  iexact w2

/-- The partner's first copy has arrived. -/
theorem ev_wr0 (l : List Cp) (hl : ∀ k ∈ l, 2 + stage 0 < 2 + stage k.2)
    {sp sp' : Space} {s s' : Shape} {e e' : EltTy} {m₁ : Memref sig (c : Thread nD τ).2.kind sp s e} {m₂ : Memref sig .tc sp' s' e'} {sm : DmaSem sig}
    (hS : sm = recvS (g, 0)) (hN : m₂.view.dmaCredit = N) {h1 h2} {α : Type} {Q : α → sProp 𝕄} {k : PUnit → Prog (TpuEff nD τ sig (Elt F) Λ₀ .tc) α} :
    iprop(recs X W K ∗ G5 X W c g ∗ owing c l)
      ⊢ iprop(((G6 X W c g ∗ owing c l) -∗ run c (k ⟨⟩) Q) -∗ run c (.op (.waitDma2 sm m₁ m₂ h1 h2) k) Q) := by
  unfold G5 G6
  iintro ⟨#Hr, ⟨t0, t1, t2, t3, t4, t5, t6, k1, s1, w1, w2⟩, HO⟩
  iintro Hk
  iapply (wait_recv X W K c (g, 0) l hl hS hN (Q := Q)) $$ [t0 HO]
  · isplitr; · iexact Hr
    isplitl [HO]; · iexact HO
    iexact t0
  iintro ⟨t0, P, HO⟩
  ihave P := (Entails.of_eq (recvPay_0 X W c g)) $$ P
  icases P with ⟨p0, u1⟩
  iapply Hk
  isplitr [HO]; rotate_left; · iexact HO
  isplitl [t0]
  · iexact t0
  isplitl [t1]
  · iexact t1
  isplitl [t2]
  · iexact t2
  isplitl [t3]
  · iexact t3
  isplitl [t4]
  · iexact t4
  isplitl [t5]
  · iexact t5
  isplitl [t6]
  · iexact t6
  isplitl [k1]
  · iexact k1
  isplitl [s1]
  · iexact s1
  isplitl [p0]
  · iexact p0
  isplitl [w1]
  · iexact w1
  isplitl [w2]
  · iexact w2
  iexact u1

/-- Reading the quarter to be summed. -/
theorem ev_ld6a {m : Memref sig .tc .vmem S1024x128 .bf16} (hm : m = accM g) {o : Fin 2 → ℕ} (ho : o = qOff (crd g 0 c) (fl (crd g 1 c))) {h} {hl} {α : Type} {Q : α → sProp 𝕄}
    {k : ((Rect.unit (s := S1024x128) o S256x128.size h).shape.Idx → Elt F .bf16) → Prog (TpuEff nD τ sig (Elt F) Λ₀ .tc) α} :
    G6 X W c g ⊢ iprop((G6 X W c g -∗ run c (k (A0 X W c g (crd g 0 c) (fl (crd g 1 c)))) Q)
      -∗ run c (.op (.load m (Rect.unit (s := S1024x128) o S256x128.size h).toLoadRect hl) k) Q) := by
  unfold G6
  iintro ⟨t0, t1, t2, t3, t4, t5, t6, k1, s1, p0, w1, w2, u1⟩
  iintro Hk
  iapply (load_part c (Q := Q) hm ho) $$ s1
  iintro s1
  iapply Hk
  isplitl [t0]
  · iexact t0
  isplitl [t1]
  · iexact t1
  isplitl [t2]
  · iexact t2
  isplitl [t3]
  · iexact t3
  isplitl [t4]
  · iexact t4
  isplitl [t5]
  · iexact t5
  isplitl [t6]
  · iexact t6
  isplitl [k1]
  · iexact k1
  isplitl [s1]
  · iexact s1
  isplitl [p0]
  · iexact p0
  isplitl [w1]
  · iexact w1
  isplitl [w2]
  · iexact w2
  iexact u1

/-- Reading what has arrived. -/
theorem ev_ld6b {m : Memref sig .tc .vmem S512x128 .bf16} (hm : m = r0M g) {o : Fin 2 → ℕ} (ho : o = eOff (fl (crd g 1 c))) {h} {hl} {α : Type} {Q : α → sProp 𝕄}
    {k : ((Rect.unit (s := S512x128) o S256x128.size h).shape.Idx → Elt F .bf16) → Prog (TpuEff nD τ sig (Elt F) Λ₀ .tc) α} :
    G6 X W c g ⊢ iprop((G6 X W c g -∗ run c (k (A0 X W (par g 0 c) g (crd g 0 c) (fl (crd g 1 c)))) Q)
      -∗ run c (.op (.load m (Rect.unit (s := S512x128) o S256x128.size h).toLoadRect hl) k) Q) := by
  unfold G6
  iintro ⟨t0, t1, t2, t3, t4, t5, t6, k1, s1, p0, w1, w2, u1⟩
  iintro Hk
  iapply (load_part c (Q := Q) hm ho) $$ p0
  iintro p0
  iapply Hk
  isplitl [t0]
  · iexact t0
  isplitl [t1]
  · iexact t1
  isplitl [t2]
  · iexact t2
  isplitl [t3]
  · iexact t3
  isplitl [t4]
  · iexact t4
  isplitl [t5]
  · iexact t5
  isplitl [t6]
  · iexact t6
  isplitl [k1]
  · iexact k1
  isplitl [s1]
  · iexact s1
  isplitl [p0]
  · iexact p0
  isplitl [w1]
  · iexact w1
  isplitl [w2]
  · iexact w2
  iexact u1

/-- The quarter to be sent next is summed. -/
theorem ev_st6 {m : Memref sig .tc .vmem S1024x128 .bf16} (hm : m = accM g) {o : Fin 2 → ℕ} (ho : o = qOff (crd g 0 c) (fl (crd g 1 c))) {h} {hx} {hmk} {α : Type} {Q : α → sProp 𝕄}
    {w : (Rect.unit (s := S1024x128) o S256x128.size h).shape.Idx → Elt F .bf16} (hw : w = A1 X W c g (fl (crd g 1 c)))
    {k : PUnit → Prog (TpuEff nD τ sig (Elt F) Λ₀ .tc) α} :
    G6 X W c g ⊢ iprop((G7 X W c g -∗ run c (k ⟨⟩) Q)
      -∗ run c (.op (.store m (Rect.unit (s := S1024x128) o S256x128.size h) w Finset.univ hx hmk) k) Q) := by
  unfold G6 G7
  iintro ⟨t0, t1, t2, t3, t4, t5, t6, k1, s1, p0, w1, w2, u1⟩
  iintro Hk
  iapply (store_part c (Q := Q) hm ho hw) $$ s1
  iintro s1
  iapply Hk
  isplitl [t0]
  · iexact t0
  isplitl [t1]
  · iexact t1
  isplitl [t2]
  · iexact t2
  isplitl [t3]
  · iexact t3
  isplitl [t4]
  · iexact t4
  isplitl [t5]
  · iexact t5
  isplitl [t6]
  · iexact t6
  isplitl [k1]
  · iexact k1
  isplitl [s1]
  · iexact s1
  isplitl [p0]
  · iexact p0
  isplitl [w1]
  · iexact w1
  isplitl [w2]
  · iexact w2
  iexact u1

/-- The third copy is started. -/
theorem ev_s2 (l : List Cp) {src dm : Memref sig .tc .vmem S256x128 .bf16} (hs : src = accQ g (crd g 0 c) (fl (crd g 1 c))) (hd : dm = r1M g)
    {dv : Dev nD} (hdv : dv = par g 1 c) {sS sR : DmaSem sig} (hS : sS = sendS (g, 2)) (hR : sR = recvS (g, 2))
    {hsc} {hsrc hdst} {hsem} {α : Type} {Q : α → sProp 𝕄} {k : PUnit → Prog (TpuEff nD τ sig (Elt F) Λ₀ .tc) α} :
    iprop(recs X W K ∗ G7 X W c g ∗ owing c ((g, 2) :: l))
      ⊢ iprop(((G8 X W c g ∗ owing c l) -∗ run c (k ⟨⟩) Q)
        -∗ run c (.op (.enqueueDma src (.remote (Dev.tc dv : Thread nD τ) dm (.dma sS) hsc) (.dma sR) hsrc hdst hsem) k) Q) := by
  have h₂ : (iprop(owns (par g 1 c : Thread nD τ) (r1M g) fullShare (A1 X W c g (fl (crd g 1 c))) ∗ owns (c : Thread nD τ) (accQ g (crd g 0 c) (fl (crd g 1 c))) fullShare (A1 X W c g (fl (crd g 1 c)))) : sProp 𝕄) ⊢ recvPay X W (par g 1 c) (g, 2) := by
    rw [recvPay_2]
    simp only [par_par, crd_par_self, crd10, crd01, crd02, crd12, fl_fl]
    iintro ⟨A, B⟩
    isplitl [A]
    · iexact A
    unfold anyQ
    iexists _
    iexact B
  unfold G7 G8
  iintro ⟨#Hr, ⟨t0, t1, t2, t3, t4, t5, t6, k1, s1, p0, w1, w2, u1⟩, HO⟩
  iintro Hk
  irename s1 => SRC
  icases w1 with ⟨%Vd, w1⟩
  iapply (send_give X W K c (g, 2) l hs hd hdv rfl hS hR (credit_r1 _)
    (q := fullShare) (V := A1 X W c g (fl (crd g 1 c))) (Entails.of_eq (sendPay_2 X W c g).symm) h₂ (Q := Q)) $$ [SRC w1 HO t2]
  · isplitr; · iexact Hr
    isplitl [SRC]; · iexact SRC
    isplitl [w1]; · iexact w1
    isplitl [HO]; · iexact HO
    iexact t2
  iintro ⟨t2, HO⟩
  iapply Hk
  isplitr [HO]; rotate_left; · iexact HO
  isplitl [t0]
  · iexact t0
  isplitl [t1]
  · iexact t1
  isplitl [t2]
  · iexact t2
  isplitl [t3]
  · iexact t3
  isplitl [t4]
  · iexact t4
  isplitl [t5]
  · iexact t5
  isplitl [t6]
  · iexact t6
  isplitl [k1]
  · iexact k1
  isplitl [p0]
  · iexact p0
  isplitl [w2]
  · iexact w2
  iexact u1

/-- The second copy has left. -/
theorem ev_ws1 (l : List Cp) (hl : ∀ k ∈ l, 2 + stage 1 < 2 + stage k.2)
    {sp sp' : Space} {s s' : Shape} {e e' : EltTy} {m₁ : Memref sig (c : Thread nD τ).2.kind sp s e} {m₂ : Memref sig .tc sp' s' e'} {sm : DmaSem sig}
    (hS : sm = sendS (g, 1)) (hN : m₂.view.dmaCredit = N) {h1 h2} {α : Type} {Q : α → sProp 𝕄} {k : PUnit → Prog (TpuEff nD τ sig (Elt F) Λ₀ .tc) α} :
    iprop(recs X W K ∗ G8 X W c g ∗ owing c l)
      ⊢ iprop(((G9 X W c g ∗ owing c l) -∗ run c (k ⟨⟩) Q) -∗ run c (.op (.waitDma2 sm m₁ m₂ h1 h2) k) Q) := by
  unfold G8 G9
  iintro ⟨#Hr, ⟨t0, t1, t2, t3, t4, t5, t6, k1, p0, w2, u1⟩, HO⟩
  iintro Hk
  iapply (wait_send X W K c (g, 1) l hl hS hN (Q := Q)) $$ [t1 HO]
  · isplitr; · iexact Hr
    isplitl [HO]; · iexact HO
    iexact t1
  iintro ⟨t1, P, HO⟩
  ihave P := (Entails.of_eq (sendPay_1 X W c g)) $$ P
  iclear P
  iapply Hk
  isplitr [HO]; rotate_left; · iexact HO
  isplitl [t0]
  · iexact t0
  isplitl [t1]
  · iexact t1
  isplitl [t2]
  · iexact t2
  isplitl [t3]
  · iexact t3
  isplitl [t4]
  · iexact t4
  isplitl [t5]
  · iexact t5
  isplitl [t6]
  · iexact t6
  isplitl [k1]
  · iexact k1
  isplitl [p0]
  · iexact p0
  isplitl [w2]
  · iexact w2
  iexact u1

/-- The partner's second copy has arrived. -/
theorem ev_wr1 (l : List Cp) (hl : ∀ k ∈ l, 2 + stage 1 < 2 + stage k.2)
    {sp sp' : Space} {s s' : Shape} {e e' : EltTy} {m₁ : Memref sig (c : Thread nD τ).2.kind sp s e} {m₂ : Memref sig .tc sp' s' e'} {sm : DmaSem sig}
    (hS : sm = recvS (g, 1)) (hN : m₂.view.dmaCredit = N) {h1 h2} {α : Type} {Q : α → sProp 𝕄} {k : PUnit → Prog (TpuEff nD τ sig (Elt F) Λ₀ .tc) α} :
    iprop(recs X W K ∗ G9 X W c g ∗ owing c l)
      ⊢ iprop(((G10 X W c g ∗ owing c l) -∗ run c (k ⟨⟩) Q) -∗ run c (.op (.waitDma2 sm m₁ m₂ h1 h2) k) Q) := by
  unfold G9 G10
  iintro ⟨#Hr, ⟨t0, t1, t2, t3, t4, t5, t6, k1, p0, w2, u1⟩, HO⟩
  iintro Hk
  iapply (wait_recv X W K c (g, 1) l hl hS hN (Q := Q)) $$ [t1 HO]
  · isplitr; · iexact Hr
    isplitl [HO]; · iexact HO
    iexact t1
  iintro ⟨t1, P, HO⟩
  ihave P := (Entails.of_eq (recvPay_1 X W c g)) $$ P
  icases P with ⟨q0, u0⟩
  iapply Hk
  isplitr [HO]; rotate_left; · iexact HO
  isplitl [t0]
  · iexact t0
  isplitl [t1]
  · iexact t1
  isplitl [t2]
  · iexact t2
  isplitl [t3]
  · iexact t3
  isplitl [t4]
  · iexact t4
  isplitl [t5]
  · iexact t5
  isplitl [t6]
  · iexact t6
  isplitl [k1]
  · iexact k1
  isplitl [p0]
  · iexact p0
  isplitl [q0]
  · iexact q0
  isplitl [w2]
  · iexact w2
  isplitl [u0]
  · iexact u0
  iexact u1

/-- Reading the quarter to be summed. -/
theorem ev_ld10a {m : Memref sig .tc .vmem S1024x128 .bf16} (hm : m = accM g) {o : Fin 2 → ℕ} (ho : o = qOff (crd g 0 c) (crd g 1 c)) {h} {hl} {α : Type} {Q : α → sProp 𝕄}
    {k : ((Rect.unit (s := S1024x128) o S256x128.size h).shape.Idx → Elt F .bf16) → Prog (TpuEff nD τ sig (Elt F) Λ₀ .tc) α} :
    G10 X W c g ⊢ iprop((G10 X W c g -∗ run c (k (A0 X W c g (crd g 0 c) (crd g 1 c))) Q)
      -∗ run c (.op (.load m (Rect.unit (s := S1024x128) o S256x128.size h).toLoadRect hl) k) Q) := by
  unfold G10
  iintro ⟨t0, t1, t2, t3, t4, t5, t6, k1, p0, q0, w2, u0, u1⟩
  iintro Hk
  iapply (load_part c (Q := Q) hm ho) $$ k1
  iintro k1
  iapply Hk
  isplitl [t0]
  · iexact t0
  isplitl [t1]
  · iexact t1
  isplitl [t2]
  · iexact t2
  isplitl [t3]
  · iexact t3
  isplitl [t4]
  · iexact t4
  isplitl [t5]
  · iexact t5
  isplitl [t6]
  · iexact t6
  isplitl [k1]
  · iexact k1
  isplitl [p0]
  · iexact p0
  isplitl [q0]
  · iexact q0
  isplitl [w2]
  · iexact w2
  isplitl [u0]
  · iexact u0
  iexact u1

/-- Reading what has arrived. -/
theorem ev_ld10b {m : Memref sig .tc .vmem S512x128 .bf16} (hm : m = r0M g) {o : Fin 2 → ℕ} (ho : o = eOff (crd g 1 c)) {h} {hl} {α : Type} {Q : α → sProp 𝕄}
    {k : ((Rect.unit (s := S512x128) o S256x128.size h).shape.Idx → Elt F .bf16) → Prog (TpuEff nD τ sig (Elt F) Λ₀ .tc) α} :
    G10 X W c g ⊢ iprop((G10 X W c g -∗ run c (k (A0 X W (par g 0 c) g (crd g 0 c) (crd g 1 c))) Q)
      -∗ run c (.op (.load m (Rect.unit (s := S512x128) o S256x128.size h).toLoadRect hl) k) Q) := by
  unfold G10
  iintro ⟨t0, t1, t2, t3, t4, t5, t6, k1, p0, q0, w2, u0, u1⟩
  iintro Hk
  iapply (load_part c (Q := Q) hm ho) $$ q0
  iintro q0
  iapply Hk
  isplitl [t0]
  · iexact t0
  isplitl [t1]
  · iexact t1
  isplitl [t2]
  · iexact t2
  isplitl [t3]
  · iexact t3
  isplitl [t4]
  · iexact t4
  isplitl [t5]
  · iexact t5
  isplitl [t6]
  · iexact t6
  isplitl [k1]
  · iexact k1
  isplitl [p0]
  · iexact p0
  isplitl [q0]
  · iexact q0
  isplitl [w2]
  · iexact w2
  isplitl [u0]
  · iexact u0
  iexact u1

/-- The quarter to be kept is summed. -/
theorem ev_st10 {m : Memref sig .tc .vmem S1024x128 .bf16} (hm : m = accM g) {o : Fin 2 → ℕ} (ho : o = qOff (crd g 0 c) (crd g 1 c)) {h} {hx} {hmk} {α : Type} {Q : α → sProp 𝕄}
    {w : (Rect.unit (s := S1024x128) o S256x128.size h).shape.Idx → Elt F .bf16} (hw : w = A1 X W c g (crd g 1 c))
    {k : PUnit → Prog (TpuEff nD τ sig (Elt F) Λ₀ .tc) α} :
    G10 X W c g ⊢ iprop((G11 X W c g -∗ run c (k ⟨⟩) Q)
      -∗ run c (.op (.store m (Rect.unit (s := S1024x128) o S256x128.size h) w Finset.univ hx hmk) k) Q) := by
  unfold G10 G11
  iintro ⟨t0, t1, t2, t3, t4, t5, t6, k1, p0, q0, w2, u0, u1⟩
  iintro Hk
  iapply (store_part c (Q := Q) hm ho hw) $$ k1
  iintro k1
  iapply Hk
  isplitl [t0]
  · iexact t0
  isplitl [t1]
  · iexact t1
  isplitl [t2]
  · iexact t2
  isplitl [t3]
  · iexact t3
  isplitl [t4]
  · iexact t4
  isplitl [t5]
  · iexact t5
  isplitl [t6]
  · iexact t6
  isplitl [k1]
  · iexact k1
  isplitl [p0]
  · iexact p0
  isplitl [q0]
  · iexact q0
  isplitl [w2]
  · iexact w2
  isplitl [u0]
  · iexact u0
  iexact u1

/-- The third copy has left. -/
theorem ev_ws2 (l : List Cp) (hl : ∀ k ∈ l, 2 + stage 2 < 2 + stage k.2)
    {sp sp' : Space} {s s' : Shape} {e e' : EltTy} {m₁ : Memref sig (c : Thread nD τ).2.kind sp s e} {m₂ : Memref sig .tc sp' s' e'} {sm : DmaSem sig}
    (hS : sm = sendS (g, 2)) (hN : m₂.view.dmaCredit = N) {h1 h2} {α : Type} {Q : α → sProp 𝕄} {k : PUnit → Prog (TpuEff nD τ sig (Elt F) Λ₀ .tc) α} :
    iprop(recs X W K ∗ G11 X W c g ∗ owing c l)
      ⊢ iprop(((G12 X W c g ∗ owing c l) -∗ run c (k ⟨⟩) Q) -∗ run c (.op (.waitDma2 sm m₁ m₂ h1 h2) k) Q) := by
  unfold G11 G12
  iintro ⟨#Hr, ⟨t0, t1, t2, t3, t4, t5, t6, k1, p0, q0, w2, u0, u1⟩, HO⟩
  iintro Hk
  iapply (wait_send X W K c (g, 2) l hl hS hN (Q := Q)) $$ [t2 HO]
  · isplitr; · iexact Hr
    isplitl [HO]; · iexact HO
    iexact t2
  iintro ⟨t2, P, HO⟩
  ihave P := (Entails.of_eq (sendPay_2 X W c g)) $$ P
  iclear P
  iapply Hk
  isplitr [HO]; rotate_left; · iexact HO
  isplitl [t0]
  · iexact t0
  isplitl [t1]
  · iexact t1
  isplitl [t2]
  · iexact t2
  isplitl [t3]
  · iexact t3
  isplitl [t4]
  · iexact t4
  isplitl [t5]
  · iexact t5
  isplitl [t6]
  · iexact t6
  isplitl [k1]
  · iexact k1
  isplitl [p0]
  · iexact p0
  isplitl [q0]
  · iexact q0
  isplitl [w2]
  · iexact w2
  isplitl [u0]
  · iexact u0
  iexact u1

/-- The partner's third copy has arrived. -/
theorem ev_wr2 (l : List Cp) (hl : ∀ k ∈ l, 2 + stage 2 < 2 + stage k.2)
    {sp sp' : Space} {s s' : Shape} {e e' : EltTy} {m₁ : Memref sig (c : Thread nD τ).2.kind sp s e} {m₂ : Memref sig .tc sp' s' e'} {sm : DmaSem sig}
    (hS : sm = recvS (g, 2)) (hN : m₂.view.dmaCredit = N) {h1 h2} {α : Type} {Q : α → sProp 𝕄} {k : PUnit → Prog (TpuEff nD τ sig (Elt F) Λ₀ .tc) α} :
    iprop(recs X W K ∗ G12 X W c g ∗ owing c l)
      ⊢ iprop(((G13 X W c g ∗ owing c l) -∗ run c (k ⟨⟩) Q) -∗ run c (.op (.waitDma2 sm m₁ m₂ h1 h2) k) Q) := by
  unfold G12 G13
  iintro ⟨#Hr, ⟨t0, t1, t2, t3, t4, t5, t6, k1, p0, q0, w2, u0, u1⟩, HO⟩
  iintro Hk
  iapply (wait_recv X W K c (g, 2) l hl hS hN (Q := Q)) $$ [t2 HO]
  · isplitr; · iexact Hr
    isplitl [HO]; · iexact HO
    iexact t2
  iintro ⟨t2, P, HO⟩
  ihave P := (Entails.of_eq (recvPay_2 X W c g)) $$ P
  icases P with ⟨b1, v⟩
  iapply Hk
  isplitr [HO]; rotate_left; · iexact HO
  isplitl [t0]
  · iexact t0
  isplitl [t1]
  · iexact t1
  isplitl [t2]
  · iexact t2
  isplitl [t3]
  · iexact t3
  isplitl [t4]
  · iexact t4
  isplitl [t5]
  · iexact t5
  isplitl [t6]
  · iexact t6
  isplitl [k1]
  · iexact k1
  isplitl [p0]
  · iexact p0
  isplitl [q0]
  · iexact q0
  isplitl [b1]
  · iexact b1
  isplitl [w2]
  · iexact w2
  isplitl [u0]
  · iexact u0
  isplitl [u1]
  · iexact u1
  iexact v

/-- Reading the quarter to be summed. -/
theorem ev_ld13a {m : Memref sig .tc .vmem S1024x128 .bf16} (hm : m = accM g) {o : Fin 2 → ℕ} (ho : o = qOff (crd g 0 c) (crd g 1 c)) {h} {hl} {α : Type} {Q : α → sProp 𝕄}
    {k : ((Rect.unit (s := S1024x128) o S256x128.size h).shape.Idx → Elt F .bf16) → Prog (TpuEff nD τ sig (Elt F) Λ₀ .tc) α} :
    G13 X W c g ⊢ iprop((G13 X W c g -∗ run c (k (A1 X W c g (crd g 1 c))) Q)
      -∗ run c (.op (.load m (Rect.unit (s := S1024x128) o S256x128.size h).toLoadRect hl) k) Q) := by
  unfold G13
  iintro ⟨t0, t1, t2, t3, t4, t5, t6, k1, p0, q0, b1, w2, u0, u1, v⟩
  iintro Hk
  iapply (load_part c (Q := Q) hm ho) $$ k1
  iintro k1
  iapply Hk
  isplitl [t0]
  · iexact t0
  isplitl [t1]
  · iexact t1
  isplitl [t2]
  · iexact t2
  isplitl [t3]
  · iexact t3
  isplitl [t4]
  · iexact t4
  isplitl [t5]
  · iexact t5
  isplitl [t6]
  · iexact t6
  isplitl [k1]
  · iexact k1
  isplitl [p0]
  · iexact p0
  isplitl [q0]
  · iexact q0
  isplitl [b1]
  · iexact b1
  isplitl [w2]
  · iexact w2
  isplitl [u0]
  · iexact u0
  isplitl [u1]
  · iexact u1
  iexact v

/-- Reading what has arrived. -/
theorem ev_ld13b {m : Memref sig .tc .vmem S256x128 .bf16} (hm : m = r1M g) {o : Fin 2 → ℕ} (ho : ∀ a, o a = 0) {h} {hl} {α : Type} {Q : α → sProp 𝕄}
    {k : ((Rect.unit (s := S256x128) o S256x128.size h).shape.Idx → Elt F .bf16) → Prog (TpuEff nD τ sig (Elt F) Λ₀ .tc) α} :
    G13 X W c g ⊢ iprop((G13 X W c g -∗ run c (k (A1 X W (par g 1 c) g (crd g 1 c))) Q)
      -∗ run c (.op (.load m (Rect.unit (s := S256x128) o S256x128.size h).toLoadRect hl) k) Q) := by
  unfold G13
  iintro ⟨t0, t1, t2, t3, t4, t5, t6, k1, p0, q0, b1, w2, u0, u1, v⟩
  iintro Hk
  iapply (load_full c (Q := Q) hm ho) $$ b1
  iintro b1
  iapply Hk
  isplitl [t0]
  · iexact t0
  isplitl [t1]
  · iexact t1
  isplitl [t2]
  · iexact t2
  isplitl [t3]
  · iexact t3
  isplitl [t4]
  · iexact t4
  isplitl [t5]
  · iexact t5
  isplitl [t6]
  · iexact t6
  isplitl [k1]
  · iexact k1
  isplitl [p0]
  · iexact p0
  isplitl [q0]
  · iexact q0
  isplitl [b1]
  · iexact b1
  isplitl [w2]
  · iexact w2
  isplitl [u0]
  · iexact u0
  isplitl [u1]
  · iexact u1
  iexact v

/-- The quarter is the sum of four. -/
theorem ev_st13 {m : Memref sig .tc .vmem S1024x128 .bf16} (hm : m = accM g) {o : Fin 2 → ℕ} (ho : o = qOff (crd g 0 c) (crd g 1 c)) {h} {hx} {hmk} {α : Type} {Q : α → sProp 𝕄}
    {w : (Rect.unit (s := S1024x128) o S256x128.size h).shape.Idx → Elt F .bf16} (hw : w = A2 X W c g)
    {k : PUnit → Prog (TpuEff nD τ sig (Elt F) Λ₀ .tc) α} :
    G13 X W c g ⊢ iprop((G14 X W c g -∗ run c (k ⟨⟩) Q)
      -∗ run c (.op (.store m (Rect.unit (s := S1024x128) o S256x128.size h) w Finset.univ hx hmk) k) Q) := by
  unfold G13 G14
  iintro ⟨t0, t1, t2, t3, t4, t5, t6, k1, p0, q0, b1, w2, u0, u1, v⟩
  iintro Hk
  iapply (store_part c (Q := Q) hm ho hw) $$ k1
  iintro k1
  iapply Hk
  isplitl [t0]
  · iexact t0
  isplitl [t1]
  · iexact t1
  isplitl [t2]
  · iexact t2
  isplitl [t3]
  · iexact t3
  isplitl [t4]
  · iexact t4
  isplitl [t5]
  · iexact t5
  isplitl [t6]
  · iexact t6
  isplitl [k1]
  · iexact k1
  isplitl [p0]
  · iexact p0
  isplitl [q0]
  · iexact q0
  isplitl [b1]
  · iexact b1
  isplitl [w2]
  · iexact w2
  isplitl [u0]
  · iexact u0
  isplitl [u1]
  · iexact u1
  iexact v

/-- The fourth copy is started. -/
theorem ev_s3 (l : List Cp) {src dm : Memref sig .tc .vmem S256x128 .bf16} (hs : src = accQ g (crd g 0 c) (crd g 1 c)) (hd : dm = r2M g)
    {dv : Dev nD} (hdv : dv = par g 2 c) {sS sR : DmaSem sig} (hS : sS = sendS (g, 3)) (hR : sR = recvS (g, 3))
    {hsc} {hsrc hdst} {hsem} {α : Type} {Q : α → sProp 𝕄} {k : PUnit → Prog (TpuEff nD τ sig (Elt F) Λ₀ .tc) α} :
    iprop(recs X W K ∗ G14 X W c g ∗ owing c ((g, 3) :: l))
      ⊢ iprop(((G15 X W c g ∗ owing c l) -∗ run c (k ⟨⟩) Q)
        -∗ run c (.op (.enqueueDma src (.remote (Dev.tc dv : Thread nD τ) dm (.dma sS) hsc) (.dma sR) hsrc hdst hsem) k) Q) := by
  have h₂ : (owns (par g 2 c : Thread nD τ) (r2M g) fullShare (A2 X W c g) : sProp 𝕄) ⊢ recvPay X W (par g 2 c) (g, 3) := by
    rw [recvPay_3]
    simp only [par_par, crd_par_self, crd10, crd01, crd02, crd12, fl_fl]
    exact .rfl
  unfold G14 G15
  iintro ⟨#Hr, ⟨t0, t1, t2, t3, t4, t5, t6, k1, p0, q0, b1, w2, u0, u1, v⟩, HO⟩
  iintro Hk
  irename k1 => SRC
  icases w2 with ⟨%Vd, w2⟩
  iapply (send_back X W K c (g, 3) l hs hd hdv rfl hS hR (credit_r2 _)
    (q := fullShare) (V := A2 X W c g) (Entails.of_eq (sendPay_3 X W c g).symm) h₂ (Q := Q)) $$ [SRC w2 HO t3]
  · isplitr; · iexact Hr
    isplitl [SRC]; · iexact SRC
    isplitl [w2]; · iexact w2
    isplitl [HO]; · iexact HO
    iexact t3
  iintro ⟨t3, HO⟩
  iapply Hk
  isplitr [HO]; rotate_left; · iexact HO
  isplitl [t0]
  · iexact t0
  isplitl [t1]
  · iexact t1
  isplitl [t2]
  · iexact t2
  isplitl [t3]
  · iexact t3
  isplitl [t4]
  · iexact t4
  isplitl [t5]
  · iexact t5
  isplitl [t6]
  · iexact t6
  isplitl [p0]
  · iexact p0
  isplitl [q0]
  · iexact q0
  isplitl [b1]
  · iexact b1
  isplitl [u0]
  · iexact u0
  isplitl [u1]
  · iexact u1
  iexact v

/-- The fourth copy has left. -/
theorem ev_ws3 (l : List Cp) (hl : ∀ k ∈ l, 2 + stage 3 < 2 + stage k.2)
    {sp sp' : Space} {s s' : Shape} {e e' : EltTy} {m₁ : Memref sig (c : Thread nD τ).2.kind sp s e} {m₂ : Memref sig .tc sp' s' e'} {sm : DmaSem sig}
    (hS : sm = sendS (g, 3)) (hN : m₂.view.dmaCredit = N) {h1 h2} {α : Type} {Q : α → sProp 𝕄} {k : PUnit → Prog (TpuEff nD τ sig (Elt F) Λ₀ .tc) α} :
    iprop(recs X W K ∗ G15 X W c g ∗ owing c l)
      ⊢ iprop(((G16 X W c g ∗ owing c l) -∗ run c (k ⟨⟩) Q) -∗ run c (.op (.waitDma2 sm m₁ m₂ h1 h2) k) Q) := by
  unfold G15 G16
  iintro ⟨#Hr, ⟨t0, t1, t2, t3, t4, t5, t6, p0, q0, b1, u0, u1, v⟩, HO⟩
  iintro Hk
  iapply (wait_send X W K c (g, 3) l hl hS hN (Q := Q)) $$ [t3 HO]
  · isplitr; · iexact Hr
    isplitl [HO]; · iexact HO
    iexact t3
  iintro ⟨t3, P, HO⟩
  ihave P := (Entails.of_eq (sendPay_3 X W c g)) $$ P
  irename P => k1
  iapply Hk
  isplitr [HO]; rotate_left; · iexact HO
  isplitl [t0]
  · iexact t0
  isplitl [t1]
  · iexact t1
  isplitl [t2]
  · iexact t2
  isplitl [t3]
  · iexact t3
  isplitl [t4]
  · iexact t4
  isplitl [t5]
  · iexact t5
  isplitl [t6]
  · iexact t6
  isplitl [k1]
  · iexact k1
  isplitl [p0]
  · iexact p0
  isplitl [q0]
  · iexact q0
  isplitl [b1]
  · iexact b1
  isplitl [u0]
  · iexact u0
  isplitl [u1]
  · iexact u1
  iexact v

/-- The partner's fourth copy has arrived. -/
theorem ev_wr3 (l : List Cp) (hl : ∀ k ∈ l, 2 + stage 3 < 2 + stage k.2)
    {sp sp' : Space} {s s' : Shape} {e e' : EltTy} {m₁ : Memref sig (c : Thread nD τ).2.kind sp s e} {m₂ : Memref sig .tc sp' s' e'} {sm : DmaSem sig}
    (hS : sm = recvS (g, 3)) (hN : m₂.view.dmaCredit = N) {h1 h2} {α : Type} {Q : α → sProp 𝕄} {k : PUnit → Prog (TpuEff nD τ sig (Elt F) Λ₀ .tc) α} :
    iprop(recs X W K ∗ G16 X W c g ∗ owing c l)
      ⊢ iprop(((G17 X W c g ∗ owing c l) -∗ run c (k ⟨⟩) Q) -∗ run c (.op (.waitDma2 sm m₁ m₂ h1 h2) k) Q) := by
  unfold G16 G17
  iintro ⟨#Hr, ⟨t0, t1, t2, t3, t4, t5, t6, k1, p0, q0, b1, u0, u1, v⟩, HO⟩
  iintro Hk
  iapply (wait_recv X W K c (g, 3) l hl hS hN (Q := Q)) $$ [t3 HO]
  · isplitr; · iexact Hr
    isplitl [HO]; · iexact HO
    iexact t3
  iintro ⟨t3, P, HO⟩
  ihave P := (Entails.of_eq (recvPay_3 X W c g)) $$ P
  irename P => b2
  iapply Hk
  isplitr [HO]; rotate_left; · iexact HO
  isplitl [t0]
  · iexact t0
  isplitl [t1]
  · iexact t1
  isplitl [t2]
  · iexact t2
  isplitl [t3]
  · iexact t3
  isplitl [t4]
  · iexact t4
  isplitl [t5]
  · iexact t5
  isplitl [t6]
  · iexact t6
  isplitl [k1]
  · iexact k1
  isplitl [p0]
  · iexact p0
  isplitl [q0]
  · iexact q0
  isplitl [b1]
  · iexact b1
  isplitl [b2]
  · iexact b2
  isplitl [u0]
  · iexact u0
  isplitl [u1]
  · iexact u1
  iexact v

/-- Reading the quarter to be summed. -/
theorem ev_ld17a {m : Memref sig .tc .vmem S1024x128 .bf16} (hm : m = accM g) {o : Fin 2 → ℕ} (ho : o = qOff (crd g 0 c) (crd g 1 c)) {h} {hl} {α : Type} {Q : α → sProp 𝕄}
    {k : ((Rect.unit (s := S1024x128) o S256x128.size h).shape.Idx → Elt F .bf16) → Prog (TpuEff nD τ sig (Elt F) Λ₀ .tc) α} :
    G17 X W c g ⊢ iprop((G17 X W c g -∗ run c (k (A2 X W c g)) Q)
      -∗ run c (.op (.load m (Rect.unit (s := S1024x128) o S256x128.size h).toLoadRect hl) k) Q) := by
  unfold G17
  iintro ⟨t0, t1, t2, t3, t4, t5, t6, k1, p0, q0, b1, b2, u0, u1, v⟩
  iintro Hk
  iapply (load_part c (Q := Q) hm ho) $$ k1
  iintro k1
  iapply Hk
  isplitl [t0]
  · iexact t0
  isplitl [t1]
  · iexact t1
  isplitl [t2]
  · iexact t2
  isplitl [t3]
  · iexact t3
  isplitl [t4]
  · iexact t4
  isplitl [t5]
  · iexact t5
  isplitl [t6]
  · iexact t6
  isplitl [k1]
  · iexact k1
  isplitl [p0]
  · iexact p0
  isplitl [q0]
  · iexact q0
  isplitl [b1]
  · iexact b1
  isplitl [b2]
  · iexact b2
  isplitl [u0]
  · iexact u0
  isplitl [u1]
  · iexact u1
  iexact v

/-- Reading what has arrived. -/
theorem ev_ld17b {m : Memref sig .tc .vmem S256x128 .bf16} (hm : m = r2M g) {o : Fin 2 → ℕ} (ho : ∀ a, o a = 0) {h} {hl} {α : Type} {Q : α → sProp 𝕄}
    {k : ((Rect.unit (s := S256x128) o S256x128.size h).shape.Idx → Elt F .bf16) → Prog (TpuEff nD τ sig (Elt F) Λ₀ .tc) α} :
    G17 X W c g ⊢ iprop((G17 X W c g -∗ run c (k (A2 X W (par g 2 c) g)) Q)
      -∗ run c (.op (.load m (Rect.unit (s := S256x128) o S256x128.size h).toLoadRect hl) k) Q) := by
  unfold G17
  iintro ⟨t0, t1, t2, t3, t4, t5, t6, k1, p0, q0, b1, b2, u0, u1, v⟩
  iintro Hk
  iapply (load_full c (Q := Q) hm ho) $$ b2
  iintro b2
  iapply Hk
  isplitl [t0]
  · iexact t0
  isplitl [t1]
  · iexact t1
  isplitl [t2]
  · iexact t2
  isplitl [t3]
  · iexact t3
  isplitl [t4]
  · iexact t4
  isplitl [t5]
  · iexact t5
  isplitl [t6]
  · iexact t6
  isplitl [k1]
  · iexact k1
  isplitl [p0]
  · iexact p0
  isplitl [q0]
  · iexact q0
  isplitl [b1]
  · iexact b1
  isplitl [b2]
  · iexact b2
  isplitl [u0]
  · iexact u0
  isplitl [u1]
  · iexact u1
  iexact v

/-- The quarter is done. -/
theorem ev_st17 {m : Memref sig .tc .vmem S1024x128 .bf16} (hm : m = accM g) {o : Fin 2 → ℕ} (ho : o = qOff (crd g 0 c) (crd g 1 c)) {h} {hx} {hmk} {α : Type} {Q : α → sProp 𝕄}
    {w : (Rect.unit (s := S1024x128) o S256x128.size h).shape.Idx → Elt F .bf16} (hw : w = A3 X W c g)
    {k : PUnit → Prog (TpuEff nD τ sig (Elt F) Λ₀ .tc) α} :
    G17 X W c g ⊢ iprop((G18 X W c g -∗ run c (k ⟨⟩) Q)
      -∗ run c (.op (.store m (Rect.unit (s := S1024x128) o S256x128.size h) w Finset.univ hx hmk) k) Q) := by
  unfold G17 G18
  iintro ⟨t0, t1, t2, t3, t4, t5, t6, k1, p0, q0, b1, b2, u0, u1, v⟩
  iintro Hk
  iapply (store_part c (Q := Q) hm ho hw) $$ k1
  iintro k1
  iapply Hk
  isplitl [t0]
  · iexact t0
  isplitl [t1]
  · iexact t1
  isplitl [t2]
  · iexact t2
  isplitl [t3]
  · iexact t3
  isplitl [t4]
  · iexact t4
  isplitl [t5]
  · iexact t5
  isplitl [t6]
  · iexact t6
  isplitl [k1]
  · iexact k1
  isplitl [p0]
  · iexact p0
  isplitl [q0]
  · iexact q0
  isplitl [b1]
  · iexact b1
  isplitl [b2]
  · iexact b2
  isplitl [u0]
  · iexact u0
  isplitl [u1]
  · iexact u1
  iexact v

/-- The fifth copy is started. -/
theorem ev_s4 (l : List Cp) {src dm : Memref sig .tc .vmem S256x128 .bf16} (hs : src = accQ g (crd g 0 c) (crd g 1 c)) (hd : dm = accQ g (crd g 0 c) (crd g 1 c))
    {dv : Dev nD} (hdv : dv = par g 1 c) {sS sR : DmaSem sig} (hS : sS = sendS (g, 4)) (hR : sR = recvS (g, 4))
    {hsc} {hsrc hdst} {hsem} {α : Type} {Q : α → sProp 𝕄} {k : PUnit → Prog (TpuEff nD τ sig (Elt F) Λ₀ .tc) α} :
    iprop(recs X W K ∗ G18 X W c g ∗ owing c ((g, 4) :: l))
      ⊢ iprop(((G19 X W c g ∗ owing c l) -∗ run c (k ⟨⟩) Q)
        -∗ run c (.op (.enqueueDma src (.remote (Dev.tc dv : Thread nD τ) dm (.dma sS) hsc) (.dma sR) hsrc hdst hsem) k) Q) := by
  have h₂ : (owns (par g 1 c : Thread nD τ) (accQ g (crd g 0 c) (crd g 1 c)) fullShare (A3 X W c g) : sProp 𝕄) ⊢ recvPay X W (par g 1 c) (g, 4) := by
    rw [recvPay_4]
    simp only [par_par, crd_par_self, crd10, crd01, crd02, crd12, fl_fl]
    exact .rfl
  unfold G18 G19
  iintro ⟨#Hr, ⟨t0, t1, t2, t3, t4, t5, t6, k1, p0, q0, b1, b2, u0, u1, v⟩, HO⟩
  iintro Hk
  ihave HH := (owns_halves (c : Thread nD τ) (accQ g (crd g 0 c) (crd g 1 c)) fullShare (A3 X W c g)).1 $$ k1
  icases HH with ⟨SRC, k1⟩
  unfold anyQ
  icases v with ⟨%Vd, v⟩
  iapply (send_back X W K c (g, 4) l hs hd hdv rfl hS hR (credit_acc _ _ _)
    (q := fullShare.left) (V := A3 X W c g) (Entails.of_eq (sendPay_4 X W c g).symm) h₂ (Q := Q)) $$ [SRC v HO t4]
  · isplitr; · iexact Hr
    isplitl [SRC]; · iexact SRC
    isplitl [v]; · iexact v
    isplitl [HO]; · iexact HO
    iexact t4
  iintro ⟨t4, HO⟩
  iapply Hk
  isplitr [HO]; rotate_left; · iexact HO
  isplitl [t0]
  · iexact t0
  isplitl [t1]
  · iexact t1
  isplitl [t2]
  · iexact t2
  isplitl [t3]
  · iexact t3
  isplitl [t4]
  · iexact t4
  isplitl [t5]
  · iexact t5
  isplitl [t6]
  · iexact t6
  isplitl [k1]
  · iexact k1
  isplitl [p0]
  · iexact p0
  isplitl [q0]
  · iexact q0
  isplitl [b1]
  · iexact b1
  isplitl [b2]
  · iexact b2
  isplitl [u0]
  · iexact u0
  iexact u1

/-- The sixth copy is started. -/
theorem ev_s5 (l : List Cp) {src dm : Memref sig .tc .vmem S256x128 .bf16} (hs : src = accQ g (crd g 0 c) (crd g 1 c)) (hd : dm = accQ g (crd g 0 c) (crd g 1 c))
    {dv : Dev nD} (hdv : dv = par g 0 c) {sS sR : DmaSem sig} (hS : sS = sendS (g, 5)) (hR : sR = recvS (g, 5))
    {hsc} {hsrc hdst} {hsem} {α : Type} {Q : α → sProp 𝕄} {k : PUnit → Prog (TpuEff nD τ sig (Elt F) Λ₀ .tc) α} :
    iprop(recs X W K ∗ G19 X W c g ∗ owing c ((g, 5) :: l))
      ⊢ iprop(((G20 X W c g ∗ owing c l) -∗ run c (k ⟨⟩) Q)
        -∗ run c (.op (.enqueueDma src (.remote (Dev.tc dv : Thread nD τ) dm (.dma sS) hsc) (.dma sR) hsrc hdst hsem) k) Q) := by
  have h₂ : (owns (par g 0 c : Thread nD τ) (accQ g (crd g 0 c) (crd g 1 c)) fullShare (A3 X W c g) : sProp 𝕄) ⊢ recvPay X W (par g 0 c) (g, 5) := by
    rw [recvPay_5]
    simp only [par_par, crd_par_self, crd10, crd01, crd02, crd12, fl_fl]
    exact .rfl
  unfold G19 G20
  iintro ⟨#Hr, ⟨t0, t1, t2, t3, t4, t5, t6, k1, p0, q0, b1, b2, u0, u1⟩, HO⟩
  iintro Hk
  ihave HH := (owns_halves (c : Thread nD τ) (accQ g (crd g 0 c) (crd g 1 c)) fullShare.right (A3 X W c g)).1 $$ k1
  icases HH with ⟨SRC, k1⟩
  unfold anyQ
  icases u0 with ⟨%Vd, u0⟩
  iapply (send_back X W K c (g, 5) l hs hd hdv rfl hS hR (credit_acc _ _ _)
    (q := fullShare.right.left) (V := A3 X W c g) (Entails.of_eq (sendPay_5 X W c g).symm) h₂ (Q := Q)) $$ [SRC u0 HO t5]
  · isplitr; · iexact Hr
    isplitl [SRC]; · iexact SRC
    isplitl [u0]; · iexact u0
    isplitl [HO]; · iexact HO
    iexact t5
  iintro ⟨t5, HO⟩
  iapply Hk
  isplitr [HO]; rotate_left; · iexact HO
  isplitl [t0]
  · iexact t0
  isplitl [t1]
  · iexact t1
  isplitl [t2]
  · iexact t2
  isplitl [t3]
  · iexact t3
  isplitl [t4]
  · iexact t4
  isplitl [t5]
  · iexact t5
  isplitl [t6]
  · iexact t6
  isplitl [k1]
  · iexact k1
  isplitl [p0]
  · iexact p0
  isplitl [q0]
  · iexact q0
  isplitl [b1]
  · iexact b1
  isplitl [b2]
  · iexact b2
  iexact u1

/-- Reading the quarter that is done. -/
theorem ev_ld20 {m : Memref sig .tc .vmem S1024x128 .bf16} (hm : m = accM g) {o : Fin 2 → ℕ} (ho : o = qOff (crd g 0 c) (crd g 1 c)) {h} {hl} {α : Type} {Q : α → sProp 𝕄}
    {k : ((Rect.unit (s := S1024x128) o S256x128.size h).shape.Idx → Elt F .bf16) → Prog (TpuEff nD τ sig (Elt F) Λ₀ .tc) α} :
    G20 X W c g ⊢ iprop((G20 X W c g -∗ run c (k (A3 X W c g)) Q)
      -∗ run c (.op (.load m (Rect.unit (s := S1024x128) o S256x128.size h).toLoadRect hl) k) Q) := by
  unfold G20
  iintro ⟨t0, t1, t2, t3, t4, t5, t6, k1, p0, q0, b1, b2, u1⟩
  iintro Hk
  iapply (load_part c (Q := Q) hm ho) $$ k1
  iintro k1
  iapply Hk
  isplitl [t0]
  · iexact t0
  isplitl [t1]
  · iexact t1
  isplitl [t2]
  · iexact t2
  isplitl [t3]
  · iexact t3
  isplitl [t4]
  · iexact t4
  isplitl [t5]
  · iexact t5
  isplitl [t6]
  · iexact t6
  isplitl [k1]
  · iexact k1
  isplitl [p0]
  · iexact p0
  isplitl [q0]
  · iexact q0
  isplitl [b1]
  · iexact b1
  isplitl [b2]
  · iexact b2
  iexact u1

/-- The fifth copy has left. -/
theorem ev_ws4 (l : List Cp) (hl : ∀ k ∈ l, 2 + stage 4 < 2 + stage k.2)
    {sp sp' : Space} {s s' : Shape} {e e' : EltTy} {m₁ : Memref sig (c : Thread nD τ).2.kind sp s e} {m₂ : Memref sig .tc sp' s' e'} {sm : DmaSem sig}
    (hS : sm = sendS (g, 4)) (hN : m₂.view.dmaCredit = N) {h1 h2} {α : Type} {Q : α → sProp 𝕄} {k : PUnit → Prog (TpuEff nD τ sig (Elt F) Λ₀ .tc) α} :
    iprop(recs X W K ∗ G20 X W c g ∗ owing c l)
      ⊢ iprop(((G21 X W c g ∗ owing c l) -∗ run c (k ⟨⟩) Q) -∗ run c (.op (.waitDma2 sm m₁ m₂ h1 h2) k) Q) := by
  unfold G20 G21
  iintro ⟨#Hr, ⟨t0, t1, t2, t3, t4, t5, t6, k1, p0, q0, b1, b2, u1⟩, HO⟩
  iintro Hk
  iapply (wait_send X W K c (g, 4) l hl hS hN (Q := Q)) $$ [t4 HO]
  · isplitr; · iexact Hr
    isplitl [HO]; · iexact HO
    iexact t4
  iintro ⟨t4, P, HO⟩
  ihave P := (Entails.of_eq (sendPay_4 X W c g)) $$ P
  irename P => k1r
  iapply Hk
  isplitr [HO]; rotate_left; · iexact HO
  isplitl [t0]
  · iexact t0
  isplitl [t1]
  · iexact t1
  isplitl [t2]
  · iexact t2
  isplitl [t3]
  · iexact t3
  isplitl [t4]
  · iexact t4
  isplitl [t5]
  · iexact t5
  isplitl [t6]
  · iexact t6
  isplitl [k1]
  · iexact k1
  isplitl [k1r]
  · iexact k1r
  isplitl [p0]
  · iexact p0
  isplitl [q0]
  · iexact q0
  isplitl [b1]
  · iexact b1
  isplitl [b2]
  · iexact b2
  iexact u1

/-- The partner's fifth copy has arrived. -/
theorem ev_wr4 (l : List Cp) (hl : ∀ k ∈ l, 2 + stage 4 < 2 + stage k.2)
    {sp sp' : Space} {s s' : Shape} {e e' : EltTy} {m₁ : Memref sig (c : Thread nD τ).2.kind sp s e} {m₂ : Memref sig .tc sp' s' e'} {sm : DmaSem sig}
    (hS : sm = recvS (g, 4)) (hN : m₂.view.dmaCredit = N) {h1 h2} {α : Type} {Q : α → sProp 𝕄} {k : PUnit → Prog (TpuEff nD τ sig (Elt F) Λ₀ .tc) α} :
    iprop(recs X W K ∗ G21 X W c g ∗ owing c l)
      ⊢ iprop(((G22 X W c g ∗ owing c l) -∗ run c (k ⟨⟩) Q) -∗ run c (.op (.waitDma2 sm m₁ m₂ h1 h2) k) Q) := by
  unfold G21 G22
  iintro ⟨#Hr, ⟨t0, t1, t2, t3, t4, t5, t6, k1, k1r, p0, q0, b1, b2, u1⟩, HO⟩
  iintro Hk
  iapply (wait_recv X W K c (g, 4) l hl hS hN (Q := Q)) $$ [t4 HO]
  · isplitr; · iexact Hr
    isplitl [HO]; · iexact HO
    iexact t4
  iintro ⟨t4, P, HO⟩
  ihave P := (Entails.of_eq (recvPay_4 X W c g)) $$ P
  irename P => s1
  iapply Hk
  isplitr [HO]; rotate_left; · iexact HO
  isplitl [t0]
  · iexact t0
  isplitl [t1]
  · iexact t1
  isplitl [t2]
  · iexact t2
  isplitl [t3]
  · iexact t3
  isplitl [t4]
  · iexact t4
  isplitl [t5]
  · iexact t5
  isplitl [t6]
  · iexact t6
  isplitl [k1]
  · iexact k1
  isplitl [k1r]
  · iexact k1r
  isplitl [s1]
  · iexact s1
  isplitl [p0]
  · iexact p0
  isplitl [q0]
  · iexact q0
  isplitl [b1]
  · iexact b1
  isplitl [b2]
  · iexact b2
  iexact u1

/-- The seventh copy is started. -/
theorem ev_s6 (l : List Cp) {src dm : Memref sig .tc .vmem S256x128 .bf16} (hs : src = accQ g (crd g 0 c) (fl (crd g 1 c))) (hd : dm = accQ g (crd g 0 c) (fl (crd g 1 c)))
    {dv : Dev nD} (hdv : dv = par g 0 c) {sS sR : DmaSem sig} (hS : sS = sendS (g, 6)) (hR : sR = recvS (g, 6))
    {hsc} {hsrc hdst} {hsem} {α : Type} {Q : α → sProp 𝕄} {k : PUnit → Prog (TpuEff nD τ sig (Elt F) Λ₀ .tc) α} :
    iprop(recs X W K ∗ G22 X W c g ∗ owing c ((g, 6) :: l))
      ⊢ iprop(((G23 X W c g ∗ owing c l) -∗ run c (k ⟨⟩) Q)
        -∗ run c (.op (.enqueueDma src (.remote (Dev.tc dv : Thread nD τ) dm (.dma sS) hsc) (.dma sR) hsrc hdst hsem) k) Q) := by
  have h₂ : (owns (par g 0 c : Thread nD τ) (accQ g (crd g 0 c) (fl (crd g 1 c))) fullShare (A3 X W (par g 1 c) g) : sProp 𝕄) ⊢ recvPay X W (par g 0 c) (g, 6) := by
    rw [recvPay_6]
    simp only [par_par, crd_par_self, crd10, crd01, crd02, crd12, fl_fl]
    exact .rfl
  unfold G22 G23
  iintro ⟨#Hr, ⟨t0, t1, t2, t3, t4, t5, t6, k1, k1r, s1, p0, q0, b1, b2, u1⟩, HO⟩
  iintro Hk
  ihave HH := (owns_halves (c : Thread nD τ) (accQ g (crd g 0 c) (fl (crd g 1 c))) fullShare (A3 X W (par g 1 c) g)).1 $$ s1
  icases HH with ⟨SRC, s1⟩
  unfold anyQ
  icases u1 with ⟨%Vd, u1⟩
  iapply (send_back X W K c (g, 6) l hs hd hdv rfl hS hR (credit_acc _ _ _)
    (q := fullShare.left) (V := A3 X W (par g 1 c) g) (Entails.of_eq (sendPay_6 X W c g).symm) h₂ (Q := Q)) $$ [SRC u1 HO t6]
  · isplitr; · iexact Hr
    isplitl [SRC]; · iexact SRC
    isplitl [u1]; · iexact u1
    isplitl [HO]; · iexact HO
    iexact t6
  iintro ⟨t6, HO⟩
  iapply Hk
  isplitr [HO]; rotate_left; · iexact HO
  isplitl [t0]
  · iexact t0
  isplitl [t1]
  · iexact t1
  isplitl [t2]
  · iexact t2
  isplitl [t3]
  · iexact t3
  isplitl [t4]
  · iexact t4
  isplitl [t5]
  · iexact t5
  isplitl [t6]
  · iexact t6
  isplitl [k1]
  · iexact k1
  isplitl [k1r]
  · iexact k1r
  isplitl [s1]
  · iexact s1
  isplitl [p0]
  · iexact p0
  isplitl [q0]
  · iexact q0
  isplitl [b1]
  · iexact b1
  iexact b2

/-- Reading the quarter that came with the fifth copy. -/
theorem ev_ld23 {m : Memref sig .tc .vmem S1024x128 .bf16} (hm : m = accM g) {o : Fin 2 → ℕ} (ho : o = qOff (crd g 0 c) (fl (crd g 1 c))) {h} {hl} {α : Type} {Q : α → sProp 𝕄}
    {k : ((Rect.unit (s := S1024x128) o S256x128.size h).shape.Idx → Elt F .bf16) → Prog (TpuEff nD τ sig (Elt F) Λ₀ .tc) α} :
    G23 X W c g ⊢ iprop((G23 X W c g -∗ run c (k (A3 X W (par g 1 c) g)) Q)
      -∗ run c (.op (.load m (Rect.unit (s := S1024x128) o S256x128.size h).toLoadRect hl) k) Q) := by
  unfold G23
  iintro ⟨t0, t1, t2, t3, t4, t5, t6, k1, k1r, s1, p0, q0, b1, b2⟩
  iintro Hk
  iapply (load_part c (Q := Q) hm ho) $$ s1
  iintro s1
  iapply Hk
  isplitl [t0]
  · iexact t0
  isplitl [t1]
  · iexact t1
  isplitl [t2]
  · iexact t2
  isplitl [t3]
  · iexact t3
  isplitl [t4]
  · iexact t4
  isplitl [t5]
  · iexact t5
  isplitl [t6]
  · iexact t6
  isplitl [k1]
  · iexact k1
  isplitl [k1r]
  · iexact k1r
  isplitl [s1]
  · iexact s1
  isplitl [p0]
  · iexact p0
  isplitl [q0]
  · iexact q0
  isplitl [b1]
  · iexact b1
  iexact b2

/-- The sixth copy has left. -/
theorem ev_ws5 (l : List Cp) (hl : ∀ k ∈ l, 2 + stage 5 < 2 + stage k.2)
    {sp sp' : Space} {s s' : Shape} {e e' : EltTy} {m₁ : Memref sig (c : Thread nD τ).2.kind sp s e} {m₂ : Memref sig .tc sp' s' e'} {sm : DmaSem sig}
    (hS : sm = sendS (g, 5)) (hN : m₂.view.dmaCredit = N) {h1 h2} {α : Type} {Q : α → sProp 𝕄} {k : PUnit → Prog (TpuEff nD τ sig (Elt F) Λ₀ .tc) α} :
    iprop(recs X W K ∗ G23 X W c g ∗ owing c l)
      ⊢ iprop(((G24 X W c g ∗ owing c l) -∗ run c (k ⟨⟩) Q) -∗ run c (.op (.waitDma2 sm m₁ m₂ h1 h2) k) Q) := by
  unfold G23 G24
  iintro ⟨#Hr, ⟨t0, t1, t2, t3, t4, t5, t6, k1, k1r, s1, p0, q0, b1, b2⟩, HO⟩
  iintro Hk
  iapply (wait_send X W K c (g, 5) l hl hS hN (Q := Q)) $$ [t5 HO]
  · isplitr; · iexact Hr
    isplitl [HO]; · iexact HO
    iexact t5
  iintro ⟨t5, P, HO⟩
  ihave P := (Entails.of_eq (sendPay_5 X W c g)) $$ P
  ihave k1 := (owns_halves (c : Thread nD τ) (accQ g (crd g 0 c) (crd g 1 c)) fullShare.right (A3 X W c g)).2 $$ [P k1]
  · isplitl [P]
    · iexact P
    · iexact k1
  ihave k1 := (owns_halves (c : Thread nD τ) (accQ g (crd g 0 c) (crd g 1 c)) fullShare (A3 X W c g)).2 $$ [k1r k1]
  · isplitl [k1r]
    · iexact k1r
    · iexact k1
  iapply Hk
  isplitr [HO]; rotate_left; · iexact HO
  isplitl [t0]
  · iexact t0
  isplitl [t1]
  · iexact t1
  isplitl [t2]
  · iexact t2
  isplitl [t3]
  · iexact t3
  isplitl [t4]
  · iexact t4
  isplitl [t5]
  · iexact t5
  isplitl [t6]
  · iexact t6
  isplitl [k1]
  · iexact k1
  isplitl [s1]
  · iexact s1
  isplitl [p0]
  · iexact p0
  isplitl [q0]
  · iexact q0
  isplitl [b1]
  · iexact b1
  iexact b2

/-- The partner's sixth copy has arrived. -/
theorem ev_wr5 (l : List Cp) (hl : ∀ k ∈ l, 2 + stage 5 < 2 + stage k.2)
    {sp sp' : Space} {s s' : Shape} {e e' : EltTy} {m₁ : Memref sig (c : Thread nD τ).2.kind sp s e} {m₂ : Memref sig .tc sp' s' e'} {sm : DmaSem sig}
    (hS : sm = recvS (g, 5)) (hN : m₂.view.dmaCredit = N) {h1 h2} {α : Type} {Q : α → sProp 𝕄} {k : PUnit → Prog (TpuEff nD τ sig (Elt F) Λ₀ .tc) α} :
    iprop(recs X W K ∗ G24 X W c g ∗ owing c l)
      ⊢ iprop(((G25 X W c g ∗ owing c l) -∗ run c (k ⟨⟩) Q) -∗ run c (.op (.waitDma2 sm m₁ m₂ h1 h2) k) Q) := by
  unfold G24 G25
  iintro ⟨#Hr, ⟨t0, t1, t2, t3, t4, t5, t6, k1, s1, p0, q0, b1, b2⟩, HO⟩
  iintro Hk
  iapply (wait_recv X W K c (g, 5) l hl hS hN (Q := Q)) $$ [t5 HO]
  · isplitr; · iexact Hr
    isplitl [HO]; · iexact HO
    iexact t5
  iintro ⟨t5, P, HO⟩
  ihave P := (Entails.of_eq (recvPay_5 X W c g)) $$ P
  irename P => d0
  iapply Hk
  isplitr [HO]; rotate_left; · iexact HO
  isplitl [t0]
  · iexact t0
  isplitl [t1]
  · iexact t1
  isplitl [t2]
  · iexact t2
  isplitl [t3]
  · iexact t3
  isplitl [t4]
  · iexact t4
  isplitl [t5]
  · iexact t5
  isplitl [t6]
  · iexact t6
  isplitl [k1]
  · iexact k1
  isplitl [s1]
  · iexact s1
  isplitl [d0]
  · iexact d0
  isplitl [p0]
  · iexact p0
  isplitl [q0]
  · iexact q0
  isplitl [b1]
  · iexact b1
  iexact b2

/-- Reading the quarter that came with the sixth copy. -/
theorem ev_ld25 {m : Memref sig .tc .vmem S1024x128 .bf16} (hm : m = accM g) {o : Fin 2 → ℕ} (ho : o = qOff (fl (crd g 0 c)) (crd g 1 c)) {h} {hl} {α : Type} {Q : α → sProp 𝕄}
    {k : ((Rect.unit (s := S1024x128) o S256x128.size h).shape.Idx → Elt F .bf16) → Prog (TpuEff nD τ sig (Elt F) Λ₀ .tc) α} :
    G25 X W c g ⊢ iprop((G25 X W c g -∗ run c (k (A3 X W (par g 0 c) g)) Q)
      -∗ run c (.op (.load m (Rect.unit (s := S1024x128) o S256x128.size h).toLoadRect hl) k) Q) := by
  unfold G25
  iintro ⟨t0, t1, t2, t3, t4, t5, t6, k1, s1, d0, p0, q0, b1, b2⟩
  iintro Hk
  iapply (load_part c (Q := Q) hm ho) $$ d0
  iintro d0
  iapply Hk
  isplitl [t0]
  · iexact t0
  isplitl [t1]
  · iexact t1
  isplitl [t2]
  · iexact t2
  isplitl [t3]
  · iexact t3
  isplitl [t4]
  · iexact t4
  isplitl [t5]
  · iexact t5
  isplitl [t6]
  · iexact t6
  isplitl [k1]
  · iexact k1
  isplitl [s1]
  · iexact s1
  isplitl [d0]
  · iexact d0
  isplitl [p0]
  · iexact p0
  isplitl [q0]
  · iexact q0
  isplitl [b1]
  · iexact b1
  iexact b2

/-- The seventh copy has left. -/
theorem ev_ws6 (l : List Cp) (hl : ∀ k ∈ l, 2 + stage 6 < 2 + stage k.2)
    {sp sp' : Space} {s s' : Shape} {e e' : EltTy} {m₁ : Memref sig (c : Thread nD τ).2.kind sp s e} {m₂ : Memref sig .tc sp' s' e'} {sm : DmaSem sig}
    (hS : sm = sendS (g, 6)) (hN : m₂.view.dmaCredit = N) {h1 h2} {α : Type} {Q : α → sProp 𝕄} {k : PUnit → Prog (TpuEff nD τ sig (Elt F) Λ₀ .tc) α} :
    iprop(recs X W K ∗ G25 X W c g ∗ owing c l)
      ⊢ iprop(((G26 X W c g ∗ owing c l) -∗ run c (k ⟨⟩) Q) -∗ run c (.op (.waitDma2 sm m₁ m₂ h1 h2) k) Q) := by
  unfold G25 G26
  iintro ⟨#Hr, ⟨t0, t1, t2, t3, t4, t5, t6, k1, s1, d0, p0, q0, b1, b2⟩, HO⟩
  iintro Hk
  iapply (wait_send X W K c (g, 6) l hl hS hN (Q := Q)) $$ [t6 HO]
  · isplitr; · iexact Hr
    isplitl [HO]; · iexact HO
    iexact t6
  iintro ⟨t6, P, HO⟩
  ihave P := (Entails.of_eq (sendPay_6 X W c g)) $$ P
  ihave s1 := (owns_halves (c : Thread nD τ) (accQ g (crd g 0 c) (fl (crd g 1 c))) fullShare (A3 X W (par g 1 c) g)).2 $$ [P s1]
  · isplitl [P]
    · iexact P
    · iexact s1
  iapply Hk
  isplitr [HO]; rotate_left; · iexact HO
  isplitl [t0]
  · iexact t0
  isplitl [t1]
  · iexact t1
  isplitl [t2]
  · iexact t2
  isplitl [t3]
  · iexact t3
  isplitl [t4]
  · iexact t4
  isplitl [t5]
  · iexact t5
  isplitl [t6]
  · iexact t6
  isplitl [k1]
  · iexact k1
  isplitl [s1]
  · iexact s1
  isplitl [d0]
  · iexact d0
  isplitl [p0]
  · iexact p0
  isplitl [q0]
  · iexact q0
  isplitl [b1]
  · iexact b1
  iexact b2

/-- The partner's seventh copy has arrived. -/
theorem ev_wr6 (l : List Cp) (hl : ∀ k ∈ l, 2 + stage 6 < 2 + stage k.2)
    {sp sp' : Space} {s s' : Shape} {e e' : EltTy} {m₁ : Memref sig (c : Thread nD τ).2.kind sp s e} {m₂ : Memref sig .tc sp' s' e'} {sm : DmaSem sig}
    (hS : sm = recvS (g, 6)) (hN : m₂.view.dmaCredit = N) {h1 h2} {α : Type} {Q : α → sProp 𝕄} {k : PUnit → Prog (TpuEff nD τ sig (Elt F) Λ₀ .tc) α} :
    iprop(recs X W K ∗ G26 X W c g ∗ owing c l)
      ⊢ iprop(((G27 X W c g ∗ owing c l) -∗ run c (k ⟨⟩) Q) -∗ run c (.op (.waitDma2 sm m₁ m₂ h1 h2) k) Q) := by
  unfold G26 G27
  iintro ⟨#Hr, ⟨t0, t1, t2, t3, t4, t5, t6, k1, s1, d0, p0, q0, b1, b2⟩, HO⟩
  iintro Hk
  iapply (wait_recv X W K c (g, 6) l hl hS hN (Q := Q)) $$ [t6 HO]
  · isplitr; · iexact Hr
    isplitl [HO]; · iexact HO
    iexact t6
  iintro ⟨t6, P, HO⟩
  ihave P := (Entails.of_eq (recvPay_6 X W c g)) $$ P
  irename P => d1
  iapply Hk
  isplitr [HO]; rotate_left; · iexact HO
  isplitl [t0]
  · iexact t0
  isplitl [t1]
  · iexact t1
  isplitl [t2]
  · iexact t2
  isplitl [t3]
  · iexact t3
  isplitl [t4]
  · iexact t4
  isplitl [t5]
  · iexact t5
  isplitl [t6]
  · iexact t6
  isplitl [k1]
  · iexact k1
  isplitl [s1]
  · iexact s1
  isplitl [d0]
  · iexact d0
  isplitl [d1]
  · iexact d1
  isplitl [p0]
  · iexact p0
  isplitl [q0]
  · iexact q0
  isplitl [b1]
  · iexact b1
  iexact b2

/-- Reading the quarter that came with the seventh copy. -/
theorem ev_ld27 {m : Memref sig .tc .vmem S1024x128 .bf16} (hm : m = accM g) {o : Fin 2 → ℕ} (ho : o = qOff (fl (crd g 0 c)) (fl (crd g 1 c))) {h} {hl} {α : Type} {Q : α → sProp 𝕄}
    {k : ((Rect.unit (s := S1024x128) o S256x128.size h).shape.Idx → Elt F .bf16) → Prog (TpuEff nD τ sig (Elt F) Λ₀ .tc) α} :
    G27 X W c g ⊢ iprop((G27 X W c g -∗ run c (k (A3 X W (par g 1 (par g 0 c)) g)) Q)
      -∗ run c (.op (.load m (Rect.unit (s := S1024x128) o S256x128.size h).toLoadRect hl) k) Q) := by
  unfold G27
  iintro ⟨t0, t1, t2, t3, t4, t5, t6, k1, s1, d0, d1, p0, q0, b1, b2⟩
  iintro Hk
  iapply (load_part c (Q := Q) hm ho) $$ d1
  iintro d1
  iapply Hk
  isplitl [t0]
  · iexact t0
  isplitl [t1]
  · iexact t1
  isplitl [t2]
  · iexact t2
  isplitl [t3]
  · iexact t3
  isplitl [t4]
  · iexact t4
  isplitl [t5]
  · iexact t5
  isplitl [t6]
  · iexact t6
  isplitl [k1]
  · iexact k1
  isplitl [s1]
  · iexact s1
  isplitl [d0]
  · iexact d0
  isplitl [d1]
  · iexact d1
  isplitl [p0]
  · iexact p0
  isplitl [q0]
  · iexact q0
  isplitl [b1]
  · iexact b1
  iexact b2

end Events

end Cert.ReduceProof

end
-- ==== Proof.Board.lean ====
/-
# The barrier and the result

The three barrier signals, the barrier's wait, and the stores to the result's buffer.
-/
module

public import proofs.«01_k».proof.Proof.Events

@[expose] public section

noncomputable section

namespace Cert.ReduceProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The credit of a quarter of an accumulator, at an offset in any form. -/
theorem credit_q (g : Fin 8) {m : Memref sig .tc .vmem S1024x128 .bf16} (hm : m = accM g) {b e : Fin 2} {o : Fin 2 → ℕ} (ho : o = qOff b e) {h hr} :
    (m.slice (Rect.unit (s := S1024x128) o S256x128.size h) hr).view.dmaCredit = N := by subst hm ho; exact credit_acc g b e

/-- The credit of a half of a first receive buffer, at an offset in any form. -/
theorem credit_h (g : Fin 8) {m : Memref sig .tc .vmem S512x128 .bf16} (hm : m = r0M g) {e : Fin 2} {o : Fin 2 → ℕ} (ho : o = eOff e) {h hr} :
    (m.slice (Rect.unit (s := S512x128) o S256x128.size h) hr).view.dmaCredit = N := by subst hm ho; exact credit_r0 g e

/-! ## Rearranging -/

omit [FloatOps F] in
/-- Eight groups, one by one. -/
theorem eight (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide)]
  simp only [bigSepL_cons_cons, bigSepL_singleton]
  rfl

omit [FloatOps F] in
/-- Three things in a rotated order. -/
theorem rot (f : Fin 3 → sProp 𝕄) (i : Fin 3) : iprop(f 0 ∗ f 1 ∗ f 2) ⊢ iprop(f i ∗ f (i + 1) ∗ f (i + 2)) := by
  fin_cases i
  · exact .rfl
  · show iprop(f 0 ∗ f 1 ∗ f 2) ⊢ iprop(f 1 ∗ f 2 ∗ f 0)
    iintro ⟨A, B, C⟩
    isplitl [B]; · iexact B
    isplitl [C]; · iexact C
    iexact A
  · show iprop(f 0 ∗ f 1 ∗ f 2) ⊢ iprop(f 2 ∗ f 0 ∗ f 1)
    iintro ⟨A, B, C⟩
    isplitl [C]; · iexact C
    isplitl [A]; · iexact A
    iexact B

omit [FloatOps F] in
/-- Three families side by side are one family of triples. -/
theorem three (A B C : Fin 8 → sProp 𝕄) :
    (bigSep Finset.univ fun g => iprop(A g ∗ B g ∗ C g)) = iprop(bigSep Finset.univ A ∗ bigSep Finset.univ B ∗ bigSep Finset.univ C) :=
  (bigSep_sep Finset.univ A fun g => iprop(B g ∗ C g)).trans (congrArg (fun P => iprop(bigSep Finset.univ A ∗ P)) (bigSep_sep Finset.univ B C))

/-- A group takes the axes in cyclic order. -/
theorem axis_rot (g : Fin 8) : axis g 1 = axis g 0 + 1 ∧ axis g 2 = axis g 0 + 2 := by revert g; decide
/-- An axis comes one exchange later than the axis before it, in cyclic order. -/
theorem slot_rot (g : Fin 8) : slot 1 g = slot 0 g + 1 ∧ slot 2 g = slot 0 g + 2 := by revert g; decide

/-- The receive buffers of device `c` that its neighbour along axis `a` writes. -/
def ownBuf (c : Dev nD) (a : Fin 3) : sProp 𝕄 := bigSep Finset.univ fun g : Fin 8 => rbuf (F := F) c g (slot a g)

/-- What a device hands to its neighbour along an axis is its own receive buffers for that axis. -/
theorem barPay_tb (c : Dev nD) (a : Fin 3) : (barPay (tb a c) a : sProp 𝕄) = ownBuf c a := by
  unfold barPay ownBuf; rw [tb_tb]

/-- What the three neighbours hand over, group by group. -/
theorem barPay_groups (c : Dev nD) :
    iprop(barPay c 0 ∗ barPay c 1 ∗ barPay c 2) ⊢ (bigSep Finset.univ fun g : Fin 8 => Rem (F := F) c g : sProp 𝕄) := by
  unfold barPay
  rw [← three]
  refine bigSep_mono fun g _ => ?_
  have h := rot (F := F) (fun a => rbuf (tb a c) g (slot a g)) (axis g 0)
  rw [← (axis_rot g).1, ← (axis_rot g).2] at h
  refine h.trans ?_
  simp only [slot_axis]
  exact .rfl

/-- A device's receive buffers, by the neighbour that writes them. -/
theorem ownBuf_groups (c : Dev nD) :
    (bigSep Finset.univ fun g : Fin 8 => iprop(rbuf (F := F) c g 0 ∗ rbuf c g 1 ∗ rbuf c g 2) : sProp 𝕄)
      ⊢ iprop(ownBuf c 0 ∗ ownBuf c 1 ∗ ownBuf c 2) := by
  unfold ownBuf
  rw [← three]
  refine bigSep_mono fun g _ => ?_
  have h := rot (F := F) (fun j => rbuf c g j) (slot 0 g)
  rw [← (slot_rot g).1, ← (slot_rot g).2] at h
  exact h

/-! ## The barrier -/

section Bar
variable (X : Dev nD → Vec F S1024x128 .bf16) (W : Dev nD → Vec F S128x1024 .bf16) (K : Dev nD × CK → ℕ)

/-- Before the first barrier signal. -/
def B0 (c : Dev nD) : sProp 𝕄 :=
  iprop((∃ Wt, owes (c : Thread nD τ) (O₀ c) Wt)
    ∗ (dutyTok ER (barCell (tb 0 c)) 0 (0 : Fin 3) ∗ ownBuf c 0) ∗ (dutyTok ER (barCell (tb 1 c)) 0 (1 : Fin 3) ∗ ownBuf c 1)
    ∗ (dutyTok ER (barCell (tb 2 c)) 0 (2 : Fin 3) ∗ ownBuf c 2) ∗ cred (tallyAt (barCell c) () 3) ∗ atPos ER (barCell c) 0 ∅ 0)
/-- After the first. -/
def B1 (c : Dev nD) : sProp 𝕄 :=
  iprop((∃ Wt, owes (c : Thread nD τ) (O₁ c) Wt) ∗ (dutyTok ER (barCell (tb 1 c)) 0 (1 : Fin 3) ∗ ownBuf c 1)
    ∗ (dutyTok ER (barCell (tb 2 c)) 0 (2 : Fin 3) ∗ ownBuf c 2) ∗ cred (tallyAt (barCell c) () 3) ∗ atPos ER (barCell c) 0 ∅ 0)
/-- After the second. -/
def B2 (c : Dev nD) : sProp 𝕄 :=
  iprop((∃ Wt, owes (c : Thread nD τ) (O₂ c) Wt)
    ∗ (dutyTok ER (barCell (tb 2 c)) 0 (2 : Fin 3) ∗ ownBuf c 2) ∗ cred (tallyAt (barCell c) () 3) ∗ atPos ER (barCell c) 0 ∅ 0)
/-- After the third. -/
def B3 (c : Dev nD) : sProp 𝕄 :=
  iprop(owing c sends ∗ cred (tallyAt (barCell c) () 3) ∗ atPos ER (barCell c) 0 ∅ 0)

variable (c : Dev nD)

/-- A barrier signal to the neighbour along axis `a`. -/
theorem signal (a : Fin 3) (O O' : CellTallies nD τ sig Unit) (hO : O' = O + tallyAt (barCell (tb a c)) () 1) {Wt : Waits sig Unit}
    {d : Dev nD} (hd : d = tb a c) {s : Sem sig} (hs : s = barS) {n : ℕ} (hn : n = 1)
    {α : Type} {Q : α → sProp 𝕄} {k : PUnit → Prog (TpuEff nD τ sig (Elt F) Λ₀ .tc) α} :
    iprop(recs X W K ∗ owes (c : Thread nD τ) O' Wt ∗ dutyTok ER (barCell (tb a c)) 0 a ∗ ownBuf c a)
      ⊢ iprop((owes (c : Thread nD τ) O Wt -∗ run c (k ⟨⟩) Q) -∗ run c (.op (.semSignal (Dev.tc d : Thread nD τ) s n) k) Q) := by
  subst hd hs hn
  iintro ⟨#Hr, HO, HT, HB⟩
  ihave #I := (recs_inv X W K (tb a c) (.inl ())) $$ Hr
  ihave #E := (recs_reached X W K (tb a c) (.inl ())) $$ Hr
  iintro Hk
  iapply (Rounds.wp_signal 𝒱₀ ER (Rd X W) (c : Thread nD τ) none (dst := (tb a c : Thread nD τ)) (κ := K (tb a c, .inl ()))
      (d := a) (by rw [duties_bar]; exact Finset.mem_univ _) (amount_bar X W (tb a c) a) () O hO) $$ [HO HT HB]
  · isplitr; · iexact I
    isplitl [HO]; · iexact HO
    isplitl [HT]; · iexact HT
    isplitl [HB]
    · rw [payload_bar, barPay_tb]; iexact HB
    · iexact E
  iexact Hk

/-- Barrier signal number 0. -/
theorem ev_sig0 {d : Dev nD} (hd : d = tb 0 c) {s : Sem sig} (hs : s = barS) {n : ℕ} (hn : n = 1)
    {α : Type} {Q : α → sProp 𝕄} {k : PUnit → Prog (TpuEff nD τ sig (Elt F) Λ₀ .tc) α} :
    iprop(recs X W K ∗ B0 c)
      ⊢ iprop((B1 c -∗ run c (k ⟨⟩) Q) -∗ run c (.op (.semSignal (Dev.tc d : Thread nD τ) s n) k) Q) := by
  unfold B0 B1
  iintro ⟨#Hr, ⟨⟨%Wt, HO⟩, ⟨T, U⟩, P1, P2, C, A⟩⟩
  iintro Hk
  iapply (signal X W K c 0 (O₁ c) (O₀ c) rfl hd hs hn) $$ [HO T U]
  · isplitr; · iexact Hr
    isplitl [HO]; · iexact HO
    isplitl [T]; · iexact T
    iexact U
  iintro HO
  iapply Hk
  isplitl [HO]; · iexists Wt; iexact HO
  isplitl [P1]; · iexact P1
  isplitl [P2]; · iexact P2
  isplitl [C]; · iexact C
  iexact A

/-- Barrier signal number 1. -/
theorem ev_sig1 {d : Dev nD} (hd : d = tb 1 c) {s : Sem sig} (hs : s = barS) {n : ℕ} (hn : n = 1)
    {α : Type} {Q : α → sProp 𝕄} {k : PUnit → Prog (TpuEff nD τ sig (Elt F) Λ₀ .tc) α} :
    iprop(recs X W K ∗ B1 c)
      ⊢ iprop((B2 c -∗ run c (k ⟨⟩) Q) -∗ run c (.op (.semSignal (Dev.tc d : Thread nD τ) s n) k) Q) := by
  unfold B1 B2
  iintro ⟨#Hr, ⟨⟨%Wt, HO⟩, ⟨T, U⟩, P2, C, A⟩⟩
  iintro Hk
  iapply (signal X W K c 1 (O₂ c) (O₁ c) rfl hd hs hn) $$ [HO T U]
  · isplitr; · iexact Hr
    isplitl [HO]; · iexact HO
    isplitl [T]; · iexact T
    iexact U
  iintro HO
  iapply Hk
  isplitl [HO]; · iexists Wt; iexact HO
  isplitl [P2]; · iexact P2
  isplitl [C]; · iexact C
  iexact A

/-- Barrier signal number 2. -/
theorem ev_sig2 {d : Dev nD} (hd : d = tb 2 c) {s : Sem sig} (hs : s = barS) {n : ℕ} (hn : n = 1)
    {α : Type} {Q : α → sProp 𝕄} {k : PUnit → Prog (TpuEff nD τ sig (Elt F) Λ₀ .tc) α} :
    iprop(recs X W K ∗ B2 c)
      ⊢ iprop((B3 c -∗ run c (k ⟨⟩) Q) -∗ run c (.op (.semSignal (Dev.tc d : Thread nD τ) s n) k) Q) := by
  unfold B2 B3 owing
  iintro ⟨#Hr, ⟨⟨%Wt, HO⟩, ⟨T, U⟩, C, A⟩⟩
  iintro Hk
  iapply (signal X W K c 2 (owe c sends) (O₂ c) rfl hd hs hn) $$ [HO T U]
  · isplitr; · iexact Hr
    isplitl [HO]; · iexact HO
    isplitl [T]; · iexact T
    iexact U
  iintro HO
  iapply Hk
  isplitl [HO]; · iexists Wt; iexact HO
  isplitl [C]; · iexact C
  iexact A

/-- The barrier's wait: the three neighbours' receive buffers are the device's to write. -/
theorem ev_bar {s : Sem sig} (hs : s = barS) {n : ℕ} (hn : n = 3)
    {α : Type} {Q : α → sProp 𝕄} {k : PUnit → Prog (TpuEff nD τ sig (Elt F) Λ₀ .tc) α} :
    iprop(recs X W K ∗ B3 c)
      ⊢ iprop(((owing c sends ∗ semVal (barCell c) 0 ∗ Rem c 0 ∗ Rem c 1 ∗ Rem c 2 ∗ Rem c 3 ∗ Rem c 4 ∗ Rem c 5 ∗ Rem c 6 ∗ Rem c 7)
          -∗ run c (k ⟨⟩) Q) -∗ run c (.op (.semWait s n) k) Q) := by
  subst hs hn
  unfold B3 owing
  iintro ⟨#Hr, ⟨%Wt, HO⟩, C, A⟩
  ihave #I := (recs_inv X W K c (.inl ())) $$ Hr
  ihave #HL := (recs_lev X W K) $$ Hr
  iintro Hk
  iapply (Rounds.wp_wait_rest_token 𝒱₀ ER (Rd X W) (c : Thread nD τ) none (κ := K (c, .inl ()))
      (wpE_semWait_eq 𝒱₀ (c : Thread nD τ) none Set.univ) (Set.mem_univ _) () (O := owe c sends) (W := Wt) (R := 0) (m := 0) (T := ∅)
      (by rw [Nat.zero_add, expect_bar])) $$ [C HO A]
  · isplitr; · iexact I
    isplitl [C]; · iexact C
    isplitl [HO]; · iexact HO
    isplitr; · iapply (mayWait_owe c (.reg barS) 1 (le_of_eq (lv_bar c ())) sends (fun n _ => by omega)); iexact HL
    iexact A
  iintro ⟨HO, A, -, P⟩
  ihave P := (Entails.of_eq (rest_bar X W c)) $$ P
  ihave P := (barPay_groups c) $$ P
  ihave P := (Entails.of_eq (eight fun g : Fin 8 => Rem (F := F) c g)) $$ P
  imod (Rounds.cell_close ER (Rd X W) (Set.mem_univ (K (c, .inl ()))) (fun h => h) (R := 0 + 1) (duties_later X W (barCell c))) $$ [A] with Z
  · isplitr; · iexact I
    iexact A
  iapply Hk
  isplitl [HO]; · iexists _; iexact HO
  isplitl [Z]; · iexact Z
  iexact P

end Bar

/-! ## The result's buffer -/

section Out
variable (X : Dev nD → Vec F S1024x128 .bf16) (W : Dev nD → Vec F S128x1024 .bf16)

/-- The result's buffer when the listed blocks are written: row half, row quarter, group. -/
def outSt (c : Dev nD) (l : List (Fin 2 × Fin 2 × Fin 8)) : sProp 𝕄 :=
  iprop(∃ f : Vec F S1024x1024 .f32,
    ⌜∀ p ∈ l, ∀ j, f ((oRect p.1 p.2.1 p.2.2).emb j) = k0_pay1 (A3 X W (own c p.2.2 p.1 p.2.1) p.2.2) j⌝ ∗ owns (c : Thread nD τ) oM fullShare f)

/-- Different blocks of the result do not meet. -/
theorem oRect_off (b e b' e' : Fin 2) (g g' : Fin 8) (h : (b, e, g) ≠ (b', e', g')) (j : S256x128.Idx) :
    (oRect b e g).emb j ∉ (oRect b' e' g').set := by
  intro hm
  rw [mem_unit] at hm
  have h0 := hm 0
  have h1 := hm 1
  rw [Rect.emb_apply] at h0 h1
  have j0 : (j 0).val < 256 := (j 0).isLt
  have j1 : (j 1).val < 128 := (j 1).isLt
  change b'.val * 512 + e'.val * 256 ≤ (b.val * 512 + e.val * 256) + 1 * (j 0).val ∧ (b.val * 512 + e.val * 256) + 1 * (j 0).val < (b'.val * 512 + e'.val * 256) + 256 at h0
  change g'.val * 128 ≤ g.val * 128 + 1 * (j 1).val ∧ g.val * 128 + 1 * (j 1).val < g'.val * 128 + 128 at h1
  apply h
  have hb : b = b' := by ext; omega
  have he : e = e' := by ext; omega
  have hg : g = g' := by ext; omega
  rw [hb, he, hg]

variable (c : Dev nD)

/-- Reading the result's buffer before a block is stored. -/
theorem ev_outld {l : List (Fin 2 × Fin 2 × Fin 8)} {m : Memref sig .tc .vmem S1024x1024 .f32} (hm : m = oM) {r : Rect S1024x1024} {hl} {α : Type} {Q : α → sProp 𝕄}
    {k : (r.shape.Idx → Elt F .f32) → Prog (TpuEff nD τ sig (Elt F) Λ₀ .tc) α} :
    outSt X W c l ⊢ iprop((∀ v, outSt X W c l -∗ run c (k v) Q) -∗ run c (.op (.load m r.toLoadRect hl) k) Q) := by
  unfold outSt
  iintro ⟨%f, %hf, H⟩
  iintro Hk
  iapply (load_of c hm) $$ H
  iintro H
  iapply Hk
  iexists f
  isplitr; · ipureintro; exact hf
  iexact H

/-- A block of the result is stored. -/
theorem ev_outst {l : List (Fin 2 × Fin 2 × Fin 8)} (b e : Fin 2) (g : Fin 8) (d : Dev nD) (hd : own c g b e = d)
    {m : Memref sig .tc .vmem S1024x1024 .f32} (hm : m = oM) {o : Fin 2 → ℕ} (ho : o = oOff b e g) {h} {hx} {hmk} {α : Type} {Q : α → sProp 𝕄}
    {w : (Rect.unit (s := S1024x1024) o S256x128.size h).shape.Idx → Elt F .f32} (hw : w = k0_pay1 (A3 X W d g))
    {k : PUnit → Prog (TpuEff nD τ sig (Elt F) Λ₀ .tc) α} :
    outSt X W c l ⊢ iprop((outSt X W c ((b, e, g) :: l) -∗ run c (k ⟨⟩) Q)
      -∗ run c (.op (.store m (Rect.unit (s := S1024x1024) o S256x128.size h) w Finset.univ hx hmk) k) Q) := by
  subst hd
  unfold outSt
  iintro ⟨%f, %hf, H⟩
  iintro Hk
  ihave H := (owns_slice_split (c : Thread nD τ) oM fullShare (oRect b e g) (fun _ => rfl) f) $$ H
  icases H with ⟨H, %f', %hf', R⟩
  iapply (store_part c (Q := Q) hm ho hw) $$ H
  iintro H
  ihave H := (owns_slice_join (c : Thread nD τ) oM fullShare (oRect b e g) (fun _ => rfl) (k0_pay1 (A3 X W (own c g b e) g)) f') $$ [H R]
  · isplitl [H]; · iexact H
    iexact R
  iapply Hk
  iexists (oRect b e g).overlay (oM.view.read (Elt F) f') (k0_pay1 (A3 X W (own c g b e) g))
  isplitr
  · ipureintro
    rintro ⟨b', e', g'⟩ hp j
    by_cases hq : (b', e', g') = (b, e, g)
    · cases hq; exact Rect.overlay_emb _ _ _ _
    · rw [Rect.overlay_of_not_mem _ _ _ (oRect_off b' e' b e g' g hq j), hf']
      exact hf _ ((List.mem_cons.mp hp).resolve_left hq) j
  iexact H

/-- A device reduces the quarter on its own sides itself; -/
theorem own_kk (g : Fin 8) : own c g (crd g 0 c) (crd g 1 c) = c := by unfold own; rw [if_pos rfl, if_pos rfl]
/-- the quarter across the second exchange is reduced by the second partner, -/
theorem own_ks (g : Fin 8) : own c g (crd g 0 c) (fl (crd g 1 c)) = par g 1 c := by
  unfold own; rw [if_pos rfl, if_neg (fl_ne _)]
/-- the one across the first exchange by the first partner, -/
theorem own_dk (g : Fin 8) : own c g (fl (crd g 0 c)) (crd g 1 c) = par g 0 c := by
  unfold own; rw [if_neg (fl_ne _), if_pos rfl]
/-- and the one across both by the partner of the partner. -/
theorem own_ds (g : Fin 8) : own c g (fl (crd g 0 c)) (fl (crd g 1 c)) = par g 1 (par g 0 c) := by
  unfold own; rw [if_neg (fl_ne _), if_neg (fl_ne _)]

end Out

end Cert.ReduceProof

end
-- ==== Proof.Args.lean ====
/-
# The kernel at its buffers

The pieces of the kernel at the launch's buffers, and the order in which the blocks of the result are stored.
-/
module

public import proofs.«01_k».proof.Proof.Board

@[expose] public section

noncomputable section

namespace Cert.ReduceProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A piece of the kernel at the launch's buffers and semaphores. -/
abbrev atArgs {β : Type 1} (f : (arg0 : Memref sig .tc .vmem S1024x128 .bf16) → arg0.IsWhole → (arg1 : Memref sig .tc .vmem S128x1024 .bf16) → arg1.IsWhole → (arg2 : Memref sig .tc .vmem S1024x1024 .f32) → arg2.IsWhole → (arg3 : Memref sig .tc .vmem S1024x128 .bf16) → arg3.IsWhole → (arg4 : Memref sig .tc .vmem S1024x128 .bf16) → arg4.IsWhole → (arg5 : Memref sig .tc .vmem S1024x128 .bf16) → arg5.IsWhole → (arg6 : Memref sig .tc .vmem S1024x128 .bf16) → arg6.IsWhole → (arg7 : Memref sig .tc .vmem S1024x128 .bf16) → arg7.IsWhole → (arg8 : Memref sig .tc .vmem S1024x128 .bf16) → arg8.IsWhole → (arg9 : Memref sig .tc .vmem S1024x128 .bf16) → arg9.IsWhole → (arg10 : Memref sig .tc .vmem S1024x128 .bf16) → arg10.IsWhole → (arg11 : Memref sig .tc .vmem S512x128 .bf16) → arg11.IsWhole → (arg12 : Memref sig .tc .vmem S256x128 .bf16) → arg12.IsWhole → (arg13 : Memref sig .tc .vmem S256x128 .bf16) → arg13.IsWhole → (arg14 : Memref sig .tc .vmem S512x128 .bf16) → arg14.IsWhole → (arg15 : Memref sig .tc .vmem S256x128 .bf16) → arg15.IsWhole → (arg16 : Memref sig .tc .vmem S256x128 .bf16) → arg16.IsWhole → (arg17 : Memref sig .tc .vmem S512x128 .bf16) → arg17.IsWhole → (arg18 : Memref sig .tc .vmem S256x128 .bf16) → arg18.IsWhole → (arg19 : Memref sig .tc .vmem S256x128 .bf16) → arg19.IsWhole → (arg20 : Memref sig .tc .vmem S512x128 .bf16) → arg20.IsWhole → (arg21 : Memref sig .tc .vmem S256x128 .bf16) → arg21.IsWhole → (arg22 : Memref sig .tc .vmem S256x128 .bf16) → arg22.IsWhole → (arg23 : Memref sig .tc .vmem S512x128 .bf16) → arg23.IsWhole → (arg24 : Memref sig .tc .vmem S256x128 .bf16) → arg24.IsWhole → (arg25 : Memref sig .tc .vmem S256x128 .bf16) → arg25.IsWhole → (arg26 : Memref sig .tc .vmem S512x128 .bf16) → arg26.IsWhole → (arg27 : Memref sig .tc .vmem S256x128 .bf16) → arg27.IsWhole → (arg28 : Memref sig .tc .vmem S256x128 .bf16) → arg28.IsWhole → (arg29 : Memref sig .tc .vmem S512x128 .bf16) → arg29.IsWhole → (arg30 : Memref sig .tc .vmem S256x128 .bf16) → arg30.IsWhole → (arg31 : Memref sig .tc .vmem S256x128 .bf16) → arg31.IsWhole → (arg32 : Memref sig .tc .vmem S512x128 .bf16) → arg32.IsWhole → (arg33 : Memref sig .tc .vmem S256x128 .bf16) → arg33.IsWhole → (arg34 : Memref sig .tc .vmem S256x128 .bf16) → arg34.IsWhole → DmaSems sig S56 → DmaSems sig S56 → β) : β :=
  f (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) (Memref.whole cc0_scratch25) (Memref.isWhole_whole _) (Memref.whole cc0_scratch26) (Memref.isWhole_whole _) (Memref.whole cc0_scratch27) (Memref.isWhole_whole _) (Memref.whole cc0_scratch28) (Memref.isWhole_whole _) (Memref.whole cc0_scratch29) (Memref.isWhole_whole _) (Memref.whole cc0_scratch30) (Memref.isWhole_whole _) (Memref.whole cc0_scratch31) (Memref.isWhole_whole _) cc0_scratch32 cc0_scratch33

/-- The blocks of the result, the last one stored first. -/
def blocks (c : Dev nD) : List (Fin 2 × Fin 2 × Fin 8) :=
  [(fl (crd 7 0 c), fl (crd 7 1 c), 7),
   ((fl (crd 6 0 c)), (fl (crd 6 1 c)), 6),
   ((fl (crd 5 0 c)), (fl (crd 5 1 c)), 5),
   ((fl (crd 4 0 c)), (fl (crd 4 1 c)), 4),
   ((fl (crd 3 0 c)), (fl (crd 3 1 c)), 3),
   ((fl (crd 2 0 c)), (fl (crd 2 1 c)), 2),
   ((fl (crd 1 0 c)), (fl (crd 1 1 c)), 1),
   ((fl (crd 0 0 c)), (fl (crd 0 1 c)), 0),
   ((fl (crd 7 0 c)), (crd 7 1 c), 7),
   ((fl (crd 6 0 c)), (crd 6 1 c), 6),
   ((fl (crd 5 0 c)), (crd 5 1 c), 5),
   ((fl (crd 4 0 c)), (crd 4 1 c), 4),
   ((fl (crd 3 0 c)), (crd 3 1 c), 3),
   ((fl (crd 2 0 c)), (crd 2 1 c), 2),
   ((fl (crd 1 0 c)), (crd 1 1 c), 1),
   ((fl (crd 0 0 c)), (crd 0 1 c), 0),
   ((crd 7 0 c), (fl (crd 7 1 c)), 7),
   ((crd 6 0 c), (fl (crd 6 1 c)), 6),
   ((crd 5 0 c), (fl (crd 5 1 c)), 5),
   ((crd 4 0 c), (fl (crd 4 1 c)), 4),
   ((crd 3 0 c), (fl (crd 3 1 c)), 3),
   ((crd 2 0 c), (fl (crd 2 1 c)), 2),
   ((crd 1 0 c), (fl (crd 1 1 c)), 1),
   ((crd 0 0 c), (fl (crd 0 1 c)), 0),
   ((crd 7 0 c), (crd 7 1 c), 7),
   ((crd 6 0 c), (crd 6 1 c), 6),
   ((crd 5 0 c), (crd 5 1 c), 5),
   ((crd 4 0 c), (crd 4 1 c), 4),
   ((crd 3 0 c), (crd 3 1 c), 3),
   ((crd 2 0 c), (crd 2 1 c), 2),
   ((crd 1 0 c), (crd 1 1 c), 1),
   ((crd 0 0 c), (crd 0 1 c), 0)]
/-- The first `n` blocks stored. -/
abbrev outs (c : Dev nD) (n : ℕ) : List (Fin 2 × Fin 2 × Fin 8) := (blocks c).drop (32 - n)

end Cert.ReduceProof

end
-- ==== Proof.Parts1.lean ====
/-
# The kernel, pieces 1 to 8

What each piece of the kernel does to what a device holds.
-/
module

public import proofs.«01_k».proof.Proof.Args

@[expose] public section

noncomputable section

namespace Cert.ReduceProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts
variable (X : Dev nD → Vec F S1024x128 .bf16) (W : Dev nD → Vec F S128x1024 .bf16) (K : Dev nD × CK → ℕ)

/-- Piece 1 of the kernel. -/
theorem part1 (c : Dev nD) {Q : (Σ' (d0 : Dev nD) (v4 : BitVec 32) (v6 : BitVec 32) (v7 : BitVec 32) (v8 : BitVec 32) (v9 : BitVec 32) (v10 : BitVec 32) (v11 : BitVec 32) (v12 : BitVec 32) (v13 : BitVec 32) (v14 : BitVec 32) (v15 : BitVec 32) (v16 : BitVec 32) (v17 : BitVec 32) (v18 : BitVec 32) (v20 : BitVec 32) (v22 : BitVec 32) (v24 : BitVec 32) (v26 : BitVec 32) (v28 : BitVec 32) (v30 : BitVec 32) (v32 : BitVec 32), BitVec 32) → sProp 𝕄} :
    iprop(recs X W K)
      ⊢ iprop((∀ r, (⌜r.1 = c⌝) -∗ Q r)
        -∗ run c (atArgs k0_part1 ) Q) := by
  unfold atArgs
  rw [k0_part1_eq_skeleton]; unfold k0_part1_skel
  unfold run
  simp only [semSignalWord, semWaitWord, Prog.lift, Prog.bind_op, Prog.bind_ret, Prog.pure_eq_ret, wp_deviceId]
  iintro #Hr
  iintro Hk
  rw [wp_ret]; imodintro
  iapply Hk
  ipureintro; rfl

/-- Piece 2 of the kernel. -/
theorem part2 (c : Dev nD) (v4 v6 v7 v11 v12 v13 v14 v15 v18 v33 : BitVec 32) {Q : (Σ' (v34 : BitVec 32) (v36 : BitVec 32) (v38 : BitVec 32) (v40 : BitVec 32) (v42 : BitVec 32) (v44 : BitVec 32) (v46 : BitVec 32) (v48 : BitVec 32) (v50 : BitVec 32) (v53 : BitVec 32) (v56 : BitVec 32) (v59 : BitVec 32) (v62 : BitVec 32) (v65 : BitVec 32), BitVec 32) → sProp 𝕄} :
    iprop(recs X W K)
      ⊢ iprop((∀ r, (⌜True⌝) -∗ Q r)
        -∗ run c (atArgs k0_part2 v4 v6 v7 v11 v12 v13 v14 v15 v18 v33) Q) := by
  unfold atArgs
  rw [k0_part2_eq_skeleton]; unfold k0_part2_skel
  simp only [semSignalWord, semWaitWord, Prog.lift, Prog.bind_op, Prog.bind_ret, Prog.pure_eq_ret, wp_deviceId]
  iintro #Hr
  iintro Hk
  unfold run; rw [wp_ret]; imodintro
  iapply Hk
  ipureintro; trivial

/-- Piece 3 of the kernel. -/
theorem part3 (c : Dev nD) (v6 v7 v8 v9 v11 v12 v13 v14 v15 v16 v17 v18 v20 v22 v24 v26 v28 v30 v32 v34 v36 v38 v40 v42 v44 v46 v48 v50 v53 v56 v59 v62 v65 v66 : BitVec 32) {Q : (Σ' (v68 : BitVec 32) (v71 : BitVec 32) (v74 : BitVec 32) (v75 : BitVec 32) (v76 : BitVec 32) (v77 : BitVec 32) (v78 : BitVec 32) (v79 : BitVec 32) (v80 : BitVec 32) (v81 : BitVec 32) (v82 : BitVec 32) (v83 : BitVec 32) (v84 : BitVec 32) (v85 : BitVec 32) (v86 : BitVec 32) (v87 : BitVec 32) (v88 : BitVec 32) (v89 : BitVec 32) (v90 : BitVec 32) (v91 : BitVec 32) (v92 : BitVec 32) (v93 : BitVec 32) (v94 : BitVec 32) (v95 : BitVec 32) (v96 : BitVec 32) (v97 : BitVec 32) (v98 : BitVec 32) (v99 : BitVec 32) (v100 : BitVec 32) (v101 : BitVec 32) (v102 : BitVec 32) (v103 : BitVec 32) (v104 : BitVec 32) (v105 : BitVec 32) (v106 : BitVec 32) (v107 : Sems sig S_), BitVec 32) → sProp 𝕄} :
    iprop(recs X W K ∗ B0 c)
      ⊢ iprop((∀ r, (⌜r.2.2.2.2.2.2.2.2.2.2.2.2.2.2.2.2.2.2.2.2.2.2.2.2.2.2.2.2.2.2.2.2.2.2.2.1 = SemArray.scalar (sig.barrier 0 rfl) ∧ r.2.2.2.2.2.2.2.2.2.2.2.2.2.2.2.2.2.2.2.2.2.2.2.2.2.2.2.2.2.2.2.2.2.2.2.2 = 1#32⌝ ∗ B2 c) -∗ Q r)
        -∗ run c (atArgs k0_part3 c v6 v7 v8 v9 v11 v12 v13 v14 v15 v16 v17 v18 v20 v22 v24 v26 v28 v30 v32 v34 v36 v38 v40 v42 v44 v46 v48 v50 v53 v56 v59 v62 v65 v66) Q) := by
  unfold atArgs
  rw [k0_part3_eq_skeleton]; unfold k0_part3_skel
  simp only [semSignalWord, semWaitWord, Prog.lift, Prog.bind_op, Prog.bind_ret, Prog.pure_eq_ret, wp_deviceId]
  iintro ⟨#Hr, HB⟩
  iintro Hk
  iapply (ev_sig0 X W K c (dev1 c) rfl rfl) $$ [HB]
  · isplitr; · iexact Hr
    iexact HB
  iintro HB
  iapply (ev_sig1 X W K c (dev2 c) rfl rfl) $$ [HB]
  · isplitr; · iexact Hr
    iexact HB
  iintro HB
  unfold run; rw [wp_ret]; imodintro
  iapply Hk
  isplitr; · ipureintro; exact ⟨rfl, rfl⟩
  iexact HB

/-- Piece 4 of the kernel. -/
theorem part4 (c : Dev nD) (v8 v10 v36 v38 v75 v83 : BitVec 32) {Q : (FVec F S512x128 .bf16) → sProp 𝕄} :
    iprop(recs X W K ∗ owns (c : Thread nD τ) xM fullShare (X c) ∗ owns (c : Thread nD τ) wM fullShare (W c) ∗ G0 c 0 ∗ B2 c)
      ⊢ iprop((∀ r, (⌜r = (k0_pay3 (fun j => X c ((hRect (fl (crd 1 0 c))).emb j)))⌝ ∗ owns (c : Thread nD τ) xM fullShare (X c) ∗ owns (c : Thread nD τ) wM fullShare (W c) ∗ G3 c 0 ∗ owing c (sends.drop 2) ∗ semVal (barCell c) 0 ∗ Rem c 1 ∗ Rem c 2 ∗ Rem c 3 ∗ Rem c 4 ∗ Rem c 5 ∗ Rem c 6 ∗ Rem c 7) -∗ Q r)
        -∗ run c (atArgs k0_part4 c v8 v10 v36 v38 v75 v83 (SemArray.scalar (sig.barrier 0 rfl)) 1#32) Q) := by
  unfold atArgs
  rw [k0_part4_eq_skeleton]; unfold k0_part4_skel
  simp only [semSignalWord, semWaitWord, Prog.lift, Prog.bind_op, Prog.bind_ret, Prog.pure_eq_ret, wp_deviceId]
  iintro ⟨#Hr, HX, HW, H0, HB⟩
  iintro Hk
  iapply (ev_sig2 X W K c (dev3 c) rfl rfl) $$ [HB]
  · isplitr; · iexact Hr
    iexact HB
  iintro HB
  iapply (load_at c rfl (hOff_inb _) (off1 0 rfl c)) $$ HX
  iintro HX
  iapply (load_at c rfl (cOff_inb 0) (by rfl)) $$ HW
  iintro HW
  iapply (ev_half0 c 0 rfl (off1 0 rfl c)) $$ H0
  iintro %_v
  iintro H0
  iapply (ev_st0 X W c 0 rfl (off1 0 rfl c) (hw := rfl)) $$ H0
  iintro H0
  iapply (ev_bar X W K c rfl rfl) $$ [HB]
  · isplitr; · iexact Hr
    iexact HB
  iintro ⟨HO, HZ, R0, R1, R2, R3, R4, R5, R6, R7⟩
  iapply (ev_s0 X W K c 0 (sends.drop 1) (slice_congr rfl (off3 0 rfl c)) (slice_congr rfl (off2 0 rfl c)) (dev4 c) rfl rfl) $$ [H0 R0 HO]
  · isplitr; · iexact Hr
    isplitl [H0]; · iexact H0
    isplitl [R0]; · iexact R0
    iexact HO
  iintro ⟨H0, HO⟩
  iapply (ev_s1 X W K c 0 (sends.drop 2) (slice_congr rfl (off5 0 rfl c)) (slice_congr rfl (off4 0 rfl c)) (dev5 c) rfl rfl) $$ [H0 HO]
  · isplitr; · iexact Hr
    isplitl [H0]; · iexact H0
    iexact HO
  iintro ⟨H0, HO⟩
  iapply (load_at c rfl (hOff_inb _) (off6 1 rfl c)) $$ HX
  iintro HX
  unfold run; rw [wp_ret]; imodintro
  iapply Hk
  isplitr; · ipureintro; rfl
  isplitl [HX]; · iexact HX
  isplitl [HW]; · iexact HW
  isplitl [H0]; · iexact H0
  isplitl [HO]; · iexact HO
  isplitl [HZ]; · iexact HZ
  isplitl [R1]; · iexact R1
  isplitl [R2]; · iexact R2
  isplitl [R3]; · iexact R3
  isplitl [R4]; · iexact R4
  isplitl [R5]; · iexact R5
  isplitl [R6]; · iexact R6
  iexact R7

/-- Piece 5 of the kernel. -/
theorem part5 (c : Dev nD) (v9 v38 v40 v76 v84 : BitVec 32) {Q : (FVec F S512x128 .bf16) → sProp 𝕄} :
    iprop(recs X W K ∗ owns (c : Thread nD τ) xM fullShare (X c) ∗ owns (c : Thread nD τ) wM fullShare (W c) ∗ G0 c 1 ∗ G0 c 2 ∗ owing c (sends.drop 2) ∗ Rem c 1)
      ⊢ iprop((∀ r, (⌜r = (k0_pay5 (fun j => X c ((hRect (fl (crd 2 0 c))).emb j)) (fun j => W c ((cRect 2).emb j)))⌝ ∗ owns (c : Thread nD τ) xM fullShare (X c) ∗ owns (c : Thread nD τ) wM fullShare (W c) ∗ G3 c 1 ∗ G0 c 2 ∗ owing c (sends.drop 4)) -∗ Q r)
        -∗ run c (atArgs k0_part5 c v9 v38 v40 v76 v84 (k0_pay3 (fun j => X c ((hRect (fl (crd 1 0 c))).emb j)))) Q) := by
  unfold atArgs
  rw [k0_part5_eq_skeleton]; unfold k0_part5_skel
  simp only [semSignalWord, semWaitWord, Prog.lift, Prog.bind_op, Prog.bind_ret, Prog.pure_eq_ret, wp_deviceId]
  iintro ⟨#Hr, HX, HW, H1, H2, HO, R1⟩
  iintro Hk
  iapply (load_at c rfl (cOff_inb 1) (by rfl)) $$ HW
  iintro HW
  iapply (ev_half0 c 1 rfl (off6 1 rfl c)) $$ H1
  iintro %_v
  iintro H1
  iapply (ev_st0 X W c 1 rfl (off6 1 rfl c) (hw := rfl)) $$ H1
  iintro H1
  iapply (ev_s0 X W K c 1 (sends.drop 3) (slice_congr rfl (off8 1 rfl c)) (slice_congr rfl (off7 1 rfl c)) (dev6 c) rfl rfl) $$ [H1 R1 HO]
  · isplitr; · iexact Hr
    isplitl [H1]; · iexact H1
    isplitl [R1]; · iexact R1
    iexact HO
  iintro ⟨H1, HO⟩
  iapply (ev_s1 X W K c 1 (sends.drop 4) (slice_congr rfl (off10 1 rfl c)) (slice_congr rfl (off9 1 rfl c)) (dev7 c) rfl rfl) $$ [H1 HO]
  · isplitr; · iexact Hr
    isplitl [H1]; · iexact H1
    iexact HO
  iintro ⟨H1, HO⟩
  iapply (load_at c rfl (hOff_inb _) (off11 2 rfl c)) $$ HX
  iintro HX
  iapply (load_at c rfl (cOff_inb 2) (by rfl)) $$ HW
  iintro HW
  iapply (ev_half0 c 2 rfl (off11 2 rfl c)) $$ H2
  iintro %_v
  iintro H2
  unfold run; rw [wp_ret]; imodintro
  iapply Hk
  isplitr; · ipureintro; rfl
  isplitl [HX]; · iexact HX
  isplitl [HW]; · iexact HW
  isplitl [H1]; · iexact H1
  isplitl [H2]; · iexact H2
  iexact HO

/-- Piece 6 of the kernel. -/
theorem part6 (c : Dev nD) (v8 v10 v40 v42 v77 v78 v85 : BitVec 32) {Q : (PUnit) → sProp 𝕄} :
    iprop(recs X W K ∗ owns (c : Thread nD τ) xM fullShare (X c) ∗ owns (c : Thread nD τ) wM fullShare (W c) ∗ G0 c 2 ∗ G0 c 3 ∗ owing c (sends.drop 4) ∗ Rem c 2)
      ⊢ iprop((∀ r, (⌜True⌝ ∗ owns (c : Thread nD τ) xM fullShare (X c) ∗ owns (c : Thread nD τ) wM fullShare (W c) ∗ G3 c 2 ∗ G1 X W c 3 ∗ owing c (sends.drop 6)) -∗ Q r)
        -∗ run c (atArgs k0_part6 c v8 v10 v40 v42 v77 v78 v85 (k0_pay5 (fun j => X c ((hRect (fl (crd 2 0 c))).emb j)) (fun j => W c ((cRect 2).emb j)))) Q) := by
  unfold atArgs
  rw [k0_part6_eq_skeleton]; unfold k0_part6_skel
  simp only [semSignalWord, semWaitWord, Prog.lift, Prog.bind_op, Prog.bind_ret, Prog.pure_eq_ret, wp_deviceId]
  iintro ⟨#Hr, HX, HW, H2, H3, HO, R2⟩
  iintro Hk
  iapply (ev_st0 X W c 2 rfl (off11 2 rfl c) (hw := rfl)) $$ H2
  iintro H2
  iapply (ev_s0 X W K c 2 (sends.drop 5) (slice_congr rfl (off13 2 rfl c)) (slice_congr rfl (off12 2 rfl c)) (dev8 c) rfl rfl) $$ [H2 R2 HO]
  · isplitr; · iexact Hr
    isplitl [H2]; · iexact H2
    isplitl [R2]; · iexact R2
    iexact HO
  iintro ⟨H2, HO⟩
  iapply (ev_s1 X W K c 2 (sends.drop 6) (slice_congr rfl (off15 2 rfl c)) (slice_congr rfl (off14 2 rfl c)) (dev9 c) rfl rfl) $$ [H2 HO]
  · isplitr; · iexact Hr
    isplitl [H2]; · iexact H2
    iexact HO
  iintro ⟨H2, HO⟩
  iapply (load_at c rfl (hOff_inb _) (off1 3 rfl c)) $$ HX
  iintro HX
  iapply (load_at c rfl (cOff_inb 3) (by rfl)) $$ HW
  iintro HW
  iapply (ev_half0 c 3 rfl (off1 3 rfl c)) $$ H3
  iintro %_v
  iintro H3
  iapply (ev_st0 X W c 3 rfl (off1 3 rfl c) (hw := rfl)) $$ H3
  iintro H3
  unfold run; rw [wp_ret]; imodintro
  iapply Hk
  isplitr; · ipureintro; trivial
  isplitl [HX]; · iexact HX
  isplitl [HW]; · iexact HW
  isplitl [H2]; · iexact H2
  isplitl [H3]; · iexact H3
  iexact HO

/-- Piece 7 of the kernel. -/
theorem part7 (c : Dev nD) (v8 v9 v42 v44 v79 v86 v87 : BitVec 32) {Q : (BitVec 32) → sProp 𝕄} :
    iprop(recs X W K ∗ owns (c : Thread nD τ) xM fullShare (X c) ∗ owns (c : Thread nD τ) wM fullShare (W c) ∗ G1 X W c 3 ∗ G0 c 4 ∗ owing c (sends.drop 6) ∗ Rem c 3 ∗ Rem c 4)
      ⊢ iprop((∀ r, (⌜True⌝ ∗ owns (c : Thread nD τ) xM fullShare (X c) ∗ owns (c : Thread nD τ) wM fullShare (W c) ∗ G3 c 3 ∗ G2 X W c 4 ∗ owing c (sends.drop 9)) -∗ Q r)
        -∗ run c (atArgs k0_part7 c v8 v9 v42 v44 v79 v86 v87) Q) := by
  unfold atArgs
  rw [k0_part7_eq_skeleton]; unfold k0_part7_skel
  simp only [semSignalWord, semWaitWord, Prog.lift, Prog.bind_op, Prog.bind_ret, Prog.pure_eq_ret, wp_deviceId]
  iintro ⟨#Hr, HX, HW, H3, H4, HO, R3, R4⟩
  iintro Hk
  iapply (ev_s0 X W K c 3 (sends.drop 7) (slice_congr rfl (off3 3 rfl c)) (slice_congr rfl (off2 3 rfl c)) (dev10 c) rfl rfl) $$ [H3 R3 HO]
  · isplitr; · iexact Hr
    isplitl [H3]; · iexact H3
    isplitl [R3]; · iexact R3
    iexact HO
  iintro ⟨H3, HO⟩
  iapply (ev_s1 X W K c 3 (sends.drop 8) (slice_congr rfl (off5 3 rfl c)) (slice_congr rfl (off4 3 rfl c)) (dev11 c) rfl rfl) $$ [H3 HO]
  · isplitr; · iexact Hr
    isplitl [H3]; · iexact H3
    iexact HO
  iintro ⟨H3, HO⟩
  iapply (load_at c rfl (hOff_inb _) (off6 4 rfl c)) $$ HX
  iintro HX
  iapply (load_at c rfl (cOff_inb 4) (by rfl)) $$ HW
  iintro HW
  iapply (ev_half0 c 4 rfl (off6 4 rfl c)) $$ H4
  iintro %_v
  iintro H4
  iapply (ev_st0 X W c 4 rfl (off6 4 rfl c) (hw := rfl)) $$ H4
  iintro H4
  iapply (ev_s0 X W K c 4 (sends.drop 9) (slice_congr rfl (off8 4 rfl c)) (slice_congr rfl (off7 4 rfl c)) (dev12 c) rfl rfl) $$ [H4 R4 HO]
  · isplitr; · iexact Hr
    isplitl [H4]; · iexact H4
    isplitl [R4]; · iexact R4
    iexact HO
  iintro ⟨H4, HO⟩
  unfold run; rw [wp_ret]; imodintro
  iapply Hk
  isplitr; · ipureintro; trivial
  isplitl [HX]; · iexact HX
  isplitl [HW]; · iexact HW
  isplitl [H3]; · iexact H3
  isplitl [H4]; · iexact H4
  iexact HO

/-- Piece 8 of the kernel. -/
theorem part8 (c : Dev nD) (v9 v10 v46 v80 v88 c1_i32_127 : BitVec 32) {Q : (PUnit) → sProp 𝕄} :
    iprop(recs X W K ∗ owns (c : Thread nD τ) xM fullShare (X c) ∗ owns (c : Thread nD τ) wM fullShare (W c) ∗ G2 X W c 4 ∗ G0 c 5 ∗ owing c (sends.drop 9) ∗ Rem c 5)
      ⊢ iprop((∀ r, (⌜True⌝ ∗ owns (c : Thread nD τ) xM fullShare (X c) ∗ owns (c : Thread nD τ) wM fullShare (W c) ∗ G3 c 4 ∗ G2 X W c 5 ∗ owing c (sends.drop 11)) -∗ Q r)
        -∗ run c (atArgs k0_part8 c v9 v10 v46 v80 v88 c1_i32_127) Q) := by
  unfold atArgs
  rw [k0_part8_eq_skeleton]; unfold k0_part8_skel
  simp only [semSignalWord, semWaitWord, Prog.lift, Prog.bind_op, Prog.bind_ret, Prog.pure_eq_ret, wp_deviceId]
  iintro ⟨#Hr, HX, HW, H4, H5, HO, R5⟩
  iintro Hk
  iapply (ev_s1 X W K c 4 (sends.drop 10) (slice_congr rfl (off10 4 rfl c)) (slice_congr rfl (off9 4 rfl c)) (dev13 c) rfl rfl) $$ [H4 HO]
  · isplitr; · iexact Hr
    isplitl [H4]; · iexact H4
    iexact HO
  iintro ⟨H4, HO⟩
  iapply (load_at c rfl (hOff_inb _) (off11 5 rfl c)) $$ HX
  iintro HX
  iapply (load_at c rfl (cOff_inb 5) (by rfl)) $$ HW
  iintro HW
  iapply (ev_half0 c 5 rfl (off11 5 rfl c)) $$ H5
  iintro %_v
  iintro H5
  iapply (ev_st0 X W c 5 rfl (off11 5 rfl c) (hw := rfl)) $$ H5
  iintro H5
  iapply (ev_s0 X W K c 5 (sends.drop 11) (slice_congr rfl (off13 5 rfl c)) (slice_congr rfl (off12 5 rfl c)) (dev14 c) rfl rfl) $$ [H5 R5 HO]
  · isplitr; · iexact Hr
    isplitl [H5]; · iexact H5
    isplitl [R5]; · iexact R5
    iexact HO
  iintro ⟨H5, HO⟩
  unfold run; rw [wp_ret]; imodintro
  iapply Hk
  isplitr; · ipureintro; trivial
  isplitl [HX]; · iexact HX
  isplitl [HW]; · iexact HW
  isplitl [H4]; · iexact H4
  isplitl [H5]; · iexact H5
  iexact HO

end Parts

end Cert.ReduceProof

end
-- ==== Proof.Parts2.lean ====
/-
# The kernel, pieces 9 to 13

What each piece of the kernel does to what a device holds.
-/
module

public import proofs.«01_k».proof.Proof.Args

@[expose] public section

noncomputable section

namespace Cert.ReduceProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts
variable (X : Dev nD → Vec F S1024x128 .bf16) (W : Dev nD → Vec F S128x1024 .bf16) (K : Dev nD × CK → ℕ)

/-- Piece 9 of the kernel. -/
theorem part9 (c : Dev nD) (v8 v48 v50 v81 v89 : BitVec 32) {Q : (FVec F S512x128 .f32) → sProp 𝕄} :
    iprop(recs X W K ∗ owns (c : Thread nD τ) xM fullShare (X c) ∗ owns (c : Thread nD τ) wM fullShare (W c) ∗ G2 X W c 5 ∗ G0 c 6 ∗ owing c (sends.drop 11) ∗ Rem c 6)
      ⊢ iprop((∀ r, (⌜r = (k0_pay11 (fun j => X c ((hRect (fl (crd 7 0 c))).emb j)) (fun j => W c ((cRect 7).emb j)))⌝ ∗ owns (c : Thread nD τ) xM fullShare (X c) ∗ owns (c : Thread nD τ) wM fullShare (W c) ∗ G3 c 5 ∗ G3 c 6 ∗ owing c (sends.drop 14)) -∗ Q r)
        -∗ run c (atArgs k0_part9 c v8 v48 v50 v81 v89) Q) := by
  unfold atArgs
  rw [k0_part9_eq_skeleton]; unfold k0_part9_skel
  simp only [semSignalWord, semWaitWord, Prog.lift, Prog.bind_op, Prog.bind_ret, Prog.pure_eq_ret, wp_deviceId]
  iintro ⟨#Hr, HX, HW, H5, H6, HO, R6⟩
  iintro Hk
  iapply (ev_s1 X W K c 5 (sends.drop 12) (slice_congr rfl (off15 5 rfl c)) (slice_congr rfl (off14 5 rfl c)) (dev15 c) rfl rfl) $$ [H5 HO]
  · isplitr; · iexact Hr
    isplitl [H5]; · iexact H5
    iexact HO
  iintro ⟨H5, HO⟩
  iapply (load_at c rfl (hOff_inb _) (off1 6 rfl c)) $$ HX
  iintro HX
  iapply (load_at c rfl (cOff_inb 6) (by rfl)) $$ HW
  iintro HW
  iapply (ev_half0 c 6 rfl (off1 6 rfl c)) $$ H6
  iintro %_v
  iintro H6
  iapply (ev_st0 X W c 6 rfl (off1 6 rfl c) (hw := rfl)) $$ H6
  iintro H6
  iapply (ev_s0 X W K c 6 (sends.drop 13) (slice_congr rfl (off3 6 rfl c)) (slice_congr rfl (off2 6 rfl c)) (dev16 c) rfl rfl) $$ [H6 R6 HO]
  · isplitr; · iexact Hr
    isplitl [H6]; · iexact H6
    isplitl [R6]; · iexact R6
    iexact HO
  iintro ⟨H6, HO⟩
  iapply (ev_s1 X W K c 6 (sends.drop 14) (slice_congr rfl (off5 6 rfl c)) (slice_congr rfl (off4 6 rfl c)) (dev17 c) rfl rfl) $$ [H6 HO]
  · isplitr; · iexact Hr
    isplitl [H6]; · iexact H6
    iexact HO
  iintro ⟨H6, HO⟩
  iapply (load_at c rfl (hOff_inb _) (off6 7 rfl c)) $$ HX
  iintro HX
  iapply (load_at c rfl (cOff_inb 7) (by rfl)) $$ HW
  iintro HW
  unfold run; rw [wp_ret]; imodintro
  iapply Hk
  isplitr; · ipureintro; rfl
  isplitl [HX]; · iexact HX
  isplitl [HW]; · iexact HW
  isplitl [H5]; · iexact H5
  isplitl [H6]; · iexact H6
  iexact HO

/-- Piece 10 of the kernel. -/
theorem part10 (c : Dev nD) (v9 v11 v12 v50 v82 v90 : BitVec 32) {Q : (FVec F S512x128 .bf16) → sProp 𝕄} :
    iprop(recs X W K ∗ owns (c : Thread nD τ) xM fullShare (X c) ∗ owns (c : Thread nD τ) wM fullShare (W c) ∗ G3 c 0 ∗ G0 c 7 ∗ owing c (sends.drop 14) ∗ Rem c 7)
      ⊢ iprop((∀ r, (⌜r = (k0_pay14 (fun j => X c ((hRect (crd 1 0 c)).emb j)))⌝ ∗ owns (c : Thread nD τ) xM fullShare (X c) ∗ owns (c : Thread nD τ) wM fullShare (W c) ∗ G4 X W c 0 ∗ G3 c 7 ∗ owing c (sends.drop 16)) -∗ Q r)
        -∗ run c (atArgs k0_part10 c v9 v11 v12 v50 v82 v90 (k0_pay11 (fun j => X c ((hRect (fl (crd 7 0 c))).emb j)) (fun j => W c ((cRect 7).emb j)))) Q) := by
  unfold atArgs
  rw [k0_part10_eq_skeleton]; unfold k0_part10_skel
  simp only [semSignalWord, semWaitWord, Prog.lift, Prog.bind_op, Prog.bind_ret, Prog.pure_eq_ret, wp_deviceId]
  iintro ⟨#Hr, HX, HW, H0, H7, HO, R7⟩
  iintro Hk
  iapply (ev_half0 c 7 rfl (off6 7 rfl c)) $$ H7
  iintro %_v
  iintro H7
  iapply (ev_st0 X W c 7 rfl (off6 7 rfl c) (hw := rfl)) $$ H7
  iintro H7
  iapply (ev_s0 X W K c 7 (sends.drop 15) (slice_congr rfl (off8 7 rfl c)) (slice_congr rfl (off7 7 rfl c)) (dev18 c) rfl rfl) $$ [H7 R7 HO]
  · isplitr; · iexact Hr
    isplitl [H7]; · iexact H7
    isplitl [R7]; · iexact R7
    iexact HO
  iintro ⟨H7, HO⟩
  iapply (ev_s1 X W K c 7 (sends.drop 16) (slice_congr rfl (off10 7 rfl c)) (slice_congr rfl (off9 7 rfl c)) (dev19 c) rfl rfl) $$ [H7 HO]
  · isplitr; · iexact Hr
    isplitl [H7]; · iexact H7
    iexact HO
  iintro ⟨H7, HO⟩
  iapply (load_at c rfl (hOff_inb _) (off16 0 rfl c)) $$ HX
  iintro HX
  iapply (load_at c rfl (cOff_inb 0) (by rfl)) $$ HW
  iintro HW
  iapply (ev_half3 c 0 rfl (off16 0 rfl c)) $$ H0
  iintro %_v
  iintro H0
  iapply (ev_st3 X W c 0 rfl (off16 0 rfl c) (hw := rfl)) $$ H0
  iintro H0
  iapply (load_at c rfl (hOff_inb _) (off17 1 rfl c)) $$ HX
  iintro HX
  unfold run; rw [wp_ret]; imodintro
  iapply Hk
  isplitr; · ipureintro; rfl
  isplitl [HX]; · iexact HX
  isplitl [HW]; · iexact HW
  isplitl [H0]; · iexact H0
  isplitl [H7]; · iexact H7
  iexact HO

/-- Piece 11 of the kernel. -/
theorem part11 (c : Dev nD) (v12 v13 v14 v15 : BitVec 32) {Q : (FVec F S512x128 .bf16) → sProp 𝕄} :
    iprop(recs X W K ∗ owns (c : Thread nD τ) xM fullShare (X c) ∗ owns (c : Thread nD τ) wM fullShare (W c) ∗ G3 c 1 ∗ G3 c 2 ∗ G3 c 3)
      ⊢ iprop((∀ r, (⌜r = (k0_pay18 (fun j => X c ((hRect (crd 4 0 c)).emb j)) (fun j => W c ((cRect 4).emb j)))⌝ ∗ owns (c : Thread nD τ) xM fullShare (X c) ∗ owns (c : Thread nD τ) wM fullShare (W c) ∗ G4 X W c 1 ∗ G4 X W c 2 ∗ G4 X W c 3) -∗ Q r)
        -∗ run c (atArgs k0_part11 c v12 v13 v14 v15 (k0_pay14 (fun j => X c ((hRect (crd 1 0 c)).emb j)))) Q) := by
  unfold atArgs
  rw [k0_part11_eq_skeleton]; unfold k0_part11_skel
  simp only [semSignalWord, semWaitWord, Prog.lift, Prog.bind_op, Prog.bind_ret, Prog.pure_eq_ret, wp_deviceId]
  iintro ⟨#Hr, HX, HW, H1, H2, H3⟩
  iintro Hk
  iapply (load_at c rfl (cOff_inb 1) (by rfl)) $$ HW
  iintro HW
  iapply (ev_half3 c 1 rfl (off17 1 rfl c)) $$ H1
  iintro %_v
  iintro H1
  iapply (ev_st3 X W c 1 rfl (off17 1 rfl c) (hw := rfl)) $$ H1
  iintro H1
  iapply (load_at c rfl (hOff_inb _) (off18 2 rfl c)) $$ HX
  iintro HX
  iapply (load_at c rfl (cOff_inb 2) (by rfl)) $$ HW
  iintro HW
  iapply (ev_half3 c 2 rfl (off18 2 rfl c)) $$ H2
  iintro %_v
  iintro H2
  iapply (ev_st3 X W c 2 rfl (off18 2 rfl c) (hw := rfl)) $$ H2
  iintro H2
  iapply (load_at c rfl (hOff_inb _) (off16 3 rfl c)) $$ HX
  iintro HX
  iapply (load_at c rfl (cOff_inb 3) (by rfl)) $$ HW
  iintro HW
  iapply (ev_half3 c 3 rfl (off16 3 rfl c)) $$ H3
  iintro %_v
  iintro H3
  iapply (ev_st3 X W c 3 rfl (off16 3 rfl c) (hw := rfl)) $$ H3
  iintro H3
  iapply (load_at c rfl (hOff_inb _) (off17 4 rfl c)) $$ HX
  iintro HX
  iapply (load_at c rfl (cOff_inb 4) (by rfl)) $$ HW
  iintro HW
  unfold run; rw [wp_ret]; imodintro
  iapply Hk
  isplitr; · ipureintro; rfl
  isplitl [HX]; · iexact HX
  isplitl [HW]; · iexact HW
  isplitl [H1]; · iexact H1
  isplitl [H2]; · iexact H2
  iexact H3

/-- Piece 12 of the kernel. -/
theorem part12 (c : Dev nD) (v16 v17 v18 : BitVec 32) {Q : (PUnit) → sProp 𝕄} :
    iprop(recs X W K ∗ owns (c : Thread nD τ) xM fullShare (X c) ∗ owns (c : Thread nD τ) wM fullShare (W c) ∗ G3 c 4 ∗ G3 c 5 ∗ G3 c 6 ∗ G3 c 7)
      ⊢ iprop((∀ r, (⌜True⌝ ∗ owns (c : Thread nD τ) xM fullShare (X c) ∗ owns (c : Thread nD τ) wM fullShare (W c) ∗ G4 X W c 4 ∗ G4 X W c 5 ∗ G4 X W c 6 ∗ G4 X W c 7) -∗ Q r)
        -∗ run c (atArgs k0_part12 c v16 v17 v18 (k0_pay18 (fun j => X c ((hRect (crd 4 0 c)).emb j)) (fun j => W c ((cRect 4).emb j)))) Q) := by
  unfold atArgs
  rw [k0_part12_eq_skeleton]; unfold k0_part12_skel
  simp only [semSignalWord, semWaitWord, Prog.lift, Prog.bind_op, Prog.bind_ret, Prog.pure_eq_ret, wp_deviceId]
  iintro ⟨#Hr, HX, HW, H4, H5, H6, H7⟩
  iintro Hk
  iapply (ev_half3 c 4 rfl (off17 4 rfl c)) $$ H4
  iintro %_v
  iintro H4
  iapply (ev_st3 X W c 4 rfl (off17 4 rfl c) (hw := rfl)) $$ H4
  iintro H4
  iapply (load_at c rfl (hOff_inb _) (off18 5 rfl c)) $$ HX
  iintro HX
  iapply (load_at c rfl (cOff_inb 5) (by rfl)) $$ HW
  iintro HW
  iapply (ev_half3 c 5 rfl (off18 5 rfl c)) $$ H5
  iintro %_v
  iintro H5
  iapply (ev_st3 X W c 5 rfl (off18 5 rfl c) (hw := rfl)) $$ H5
  iintro H5
  iapply (load_at c rfl (hOff_inb _) (off16 6 rfl c)) $$ HX
  iintro HX
  iapply (load_at c rfl (cOff_inb 6) (by rfl)) $$ HW
  iintro HW
  iapply (ev_half3 c 6 rfl (off16 6 rfl c)) $$ H6
  iintro %_v
  iintro H6
  iapply (ev_st3 X W c 6 rfl (off16 6 rfl c) (hw := rfl)) $$ H6
  iintro H6
  iapply (load_at c rfl (hOff_inb _) (off17 7 rfl c)) $$ HX
  iintro HX
  iapply (load_at c rfl (cOff_inb 7) (by rfl)) $$ HW
  iintro HW
  iapply (ev_half3 c 7 rfl (off17 7 rfl c)) $$ H7
  iintro %_v
  iintro H7
  iapply (ev_st3 X W c 7 rfl (off17 7 rfl c) (hw := rfl)) $$ H7
  iintro H7
  unfold run; rw [wp_ret]; imodintro
  iapply Hk
  isplitr; · ipureintro; trivial
  isplitl [HX]; · iexact HX
  isplitl [HW]; · iexact HW
  isplitl [H4]; · iexact H4
  isplitl [H5]; · iexact H5
  isplitl [H6]; · iexact H6
  iexact H7

/-- Piece 13 of the kernel. -/
theorem part13 (c : Dev nD) (v8 v9 v53 v75 : BitVec 32) {Q : (PUnit) → sProp 𝕄} :
    iprop(recs X W K ∗ G4 X W c 0 ∗ owing c (sends.drop 16))
      ⊢ iprop((∀ r, (⌜True⌝ ∗ G9 X W c 0 ∗ owing c (sends.drop 17)) -∗ Q r)
        -∗ run c (atArgs k0_part13 c v8 v9 v53 v75) Q) := by
  unfold atArgs
  rw [k0_part13_eq_skeleton]; unfold k0_part13_skel
  simp only [semSignalWord, semWaitWord, Prog.lift, Prog.bind_op, Prog.bind_ret, Prog.pure_eq_ret, wp_deviceId]
  iintro ⟨#Hr, H0, HO⟩
  iintro Hk
  iapply (ev_ws0 X W K c 0 (sends.drop 16) (by decide) rfl (credit_q 0 rfl (off3 0 rfl c))) $$ [H0 HO]
  · isplitr; · iexact Hr
    isplitl [H0]; · iexact H0
    iexact HO
  iintro ⟨H0, HO⟩
  iapply (ev_wr0 X W K c 0 (sends.drop 16) (by decide) rfl (credit_h 0 rfl (off2 0 rfl c))) $$ [H0 HO]
  · isplitr; · iexact Hr
    isplitl [H0]; · iexact H0
    iexact HO
  iintro ⟨H0, HO⟩
  iapply (ev_ld6a X W c 0 rfl (off19 0 rfl c)) $$ H0
  iintro H0
  iapply (ev_ld6b X W c 0 rfl (off20 0 rfl c)) $$ H0
  iintro H0
  iapply (ev_ld6a X W c 0 rfl (off19 0 rfl c)) $$ H0
  iintro H0
  iapply (ev_st6 X W c 0 rfl (off19 0 rfl c) (hw := rfl)) $$ H0
  iintro H0
  iapply (ev_s2 X W K c 0 (sends.drop 17) (slice_congr rfl (off21 0 rfl c)) rfl (dev20 c) rfl rfl) $$ [H0 HO]
  · isplitr; · iexact Hr
    isplitl [H0]; · iexact H0
    iexact HO
  iintro ⟨H0, HO⟩
  iapply (ev_ws1 X W K c 0 (sends.drop 17) (by decide) rfl (credit_q 0 rfl (off5 0 rfl c))) $$ [H0 HO]
  · isplitr; · iexact Hr
    isplitl [H0]; · iexact H0
    iexact HO
  iintro ⟨H0, HO⟩
  unfold run; rw [wp_ret]; imodintro
  iapply Hk
  isplitr; · ipureintro; trivial
  isplitl [H0]; · iexact H0
  iexact HO

end Parts

end Cert.ReduceProof

end
-- ==== Proof.Parts3.lean ====
/-
# The kernel, pieces 14 to 20

What each piece of the kernel does to what a device holds.
-/
module

public import proofs.«01_k».proof.Proof.Args

@[expose] public section

noncomputable section

namespace Cert.ReduceProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts
variable (X : Dev nD → Vec F S1024x128 .bf16) (W : Dev nD → Vec F S128x1024 .bf16) (K : Dev nD × CK → ℕ)

/-- Piece 14 of the kernel. -/
theorem part14 (c : Dev nD) (v9 v10 v20 v56 v76 v83 : BitVec 32) {Q : (BitVec 32) → sProp 𝕄} :
    iprop(recs X W K ∗ G9 X W c 0 ∗ G4 X W c 1 ∗ owing c (sends.drop 17))
      ⊢ iprop((∀ r, (⌜True⌝ ∗ G11 X W c 0 ∗ G7 X W c 1 ∗ owing c (sends.drop 17)) -∗ Q r)
        -∗ run c (atArgs k0_part14 c v9 v10 v20 v56 v76 v83) Q) := by
  unfold atArgs
  rw [k0_part14_eq_skeleton]; unfold k0_part14_skel
  simp only [semSignalWord, semWaitWord, Prog.lift, Prog.bind_op, Prog.bind_ret, Prog.pure_eq_ret, wp_deviceId]
  iintro ⟨#Hr, H0, H1, HO⟩
  iintro Hk
  iapply (ev_wr1 X W K c 0 (sends.drop 17) (by decide) rfl (credit_h 0 rfl (off4 0 rfl c))) $$ [H0 HO]
  · isplitr; · iexact Hr
    isplitl [H0]; · iexact H0
    iexact HO
  iintro ⟨H0, HO⟩
  iapply (ev_ld10a X W c 0 rfl (off22 0 rfl c)) $$ H0
  iintro H0
  iapply (ev_ld10b X W c 0 rfl (off23 0 rfl c)) $$ H0
  iintro H0
  iapply (ev_ld10a X W c 0 rfl (off22 0 rfl c)) $$ H0
  iintro H0
  iapply (ev_st10 X W c 0 rfl (off22 0 rfl c) (hw := rfl)) $$ H0
  iintro H0
  iapply (ev_ws0 X W K c 1 (sends.drop 17) (by decide) rfl (credit_q 1 rfl (off8 1 rfl c))) $$ [H1 HO]
  · isplitr; · iexact Hr
    isplitl [H1]; · iexact H1
    iexact HO
  iintro ⟨H1, HO⟩
  iapply (ev_wr0 X W K c 1 (sends.drop 17) (by decide) rfl (credit_h 1 rfl (off7 1 rfl c))) $$ [H1 HO]
  · isplitr; · iexact Hr
    isplitl [H1]; · iexact H1
    iexact HO
  iintro ⟨H1, HO⟩
  iapply (ev_ld6a X W c 1 rfl (off24 1 rfl c)) $$ H1
  iintro H1
  iapply (ev_ld6b X W c 1 rfl (off25 1 rfl c)) $$ H1
  iintro H1
  iapply (ev_ld6a X W c 1 rfl (off24 1 rfl c)) $$ H1
  iintro H1
  iapply (ev_st6 X W c 1 rfl (off24 1 rfl c) (hw := rfl)) $$ H1
  iintro H1
  unfold run; rw [wp_ret]; imodintro
  iapply Hk
  isplitr; · ipureintro; trivial
  isplitl [H0]; · iexact H0
  isplitl [H1]; · iexact H1
  iexact HO

/-- Piece 15 of the kernel. -/
theorem part15 (c : Dev nD) (v9 v10 v22 v84 v498 : BitVec 32) {Q : (Σ' (v528 : BitVec 32), BitVec 32) → sProp 𝕄} :
    iprop(recs X W K ∗ G7 X W c 1 ∗ G4 X W c 2 ∗ owing c (sends.drop 17))
      ⊢ iprop((∀ r, (⌜True⌝ ∗ G11 X W c 1 ∗ G5 X W c 2 ∗ owing c (sends.drop 18)) -∗ Q r)
        -∗ run c (atArgs k0_part15 c v9 v10 v22 v84 v498) Q) := by
  unfold atArgs
  rw [k0_part15_eq_skeleton]; unfold k0_part15_skel
  simp only [semSignalWord, semWaitWord, Prog.lift, Prog.bind_op, Prog.bind_ret, Prog.pure_eq_ret, wp_deviceId]
  iintro ⟨#Hr, H1, H2, HO⟩
  iintro Hk
  iapply (ev_s2 X W K c 1 (sends.drop 18) (slice_congr rfl (off26 1 rfl c)) rfl (dev21 c) rfl rfl) $$ [H1 HO]
  · isplitr; · iexact Hr
    isplitl [H1]; · iexact H1
    iexact HO
  iintro ⟨H1, HO⟩
  iapply (ev_ws1 X W K c 1 (sends.drop 18) (by decide) rfl (credit_q 1 rfl (off10 1 rfl c))) $$ [H1 HO]
  · isplitr; · iexact Hr
    isplitl [H1]; · iexact H1
    iexact HO
  iintro ⟨H1, HO⟩
  iapply (ev_wr1 X W K c 1 (sends.drop 18) (by decide) rfl (credit_h 1 rfl (off9 1 rfl c))) $$ [H1 HO]
  · isplitr; · iexact Hr
    isplitl [H1]; · iexact H1
    iexact HO
  iintro ⟨H1, HO⟩
  iapply (ev_ld10a X W c 1 rfl (off27 1 rfl c)) $$ H1
  iintro H1
  iapply (ev_ld10b X W c 1 rfl (off28 1 rfl c)) $$ H1
  iintro H1
  iapply (ev_ld10a X W c 1 rfl (off27 1 rfl c)) $$ H1
  iintro H1
  iapply (ev_st10 X W c 1 rfl (off27 1 rfl c) (hw := rfl)) $$ H1
  iintro H1
  iapply (ev_ws0 X W K c 2 (sends.drop 18) (by decide) rfl (credit_q 2 rfl (off13 2 rfl c))) $$ [H2 HO]
  · isplitr; · iexact Hr
    isplitl [H2]; · iexact H2
    iexact HO
  iintro ⟨H2, HO⟩
  unfold run; rw [wp_ret]; imodintro
  iapply Hk
  isplitr; · ipureintro; trivial
  isplitl [H1]; · iexact H1
  isplitl [H2]; · iexact H2
  iexact HO

/-- Piece 16 of the kernel. -/
theorem part16 (c : Dev nD) (v8 v10 v24 v59 v77 v528 c0_i32_286 : BitVec 32) {Q : (Vec F S256x128 .bf16) → sProp 𝕄} :
    iprop(recs X W K ∗ G5 X W c 2 ∗ owing c (sends.drop 18))
      ⊢ iprop((∀ r, (⌜r = (A0 X W c 2 (crd 2 0 c) (crd 2 1 c))⌝ ∗ G10 X W c 2 ∗ owing c (sends.drop 19)) -∗ Q r)
        -∗ run c (atArgs k0_part16 c v8 v10 v24 v59 v77 v528 c0_i32_286) Q) := by
  unfold atArgs
  rw [k0_part16_eq_skeleton]; unfold k0_part16_skel
  simp only [semSignalWord, semWaitWord, Prog.lift, Prog.bind_op, Prog.bind_ret, Prog.pure_eq_ret, wp_deviceId]
  iintro ⟨#Hr, H2, HO⟩
  iintro Hk
  iapply (ev_wr0 X W K c 2 (sends.drop 18) (by decide) rfl (credit_h 2 rfl (off12 2 rfl c))) $$ [H2 HO]
  · isplitr; · iexact Hr
    isplitl [H2]; · iexact H2
    iexact HO
  iintro ⟨H2, HO⟩
  iapply (ev_ld6a X W c 2 rfl (off29 2 rfl c)) $$ H2
  iintro H2
  iapply (ev_ld6b X W c 2 rfl (off30 2 rfl c)) $$ H2
  iintro H2
  iapply (ev_ld6a X W c 2 rfl (off29 2 rfl c)) $$ H2
  iintro H2
  iapply (ev_st6 X W c 2 rfl (off29 2 rfl c) (hw := rfl)) $$ H2
  iintro H2
  iapply (ev_s2 X W K c 2 (sends.drop 19) (slice_congr rfl (off31 2 rfl c)) rfl (dev22 c) rfl rfl) $$ [H2 HO]
  · isplitr; · iexact Hr
    isplitl [H2]; · iexact H2
    iexact HO
  iintro ⟨H2, HO⟩
  iapply (ev_ws1 X W K c 2 (sends.drop 19) (by decide) rfl (credit_q 2 rfl (off15 2 rfl c))) $$ [H2 HO]
  · isplitr; · iexact Hr
    isplitl [H2]; · iexact H2
    iexact HO
  iintro ⟨H2, HO⟩
  iapply (ev_wr1 X W K c 2 (sends.drop 19) (by decide) rfl (credit_h 2 rfl (off14 2 rfl c))) $$ [H2 HO]
  · isplitr; · iexact Hr
    isplitl [H2]; · iexact H2
    iexact HO
  iintro ⟨H2, HO⟩
  iapply (ev_ld10a X W c 2 rfl (off32 2 rfl c)) $$ H2
  iintro H2
  unfold run; rw [wp_ret]; imodintro
  iapply Hk
  isplitr; · ipureintro; rfl
  isplitl [H2]; · iexact H2
  iexact HO

/-- Piece 17 of the kernel. -/
theorem part17 (c : Dev nD) (v8 v9 v24 v62 v78 v85 : BitVec 32) {Q : (PUnit) → sProp 𝕄} :
    iprop(recs X W K ∗ G10 X W c 2 ∗ G4 X W c 3 ∗ owing c (sends.drop 19))
      ⊢ iprop((∀ r, (⌜True⌝ ∗ G11 X W c 2 ∗ G8 X W c 3 ∗ owing c (sends.drop 20)) -∗ Q r)
        -∗ run c (atArgs k0_part17 c v8 v9 v24 v62 v78 v85 (A0 X W c 2 (crd 2 0 c) (crd 2 1 c))) Q) := by
  unfold atArgs
  rw [k0_part17_eq_skeleton]; unfold k0_part17_skel
  simp only [semSignalWord, semWaitWord, Prog.lift, Prog.bind_op, Prog.bind_ret, Prog.pure_eq_ret, wp_deviceId]
  iintro ⟨#Hr, H2, H3, HO⟩
  iintro Hk
  iapply (ev_ld10b X W c 2 rfl (off33 2 rfl c)) $$ H2
  iintro H2
  iapply (ev_ld10a X W c 2 rfl (off32 2 rfl c)) $$ H2
  iintro H2
  iapply (ev_st10 X W c 2 rfl (off32 2 rfl c) (hw := rfl)) $$ H2
  iintro H2
  iapply (ev_ws0 X W K c 3 (sends.drop 19) (by decide) rfl (credit_q 3 rfl (off3 3 rfl c))) $$ [H3 HO]
  · isplitr; · iexact Hr
    isplitl [H3]; · iexact H3
    iexact HO
  iintro ⟨H3, HO⟩
  iapply (ev_wr0 X W K c 3 (sends.drop 19) (by decide) rfl (credit_h 3 rfl (off2 3 rfl c))) $$ [H3 HO]
  · isplitr; · iexact Hr
    isplitl [H3]; · iexact H3
    iexact HO
  iintro ⟨H3, HO⟩
  iapply (ev_ld6a X W c 3 rfl (off19 3 rfl c)) $$ H3
  iintro H3
  iapply (ev_ld6b X W c 3 rfl (off20 3 rfl c)) $$ H3
  iintro H3
  iapply (ev_ld6a X W c 3 rfl (off19 3 rfl c)) $$ H3
  iintro H3
  iapply (ev_st6 X W c 3 rfl (off19 3 rfl c) (hw := rfl)) $$ H3
  iintro H3
  iapply (ev_s2 X W K c 3 (sends.drop 20) (slice_congr rfl (off21 3 rfl c)) rfl (dev23 c) rfl rfl) $$ [H3 HO]
  · isplitr; · iexact Hr
    isplitl [H3]; · iexact H3
    iexact HO
  iintro ⟨H3, HO⟩
  unfold run; rw [wp_ret]; imodintro
  iapply Hk
  isplitr; · ipureintro; trivial
  isplitl [H2]; · iexact H2
  isplitl [H3]; · iexact H3
  iexact HO

/-- Piece 18 of the kernel. -/
theorem part18 (c : Dev nD) (v8 v9 v26 v65 v86 : BitVec 32) {Q : (PUnit) → sProp 𝕄} :
    iprop(recs X W K ∗ G8 X W c 3 ∗ G4 X W c 4 ∗ owing c (sends.drop 20))
      ⊢ iprop((∀ r, (⌜True⌝ ∗ G11 X W c 3 ∗ G6 X W c 4 ∗ owing c (sends.drop 20)) -∗ Q r)
        -∗ run c (atArgs k0_part18 c v8 v9 v26 v65 v86) Q) := by
  unfold atArgs
  rw [k0_part18_eq_skeleton]; unfold k0_part18_skel
  simp only [semSignalWord, semWaitWord, Prog.lift, Prog.bind_op, Prog.bind_ret, Prog.pure_eq_ret, wp_deviceId]
  iintro ⟨#Hr, H3, H4, HO⟩
  iintro Hk
  iapply (ev_ws1 X W K c 3 (sends.drop 20) (by decide) rfl (credit_q 3 rfl (off5 3 rfl c))) $$ [H3 HO]
  · isplitr; · iexact Hr
    isplitl [H3]; · iexact H3
    iexact HO
  iintro ⟨H3, HO⟩
  iapply (ev_wr1 X W K c 3 (sends.drop 20) (by decide) rfl (credit_h 3 rfl (off4 3 rfl c))) $$ [H3 HO]
  · isplitr; · iexact Hr
    isplitl [H3]; · iexact H3
    iexact HO
  iintro ⟨H3, HO⟩
  iapply (ev_ld10a X W c 3 rfl (off22 3 rfl c)) $$ H3
  iintro H3
  iapply (ev_ld10b X W c 3 rfl (off23 3 rfl c)) $$ H3
  iintro H3
  iapply (ev_ld10a X W c 3 rfl (off22 3 rfl c)) $$ H3
  iintro H3
  iapply (ev_st10 X W c 3 rfl (off22 3 rfl c) (hw := rfl)) $$ H3
  iintro H3
  iapply (ev_ws0 X W K c 4 (sends.drop 20) (by decide) rfl (credit_q 4 rfl (off8 4 rfl c))) $$ [H4 HO]
  · isplitr; · iexact Hr
    isplitl [H4]; · iexact H4
    iexact HO
  iintro ⟨H4, HO⟩
  iapply (ev_wr0 X W K c 4 (sends.drop 20) (by decide) rfl (credit_h 4 rfl (off7 4 rfl c))) $$ [H4 HO]
  · isplitr; · iexact Hr
    isplitl [H4]; · iexact H4
    iexact HO
  iintro ⟨H4, HO⟩
  unfold run; rw [wp_ret]; imodintro
  iapply Hk
  isplitr; · ipureintro; trivial
  isplitl [H3]; · iexact H3
  isplitl [H4]; · iexact H4
  iexact HO

/-- Piece 19 of the kernel. -/
theorem part19 (c : Dev nD) (v9 v10 v28 v65 v79 v87 : BitVec 32) {Q : (PUnit) → sProp 𝕄} :
    iprop(recs X W K ∗ G6 X W c 4 ∗ owing c (sends.drop 20))
      ⊢ iprop((∀ r, (⌜True⌝ ∗ G11 X W c 4 ∗ owing c (sends.drop 21)) -∗ Q r)
        -∗ run c (atArgs k0_part19 c v9 v10 v28 v65 v79 v87) Q) := by
  unfold atArgs
  rw [k0_part19_eq_skeleton]; unfold k0_part19_skel
  simp only [semSignalWord, semWaitWord, Prog.lift, Prog.bind_op, Prog.bind_ret, Prog.pure_eq_ret, wp_deviceId]
  iintro ⟨#Hr, H4, HO⟩
  iintro Hk
  iapply (ev_ld6a X W c 4 rfl (off24 4 rfl c)) $$ H4
  iintro H4
  iapply (ev_ld6b X W c 4 rfl (off25 4 rfl c)) $$ H4
  iintro H4
  iapply (ev_ld6a X W c 4 rfl (off24 4 rfl c)) $$ H4
  iintro H4
  iapply (ev_st6 X W c 4 rfl (off24 4 rfl c) (hw := rfl)) $$ H4
  iintro H4
  iapply (ev_s2 X W K c 4 (sends.drop 21) (slice_congr rfl (off26 4 rfl c)) rfl (dev24 c) rfl rfl) $$ [H4 HO]
  · isplitr; · iexact Hr
    isplitl [H4]; · iexact H4
    iexact HO
  iintro ⟨H4, HO⟩
  iapply (ev_ws1 X W K c 4 (sends.drop 21) (by decide) rfl (credit_q 4 rfl (off10 4 rfl c))) $$ [H4 HO]
  · isplitr; · iexact Hr
    isplitl [H4]; · iexact H4
    iexact HO
  iintro ⟨H4, HO⟩
  iapply (ev_wr1 X W K c 4 (sends.drop 21) (by decide) rfl (credit_h 4 rfl (off9 4 rfl c))) $$ [H4 HO]
  · isplitr; · iexact Hr
    isplitl [H4]; · iexact H4
    iexact HO
  iintro ⟨H4, HO⟩
  iapply (ev_ld10a X W c 4 rfl (off27 4 rfl c)) $$ H4
  iintro H4
  iapply (ev_ld10b X W c 4 rfl (off28 4 rfl c)) $$ H4
  iintro H4
  iapply (ev_ld10a X W c 4 rfl (off27 4 rfl c)) $$ H4
  iintro H4
  iapply (ev_st10 X W c 4 rfl (off27 4 rfl c) (hw := rfl)) $$ H4
  iintro H4
  unfold run; rw [wp_ret]; imodintro
  iapply Hk
  isplitr; · ipureintro; trivial
  isplitl [H4]; · iexact H4
  iexact HO

/-- Piece 20 of the kernel. -/
theorem part20 (c : Dev nD) (v8 v10 v68 v80 : BitVec 32) {Q : (PUnit) → sProp 𝕄} :
    iprop(recs X W K ∗ G4 X W c 5 ∗ owing c (sends.drop 21))
      ⊢ iprop((∀ r, (⌜True⌝ ∗ G9 X W c 5 ∗ owing c (sends.drop 22)) -∗ Q r)
        -∗ run c (atArgs k0_part20 c v8 v10 v68 v80) Q) := by
  unfold atArgs
  rw [k0_part20_eq_skeleton]; unfold k0_part20_skel
  simp only [semSignalWord, semWaitWord, Prog.lift, Prog.bind_op, Prog.bind_ret, Prog.pure_eq_ret, wp_deviceId]
  iintro ⟨#Hr, H5, HO⟩
  iintro Hk
  iapply (ev_ws0 X W K c 5 (sends.drop 21) (by decide) rfl (credit_q 5 rfl (off13 5 rfl c))) $$ [H5 HO]
  · isplitr; · iexact Hr
    isplitl [H5]; · iexact H5
    iexact HO
  iintro ⟨H5, HO⟩
  iapply (ev_wr0 X W K c 5 (sends.drop 21) (by decide) rfl (credit_h 5 rfl (off12 5 rfl c))) $$ [H5 HO]
  · isplitr; · iexact Hr
    isplitl [H5]; · iexact H5
    iexact HO
  iintro ⟨H5, HO⟩
  iapply (ev_ld6a X W c 5 rfl (off29 5 rfl c)) $$ H5
  iintro H5
  iapply (ev_ld6b X W c 5 rfl (off30 5 rfl c)) $$ H5
  iintro H5
  iapply (ev_ld6a X W c 5 rfl (off29 5 rfl c)) $$ H5
  iintro H5
  iapply (ev_st6 X W c 5 rfl (off29 5 rfl c) (hw := rfl)) $$ H5
  iintro H5
  iapply (ev_s2 X W K c 5 (sends.drop 22) (slice_congr rfl (off31 5 rfl c)) rfl (dev25 c) rfl rfl) $$ [H5 HO]
  · isplitr; · iexact Hr
    isplitl [H5]; · iexact H5
    iexact HO
  iintro ⟨H5, HO⟩
  iapply (ev_ws1 X W K c 5 (sends.drop 22) (by decide) rfl (credit_q 5 rfl (off15 5 rfl c))) $$ [H5 HO]
  · isplitr; · iexact Hr
    isplitl [H5]; · iexact H5
    iexact HO
  iintro ⟨H5, HO⟩
  unfold run; rw [wp_ret]; imodintro
  iapply Hk
  isplitr; · ipureintro; trivial
  isplitl [H5]; · iexact H5
  iexact HO

end Parts

end Cert.ReduceProof

end
-- ==== Proof.Parts4.lean ====
/-
# The kernel, pieces 21 to 26

What each piece of the kernel does to what a device holds.
-/
module

public import proofs.«01_k».proof.Proof.Args

@[expose] public section

noncomputable section

namespace Cert.ReduceProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts
variable (X : Dev nD → Vec F S1024x128 .bf16) (W : Dev nD → Vec F S128x1024 .bf16) (K : Dev nD × CK → ℕ)

/-- Piece 21 of the kernel. -/
theorem part21 (c : Dev nD) (v8 v10 v30 v71 v81 v88 : BitVec 32) {Q : (FVec F S256x128 .bf16) → sProp 𝕄} :
    iprop(recs X W K ∗ G9 X W c 5 ∗ G4 X W c 6 ∗ owing c (sends.drop 22))
      ⊢ iprop((∀ r, (⌜r = (k0_pay35 (A0 X W c 6 (crd 6 0 c) (fl (crd 6 1 c))) (A0 X W (par 6 0 c) 6 (crd 6 0 c) (fl (crd 6 1 c))))⌝ ∗ G11 X W c 5 ∗ G6 X W c 6 ∗ owing c (sends.drop 22)) -∗ Q r)
        -∗ run c (atArgs k0_part21 c v8 v10 v30 v71 v81 v88) Q) := by
  unfold atArgs
  rw [k0_part21_eq_skeleton]; unfold k0_part21_skel
  simp only [semSignalWord, semWaitWord, Prog.lift, Prog.bind_op, Prog.bind_ret, Prog.pure_eq_ret, wp_deviceId]
  iintro ⟨#Hr, H5, H6, HO⟩
  iintro Hk
  iapply (ev_wr1 X W K c 5 (sends.drop 22) (by decide) rfl (credit_h 5 rfl (off14 5 rfl c))) $$ [H5 HO]
  · isplitr; · iexact Hr
    isplitl [H5]; · iexact H5
    iexact HO
  iintro ⟨H5, HO⟩
  iapply (ev_ld10a X W c 5 rfl (off32 5 rfl c)) $$ H5
  iintro H5
  iapply (ev_ld10b X W c 5 rfl (off33 5 rfl c)) $$ H5
  iintro H5
  iapply (ev_ld10a X W c 5 rfl (off32 5 rfl c)) $$ H5
  iintro H5
  iapply (ev_st10 X W c 5 rfl (off32 5 rfl c) (hw := rfl)) $$ H5
  iintro H5
  iapply (ev_ws0 X W K c 6 (sends.drop 22) (by decide) rfl (credit_q 6 rfl (off3 6 rfl c))) $$ [H6 HO]
  · isplitr; · iexact Hr
    isplitl [H6]; · iexact H6
    iexact HO
  iintro ⟨H6, HO⟩
  iapply (ev_wr0 X W K c 6 (sends.drop 22) (by decide) rfl (credit_h 6 rfl (off2 6 rfl c))) $$ [H6 HO]
  · isplitr; · iexact Hr
    isplitl [H6]; · iexact H6
    iexact HO
  iintro ⟨H6, HO⟩
  iapply (ev_ld6a X W c 6 rfl (off19 6 rfl c)) $$ H6
  iintro H6
  iapply (ev_ld6b X W c 6 rfl (off20 6 rfl c)) $$ H6
  iintro H6
  iapply (ev_ld6a X W c 6 rfl (off19 6 rfl c)) $$ H6
  iintro H6
  unfold run; rw [wp_ret]; imodintro
  iapply Hk
  isplitr; · ipureintro; rfl
  isplitl [H5]; · iexact H5
  isplitl [H6]; · iexact H6
  iexact HO

/-- Piece 22 of the kernel. -/
theorem part22 (c : Dev nD) (v8 v9 v32 v89 : BitVec 32) {Q : (PUnit) → sProp 𝕄} :
    iprop(recs X W K ∗ G6 X W c 6 ∗ G4 X W c 7 ∗ owing c (sends.drop 22))
      ⊢ iprop((∀ r, (⌜True⌝ ∗ G11 X W c 6 ∗ G5 X W c 7 ∗ owing c (sends.drop 23)) -∗ Q r)
        -∗ run c (atArgs k0_part22 c v8 v9 v32 v89 (k0_pay35 (A0 X W c 6 (crd 6 0 c) (fl (crd 6 1 c))) (A0 X W (par 6 0 c) 6 (crd 6 0 c) (fl (crd 6 1 c))))) Q) := by
  unfold atArgs
  rw [k0_part22_eq_skeleton]; unfold k0_part22_skel
  simp only [semSignalWord, semWaitWord, Prog.lift, Prog.bind_op, Prog.bind_ret, Prog.pure_eq_ret, wp_deviceId]
  iintro ⟨#Hr, H6, H7, HO⟩
  iintro Hk
  iapply (ev_st6 X W c 6 rfl (off19 6 rfl c) (hw := rfl)) $$ H6
  iintro H6
  iapply (ev_s2 X W K c 6 (sends.drop 23) (slice_congr rfl (off21 6 rfl c)) rfl (dev26 c) rfl rfl) $$ [H6 HO]
  · isplitr; · iexact Hr
    isplitl [H6]; · iexact H6
    iexact HO
  iintro ⟨H6, HO⟩
  iapply (ev_ws1 X W K c 6 (sends.drop 23) (by decide) rfl (credit_q 6 rfl (off5 6 rfl c))) $$ [H6 HO]
  · isplitr; · iexact Hr
    isplitl [H6]; · iexact H6
    iexact HO
  iintro ⟨H6, HO⟩
  iapply (ev_wr1 X W K c 6 (sends.drop 23) (by decide) rfl (credit_h 6 rfl (off4 6 rfl c))) $$ [H6 HO]
  · isplitr; · iexact Hr
    isplitl [H6]; · iexact H6
    iexact HO
  iintro ⟨H6, HO⟩
  iapply (ev_ld10a X W c 6 rfl (off22 6 rfl c)) $$ H6
  iintro H6
  iapply (ev_ld10b X W c 6 rfl (off23 6 rfl c)) $$ H6
  iintro H6
  iapply (ev_ld10a X W c 6 rfl (off22 6 rfl c)) $$ H6
  iintro H6
  iapply (ev_st10 X W c 6 rfl (off22 6 rfl c) (hw := rfl)) $$ H6
  iintro H6
  iapply (ev_ws0 X W K c 7 (sends.drop 23) (by decide) rfl (credit_q 7 rfl (off8 7 rfl c))) $$ [H7 HO]
  · isplitr; · iexact Hr
    isplitl [H7]; · iexact H7
    iexact HO
  iintro ⟨H7, HO⟩
  unfold run; rw [wp_ret]; imodintro
  iapply Hk
  isplitr; · ipureintro; trivial
  isplitl [H6]; · iexact H6
  isplitl [H7]; · iexact H7
  iexact HO

/-- Piece 23 of the kernel. -/
theorem part23 (c : Dev nD) (v9 v10 v74 v82 : BitVec 32) {Q : (PUnit) → sProp 𝕄} :
    iprop(recs X W K ∗ G5 X W c 7 ∗ owing c (sends.drop 23))
      ⊢ iprop((∀ r, (⌜True⌝ ∗ G9 X W c 7 ∗ owing c (sends.drop 24)) -∗ Q r)
        -∗ run c (atArgs k0_part23 c v9 v10 v74 v82) Q) := by
  unfold atArgs
  rw [k0_part23_eq_skeleton]; unfold k0_part23_skel
  simp only [semSignalWord, semWaitWord, Prog.lift, Prog.bind_op, Prog.bind_ret, Prog.pure_eq_ret, wp_deviceId]
  iintro ⟨#Hr, H7, HO⟩
  iintro Hk
  iapply (ev_wr0 X W K c 7 (sends.drop 23) (by decide) rfl (credit_h 7 rfl (off7 7 rfl c))) $$ [H7 HO]
  · isplitr; · iexact Hr
    isplitl [H7]; · iexact H7
    iexact HO
  iintro ⟨H7, HO⟩
  iapply (ev_ld6a X W c 7 rfl (off24 7 rfl c)) $$ H7
  iintro H7
  iapply (ev_ld6b X W c 7 rfl (off25 7 rfl c)) $$ H7
  iintro H7
  iapply (ev_ld6a X W c 7 rfl (off24 7 rfl c)) $$ H7
  iintro H7
  iapply (ev_st6 X W c 7 rfl (off24 7 rfl c) (hw := rfl)) $$ H7
  iintro H7
  iapply (ev_s2 X W K c 7 (sends.drop 24) (slice_congr rfl (off26 7 rfl c)) rfl (dev27 c) rfl rfl) $$ [H7 HO]
  · isplitr; · iexact Hr
    isplitl [H7]; · iexact H7
    iexact HO
  iintro ⟨H7, HO⟩
  iapply (ev_ws1 X W K c 7 (sends.drop 24) (by decide) rfl (credit_q 7 rfl (off10 7 rfl c))) $$ [H7 HO]
  · isplitr; · iexact Hr
    isplitl [H7]; · iexact H7
    iexact HO
  iintro ⟨H7, HO⟩
  unfold run; rw [wp_ret]; imodintro
  iapply Hk
  isplitr; · ipureintro; trivial
  isplitl [H7]; · iexact H7
  iexact HO

/-- Piece 24 of the kernel. -/
theorem part24 (c : Dev nD) (v9 v10 v20 v34 v90 : BitVec 32) {Q : (PUnit) → sProp 𝕄} :
    iprop(recs X W K ∗ G11 X W c 0 ∗ G9 X W c 7 ∗ owing c (sends.drop 24))
      ⊢ iprop((∀ r, (⌜True⌝ ∗ G15 X W c 0 ∗ G11 X W c 7 ∗ owing c (sends.drop 25)) -∗ Q r)
        -∗ run c (atArgs k0_part24 c v9 v10 v20 v34 v90) Q) := by
  unfold atArgs
  rw [k0_part24_eq_skeleton]; unfold k0_part24_skel
  simp only [semSignalWord, semWaitWord, Prog.lift, Prog.bind_op, Prog.bind_ret, Prog.pure_eq_ret, wp_deviceId]
  iintro ⟨#Hr, H0, H7, HO⟩
  iintro Hk
  iapply (ev_wr1 X W K c 7 (sends.drop 24) (by decide) rfl (credit_h 7 rfl (off9 7 rfl c))) $$ [H7 HO]
  · isplitr; · iexact Hr
    isplitl [H7]; · iexact H7
    iexact HO
  iintro ⟨H7, HO⟩
  iapply (ev_ld10a X W c 7 rfl (off27 7 rfl c)) $$ H7
  iintro H7
  iapply (ev_ld10b X W c 7 rfl (off28 7 rfl c)) $$ H7
  iintro H7
  iapply (ev_ld10a X W c 7 rfl (off27 7 rfl c)) $$ H7
  iintro H7
  iapply (ev_st10 X W c 7 rfl (off27 7 rfl c) (hw := rfl)) $$ H7
  iintro H7
  iapply (ev_ws2 X W K c 0 (sends.drop 24) (by decide) rfl (credit_q 0 rfl (off21 0 rfl c))) $$ [H0 HO]
  · isplitr; · iexact Hr
    isplitl [H0]; · iexact H0
    iexact HO
  iintro ⟨H0, HO⟩
  iapply (ev_wr2 X W K c 0 (sends.drop 24) (by decide) rfl (credit_r1 0)) $$ [H0 HO]
  · isplitr; · iexact Hr
    isplitl [H0]; · iexact H0
    iexact HO
  iintro ⟨H0, HO⟩
  iapply (ev_ld13a X W c 0 rfl (off22 0 rfl c)) $$ H0
  iintro H0
  iapply (ev_ld13b X W c 0 rfl (fun a => by fin_cases a <;> rfl)) $$ H0
  iintro H0
  iapply (ev_ld13a X W c 0 rfl (off22 0 rfl c)) $$ H0
  iintro H0
  iapply (ev_st13 X W c 0 rfl (off22 0 rfl c) (hw := rfl)) $$ H0
  iintro H0
  iapply (ev_s3 X W K c 0 (sends.drop 25) (slice_congr rfl (off34 0 rfl c)) rfl (dev28 c) rfl rfl) $$ [H0 HO]
  · isplitr; · iexact Hr
    isplitl [H0]; · iexact H0
    iexact HO
  iintro ⟨H0, HO⟩
  unfold run; rw [wp_ret]; imodintro
  iapply Hk
  isplitr; · ipureintro; trivial
  isplitl [H0]; · iexact H0
  isplitl [H7]; · iexact H7
  iexact HO

/-- Piece 25 of the kernel. -/
theorem part25 (c : Dev nD) (v8 v10 v22 : BitVec 32) {Q : (PUnit) → sProp 𝕄} :
    iprop(recs X W K ∗ G11 X W c 1 ∗ G11 X W c 2 ∗ owing c (sends.drop 25))
      ⊢ iprop((∀ r, (⌜True⌝ ∗ G15 X W c 1 ∗ G12 X W c 2 ∗ owing c (sends.drop 26)) -∗ Q r)
        -∗ run c (atArgs k0_part25 c v8 v10 v22) Q) := by
  unfold atArgs
  rw [k0_part25_eq_skeleton]; unfold k0_part25_skel
  simp only [semSignalWord, semWaitWord, Prog.lift, Prog.bind_op, Prog.bind_ret, Prog.pure_eq_ret, wp_deviceId]
  iintro ⟨#Hr, H1, H2, HO⟩
  iintro Hk
  iapply (ev_ws2 X W K c 1 (sends.drop 25) (by decide) rfl (credit_q 1 rfl (off26 1 rfl c))) $$ [H1 HO]
  · isplitr; · iexact Hr
    isplitl [H1]; · iexact H1
    iexact HO
  iintro ⟨H1, HO⟩
  iapply (ev_wr2 X W K c 1 (sends.drop 25) (by decide) rfl (credit_r1 1)) $$ [H1 HO]
  · isplitr; · iexact Hr
    isplitl [H1]; · iexact H1
    iexact HO
  iintro ⟨H1, HO⟩
  iapply (ev_ld13a X W c 1 rfl (off27 1 rfl c)) $$ H1
  iintro H1
  iapply (ev_ld13b X W c 1 rfl (fun a => by fin_cases a <;> rfl)) $$ H1
  iintro H1
  iapply (ev_ld13a X W c 1 rfl (off27 1 rfl c)) $$ H1
  iintro H1
  iapply (ev_st13 X W c 1 rfl (off27 1 rfl c) (hw := rfl)) $$ H1
  iintro H1
  iapply (ev_s3 X W K c 1 (sends.drop 26) (slice_congr rfl (off35 1 rfl c)) rfl (dev29 c) rfl rfl) $$ [H1 HO]
  · isplitr; · iexact Hr
    isplitl [H1]; · iexact H1
    iexact HO
  iintro ⟨H1, HO⟩
  iapply (ev_ws2 X W K c 2 (sends.drop 26) (by decide) rfl (credit_q 2 rfl (off31 2 rfl c))) $$ [H2 HO]
  · isplitr; · iexact Hr
    isplitl [H2]; · iexact H2
    iexact HO
  iintro ⟨H2, HO⟩
  unfold run; rw [wp_ret]; imodintro
  iapply Hk
  isplitr; · ipureintro; trivial
  isplitl [H1]; · iexact H1
  isplitl [H2]; · iexact H2
  iexact HO

/-- Piece 26 of the kernel. -/
theorem part26 (c : Dev nD) (v9 v24 v26 : BitVec 32) {Q : (FVec F S256x128 .bf16) → sProp 𝕄} :
    iprop(recs X W K ∗ G12 X W c 2 ∗ G11 X W c 3 ∗ owing c (sends.drop 26))
      ⊢ iprop((∀ r, (⌜r = (k0_pay42 (A1 X W c 3 (crd 3 1 c)) (A1 X W (par 3 1 c) 3 (crd 3 1 c)))⌝ ∗ G15 X W c 2 ∗ G13 X W c 3 ∗ owing c (sends.drop 27)) -∗ Q r)
        -∗ run c (atArgs k0_part26 c v9 v24 v26) Q) := by
  unfold atArgs
  rw [k0_part26_eq_skeleton]; unfold k0_part26_skel
  simp only [semSignalWord, semWaitWord, Prog.lift, Prog.bind_op, Prog.bind_ret, Prog.pure_eq_ret, wp_deviceId]
  iintro ⟨#Hr, H2, H3, HO⟩
  iintro Hk
  iapply (ev_wr2 X W K c 2 (sends.drop 26) (by decide) rfl (credit_r1 2)) $$ [H2 HO]
  · isplitr; · iexact Hr
    isplitl [H2]; · iexact H2
    iexact HO
  iintro ⟨H2, HO⟩
  iapply (ev_ld13a X W c 2 rfl (off32 2 rfl c)) $$ H2
  iintro H2
  iapply (ev_ld13b X W c 2 rfl (fun a => by fin_cases a <;> rfl)) $$ H2
  iintro H2
  iapply (ev_ld13a X W c 2 rfl (off32 2 rfl c)) $$ H2
  iintro H2
  iapply (ev_st13 X W c 2 rfl (off32 2 rfl c) (hw := rfl)) $$ H2
  iintro H2
  iapply (ev_s3 X W K c 2 (sends.drop 27) (slice_congr rfl (off36 2 rfl c)) rfl (dev30 c) rfl rfl) $$ [H2 HO]
  · isplitr; · iexact Hr
    isplitl [H2]; · iexact H2
    iexact HO
  iintro ⟨H2, HO⟩
  iapply (ev_ws2 X W K c 3 (sends.drop 27) (by decide) rfl (credit_q 3 rfl (off21 3 rfl c))) $$ [H3 HO]
  · isplitr; · iexact Hr
    isplitl [H3]; · iexact H3
    iexact HO
  iintro ⟨H3, HO⟩
  iapply (ev_wr2 X W K c 3 (sends.drop 27) (by decide) rfl (credit_r1 3)) $$ [H3 HO]
  · isplitr; · iexact Hr
    isplitl [H3]; · iexact H3
    iexact HO
  iintro ⟨H3, HO⟩
  iapply (ev_ld13a X W c 3 rfl (off22 3 rfl c)) $$ H3
  iintro H3
  iapply (ev_ld13b X W c 3 rfl (fun a => by fin_cases a <;> rfl)) $$ H3
  iintro H3
  iapply (ev_ld13a X W c 3 rfl (off22 3 rfl c)) $$ H3
  iintro H3
  unfold run; rw [wp_ret]; imodintro
  iapply Hk
  isplitr; · ipureintro; rfl
  isplitl [H2]; · iexact H2
  isplitl [H3]; · iexact H3
  iexact HO

end Parts

end Cert.ReduceProof

end
-- ==== Proof.Parts5.lean ====
/-
# The kernel, pieces 27 to 33

What each piece of the kernel does to what a device holds.
-/
module

public import proofs.«01_k».proof.Proof.Args

@[expose] public section

noncomputable section

namespace Cert.ReduceProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts
variable (X : Dev nD → Vec F S1024x128 .bf16) (W : Dev nD → Vec F S128x1024 .bf16) (K : Dev nD × CK → ℕ)

/-- Piece 27 of the kernel. -/
theorem part27 (c : Dev nD) (v8 v10 v28 : BitVec 32) {Q : (PUnit) → sProp 𝕄} :
    iprop(recs X W K ∗ G13 X W c 3 ∗ G11 X W c 4 ∗ owing c (sends.drop 27))
      ⊢ iprop((∀ r, (⌜True⌝ ∗ G15 X W c 3 ∗ G15 X W c 4 ∗ owing c (sends.drop 29)) -∗ Q r)
        -∗ run c (atArgs k0_part27 c v8 v10 v28 (k0_pay42 (A1 X W c 3 (crd 3 1 c)) (A1 X W (par 3 1 c) 3 (crd 3 1 c)))) Q) := by
  unfold atArgs
  rw [k0_part27_eq_skeleton]; unfold k0_part27_skel
  simp only [semSignalWord, semWaitWord, Prog.lift, Prog.bind_op, Prog.bind_ret, Prog.pure_eq_ret, wp_deviceId]
  iintro ⟨#Hr, H3, H4, HO⟩
  iintro Hk
  iapply (ev_st13 X W c 3 rfl (off22 3 rfl c) (hw := rfl)) $$ H3
  iintro H3
  iapply (ev_s3 X W K c 3 (sends.drop 28) (slice_congr rfl (off34 3 rfl c)) rfl (dev31 c) rfl rfl) $$ [H3 HO]
  · isplitr; · iexact Hr
    isplitl [H3]; · iexact H3
    iexact HO
  iintro ⟨H3, HO⟩
  iapply (ev_ws2 X W K c 4 (sends.drop 28) (by decide) rfl (credit_q 4 rfl (off26 4 rfl c))) $$ [H4 HO]
  · isplitr; · iexact Hr
    isplitl [H4]; · iexact H4
    iexact HO
  iintro ⟨H4, HO⟩
  iapply (ev_wr2 X W K c 4 (sends.drop 28) (by decide) rfl (credit_r1 4)) $$ [H4 HO]
  · isplitr; · iexact Hr
    isplitl [H4]; · iexact H4
    iexact HO
  iintro ⟨H4, HO⟩
  iapply (ev_ld13a X W c 4 rfl (off27 4 rfl c)) $$ H4
  iintro H4
  iapply (ev_ld13b X W c 4 rfl (fun a => by fin_cases a <;> rfl)) $$ H4
  iintro H4
  iapply (ev_ld13a X W c 4 rfl (off27 4 rfl c)) $$ H4
  iintro H4
  iapply (ev_st13 X W c 4 rfl (off27 4 rfl c) (hw := rfl)) $$ H4
  iintro H4
  iapply (ev_s3 X W K c 4 (sends.drop 29) (slice_congr rfl (off35 4 rfl c)) rfl (dev32 c) rfl rfl) $$ [H4 HO]
  · isplitr; · iexact Hr
    isplitl [H4]; · iexact H4
    iexact HO
  iintro ⟨H4, HO⟩
  unfold run; rw [wp_ret]; imodintro
  iapply Hk
  isplitr; · ipureintro; trivial
  isplitl [H3]; · iexact H3
  isplitl [H4]; · iexact H4
  iexact HO

/-- Piece 28 of the kernel. -/
theorem part28 (c : Dev nD) (v8 v9 v30 : BitVec 32) {Q : (PUnit) → sProp 𝕄} :
    iprop(recs X W K ∗ G11 X W c 5 ∗ G11 X W c 6 ∗ owing c (sends.drop 29))
      ⊢ iprop((∀ r, (⌜True⌝ ∗ G15 X W c 5 ∗ G12 X W c 6 ∗ owing c (sends.drop 30)) -∗ Q r)
        -∗ run c (atArgs k0_part28 c v8 v9 v30) Q) := by
  unfold atArgs
  rw [k0_part28_eq_skeleton]; unfold k0_part28_skel
  simp only [semSignalWord, semWaitWord, Prog.lift, Prog.bind_op, Prog.bind_ret, Prog.pure_eq_ret, wp_deviceId]
  iintro ⟨#Hr, H5, H6, HO⟩
  iintro Hk
  iapply (ev_ws2 X W K c 5 (sends.drop 29) (by decide) rfl (credit_q 5 rfl (off31 5 rfl c))) $$ [H5 HO]
  · isplitr; · iexact Hr
    isplitl [H5]; · iexact H5
    iexact HO
  iintro ⟨H5, HO⟩
  iapply (ev_wr2 X W K c 5 (sends.drop 29) (by decide) rfl (credit_r1 5)) $$ [H5 HO]
  · isplitr; · iexact Hr
    isplitl [H5]; · iexact H5
    iexact HO
  iintro ⟨H5, HO⟩
  iapply (ev_ld13a X W c 5 rfl (off32 5 rfl c)) $$ H5
  iintro H5
  iapply (ev_ld13b X W c 5 rfl (fun a => by fin_cases a <;> rfl)) $$ H5
  iintro H5
  iapply (ev_ld13a X W c 5 rfl (off32 5 rfl c)) $$ H5
  iintro H5
  iapply (ev_st13 X W c 5 rfl (off32 5 rfl c) (hw := rfl)) $$ H5
  iintro H5
  iapply (ev_s3 X W K c 5 (sends.drop 30) (slice_congr rfl (off36 5 rfl c)) rfl (dev33 c) rfl rfl) $$ [H5 HO]
  · isplitr; · iexact Hr
    isplitl [H5]; · iexact H5
    iexact HO
  iintro ⟨H5, HO⟩
  iapply (ev_ws2 X W K c 6 (sends.drop 30) (by decide) rfl (credit_q 6 rfl (off21 6 rfl c))) $$ [H6 HO]
  · isplitr; · iexact Hr
    isplitl [H6]; · iexact H6
    iexact HO
  iintro ⟨H6, HO⟩
  unfold run; rw [wp_ret]; imodintro
  iapply Hk
  isplitr; · ipureintro; trivial
  isplitl [H5]; · iexact H5
  isplitl [H6]; · iexact H6
  iexact HO

/-- Piece 29 of the kernel. -/
theorem part29 (c : Dev nD) (v10 v32 v34 : BitVec 32) {Q : (FVec F S256x128 .bf16) → sProp 𝕄} :
    iprop(recs X W K ∗ G12 X W c 6 ∗ G11 X W c 7 ∗ owing c (sends.drop 30))
      ⊢ iprop((∀ r, (⌜r = (k0_pay47 (A1 X W c 7 (crd 7 1 c)) (A1 X W (par 7 1 c) 7 (crd 7 1 c)))⌝ ∗ G15 X W c 6 ∗ G13 X W c 7 ∗ owing c (sends.drop 31)) -∗ Q r)
        -∗ run c (atArgs k0_part29 c v10 v32 v34) Q) := by
  unfold atArgs
  rw [k0_part29_eq_skeleton]; unfold k0_part29_skel
  simp only [semSignalWord, semWaitWord, Prog.lift, Prog.bind_op, Prog.bind_ret, Prog.pure_eq_ret, wp_deviceId]
  iintro ⟨#Hr, H6, H7, HO⟩
  iintro Hk
  iapply (ev_wr2 X W K c 6 (sends.drop 30) (by decide) rfl (credit_r1 6)) $$ [H6 HO]
  · isplitr; · iexact Hr
    isplitl [H6]; · iexact H6
    iexact HO
  iintro ⟨H6, HO⟩
  iapply (ev_ld13a X W c 6 rfl (off22 6 rfl c)) $$ H6
  iintro H6
  iapply (ev_ld13b X W c 6 rfl (fun a => by fin_cases a <;> rfl)) $$ H6
  iintro H6
  iapply (ev_ld13a X W c 6 rfl (off22 6 rfl c)) $$ H6
  iintro H6
  iapply (ev_st13 X W c 6 rfl (off22 6 rfl c) (hw := rfl)) $$ H6
  iintro H6
  iapply (ev_s3 X W K c 6 (sends.drop 31) (slice_congr rfl (off34 6 rfl c)) rfl (dev34 c) rfl rfl) $$ [H6 HO]
  · isplitr; · iexact Hr
    isplitl [H6]; · iexact H6
    iexact HO
  iintro ⟨H6, HO⟩
  iapply (ev_ws2 X W K c 7 (sends.drop 31) (by decide) rfl (credit_q 7 rfl (off26 7 rfl c))) $$ [H7 HO]
  · isplitr; · iexact Hr
    isplitl [H7]; · iexact H7
    iexact HO
  iintro ⟨H7, HO⟩
  iapply (ev_wr2 X W K c 7 (sends.drop 31) (by decide) rfl (credit_r1 7)) $$ [H7 HO]
  · isplitr; · iexact Hr
    isplitl [H7]; · iexact H7
    iexact HO
  iintro ⟨H7, HO⟩
  iapply (ev_ld13a X W c 7 rfl (off27 7 rfl c)) $$ H7
  iintro H7
  iapply (ev_ld13b X W c 7 rfl (fun a => by fin_cases a <;> rfl)) $$ H7
  iintro H7
  iapply (ev_ld13a X W c 7 rfl (off27 7 rfl c)) $$ H7
  iintro H7
  unfold run; rw [wp_ret]; imodintro
  iapply Hk
  isplitr; · ipureintro; rfl
  isplitl [H6]; · iexact H6
  isplitl [H7]; · iexact H7
  iexact HO

/-- Piece 30 of the kernel. -/
theorem part30 (c : Dev nD) (v8 v9 v10 v20 : BitVec 32) {Q : (PUnit) → sProp 𝕄} :
    iprop(recs X W K ∗ G15 X W c 0 ∗ G13 X W c 7 ∗ owing c (sends.drop 31))
      ⊢ iprop((∀ r, (⌜True⌝ ∗ G18 X W c 0 ∗ G15 X W c 7 ∗ owing c (sends.drop 32)) -∗ Q r)
        -∗ run c (atArgs k0_part30 c v8 v9 v10 v20 (k0_pay47 (A1 X W c 7 (crd 7 1 c)) (A1 X W (par 7 1 c) 7 (crd 7 1 c)))) Q) := by
  unfold atArgs
  rw [k0_part30_eq_skeleton]; unfold k0_part30_skel
  simp only [semSignalWord, semWaitWord, Prog.lift, Prog.bind_op, Prog.bind_ret, Prog.pure_eq_ret, wp_deviceId]
  iintro ⟨#Hr, H0, H7, HO⟩
  iintro Hk
  iapply (ev_st13 X W c 7 rfl (off27 7 rfl c) (hw := rfl)) $$ H7
  iintro H7
  iapply (ev_s3 X W K c 7 (sends.drop 32) (slice_congr rfl (off35 7 rfl c)) rfl (dev35 c) rfl rfl) $$ [H7 HO]
  · isplitr; · iexact Hr
    isplitl [H7]; · iexact H7
    iexact HO
  iintro ⟨H7, HO⟩
  iapply (ev_ws3 X W K c 0 (sends.drop 32) (by decide) rfl (credit_q 0 rfl (off34 0 rfl c))) $$ [H0 HO]
  · isplitr; · iexact Hr
    isplitl [H0]; · iexact H0
    iexact HO
  iintro ⟨H0, HO⟩
  iapply (ev_wr3 X W K c 0 (sends.drop 32) (by decide) rfl (credit_r2 0)) $$ [H0 HO]
  · isplitr; · iexact Hr
    isplitl [H0]; · iexact H0
    iexact HO
  iintro ⟨H0, HO⟩
  iapply (ev_ld17a X W c 0 rfl (off22 0 rfl c)) $$ H0
  iintro H0
  iapply (ev_ld17b X W c 0 rfl (fun a => by fin_cases a <;> rfl)) $$ H0
  iintro H0
  iapply (ev_ld17a X W c 0 rfl (off22 0 rfl c)) $$ H0
  iintro H0
  iapply (ev_st17 X W c 0 rfl (off22 0 rfl c) (hw := rfl)) $$ H0
  iintro H0
  unfold run; rw [wp_ret]; imodintro
  iapply Hk
  isplitr; · ipureintro; trivial
  isplitl [H0]; · iexact H0
  isplitl [H7]; · iexact H7
  iexact HO

/-- Piece 31 of the kernel. -/
theorem part31 (c : Dev nD) (v8 v10 v22 : BitVec 32) {Q : (Σ' (v1030 : BitVec 32), BitVec 32) → sProp 𝕄} :
    iprop(recs X W K ∗ G18 X W c 0 ∗ G15 X W c 1 ∗ owing c (sends.drop 32))
      ⊢ iprop((∀ r, (⌜True⌝ ∗ G20 X W c 0 ∗ G18 X W c 1 ∗ owing c (sends.drop 34)) -∗ Q r)
        -∗ run c (atArgs k0_part31 c v8 v10 v22) Q) := by
  unfold atArgs
  rw [k0_part31_eq_skeleton]; unfold k0_part31_skel
  simp only [semSignalWord, semWaitWord, Prog.lift, Prog.bind_op, Prog.bind_ret, Prog.pure_eq_ret, wp_deviceId]
  iintro ⟨#Hr, H0, H1, HO⟩
  iintro Hk
  iapply (ev_s4 X W K c 0 (sends.drop 33) (slice_congr rfl (off34 0 rfl c)) (slice_congr rfl (off34 0 rfl c)) (dev36 c) rfl rfl) $$ [H0 HO]
  · isplitr; · iexact Hr
    isplitl [H0]; · iexact H0
    iexact HO
  iintro ⟨H0, HO⟩
  iapply (ev_s5 X W K c 0 (sends.drop 34) (slice_congr rfl (off34 0 rfl c)) (slice_congr rfl (off34 0 rfl c)) (dev37 c) rfl rfl) $$ [H0 HO]
  · isplitr; · iexact Hr
    isplitl [H0]; · iexact H0
    iexact HO
  iintro ⟨H0, HO⟩
  iapply (ev_ws3 X W K c 1 (sends.drop 34) (by decide) rfl (credit_q 1 rfl (off35 1 rfl c))) $$ [H1 HO]
  · isplitr; · iexact Hr
    isplitl [H1]; · iexact H1
    iexact HO
  iintro ⟨H1, HO⟩
  iapply (ev_wr3 X W K c 1 (sends.drop 34) (by decide) rfl (credit_r2 1)) $$ [H1 HO]
  · isplitr; · iexact Hr
    isplitl [H1]; · iexact H1
    iexact HO
  iintro ⟨H1, HO⟩
  iapply (ev_ld17a X W c 1 rfl (off27 1 rfl c)) $$ H1
  iintro H1
  iapply (ev_ld17b X W c 1 rfl (fun a => by fin_cases a <;> rfl)) $$ H1
  iintro H1
  iapply (ev_ld17a X W c 1 rfl (off27 1 rfl c)) $$ H1
  iintro H1
  iapply (ev_st17 X W c 1 rfl (off27 1 rfl c) (hw := rfl)) $$ H1
  iintro H1
  unfold run; rw [wp_ret]; imodintro
  iapply Hk
  isplitr; · ipureintro; trivial
  isplitl [H0]; · iexact H0
  isplitl [H1]; · iexact H1
  iexact HO

/-- Piece 32 of the kernel. -/
theorem part32 (c : Dev nD) (v9 v24 v1030 c0_i32_648 : BitVec 32) {Q : (PUnit) → sProp 𝕄} :
    iprop(recs X W K ∗ G18 X W c 1 ∗ G15 X W c 2 ∗ owing c (sends.drop 34))
      ⊢ iprop((∀ r, (⌜True⌝ ∗ G20 X W c 1 ∗ G18 X W c 2 ∗ owing c (sends.drop 36)) -∗ Q r)
        -∗ run c (atArgs k0_part32 c v9 v24 v1030 c0_i32_648) Q) := by
  unfold atArgs
  rw [k0_part32_eq_skeleton]; unfold k0_part32_skel
  simp only [semSignalWord, semWaitWord, Prog.lift, Prog.bind_op, Prog.bind_ret, Prog.pure_eq_ret, wp_deviceId]
  iintro ⟨#Hr, H1, H2, HO⟩
  iintro Hk
  iapply (ev_s4 X W K c 1 (sends.drop 35) (slice_congr rfl (off35 1 rfl c)) (slice_congr rfl (off35 1 rfl c)) (dev38 c) rfl rfl) $$ [H1 HO]
  · isplitr; · iexact Hr
    isplitl [H1]; · iexact H1
    iexact HO
  iintro ⟨H1, HO⟩
  iapply (ev_s5 X W K c 1 (sends.drop 36) (slice_congr rfl (off35 1 rfl c)) (slice_congr rfl (off35 1 rfl c)) (dev39 c) rfl rfl) $$ [H1 HO]
  · isplitr; · iexact Hr
    isplitl [H1]; · iexact H1
    iexact HO
  iintro ⟨H1, HO⟩
  iapply (ev_ws3 X W K c 2 (sends.drop 36) (by decide) rfl (credit_q 2 rfl (off36 2 rfl c))) $$ [H2 HO]
  · isplitr; · iexact Hr
    isplitl [H2]; · iexact H2
    iexact HO
  iintro ⟨H2, HO⟩
  iapply (ev_wr3 X W K c 2 (sends.drop 36) (by decide) rfl (credit_r2 2)) $$ [H2 HO]
  · isplitr; · iexact Hr
    isplitl [H2]; · iexact H2
    iexact HO
  iintro ⟨H2, HO⟩
  iapply (ev_ld17a X W c 2 rfl (off32 2 rfl c)) $$ H2
  iintro H2
  iapply (ev_ld17b X W c 2 rfl (fun a => by fin_cases a <;> rfl)) $$ H2
  iintro H2
  iapply (ev_ld17a X W c 2 rfl (off32 2 rfl c)) $$ H2
  iintro H2
  iapply (ev_st17 X W c 2 rfl (off32 2 rfl c) (hw := rfl)) $$ H2
  iintro H2
  unfold run; rw [wp_ret]; imodintro
  iapply Hk
  isplitr; · ipureintro; trivial
  isplitl [H1]; · iexact H1
  isplitl [H2]; · iexact H2
  iexact HO

/-- Piece 33 of the kernel. -/
theorem part33 (c : Dev nD) (v8 v10 v26 : BitVec 32) {Q : (FVec F S256x128 .bf16) → sProp 𝕄} :
    iprop(recs X W K ∗ G18 X W c 2 ∗ G15 X W c 3 ∗ owing c (sends.drop 36))
      ⊢ iprop((∀ r, (⌜r = (k0_pay52 (A2 X W c 3) (A2 X W (par 3 2 c) 3))⌝ ∗ G20 X W c 2 ∗ G17 X W c 3 ∗ owing c (sends.drop 38)) -∗ Q r)
        -∗ run c (atArgs k0_part33 c v8 v10 v26) Q) := by
  unfold atArgs
  rw [k0_part33_eq_skeleton]; unfold k0_part33_skel
  simp only [semSignalWord, semWaitWord, Prog.lift, Prog.bind_op, Prog.bind_ret, Prog.pure_eq_ret, wp_deviceId]
  iintro ⟨#Hr, H2, H3, HO⟩
  iintro Hk
  iapply (ev_s4 X W K c 2 (sends.drop 37) (slice_congr rfl (off36 2 rfl c)) (slice_congr rfl (off36 2 rfl c)) (dev40 c) rfl rfl) $$ [H2 HO]
  · isplitr; · iexact Hr
    isplitl [H2]; · iexact H2
    iexact HO
  iintro ⟨H2, HO⟩
  iapply (ev_s5 X W K c 2 (sends.drop 38) (slice_congr rfl (off36 2 rfl c)) (slice_congr rfl (off36 2 rfl c)) (dev41 c) rfl rfl) $$ [H2 HO]
  · isplitr; · iexact Hr
    isplitl [H2]; · iexact H2
    iexact HO
  iintro ⟨H2, HO⟩
  iapply (ev_ws3 X W K c 3 (sends.drop 38) (by decide) rfl (credit_q 3 rfl (off34 3 rfl c))) $$ [H3 HO]
  · isplitr; · iexact Hr
    isplitl [H3]; · iexact H3
    iexact HO
  iintro ⟨H3, HO⟩
  iapply (ev_wr3 X W K c 3 (sends.drop 38) (by decide) rfl (credit_r2 3)) $$ [H3 HO]
  · isplitr; · iexact Hr
    isplitl [H3]; · iexact H3
    iexact HO
  iintro ⟨H3, HO⟩
  iapply (ev_ld17a X W c 3 rfl (off22 3 rfl c)) $$ H3
  iintro H3
  iapply (ev_ld17b X W c 3 rfl (fun a => by fin_cases a <;> rfl)) $$ H3
  iintro H3
  unfold run; rw [wp_ret]; imodintro
  iapply Hk
  isplitr; · ipureintro; rfl
  isplitl [H2]; · iexact H2
  isplitl [H3]; · iexact H3
  iexact HO

end Parts

end Cert.ReduceProof

end
-- ==== Proof.Parts6.lean ====
/-
# The kernel, pieces 34 to 40

What each piece of the kernel does to what a device holds.
-/
module

public import proofs.«01_k».proof.Proof.Args

@[expose] public section

noncomputable section

namespace Cert.ReduceProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts
variable (X : Dev nD → Vec F S1024x128 .bf16) (W : Dev nD → Vec F S128x1024 .bf16) (K : Dev nD × CK → ℕ)

/-- Piece 34 of the kernel. -/
theorem part34 (c : Dev nD) (v8 v9 v28 : BitVec 32) {Q : (Σ' (v1123 : Vec F S256x128 .bf16), Vec F S256x128 .bf16) → sProp 𝕄} :
    iprop(recs X W K ∗ G17 X W c 3 ∗ G15 X W c 4 ∗ owing c (sends.drop 38))
      ⊢ iprop((∀ r, (⌜r = ⟨(A2 X W c 4), (A2 X W (par 4 2 c) 4)⟩⌝ ∗ G20 X W c 3 ∗ G17 X W c 4 ∗ owing c (sends.drop 40)) -∗ Q r)
        -∗ run c (atArgs k0_part34 c v8 v9 v28 (k0_pay52 (A2 X W c 3) (A2 X W (par 3 2 c) 3))) Q) := by
  unfold atArgs
  rw [k0_part34_eq_skeleton]; unfold k0_part34_skel
  simp only [semSignalWord, semWaitWord, Prog.lift, Prog.bind_op, Prog.bind_ret, Prog.pure_eq_ret, wp_deviceId]
  iintro ⟨#Hr, H3, H4, HO⟩
  iintro Hk
  iapply (ev_ld17a X W c 3 rfl (off22 3 rfl c)) $$ H3
  iintro H3
  iapply (ev_st17 X W c 3 rfl (off22 3 rfl c) (hw := rfl)) $$ H3
  iintro H3
  iapply (ev_s4 X W K c 3 (sends.drop 39) (slice_congr rfl (off34 3 rfl c)) (slice_congr rfl (off34 3 rfl c)) (dev42 c) rfl rfl) $$ [H3 HO]
  · isplitr; · iexact Hr
    isplitl [H3]; · iexact H3
    iexact HO
  iintro ⟨H3, HO⟩
  iapply (ev_s5 X W K c 3 (sends.drop 40) (slice_congr rfl (off34 3 rfl c)) (slice_congr rfl (off34 3 rfl c)) (dev43 c) rfl rfl) $$ [H3 HO]
  · isplitr; · iexact Hr
    isplitl [H3]; · iexact H3
    iexact HO
  iintro ⟨H3, HO⟩
  iapply (ev_ws3 X W K c 4 (sends.drop 40) (by decide) rfl (credit_q 4 rfl (off35 4 rfl c))) $$ [H4 HO]
  · isplitr; · iexact Hr
    isplitl [H4]; · iexact H4
    iexact HO
  iintro ⟨H4, HO⟩
  iapply (ev_wr3 X W K c 4 (sends.drop 40) (by decide) rfl (credit_r2 4)) $$ [H4 HO]
  · isplitr; · iexact Hr
    isplitl [H4]; · iexact H4
    iexact HO
  iintro ⟨H4, HO⟩
  iapply (ev_ld17a X W c 4 rfl (off27 4 rfl c)) $$ H4
  iintro H4
  iapply (ev_ld17b X W c 4 rfl (fun a => by fin_cases a <;> rfl)) $$ H4
  iintro H4
  unfold run; rw [wp_ret]; imodintro
  iapply Hk
  isplitr; · ipureintro; rfl
  isplitl [H3]; · iexact H3
  isplitl [H4]; · iexact H4
  iexact HO

/-- Piece 35 of the kernel. -/
theorem part35 (c : Dev nD) (v9 v10 v28 v30 : BitVec 32) {Q : (PUnit) → sProp 𝕄} :
    iprop(recs X W K ∗ G17 X W c 4 ∗ G15 X W c 5 ∗ owing c (sends.drop 40))
      ⊢ iprop((∀ r, (⌜True⌝ ∗ G20 X W c 4 ∗ G17 X W c 5 ∗ owing c (sends.drop 42)) -∗ Q r)
        -∗ run c (atArgs k0_part35 c v9 v10 v28 v30 (A2 X W c 4) (A2 X W (par 4 2 c) 4)) Q) := by
  unfold atArgs
  rw [k0_part35_eq_skeleton]; unfold k0_part35_skel
  simp only [semSignalWord, semWaitWord, Prog.lift, Prog.bind_op, Prog.bind_ret, Prog.pure_eq_ret, wp_deviceId]
  iintro ⟨#Hr, H4, H5, HO⟩
  iintro Hk
  iapply (ev_ld17a X W c 4 rfl (off27 4 rfl c)) $$ H4
  iintro H4
  iapply (ev_st17 X W c 4 rfl (off27 4 rfl c) (hw := rfl)) $$ H4
  iintro H4
  iapply (ev_s4 X W K c 4 (sends.drop 41) (slice_congr rfl (off35 4 rfl c)) (slice_congr rfl (off35 4 rfl c)) (dev44 c) rfl rfl) $$ [H4 HO]
  · isplitr; · iexact Hr
    isplitl [H4]; · iexact H4
    iexact HO
  iintro ⟨H4, HO⟩
  iapply (ev_s5 X W K c 4 (sends.drop 42) (slice_congr rfl (off35 4 rfl c)) (slice_congr rfl (off35 4 rfl c)) (dev45 c) rfl rfl) $$ [H4 HO]
  · isplitr; · iexact Hr
    isplitl [H4]; · iexact H4
    iexact HO
  iintro ⟨H4, HO⟩
  iapply (ev_ws3 X W K c 5 (sends.drop 42) (by decide) rfl (credit_q 5 rfl (off36 5 rfl c))) $$ [H5 HO]
  · isplitr; · iexact Hr
    isplitl [H5]; · iexact H5
    iexact HO
  iintro ⟨H5, HO⟩
  iapply (ev_wr3 X W K c 5 (sends.drop 42) (by decide) rfl (credit_r2 5)) $$ [H5 HO]
  · isplitr; · iexact Hr
    isplitl [H5]; · iexact H5
    iexact HO
  iintro ⟨H5, HO⟩
  unfold run; rw [wp_ret]; imodintro
  iapply Hk
  isplitr; · ipureintro; trivial
  isplitl [H4]; · iexact H4
  isplitl [H5]; · iexact H5
  iexact HO

/-- Piece 36 of the kernel. -/
theorem part36 (c : Dev nD) (v8 v10 v30 : BitVec 32) {Q : (PUnit) → sProp 𝕄} :
    iprop(recs X W K ∗ G17 X W c 5 ∗ G15 X W c 6 ∗ owing c (sends.drop 42))
      ⊢ iprop((∀ r, (⌜True⌝ ∗ G20 X W c 5 ∗ G16 X W c 6 ∗ owing c (sends.drop 44)) -∗ Q r)
        -∗ run c (atArgs k0_part36 c v8 v10 v30) Q) := by
  unfold atArgs
  rw [k0_part36_eq_skeleton]; unfold k0_part36_skel
  simp only [semSignalWord, semWaitWord, Prog.lift, Prog.bind_op, Prog.bind_ret, Prog.pure_eq_ret, wp_deviceId]
  iintro ⟨#Hr, H5, H6, HO⟩
  iintro Hk
  iapply (ev_ld17a X W c 5 rfl (off32 5 rfl c)) $$ H5
  iintro H5
  iapply (ev_ld17b X W c 5 rfl (fun a => by fin_cases a <;> rfl)) $$ H5
  iintro H5
  iapply (ev_ld17a X W c 5 rfl (off32 5 rfl c)) $$ H5
  iintro H5
  iapply (ev_st17 X W c 5 rfl (off32 5 rfl c) (hw := rfl)) $$ H5
  iintro H5
  iapply (ev_s4 X W K c 5 (sends.drop 43) (slice_congr rfl (off36 5 rfl c)) (slice_congr rfl (off36 5 rfl c)) (dev46 c) rfl rfl) $$ [H5 HO]
  · isplitr; · iexact Hr
    isplitl [H5]; · iexact H5
    iexact HO
  iintro ⟨H5, HO⟩
  iapply (ev_s5 X W K c 5 (sends.drop 44) (slice_congr rfl (off36 5 rfl c)) (slice_congr rfl (off36 5 rfl c)) (dev47 c) rfl rfl) $$ [H5 HO]
  · isplitr; · iexact Hr
    isplitl [H5]; · iexact H5
    iexact HO
  iintro ⟨H5, HO⟩
  iapply (ev_ws3 X W K c 6 (sends.drop 44) (by decide) rfl (credit_q 6 rfl (off34 6 rfl c))) $$ [H6 HO]
  · isplitr; · iexact Hr
    isplitl [H6]; · iexact H6
    iexact HO
  iintro ⟨H6, HO⟩
  unfold run; rw [wp_ret]; imodintro
  iapply Hk
  isplitr; · ipureintro; trivial
  isplitl [H5]; · iexact H5
  isplitl [H6]; · iexact H6
  iexact HO

/-- Piece 37 of the kernel. -/
theorem part37 (c : Dev nD) (v8 v9 v32 : BitVec 32) {Q : (PUnit) → sProp 𝕄} :
    iprop(recs X W K ∗ G16 X W c 6 ∗ G15 X W c 7 ∗ owing c (sends.drop 44))
      ⊢ iprop((∀ r, (⌜True⌝ ∗ G20 X W c 6 ∗ G16 X W c 7 ∗ owing c (sends.drop 46)) -∗ Q r)
        -∗ run c (atArgs k0_part37 c v8 v9 v32) Q) := by
  unfold atArgs
  rw [k0_part37_eq_skeleton]; unfold k0_part37_skel
  simp only [semSignalWord, semWaitWord, Prog.lift, Prog.bind_op, Prog.bind_ret, Prog.pure_eq_ret, wp_deviceId]
  iintro ⟨#Hr, H6, H7, HO⟩
  iintro Hk
  iapply (ev_wr3 X W K c 6 (sends.drop 44) (by decide) rfl (credit_r2 6)) $$ [H6 HO]
  · isplitr; · iexact Hr
    isplitl [H6]; · iexact H6
    iexact HO
  iintro ⟨H6, HO⟩
  iapply (ev_ld17a X W c 6 rfl (off22 6 rfl c)) $$ H6
  iintro H6
  iapply (ev_ld17b X W c 6 rfl (fun a => by fin_cases a <;> rfl)) $$ H6
  iintro H6
  iapply (ev_ld17a X W c 6 rfl (off22 6 rfl c)) $$ H6
  iintro H6
  iapply (ev_st17 X W c 6 rfl (off22 6 rfl c) (hw := rfl)) $$ H6
  iintro H6
  iapply (ev_s4 X W K c 6 (sends.drop 45) (slice_congr rfl (off34 6 rfl c)) (slice_congr rfl (off34 6 rfl c)) (dev48 c) rfl rfl) $$ [H6 HO]
  · isplitr; · iexact Hr
    isplitl [H6]; · iexact H6
    iexact HO
  iintro ⟨H6, HO⟩
  iapply (ev_s5 X W K c 6 (sends.drop 46) (slice_congr rfl (off34 6 rfl c)) (slice_congr rfl (off34 6 rfl c)) (dev49 c) rfl rfl) $$ [H6 HO]
  · isplitr; · iexact Hr
    isplitl [H6]; · iexact H6
    iexact HO
  iintro ⟨H6, HO⟩
  iapply (ev_ws3 X W K c 7 (sends.drop 46) (by decide) rfl (credit_q 7 rfl (off35 7 rfl c))) $$ [H7 HO]
  · isplitr; · iexact Hr
    isplitl [H7]; · iexact H7
    iexact HO
  iintro ⟨H7, HO⟩
  unfold run; rw [wp_ret]; imodintro
  iapply Hk
  isplitr; · ipureintro; trivial
  isplitl [H6]; · iexact H6
  isplitl [H7]; · iexact H7
  iexact HO

/-- Piece 38 of the kernel. -/
theorem part38 (c : Dev nD) (v8 v9 v10 v20 v34 : BitVec 32) {Q : (FVec F S256x128 .f32) → sProp 𝕄} :
    iprop(recs X W K ∗ G20 X W c 0 ∗ G16 X W c 7 ∗ owing c (sends.drop 46))
      ⊢ iprop((∀ r, (⌜r = (k0_pay58 (A3 X W c 0))⌝ ∗ G20 X W c 0 ∗ G20 X W c 7 ∗ owing c (sends.drop 48)) -∗ Q r)
        -∗ run c (atArgs k0_part38 c v8 v9 v10 v20 v34) Q) := by
  unfold atArgs
  rw [k0_part38_eq_skeleton]; unfold k0_part38_skel
  simp only [semSignalWord, semWaitWord, Prog.lift, Prog.bind_op, Prog.bind_ret, Prog.pure_eq_ret, wp_deviceId]
  iintro ⟨#Hr, H0, H7, HO⟩
  iintro Hk
  iapply (ev_wr3 X W K c 7 (sends.drop 46) (by decide) rfl (credit_r2 7)) $$ [H7 HO]
  · isplitr; · iexact Hr
    isplitl [H7]; · iexact H7
    iexact HO
  iintro ⟨H7, HO⟩
  iapply (ev_ld17a X W c 7 rfl (off27 7 rfl c)) $$ H7
  iintro H7
  iapply (ev_ld17b X W c 7 rfl (fun a => by fin_cases a <;> rfl)) $$ H7
  iintro H7
  iapply (ev_ld17a X W c 7 rfl (off27 7 rfl c)) $$ H7
  iintro H7
  iapply (ev_st17 X W c 7 rfl (off27 7 rfl c) (hw := rfl)) $$ H7
  iintro H7
  iapply (ev_s4 X W K c 7 (sends.drop 47) (slice_congr rfl (off35 7 rfl c)) (slice_congr rfl (off35 7 rfl c)) (dev50 c) rfl rfl) $$ [H7 HO]
  · isplitr; · iexact Hr
    isplitl [H7]; · iexact H7
    iexact HO
  iintro ⟨H7, HO⟩
  iapply (ev_s5 X W K c 7 (sends.drop 48) (slice_congr rfl (off35 7 rfl c)) (slice_congr rfl (off35 7 rfl c)) (dev51 c) rfl rfl) $$ [H7 HO]
  · isplitr; · iexact Hr
    isplitl [H7]; · iexact H7
    iexact HO
  iintro ⟨H7, HO⟩
  iapply (ev_ld20 X W c 0 rfl (off22 0 rfl c)) $$ H0
  iintro H0
  unfold run; rw [wp_ret]; imodintro
  iapply Hk
  isplitr; · ipureintro; rfl
  isplitl [H0]; · iexact H0
  isplitl [H7]; · iexact H7
  iexact HO

/-- Piece 39 of the kernel. -/
theorem part39 (c : Dev nD) (v22 v24 v26 v28 v30 v32 v34 : BitVec 32) {Q : (PUnit) → sProp 𝕄} :
    iprop(recs X W K ∗ outSt X W c (outs c 0) ∗ G20 X W c 1 ∗ G20 X W c 2 ∗ G20 X W c 3 ∗ G20 X W c 4 ∗ G20 X W c 5 ∗ G20 X W c 6 ∗ G20 X W c 7)
      ⊢ iprop((∀ r, (⌜True⌝ ∗ outSt X W c (outs c 8) ∗ G20 X W c 1 ∗ G20 X W c 2 ∗ G20 X W c 3 ∗ G20 X W c 4 ∗ G20 X W c 5 ∗ G20 X W c 6 ∗ G20 X W c 7) -∗ Q r)
        -∗ run c (atArgs k0_part39 c v22 v24 v26 v28 v30 v32 v34 (k0_pay58 (A3 X W c 0))) Q) := by
  unfold atArgs
  rw [k0_part39_eq_skeleton]; unfold k0_part39_skel
  simp only [semSignalWord, semWaitWord, Prog.lift, Prog.bind_op, Prog.bind_ret, Prog.pure_eq_ret, wp_deviceId]
  iintro ⟨#Hr, HU, H1, H2, H3, H4, H5, H6, H7⟩
  iintro Hk
  iapply (ev_outld X W c rfl) $$ HU
  iintro %_v
  iintro HU

  iapply (ev_outst X W c (crd 0 0 c) (crd 0 1 c) 0 _ (own_kk c 0) rfl (off37 c) (hw := rfl)) $$ HU
  iintro HU
  iapply (ev_ld20 X W c 1 rfl (off27 1 rfl c)) $$ H1
  iintro H1
  iapply (ev_outld X W c rfl) $$ HU
  iintro %_v
  iintro HU

  iapply (ev_outst X W c (crd 1 0 c) (crd 1 1 c) 1 _ (own_kk c 1) rfl (off38 c) (hw := rfl)) $$ HU
  iintro HU
  iapply (ev_ld20 X W c 2 rfl (off32 2 rfl c)) $$ H2
  iintro H2
  iapply (ev_outld X W c rfl) $$ HU
  iintro %_v
  iintro HU

  iapply (ev_outst X W c (crd 2 0 c) (crd 2 1 c) 2 _ (own_kk c 2) rfl (off39 c) (hw := rfl)) $$ HU
  iintro HU
  iapply (ev_ld20 X W c 3 rfl (off22 3 rfl c)) $$ H3
  iintro H3
  iapply (ev_outld X W c rfl) $$ HU
  iintro %_v
  iintro HU

  iapply (ev_outst X W c (crd 3 0 c) (crd 3 1 c) 3 _ (own_kk c 3) rfl (off40 c) (hw := rfl)) $$ HU
  iintro HU
  iapply (ev_ld20 X W c 4 rfl (off27 4 rfl c)) $$ H4
  iintro H4
  iapply (ev_outld X W c rfl) $$ HU
  iintro %_v
  iintro HU

  iapply (ev_outst X W c (crd 4 0 c) (crd 4 1 c) 4 _ (own_kk c 4) rfl (off41 c) (hw := rfl)) $$ HU
  iintro HU
  iapply (ev_ld20 X W c 5 rfl (off32 5 rfl c)) $$ H5
  iintro H5
  iapply (ev_outld X W c rfl) $$ HU
  iintro %_v
  iintro HU

  iapply (ev_outst X W c (crd 5 0 c) (crd 5 1 c) 5 _ (own_kk c 5) rfl (off42 c) (hw := rfl)) $$ HU
  iintro HU
  iapply (ev_ld20 X W c 6 rfl (off22 6 rfl c)) $$ H6
  iintro H6
  iapply (ev_outld X W c rfl) $$ HU
  iintro %_v
  iintro HU

  iapply (ev_outst X W c (crd 6 0 c) (crd 6 1 c) 6 _ (own_kk c 6) rfl (off43 c) (hw := rfl)) $$ HU
  iintro HU
  iapply (ev_ld20 X W c 7 rfl (off27 7 rfl c)) $$ H7
  iintro H7
  iapply (ev_outld X W c rfl) $$ HU
  iintro %_v
  iintro HU

  iapply (ev_outst X W c (crd 7 0 c) (crd 7 1 c) 7 _ (own_kk c 7) rfl (off44 c) (hw := rfl)) $$ HU
  iintro HU
  unfold run; rw [wp_ret]; imodintro
  iapply Hk
  isplitr; · ipureintro; trivial
  isplitl [HU]; · iexact HU
  isplitl [H1]; · iexact H1
  isplitl [H2]; · iexact H2
  isplitl [H3]; · iexact H3
  isplitl [H4]; · iexact H4
  isplitl [H5]; · iexact H5
  isplitl [H6]; · iexact H6
  iexact H7

/-- Piece 40 of the kernel. -/
theorem part40 (c : Dev nD) (v8 v9 v10 : BitVec 32) {Q : (PUnit) → sProp 𝕄} :
    iprop(recs X W K ∗ G20 X W c 0 ∗ G20 X W c 1 ∗ owing c (sends.drop 48))
      ⊢ iprop((∀ r, (⌜True⌝ ∗ G23 X W c 0 ∗ G22 X W c 1 ∗ owing c (sends.drop 49)) -∗ Q r)
        -∗ run c (atArgs k0_part40 c v8 v9 v10) Q) := by
  unfold atArgs
  rw [k0_part40_eq_skeleton]; unfold k0_part40_skel
  simp only [semSignalWord, semWaitWord, Prog.lift, Prog.bind_op, Prog.bind_ret, Prog.pure_eq_ret, wp_deviceId]
  iintro ⟨#Hr, H0, H1, HO⟩
  iintro Hk
  iapply (ev_ws4 X W K c 0 (sends.drop 48) (by decide) rfl (credit_q 0 rfl (off34 0 rfl c))) $$ [H0 HO]
  · isplitr; · iexact Hr
    isplitl [H0]; · iexact H0
    iexact HO
  iintro ⟨H0, HO⟩
  iapply (ev_wr4 X W K c 0 (sends.drop 48) (by decide) rfl (credit_q 0 rfl (off34 0 rfl c))) $$ [H0 HO]
  · isplitr; · iexact Hr
    isplitl [H0]; · iexact H0
    iexact HO
  iintro ⟨H0, HO⟩
  iapply (ev_s6 X W K c 0 (sends.drop 49) (slice_congr rfl (off21 0 rfl c)) (slice_congr rfl (off21 0 rfl c)) (dev52 c) rfl rfl) $$ [H0 HO]
  · isplitr; · iexact Hr
    isplitl [H0]; · iexact H0
    iexact HO
  iintro ⟨H0, HO⟩
  iapply (ev_ws4 X W K c 1 (sends.drop 49) (by decide) rfl (credit_q 1 rfl (off35 1 rfl c))) $$ [H1 HO]
  · isplitr; · iexact Hr
    isplitl [H1]; · iexact H1
    iexact HO
  iintro ⟨H1, HO⟩
  iapply (ev_wr4 X W K c 1 (sends.drop 49) (by decide) rfl (credit_q 1 rfl (off35 1 rfl c))) $$ [H1 HO]
  · isplitr; · iexact Hr
    isplitl [H1]; · iexact H1
    iexact HO
  iintro ⟨H1, HO⟩
  unfold run; rw [wp_ret]; imodintro
  iapply Hk
  isplitr; · ipureintro; trivial
  isplitl [H0]; · iexact H0
  isplitl [H1]; · iexact H1
  iexact HO

end Parts

end Cert.ReduceProof

end
-- ==== Proof.Parts7.lean ====
/-
# The kernel, pieces 41 to 47

What each piece of the kernel does to what a device holds.
-/
module

public import proofs.«01_k».proof.Proof.Args

@[expose] public section

noncomputable section

namespace Cert.ReduceProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts
variable (X : Dev nD → Vec F S1024x128 .bf16) (W : Dev nD → Vec F S128x1024 .bf16) (K : Dev nD × CK → ℕ)

/-- Piece 41 of the kernel. -/
theorem part41 (c : Dev nD) (v8 v9 v10 : BitVec 32) {Q : (PUnit) → sProp 𝕄} :
    iprop(recs X W K ∗ G22 X W c 1 ∗ G20 X W c 2 ∗ owing c (sends.drop 49))
      ⊢ iprop((∀ r, (⌜True⌝ ∗ G23 X W c 1 ∗ G23 X W c 2 ∗ owing c (sends.drop 51)) -∗ Q r)
        -∗ run c (atArgs k0_part41 c v8 v9 v10) Q) := by
  unfold atArgs
  rw [k0_part41_eq_skeleton]; unfold k0_part41_skel
  simp only [semSignalWord, semWaitWord, Prog.lift, Prog.bind_op, Prog.bind_ret, Prog.pure_eq_ret, wp_deviceId]
  iintro ⟨#Hr, H1, H2, HO⟩
  iintro Hk
  iapply (ev_s6 X W K c 1 (sends.drop 50) (slice_congr rfl (off26 1 rfl c)) (slice_congr rfl (off26 1 rfl c)) (dev53 c) rfl rfl) $$ [H1 HO]
  · isplitr; · iexact Hr
    isplitl [H1]; · iexact H1
    iexact HO
  iintro ⟨H1, HO⟩
  iapply (ev_ws4 X W K c 2 (sends.drop 50) (by decide) rfl (credit_q 2 rfl (off36 2 rfl c))) $$ [H2 HO]
  · isplitr; · iexact Hr
    isplitl [H2]; · iexact H2
    iexact HO
  iintro ⟨H2, HO⟩
  iapply (ev_wr4 X W K c 2 (sends.drop 50) (by decide) rfl (credit_q 2 rfl (off36 2 rfl c))) $$ [H2 HO]
  · isplitr; · iexact Hr
    isplitl [H2]; · iexact H2
    iexact HO
  iintro ⟨H2, HO⟩
  iapply (ev_s6 X W K c 2 (sends.drop 51) (slice_congr rfl (off31 2 rfl c)) (slice_congr rfl (off31 2 rfl c)) (dev54 c) rfl rfl) $$ [H2 HO]
  · isplitr; · iexact Hr
    isplitl [H2]; · iexact H2
    iexact HO
  iintro ⟨H2, HO⟩
  unfold run; rw [wp_ret]; imodintro
  iapply Hk
  isplitr; · ipureintro; trivial
  isplitl [H1]; · iexact H1
  isplitl [H2]; · iexact H2
  iexact HO

/-- Piece 42 of the kernel. -/
theorem part42 (c : Dev nD) (v8 v9 v10 : BitVec 32) {Q : (PUnit) → sProp 𝕄} :
    iprop(recs X W K ∗ G20 X W c 3 ∗ G20 X W c 4 ∗ owing c (sends.drop 51))
      ⊢ iprop((∀ r, (⌜True⌝ ∗ G23 X W c 3 ∗ G22 X W c 4 ∗ owing c (sends.drop 52)) -∗ Q r)
        -∗ run c (atArgs k0_part42 c v8 v9 v10) Q) := by
  unfold atArgs
  rw [k0_part42_eq_skeleton]; unfold k0_part42_skel
  simp only [semSignalWord, semWaitWord, Prog.lift, Prog.bind_op, Prog.bind_ret, Prog.pure_eq_ret, wp_deviceId]
  iintro ⟨#Hr, H3, H4, HO⟩
  iintro Hk
  iapply (ev_ws4 X W K c 3 (sends.drop 51) (by decide) rfl (credit_q 3 rfl (off34 3 rfl c))) $$ [H3 HO]
  · isplitr; · iexact Hr
    isplitl [H3]; · iexact H3
    iexact HO
  iintro ⟨H3, HO⟩
  iapply (ev_wr4 X W K c 3 (sends.drop 51) (by decide) rfl (credit_q 3 rfl (off34 3 rfl c))) $$ [H3 HO]
  · isplitr; · iexact Hr
    isplitl [H3]; · iexact H3
    iexact HO
  iintro ⟨H3, HO⟩
  iapply (ev_s6 X W K c 3 (sends.drop 52) (slice_congr rfl (off21 3 rfl c)) (slice_congr rfl (off21 3 rfl c)) (dev55 c) rfl rfl) $$ [H3 HO]
  · isplitr; · iexact Hr
    isplitl [H3]; · iexact H3
    iexact HO
  iintro ⟨H3, HO⟩
  iapply (ev_ws4 X W K c 4 (sends.drop 52) (by decide) rfl (credit_q 4 rfl (off35 4 rfl c))) $$ [H4 HO]
  · isplitr; · iexact Hr
    isplitl [H4]; · iexact H4
    iexact HO
  iintro ⟨H4, HO⟩
  iapply (ev_wr4 X W K c 4 (sends.drop 52) (by decide) rfl (credit_q 4 rfl (off35 4 rfl c))) $$ [H4 HO]
  · isplitr; · iexact Hr
    isplitl [H4]; · iexact H4
    iexact HO
  iintro ⟨H4, HO⟩
  unfold run; rw [wp_ret]; imodintro
  iapply Hk
  isplitr; · ipureintro; trivial
  isplitl [H3]; · iexact H3
  isplitl [H4]; · iexact H4
  iexact HO

/-- Piece 43 of the kernel. -/
theorem part43 (c : Dev nD) (v8 v10 : BitVec 32) {Q : (BitVec 32) → sProp 𝕄} :
    iprop(recs X W K ∗ G22 X W c 4 ∗ G20 X W c 5 ∗ G20 X W c 6 ∗ owing c (sends.drop 52))
      ⊢ iprop((∀ r, (⌜True⌝ ∗ G23 X W c 4 ∗ G23 X W c 5 ∗ G21 X W c 6 ∗ owing c (sends.drop 54)) -∗ Q r)
        -∗ run c (atArgs k0_part43 c v8 v10) Q) := by
  unfold atArgs
  rw [k0_part43_eq_skeleton]; unfold k0_part43_skel
  simp only [semSignalWord, semWaitWord, Prog.lift, Prog.bind_op, Prog.bind_ret, Prog.pure_eq_ret, wp_deviceId]
  iintro ⟨#Hr, H4, H5, H6, HO⟩
  iintro Hk
  iapply (ev_s6 X W K c 4 (sends.drop 53) (slice_congr rfl (off26 4 rfl c)) (slice_congr rfl (off26 4 rfl c)) (dev56 c) rfl rfl) $$ [H4 HO]
  · isplitr; · iexact Hr
    isplitl [H4]; · iexact H4
    iexact HO
  iintro ⟨H4, HO⟩
  iapply (ev_ws4 X W K c 5 (sends.drop 53) (by decide) rfl (credit_q 5 rfl (off36 5 rfl c))) $$ [H5 HO]
  · isplitr; · iexact Hr
    isplitl [H5]; · iexact H5
    iexact HO
  iintro ⟨H5, HO⟩
  iapply (ev_wr4 X W K c 5 (sends.drop 53) (by decide) rfl (credit_q 5 rfl (off36 5 rfl c))) $$ [H5 HO]
  · isplitr; · iexact Hr
    isplitl [H5]; · iexact H5
    iexact HO
  iintro ⟨H5, HO⟩
  iapply (ev_s6 X W K c 5 (sends.drop 54) (slice_congr rfl (off31 5 rfl c)) (slice_congr rfl (off31 5 rfl c)) (dev57 c) rfl rfl) $$ [H5 HO]
  · isplitr; · iexact Hr
    isplitl [H5]; · iexact H5
    iexact HO
  iintro ⟨H5, HO⟩
  iapply (ev_ws4 X W K c 6 (sends.drop 54) (by decide) rfl (credit_q 6 rfl (off34 6 rfl c))) $$ [H6 HO]
  · isplitr; · iexact Hr
    isplitl [H6]; · iexact H6
    iexact HO
  iintro ⟨H6, HO⟩
  unfold run; rw [wp_ret]; imodintro
  iapply Hk
  isplitr; · ipureintro; trivial
  isplitl [H4]; · iexact H4
  isplitl [H5]; · iexact H5
  isplitl [H6]; · iexact H6
  iexact HO

/-- Piece 44 of the kernel. -/
theorem part44 (c : Dev nD) (v8 v9 v10 c1_i32_919 : BitVec 32) {Q : (PUnit) → sProp 𝕄} :
    iprop(recs X W K ∗ G21 X W c 6 ∗ G20 X W c 7 ∗ owing c (sends.drop 54))
      ⊢ iprop((∀ r, (⌜True⌝ ∗ G23 X W c 6 ∗ G22 X W c 7 ∗ owing c (sends.drop 55)) -∗ Q r)
        -∗ run c (atArgs k0_part44 c v8 v9 v10 c1_i32_919) Q) := by
  unfold atArgs
  rw [k0_part44_eq_skeleton]; unfold k0_part44_skel
  simp only [semSignalWord, semWaitWord, Prog.lift, Prog.bind_op, Prog.bind_ret, Prog.pure_eq_ret, wp_deviceId]
  iintro ⟨#Hr, H6, H7, HO⟩
  iintro Hk
  iapply (ev_wr4 X W K c 6 (sends.drop 54) (by decide) rfl (credit_q 6 rfl (off34 6 rfl c))) $$ [H6 HO]
  · isplitr; · iexact Hr
    isplitl [H6]; · iexact H6
    iexact HO
  iintro ⟨H6, HO⟩
  iapply (ev_s6 X W K c 6 (sends.drop 55) (slice_congr rfl (off21 6 rfl c)) (slice_congr rfl (off21 6 rfl c)) (dev58 c) rfl rfl) $$ [H6 HO]
  · isplitr; · iexact Hr
    isplitl [H6]; · iexact H6
    iexact HO
  iintro ⟨H6, HO⟩
  iapply (ev_ws4 X W K c 7 (sends.drop 55) (by decide) rfl (credit_q 7 rfl (off35 7 rfl c))) $$ [H7 HO]
  · isplitr; · iexact Hr
    isplitl [H7]; · iexact H7
    iexact HO
  iintro ⟨H7, HO⟩
  iapply (ev_wr4 X W K c 7 (sends.drop 55) (by decide) rfl (credit_q 7 rfl (off35 7 rfl c))) $$ [H7 HO]
  · isplitr; · iexact Hr
    isplitl [H7]; · iexact H7
    iexact HO
  iintro ⟨H7, HO⟩
  unfold run; rw [wp_ret]; imodintro
  iapply Hk
  isplitr; · ipureintro; trivial
  isplitl [H6]; · iexact H6
  isplitl [H7]; · iexact H7
  iexact HO

/-- Piece 45 of the kernel. -/
theorem part45 (c : Dev nD) (v53 v56 v59 v62 v65 v68 v71 v74 : BitVec 32) {Q : (PUnit) → sProp 𝕄} :
    iprop(recs X W K ∗ outSt X W c (outs c 8) ∗ G23 X W c 0 ∗ G23 X W c 1 ∗ G23 X W c 2 ∗ G23 X W c 3 ∗ G23 X W c 4 ∗ G23 X W c 5 ∗ G23 X W c 6 ∗ G22 X W c 7 ∗ owing c (sends.drop 55))
      ⊢ iprop((∀ r, (⌜True⌝ ∗ outSt X W c (outs c 15) ∗ G23 X W c 0 ∗ G23 X W c 1 ∗ G23 X W c 2 ∗ G23 X W c 3 ∗ G23 X W c 4 ∗ G23 X W c 5 ∗ G23 X W c 6 ∗ G23 X W c 7 ∗ owing c (sends.drop 56)) -∗ Q r)
        -∗ run c (atArgs k0_part45 c v53 v56 v59 v62 v65 v68 v71 v74) Q) := by
  unfold atArgs
  rw [k0_part45_eq_skeleton]; unfold k0_part45_skel
  simp only [semSignalWord, semWaitWord, Prog.lift, Prog.bind_op, Prog.bind_ret, Prog.pure_eq_ret, wp_deviceId]
  iintro ⟨#Hr, HU, H0, H1, H2, H3, H4, H5, H6, H7, HO⟩
  iintro Hk
  iapply (ev_s6 X W K c 7 (sends.drop 56) (slice_congr rfl (off26 7 rfl c)) (slice_congr rfl (off26 7 rfl c)) (dev59 c) rfl rfl) $$ [H7 HO]
  · isplitr; · iexact Hr
    isplitl [H7]; · iexact H7
    iexact HO
  iintro ⟨H7, HO⟩
  iapply (ev_ld23 X W c 0 rfl (off19 0 rfl c)) $$ H0
  iintro H0
  iapply (ev_outld X W c rfl) $$ HU
  iintro %_v
  iintro HU

  iapply (ev_outst X W c (crd 0 0 c) (fl (crd 0 1 c)) 0 _ (own_ks c 0) rfl (off45 c) (hw := rfl)) $$ HU
  iintro HU
  iapply (ev_ld23 X W c 1 rfl (off24 1 rfl c)) $$ H1
  iintro H1
  iapply (ev_outld X W c rfl) $$ HU
  iintro %_v
  iintro HU

  iapply (ev_outst X W c (crd 1 0 c) (fl (crd 1 1 c)) 1 _ (own_ks c 1) rfl (off46 c) (hw := rfl)) $$ HU
  iintro HU
  iapply (ev_ld23 X W c 2 rfl (off29 2 rfl c)) $$ H2
  iintro H2
  iapply (ev_outld X W c rfl) $$ HU
  iintro %_v
  iintro HU

  iapply (ev_outst X W c (crd 2 0 c) (fl (crd 2 1 c)) 2 _ (own_ks c 2) rfl (off47 c) (hw := rfl)) $$ HU
  iintro HU
  iapply (ev_ld23 X W c 3 rfl (off19 3 rfl c)) $$ H3
  iintro H3
  iapply (ev_outld X W c rfl) $$ HU
  iintro %_v
  iintro HU

  iapply (ev_outst X W c (crd 3 0 c) (fl (crd 3 1 c)) 3 _ (own_ks c 3) rfl (off48 c) (hw := rfl)) $$ HU
  iintro HU
  iapply (ev_ld23 X W c 4 rfl (off24 4 rfl c)) $$ H4
  iintro H4
  iapply (ev_outld X W c rfl) $$ HU
  iintro %_v
  iintro HU

  iapply (ev_outst X W c (crd 4 0 c) (fl (crd 4 1 c)) 4 _ (own_ks c 4) rfl (off49 c) (hw := rfl)) $$ HU
  iintro HU
  iapply (ev_ld23 X W c 5 rfl (off29 5 rfl c)) $$ H5
  iintro H5
  iapply (ev_outld X W c rfl) $$ HU
  iintro %_v
  iintro HU

  iapply (ev_outst X W c (crd 5 0 c) (fl (crd 5 1 c)) 5 _ (own_ks c 5) rfl (off50 c) (hw := rfl)) $$ HU
  iintro HU
  iapply (ev_ld23 X W c 6 rfl (off19 6 rfl c)) $$ H6
  iintro H6
  iapply (ev_outld X W c rfl) $$ HU
  iintro %_v
  iintro HU

  iapply (ev_outst X W c (crd 6 0 c) (fl (crd 6 1 c)) 6 _ (own_ks c 6) rfl (off51 c) (hw := rfl)) $$ HU
  iintro HU
  unfold run; rw [wp_ret]; imodintro
  iapply Hk
  isplitr; · ipureintro; trivial
  isplitl [HU]; · iexact HU
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact HO

/-- Piece 46 of the kernel. -/
theorem part46 (c : Dev nD) (v8 v9 v74 v91 : BitVec 32) {Q : (PUnit) → sProp 𝕄} :
    iprop(recs X W K ∗ outSt X W c (outs c 15) ∗ G23 X W c 0 ∗ G23 X W c 1 ∗ G23 X W c 7 ∗ owing c (sends.drop 56))
      ⊢ iprop((∀ r, (⌜True⌝ ∗ outSt X W c (outs c 17) ∗ G25 X W c 0 ∗ G24 X W c 1 ∗ G23 X W c 7 ∗ owing c (sends.drop 56)) -∗ Q r)
        -∗ run c (atArgs k0_part46 c v8 v9 v74 v91) Q) := by
  unfold atArgs
  rw [k0_part46_eq_skeleton]; unfold k0_part46_skel
  simp only [semSignalWord, semWaitWord, Prog.lift, Prog.bind_op, Prog.bind_ret, Prog.pure_eq_ret, wp_deviceId]
  iintro ⟨#Hr, HU, H0, H1, H7, HO⟩
  iintro Hk
  iapply (ev_ld23 X W c 7 rfl (off24 7 rfl c)) $$ H7
  iintro H7
  iapply (ev_outld X W c rfl) $$ HU
  iintro %_v
  iintro HU

  iapply (ev_outst X W c (crd 7 0 c) (fl (crd 7 1 c)) 7 _ (own_ks c 7) rfl (off52 c) (hw := rfl)) $$ HU
  iintro HU
  iapply (ev_ws5 X W K c 0 (sends.drop 56) (by decide) rfl (credit_q 0 rfl (off34 0 rfl c))) $$ [H0 HO]
  · isplitr; · iexact Hr
    isplitl [H0]; · iexact H0
    iexact HO
  iintro ⟨H0, HO⟩
  iapply (ev_wr5 X W K c 0 (sends.drop 56) (by decide) rfl (credit_q 0 rfl (off34 0 rfl c))) $$ [H0 HO]
  · isplitr; · iexact Hr
    isplitl [H0]; · iexact H0
    iexact HO
  iintro ⟨H0, HO⟩
  iapply (ev_ld25 X W c 0 rfl (off53 0 rfl c)) $$ H0
  iintro H0
  iapply (ev_outld X W c rfl) $$ HU
  iintro %_v
  iintro HU

  iapply (ev_outst X W c (fl (crd 0 0 c)) (crd 0 1 c) 0 _ (own_dk c 0) rfl (off54 c) (hw := rfl)) $$ HU
  iintro HU
  iapply (ev_ws5 X W K c 1 (sends.drop 56) (by decide) rfl (credit_q 1 rfl (off35 1 rfl c))) $$ [H1 HO]
  · isplitr; · iexact Hr
    isplitl [H1]; · iexact H1
    iexact HO
  iintro ⟨H1, HO⟩
  unfold run; rw [wp_ret]; imodintro
  iapply Hk
  isplitr; · ipureintro; trivial
  isplitl [HU]; · iexact HU
  isplitl [H0]; · iexact H0
  isplitl [H1]; · iexact H1
  isplitl [H7]; · iexact H7
  iexact HO

/-- Piece 47 of the kernel. -/
theorem part47 (c : Dev nD) (v8 v10 v92 v93 : BitVec 32) {Q : (PUnit) → sProp 𝕄} :
    iprop(recs X W K ∗ outSt X W c (outs c 17) ∗ G24 X W c 1 ∗ G23 X W c 2 ∗ G23 X W c 3 ∗ owing c (sends.drop 56))
      ⊢ iprop((∀ r, (⌜True⌝ ∗ outSt X W c (outs c 19) ∗ G25 X W c 1 ∗ G25 X W c 2 ∗ G24 X W c 3 ∗ owing c (sends.drop 56)) -∗ Q r)
        -∗ run c (atArgs k0_part47 c v8 v10 v92 v93) Q) := by
  unfold atArgs
  rw [k0_part47_eq_skeleton]; unfold k0_part47_skel
  simp only [semSignalWord, semWaitWord, Prog.lift, Prog.bind_op, Prog.bind_ret, Prog.pure_eq_ret, wp_deviceId]
  iintro ⟨#Hr, HU, H1, H2, H3, HO⟩
  iintro Hk
  iapply (ev_wr5 X W K c 1 (sends.drop 56) (by decide) rfl (credit_q 1 rfl (off35 1 rfl c))) $$ [H1 HO]
  · isplitr; · iexact Hr
    isplitl [H1]; · iexact H1
    iexact HO
  iintro ⟨H1, HO⟩
  iapply (ev_ld25 X W c 1 rfl (off55 1 rfl c)) $$ H1
  iintro H1
  iapply (ev_outld X W c rfl) $$ HU
  iintro %_v
  iintro HU

  iapply (ev_outst X W c (fl (crd 1 0 c)) (crd 1 1 c) 1 _ (own_dk c 1) rfl (off56 c) (hw := rfl)) $$ HU
  iintro HU
  iapply (ev_ws5 X W K c 2 (sends.drop 56) (by decide) rfl (credit_q 2 rfl (off36 2 rfl c))) $$ [H2 HO]
  · isplitr; · iexact Hr
    isplitl [H2]; · iexact H2
    iexact HO
  iintro ⟨H2, HO⟩
  iapply (ev_wr5 X W K c 2 (sends.drop 56) (by decide) rfl (credit_q 2 rfl (off36 2 rfl c))) $$ [H2 HO]
  · isplitr; · iexact Hr
    isplitl [H2]; · iexact H2
    iexact HO
  iintro ⟨H2, HO⟩
  iapply (ev_ld25 X W c 2 rfl (off57 2 rfl c)) $$ H2
  iintro H2
  iapply (ev_outld X W c rfl) $$ HU
  iintro %_v
  iintro HU

  iapply (ev_outst X W c (fl (crd 2 0 c)) (crd 2 1 c) 2 _ (own_dk c 2) rfl (off58 c) (hw := rfl)) $$ HU
  iintro HU
  iapply (ev_ws5 X W K c 3 (sends.drop 56) (by decide) rfl (credit_q 3 rfl (off34 3 rfl c))) $$ [H3 HO]
  · isplitr; · iexact Hr
    isplitl [H3]; · iexact H3
    iexact HO
  iintro ⟨H3, HO⟩
  unfold run; rw [wp_ret]; imodintro
  iapply Hk
  isplitr; · ipureintro; trivial
  isplitl [HU]; · iexact HU
  isplitl [H1]; · iexact H1
  isplitl [H2]; · iexact H2
  isplitl [H3]; · iexact H3
  iexact HO

end Parts

end Cert.ReduceProof

end
-- ==== Proof.Parts8.lean ====
/-
# The kernel, pieces 48 to 53

What each piece of the kernel does to what a device holds.
-/
module

public import proofs.«01_k».proof.Proof.Args

@[expose] public section

noncomputable section

namespace Cert.ReduceProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts
variable (X : Dev nD → Vec F S1024x128 .bf16) (W : Dev nD → Vec F S128x1024 .bf16) (K : Dev nD × CK → ℕ)

/-- Piece 48 of the kernel. -/
theorem part48 (c : Dev nD) (v9 v10 v94 v95 : BitVec 32) {Q : (PUnit) → sProp 𝕄} :
    iprop(recs X W K ∗ outSt X W c (outs c 19) ∗ G24 X W c 3 ∗ G23 X W c 4 ∗ G23 X W c 5 ∗ owing c (sends.drop 56))
      ⊢ iprop((∀ r, (⌜True⌝ ∗ outSt X W c (outs c 21) ∗ G25 X W c 3 ∗ G25 X W c 4 ∗ G24 X W c 5 ∗ owing c (sends.drop 56)) -∗ Q r)
        -∗ run c (atArgs k0_part48 c v9 v10 v94 v95) Q) := by
  unfold atArgs
  rw [k0_part48_eq_skeleton]; unfold k0_part48_skel
  simp only [semSignalWord, semWaitWord, Prog.lift, Prog.bind_op, Prog.bind_ret, Prog.pure_eq_ret, wp_deviceId]
  iintro ⟨#Hr, HU, H3, H4, H5, HO⟩
  iintro Hk
  iapply (ev_wr5 X W K c 3 (sends.drop 56) (by decide) rfl (credit_q 3 rfl (off34 3 rfl c))) $$ [H3 HO]
  · isplitr; · iexact Hr
    isplitl [H3]; · iexact H3
    iexact HO
  iintro ⟨H3, HO⟩
  iapply (ev_ld25 X W c 3 rfl (off53 3 rfl c)) $$ H3
  iintro H3
  iapply (ev_outld X W c rfl) $$ HU
  iintro %_v
  iintro HU

  iapply (ev_outst X W c (fl (crd 3 0 c)) (crd 3 1 c) 3 _ (own_dk c 3) rfl (off59 c) (hw := rfl)) $$ HU
  iintro HU
  iapply (ev_ws5 X W K c 4 (sends.drop 56) (by decide) rfl (credit_q 4 rfl (off35 4 rfl c))) $$ [H4 HO]
  · isplitr; · iexact Hr
    isplitl [H4]; · iexact H4
    iexact HO
  iintro ⟨H4, HO⟩
  iapply (ev_wr5 X W K c 4 (sends.drop 56) (by decide) rfl (credit_q 4 rfl (off35 4 rfl c))) $$ [H4 HO]
  · isplitr; · iexact Hr
    isplitl [H4]; · iexact H4
    iexact HO
  iintro ⟨H4, HO⟩
  iapply (ev_ld25 X W c 4 rfl (off55 4 rfl c)) $$ H4
  iintro H4
  iapply (ev_outld X W c rfl) $$ HU
  iintro %_v
  iintro HU

  iapply (ev_outst X W c (fl (crd 4 0 c)) (crd 4 1 c) 4 _ (own_dk c 4) rfl (off60 c) (hw := rfl)) $$ HU
  iintro HU
  iapply (ev_ws5 X W K c 5 (sends.drop 56) (by decide) rfl (credit_q 5 rfl (off36 5 rfl c))) $$ [H5 HO]
  · isplitr; · iexact Hr
    isplitl [H5]; · iexact H5
    iexact HO
  iintro ⟨H5, HO⟩
  unfold run; rw [wp_ret]; imodintro
  iapply Hk
  isplitr; · ipureintro; trivial
  isplitl [HU]; · iexact HU
  isplitl [H3]; · iexact H3
  isplitl [H4]; · iexact H4
  isplitl [H5]; · iexact H5
  iexact HO

/-- Piece 49 of the kernel. -/
theorem part49 (c : Dev nD) (v8 v9 v96 v97 : BitVec 32) {Q : (PUnit) → sProp 𝕄} :
    iprop(recs X W K ∗ outSt X W c (outs c 21) ∗ G24 X W c 5 ∗ G23 X W c 6 ∗ G23 X W c 7 ∗ owing c (sends.drop 56))
      ⊢ iprop((∀ r, (⌜True⌝ ∗ outSt X W c (outs c 23) ∗ G25 X W c 5 ∗ G25 X W c 6 ∗ G24 X W c 7 ∗ owing c (sends.drop 56)) -∗ Q r)
        -∗ run c (atArgs k0_part49 c v8 v9 v96 v97) Q) := by
  unfold atArgs
  rw [k0_part49_eq_skeleton]; unfold k0_part49_skel
  simp only [semSignalWord, semWaitWord, Prog.lift, Prog.bind_op, Prog.bind_ret, Prog.pure_eq_ret, wp_deviceId]
  iintro ⟨#Hr, HU, H5, H6, H7, HO⟩
  iintro Hk
  iapply (ev_wr5 X W K c 5 (sends.drop 56) (by decide) rfl (credit_q 5 rfl (off36 5 rfl c))) $$ [H5 HO]
  · isplitr; · iexact Hr
    isplitl [H5]; · iexact H5
    iexact HO
  iintro ⟨H5, HO⟩
  iapply (ev_ld25 X W c 5 rfl (off57 5 rfl c)) $$ H5
  iintro H5
  iapply (ev_outld X W c rfl) $$ HU
  iintro %_v
  iintro HU

  iapply (ev_outst X W c (fl (crd 5 0 c)) (crd 5 1 c) 5 _ (own_dk c 5) rfl (off61 c) (hw := rfl)) $$ HU
  iintro HU
  iapply (ev_ws5 X W K c 6 (sends.drop 56) (by decide) rfl (credit_q 6 rfl (off34 6 rfl c))) $$ [H6 HO]
  · isplitr; · iexact Hr
    isplitl [H6]; · iexact H6
    iexact HO
  iintro ⟨H6, HO⟩
  iapply (ev_wr5 X W K c 6 (sends.drop 56) (by decide) rfl (credit_q 6 rfl (off34 6 rfl c))) $$ [H6 HO]
  · isplitr; · iexact Hr
    isplitl [H6]; · iexact H6
    iexact HO
  iintro ⟨H6, HO⟩
  iapply (ev_ld25 X W c 6 rfl (off53 6 rfl c)) $$ H6
  iintro H6
  iapply (ev_outld X W c rfl) $$ HU
  iintro %_v
  iintro HU

  iapply (ev_outst X W c (fl (crd 6 0 c)) (crd 6 1 c) 6 _ (own_dk c 6) rfl (off62 c) (hw := rfl)) $$ HU
  iintro HU
  iapply (ev_ws5 X W K c 7 (sends.drop 56) (by decide) rfl (credit_q 7 rfl (off35 7 rfl c))) $$ [H7 HO]
  · isplitr; · iexact Hr
    isplitl [H7]; · iexact H7
    iexact HO
  iintro ⟨H7, HO⟩
  unfold run; rw [wp_ret]; imodintro
  iapply Hk
  isplitr; · ipureintro; trivial
  isplitl [HU]; · iexact HU
  isplitl [H5]; · iexact H5
  isplitl [H6]; · iexact H6
  isplitl [H7]; · iexact H7
  iexact HO

/-- Piece 50 of the kernel. -/
theorem part50 (c : Dev nD) (v8 v9 v98 v99 : BitVec 32) {Q : (BitVec 32) → sProp 𝕄} :
    iprop(recs X W K ∗ outSt X W c (outs c 23) ∗ G25 X W c 0 ∗ G25 X W c 1 ∗ G24 X W c 7 ∗ owing c (sends.drop 56))
      ⊢ iprop((∀ r, (⌜True⌝ ∗ outSt X W c (outs c 25) ∗ G27 X W c 0 ∗ G26 X W c 1 ∗ G25 X W c 7 ∗ owing c (sends.drop 56)) -∗ Q r)
        -∗ run c (atArgs k0_part50 c v8 v9 v98 v99) Q) := by
  unfold atArgs
  rw [k0_part50_eq_skeleton]; unfold k0_part50_skel
  simp only [semSignalWord, semWaitWord, Prog.lift, Prog.bind_op, Prog.bind_ret, Prog.pure_eq_ret, wp_deviceId]
  iintro ⟨#Hr, HU, H0, H1, H7, HO⟩
  iintro Hk
  iapply (ev_wr5 X W K c 7 (sends.drop 56) (by decide) rfl (credit_q 7 rfl (off35 7 rfl c))) $$ [H7 HO]
  · isplitr; · iexact Hr
    isplitl [H7]; · iexact H7
    iexact HO
  iintro ⟨H7, HO⟩
  iapply (ev_ld25 X W c 7 rfl (off55 7 rfl c)) $$ H7
  iintro H7
  iapply (ev_outld X W c rfl) $$ HU
  iintro %_v
  iintro HU

  iapply (ev_outst X W c (fl (crd 7 0 c)) (crd 7 1 c) 7 _ (own_dk c 7) rfl (off63 c) (hw := rfl)) $$ HU
  iintro HU
  iapply (ev_ws6 X W K c 0 (sends.drop 56) (by decide) rfl (credit_q 0 rfl (off21 0 rfl c))) $$ [H0 HO]
  · isplitr; · iexact Hr
    isplitl [H0]; · iexact H0
    iexact HO
  iintro ⟨H0, HO⟩
  iapply (ev_wr6 X W K c 0 (sends.drop 56) (by decide) rfl (credit_q 0 rfl (off21 0 rfl c))) $$ [H0 HO]
  · isplitr; · iexact Hr
    isplitl [H0]; · iexact H0
    iexact HO
  iintro ⟨H0, HO⟩
  iapply (ev_ld27 X W c 0 rfl (off64 0 rfl c)) $$ H0
  iintro H0
  iapply (ev_outld X W c rfl) $$ HU
  iintro %_v
  iintro HU

  iapply (ev_outst X W c (fl (crd 0 0 c)) (fl (crd 0 1 c)) 0 _ (own_ds c 0) rfl (off65 c) (hw := rfl)) $$ HU
  iintro HU
  iapply (ev_ws6 X W K c 1 (sends.drop 56) (by decide) rfl (credit_q 1 rfl (off26 1 rfl c))) $$ [H1 HO]
  · isplitr; · iexact Hr
    isplitl [H1]; · iexact H1
    iexact HO
  iintro ⟨H1, HO⟩
  unfold run; rw [wp_ret]; imodintro
  iapply Hk
  isplitr; · ipureintro; trivial
  isplitl [HU]; · iexact HU
  isplitl [H0]; · iexact H0
  isplitl [H1]; · iexact H1
  isplitl [H7]; · iexact H7
  iexact HO

/-- Piece 51 of the kernel. -/
theorem part51 (c : Dev nD) (v10 v100 v101 v1613 : BitVec 32) {Q : (PUnit) → sProp 𝕄} :
    iprop(recs X W K ∗ outSt X W c (outs c 25) ∗ G26 X W c 1 ∗ G25 X W c 2 ∗ G25 X W c 3 ∗ owing c (sends.drop 56))
      ⊢ iprop((∀ r, (⌜True⌝ ∗ outSt X W c (outs c 27) ∗ G27 X W c 1 ∗ G27 X W c 2 ∗ G26 X W c 3 ∗ owing c (sends.drop 56)) -∗ Q r)
        -∗ run c (atArgs k0_part51 c v10 v100 v101 v1613) Q) := by
  unfold atArgs
  rw [k0_part51_eq_skeleton]; unfold k0_part51_skel
  simp only [semSignalWord, semWaitWord, Prog.lift, Prog.bind_op, Prog.bind_ret, Prog.pure_eq_ret, wp_deviceId]
  iintro ⟨#Hr, HU, H1, H2, H3, HO⟩
  iintro Hk
  iapply (ev_wr6 X W K c 1 (sends.drop 56) (by decide) rfl (credit_q 1 rfl (off26 1 rfl c))) $$ [H1 HO]
  · isplitr; · iexact Hr
    isplitl [H1]; · iexact H1
    iexact HO
  iintro ⟨H1, HO⟩
  iapply (ev_ld27 X W c 1 rfl (off66 1 rfl c)) $$ H1
  iintro H1
  iapply (ev_outld X W c rfl) $$ HU
  iintro %_v
  iintro HU

  iapply (ev_outst X W c (fl (crd 1 0 c)) (fl (crd 1 1 c)) 1 _ (own_ds c 1) rfl (off67 c) (hw := rfl)) $$ HU
  iintro HU
  iapply (ev_ws6 X W K c 2 (sends.drop 56) (by decide) rfl (credit_q 2 rfl (off31 2 rfl c))) $$ [H2 HO]
  · isplitr; · iexact Hr
    isplitl [H2]; · iexact H2
    iexact HO
  iintro ⟨H2, HO⟩
  iapply (ev_wr6 X W K c 2 (sends.drop 56) (by decide) rfl (credit_q 2 rfl (off31 2 rfl c))) $$ [H2 HO]
  · isplitr; · iexact Hr
    isplitl [H2]; · iexact H2
    iexact HO
  iintro ⟨H2, HO⟩
  iapply (ev_ld27 X W c 2 rfl (off68 2 rfl c)) $$ H2
  iintro H2
  iapply (ev_outld X W c rfl) $$ HU
  iintro %_v
  iintro HU

  iapply (ev_outst X W c (fl (crd 2 0 c)) (fl (crd 2 1 c)) 2 _ (own_ds c 2) rfl (off69 c) (hw := rfl)) $$ HU
  iintro HU
  iapply (ev_ws6 X W K c 3 (sends.drop 56) (by decide) rfl (credit_q 3 rfl (off21 3 rfl c))) $$ [H3 HO]
  · isplitr; · iexact Hr
    isplitl [H3]; · iexact H3
    iexact HO
  iintro ⟨H3, HO⟩
  unfold run; rw [wp_ret]; imodintro
  iapply Hk
  isplitr; · ipureintro; trivial
  isplitl [HU]; · iexact HU
  isplitl [H1]; · iexact H1
  isplitl [H2]; · iexact H2
  isplitl [H3]; · iexact H3
  iexact HO

/-- Piece 52 of the kernel. -/
theorem part52 (c : Dev nD) (v8 v9 v102 v103 : BitVec 32) {Q : (PUnit) → sProp 𝕄} :
    iprop(recs X W K ∗ outSt X W c (outs c 27) ∗ G26 X W c 3 ∗ G25 X W c 4 ∗ G25 X W c 5 ∗ owing c (sends.drop 56))
      ⊢ iprop((∀ r, (⌜True⌝ ∗ outSt X W c (outs c 29) ∗ G27 X W c 3 ∗ G27 X W c 4 ∗ G26 X W c 5 ∗ owing c (sends.drop 56)) -∗ Q r)
        -∗ run c (atArgs k0_part52 c v8 v9 v102 v103) Q) := by
  unfold atArgs
  rw [k0_part52_eq_skeleton]; unfold k0_part52_skel
  simp only [semSignalWord, semWaitWord, Prog.lift, Prog.bind_op, Prog.bind_ret, Prog.pure_eq_ret, wp_deviceId]
  iintro ⟨#Hr, HU, H3, H4, H5, HO⟩
  iintro Hk
  iapply (ev_wr6 X W K c 3 (sends.drop 56) (by decide) rfl (credit_q 3 rfl (off21 3 rfl c))) $$ [H3 HO]
  · isplitr; · iexact Hr
    isplitl [H3]; · iexact H3
    iexact HO
  iintro ⟨H3, HO⟩
  iapply (ev_ld27 X W c 3 rfl (off64 3 rfl c)) $$ H3
  iintro H3
  iapply (ev_outld X W c rfl) $$ HU
  iintro %_v
  iintro HU

  iapply (ev_outst X W c (fl (crd 3 0 c)) (fl (crd 3 1 c)) 3 _ (own_ds c 3) rfl (off70 c) (hw := rfl)) $$ HU
  iintro HU
  iapply (ev_ws6 X W K c 4 (sends.drop 56) (by decide) rfl (credit_q 4 rfl (off26 4 rfl c))) $$ [H4 HO]
  · isplitr; · iexact Hr
    isplitl [H4]; · iexact H4
    iexact HO
  iintro ⟨H4, HO⟩
  iapply (ev_wr6 X W K c 4 (sends.drop 56) (by decide) rfl (credit_q 4 rfl (off26 4 rfl c))) $$ [H4 HO]
  · isplitr; · iexact Hr
    isplitl [H4]; · iexact H4
    iexact HO
  iintro ⟨H4, HO⟩
  iapply (ev_ld27 X W c 4 rfl (off66 4 rfl c)) $$ H4
  iintro H4
  iapply (ev_outld X W c rfl) $$ HU
  iintro %_v
  iintro HU

  iapply (ev_outst X W c (fl (crd 4 0 c)) (fl (crd 4 1 c)) 4 _ (own_ds c 4) rfl (off71 c) (hw := rfl)) $$ HU
  iintro HU
  iapply (ev_ws6 X W K c 5 (sends.drop 56) (by decide) rfl (credit_q 5 rfl (off31 5 rfl c))) $$ [H5 HO]
  · isplitr; · iexact Hr
    isplitl [H5]; · iexact H5
    iexact HO
  iintro ⟨H5, HO⟩
  unfold run; rw [wp_ret]; imodintro
  iapply Hk
  isplitr; · ipureintro; trivial
  isplitl [HU]; · iexact HU
  isplitl [H3]; · iexact H3
  isplitl [H4]; · iexact H4
  isplitl [H5]; · iexact H5
  iexact HO

/-- Piece 53 of the kernel. -/
theorem part53 (c : Dev nD) (v8 v10 v104 v105 : BitVec 32) {Q : (PUnit) → sProp 𝕄} :
    iprop(recs X W K ∗ outSt X W c (outs c 29) ∗ G26 X W c 5 ∗ G25 X W c 6 ∗ owing c (sends.drop 56))
      ⊢ iprop((∀ r, (⌜True⌝ ∗ outSt X W c (outs c 31) ∗ G27 X W c 5 ∗ G27 X W c 6 ∗ owing c (sends.drop 56)) -∗ Q r)
        -∗ run c (atArgs k0_part53 c v8 v10 v104 v105) Q) := by
  unfold atArgs
  rw [k0_part53_eq_skeleton]; unfold k0_part53_skel
  simp only [semSignalWord, semWaitWord, Prog.lift, Prog.bind_op, Prog.bind_ret, Prog.pure_eq_ret, wp_deviceId]
  iintro ⟨#Hr, HU, H5, H6, HO⟩
  iintro Hk
  iapply (ev_wr6 X W K c 5 (sends.drop 56) (by decide) rfl (credit_q 5 rfl (off31 5 rfl c))) $$ [H5 HO]
  · isplitr; · iexact Hr
    isplitl [H5]; · iexact H5
    iexact HO
  iintro ⟨H5, HO⟩
  iapply (ev_ld27 X W c 5 rfl (off68 5 rfl c)) $$ H5
  iintro H5
  iapply (ev_outld X W c rfl) $$ HU
  iintro %_v
  iintro HU

  iapply (ev_outst X W c (fl (crd 5 0 c)) (fl (crd 5 1 c)) 5 _ (own_ds c 5) rfl (off72 c) (hw := rfl)) $$ HU
  iintro HU
  iapply (ev_ws6 X W K c 6 (sends.drop 56) (by decide) rfl (credit_q 6 rfl (off21 6 rfl c))) $$ [H6 HO]
  · isplitr; · iexact Hr
    isplitl [H6]; · iexact H6
    iexact HO
  iintro ⟨H6, HO⟩
  iapply (ev_wr6 X W K c 6 (sends.drop 56) (by decide) rfl (credit_q 6 rfl (off21 6 rfl c))) $$ [H6 HO]
  · isplitr; · iexact Hr
    isplitl [H6]; · iexact H6
    iexact HO
  iintro ⟨H6, HO⟩
  iapply (ev_ld27 X W c 6 rfl (off64 6 rfl c)) $$ H6
  iintro H6
  iapply (ev_outld X W c rfl) $$ HU
  iintro %_v
  iintro HU

  iapply (ev_outst X W c (fl (crd 6 0 c)) (fl (crd 6 1 c)) 6 _ (own_ds c 6) rfl (off73 c) (hw := rfl)) $$ HU
  iintro HU
  unfold run; rw [wp_ret]; imodintro
  iapply Hk
  isplitr; · ipureintro; trivial
  isplitl [HU]; · iexact HU
  isplitl [H5]; · iexact H5
  isplitl [H6]; · iexact H6
  iexact HO

end Parts

end Cert.ReduceProof

end
-- ==== Proof.Body.lean ====
/-
# The whole kernel

The pieces in order: what a device holds before the kernel and after it.
-/
module

public import proofs.«01_k».proof.Proof.Parts1
public import proofs.«01_k».proof.Proof.Parts2
public import proofs.«01_k».proof.Proof.Parts3
public import proofs.«01_k».proof.Proof.Parts4
public import proofs.«01_k».proof.Proof.Parts5
public import proofs.«01_k».proof.Proof.Parts6
public import proofs.«01_k».proof.Proof.Parts7
public import proofs.«01_k».proof.Proof.Parts8

@[expose] public section

noncomputable section

namespace Cert.ReduceProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Body
variable (X : Dev nD → Vec F S1024x128 .bf16) (W : Dev nD → Vec F S128x1024 .bf16) (K : Dev nD × CK → ℕ)

set_option maxHeartbeats 4000000 in
/-- All pieces but the last wait and store. -/
theorem part54 (c : Dev nD) {Q : (Σ' (d0 : Dev nD) (v106 : BitVec 32) (v1703 : BitVec 32), BitVec 32) → sProp 𝕄} :
    iprop(recs X W K ∗ owns (c : Thread nD τ) xM fullShare (X c) ∗ owns (c : Thread nD τ) wM fullShare (W c) ∗ outSt X W c (outs c 0) ∗ B0 c ∗ G0 c 0 ∗ G0 c 1 ∗ G0 c 2 ∗ G0 c 3 ∗ G0 c 4 ∗ G0 c 5 ∗ G0 c 6 ∗ G0 c 7)
      ⊢ iprop((∀ r, (⌜r.1 = c⌝ ∗ owns (c : Thread nD τ) xM fullShare (X c) ∗ owns (c : Thread nD τ) wM fullShare (W c) ∗ outSt X W c (outs c 31) ∗ G27 X W c 0 ∗ G27 X W c 1 ∗ G27 X W c 2 ∗ G27 X W c 3 ∗ G27 X W c 4 ∗ G27 X W c 5 ∗ G27 X W c 6 ∗ G26 X W c 7 ∗ owing c (sends.drop 56) ∗ semVal (barCell c) 0) -∗ Q r)
        -∗ run c (atArgs k0_part54) Q) := by
  unfold atArgs
  rw [k0_part54_eq_skeleton]; unfold k0_part54_skel
  simp only [Prog.lift, Prog.pure_eq_ret]
  iintro ⟨#Hr, HX, HW, HU, HB, H0, H1, H2, H3, H4, H5, H6, H7⟩
  iintro Hk
  unfold run
  rw [wp_bind]
  iapply (part1 X W K c ) $$ []
  · iexact Hr
  iintro %r %hr
  obtain ⟨d0, w0, w1, w2, w3, w4, w5, w6, w7, w8, w9, w10, w11, w12, w13, w14, w15, w16, w17, w18, w19, w20, w21⟩ := r
  dsimp only at hr ⊢
  subst d0
  try dsimp only
  try unfold run
  rw [wp_bind]
  iapply (part2 X W K c _ _ _ _ _ _ _ _ _ _) $$ []
  · iexact Hr
  iintro %r %hr
  obtain ⟨x0, x1, x2, x3, x4, x5, x6, x7, x8, x9, x10, x11, x12, x13, x14⟩ := r
  try dsimp only
  try unfold run
  rw [wp_bind]
  iapply (part3 X W K c _ _ _ _ _ _ _ _ _ _ _ _ _ _ _ _ _ _ _ _ _ _ _ _ _ _ _ _ _ _ _ _ _ _) $$ [HB]
  · isplitr; · iexact Hr
    iexact HB
  iintro %r ⟨%hr, HB⟩
  obtain ⟨u0, u1, u2, u3, u4, u5, u6, u7, u8, u9, u10, u11, u12, u13, u14, u15, u16, u17, u18, u19, u20, u21, u22, u23, u24, u25, u26, u27, u28, u29, u30, u31, u32, u33, u34, v107, c1⟩ := r
  obtain ⟨hr, hr'⟩ := hr
  dsimp only at hr hr' ⊢
  subst hr hr'
  try dsimp only
  try unfold run
  rw [wp_bind]
  iapply (part4 X W K c _ _ _ _ _ _) $$ [HX HW H0 HB]
  · isplitr; · iexact Hr
    isplitl [HX]; · iexact HX
    isplitl [HW]; · iexact HW
    isplitl [H0]; · iexact H0
    iexact HB
  iintro %r ⟨%hr, HX, HW, H0, HO, HZ, R1, R2, R3, R4, R5, R6, R7⟩
  subst hr
  try dsimp only
  try unfold run
  rw [wp_bind]
  iapply (part5 X W K c _ _ _ _ _) $$ [HX HW H1 H2 HO R1]
  · isplitr; · iexact Hr
    isplitl [HX]; · iexact HX
    isplitl [HW]; · iexact HW
    isplitl [H1]; · iexact H1
    isplitl [H2]; · iexact H2
    isplitl [HO]; · iexact HO
    iexact R1
  iintro %r ⟨%hr, HX, HW, H1, H2, HO⟩
  subst hr
  try dsimp only
  try unfold run
  rw [wp_bind]
  iapply (part6 X W K c _ _ _ _ _ _ _) $$ [HX HW H2 H3 HO R2]
  · isplitr; · iexact Hr
    isplitl [HX]; · iexact HX
    isplitl [HW]; · iexact HW
    isplitl [H2]; · iexact H2
    isplitl [H3]; · iexact H3
    isplitl [HO]; · iexact HO
    iexact R2
  iintro %r ⟨%hr, HX, HW, H2, H3, HO⟩
  try dsimp only
  try unfold run
  rw [wp_bind]
  iapply (part7 X W K c _ _ _ _ _ _ _) $$ [HX HW H3 H4 HO R3 R4]
  · isplitr; · iexact Hr
    isplitl [HX]; · iexact HX
    isplitl [HW]; · iexact HW
    isplitl [H3]; · iexact H3
    isplitl [H4]; · iexact H4
    isplitl [HO]; · iexact HO
    isplitl [R3]; · iexact R3
    iexact R4
  iintro %r ⟨%hr, HX, HW, H3, H4, HO⟩
  try dsimp only
  try unfold run
  rw [wp_bind]
  iapply (part8 X W K c _ _ _ _ _ _) $$ [HX HW H4 H5 HO R5]
  · isplitr; · iexact Hr
    isplitl [HX]; · iexact HX
    isplitl [HW]; · iexact HW
    isplitl [H4]; · iexact H4
    isplitl [H5]; · iexact H5
    isplitl [HO]; · iexact HO
    iexact R5
  iintro %r ⟨%hr, HX, HW, H4, H5, HO⟩
  try dsimp only
  try unfold run
  rw [wp_bind]
  iapply (part9 X W K c _ _ _ _ _) $$ [HX HW H5 H6 HO R6]
  · isplitr; · iexact Hr
    isplitl [HX]; · iexact HX
    isplitl [HW]; · iexact HW
    isplitl [H5]; · iexact H5
    isplitl [H6]; · iexact H6
    isplitl [HO]; · iexact HO
    iexact R6
  iintro %r ⟨%hr, HX, HW, H5, H6, HO⟩
  subst hr
  try dsimp only
  try unfold run
  rw [wp_bind]
  iapply (part10 X W K c _ _ _ _ _ _) $$ [HX HW H0 H7 HO R7]
  · isplitr; · iexact Hr
    isplitl [HX]; · iexact HX
    isplitl [HW]; · iexact HW
    isplitl [H0]; · iexact H0
    isplitl [H7]; · iexact H7
    isplitl [HO]; · iexact HO
    iexact R7
  iintro %r ⟨%hr, HX, HW, H0, H7, HO⟩
  subst hr
  try dsimp only
  try unfold run
  rw [wp_bind]
  iapply (part11 X W K c _ _ _ _) $$ [HX HW H1 H2 H3]
  · isplitr; · iexact Hr
    isplitl [HX]; · iexact HX
    isplitl [HW]; · iexact HW
    isplitl [H1]; · iexact H1
    isplitl [H2]; · iexact H2
    iexact H3
  iintro %r ⟨%hr, HX, HW, H1, H2, H3⟩
  subst hr
  try dsimp only
  try unfold run
  rw [wp_bind]
  iapply (part12 X W K c _ _ _) $$ [HX HW H4 H5 H6 H7]
  · isplitr; · iexact Hr
    isplitl [HX]; · iexact HX
    isplitl [HW]; · iexact HW
    isplitl [H4]; · iexact H4
    isplitl [H5]; · iexact H5
    isplitl [H6]; · iexact H6
    iexact H7
  iintro %r ⟨%hr, HX, HW, H4, H5, H6, H7⟩
  try dsimp only
  try unfold run
  rw [wp_bind]
  iapply (part13 X W K c _ _ _ _) $$ [H0 HO]
  · isplitr; · iexact Hr
    isplitl [H0]; · iexact H0
    iexact HO
  iintro %r ⟨%hr, H0, HO⟩
  try dsimp only
  try unfold run
  rw [wp_bind]
  iapply (part14 X W K c _ _ _ _ _ _) $$ [H0 H1 HO]
  · isplitr; · iexact Hr
    isplitl [H0]; · iexact H0
    isplitl [H1]; · iexact H1
    iexact HO
  iintro %r ⟨%hr, H0, H1, HO⟩
  try dsimp only
  try unfold run
  rw [wp_bind]
  iapply (part15 X W K c _ _ _ _ _) $$ [H1 H2 HO]
  · isplitr; · iexact Hr
    isplitl [H1]; · iexact H1
    isplitl [H2]; · iexact H2
    iexact HO
  iintro %r ⟨%hr, H1, H2, HO⟩
  obtain ⟨x0, x1⟩ := r
  try dsimp only
  try unfold run
  rw [wp_bind]
  iapply (part16 X W K c _ _ _ _ _ _ _) $$ [H2 HO]
  · isplitr; · iexact Hr
    isplitl [H2]; · iexact H2
    iexact HO
  iintro %r ⟨%hr, H2, HO⟩
  subst hr
  try dsimp only
  try unfold run
  rw [wp_bind]
  iapply (part17 X W K c _ _ _ _ _ _) $$ [H2 H3 HO]
  · isplitr; · iexact Hr
    isplitl [H2]; · iexact H2
    isplitl [H3]; · iexact H3
    iexact HO
  iintro %r ⟨%hr, H2, H3, HO⟩
  try dsimp only
  try unfold run
  rw [wp_bind]
  iapply (part18 X W K c _ _ _ _ _) $$ [H3 H4 HO]
  · isplitr; · iexact Hr
    isplitl [H3]; · iexact H3
    isplitl [H4]; · iexact H4
    iexact HO
  iintro %r ⟨%hr, H3, H4, HO⟩
  try dsimp only
  try unfold run
  rw [wp_bind]
  iapply (part19 X W K c _ _ _ _ _ _) $$ [H4 HO]
  · isplitr; · iexact Hr
    isplitl [H4]; · iexact H4
    iexact HO
  iintro %r ⟨%hr, H4, HO⟩
  try dsimp only
  try unfold run
  rw [wp_bind]
  iapply (part20 X W K c _ _ _ _) $$ [H5 HO]
  · isplitr; · iexact Hr
    isplitl [H5]; · iexact H5
    iexact HO
  iintro %r ⟨%hr, H5, HO⟩
  try dsimp only
  try unfold run
  rw [wp_bind]
  iapply (part21 X W K c _ _ _ _ _ _) $$ [H5 H6 HO]
  · isplitr; · iexact Hr
    isplitl [H5]; · iexact H5
    isplitl [H6]; · iexact H6
    iexact HO
  iintro %r ⟨%hr, H5, H6, HO⟩
  subst hr
  try dsimp only
  try unfold run
  rw [wp_bind]
  iapply (part22 X W K c _ _ _ _) $$ [H6 H7 HO]
  · isplitr; · iexact Hr
    isplitl [H6]; · iexact H6
    isplitl [H7]; · iexact H7
    iexact HO
  iintro %r ⟨%hr, H6, H7, HO⟩
  try dsimp only
  try unfold run
  rw [wp_bind]
  iapply (part23 X W K c _ _ _ _) $$ [H7 HO]
  · isplitr; · iexact Hr
    isplitl [H7]; · iexact H7
    iexact HO
  iintro %r ⟨%hr, H7, HO⟩
  try dsimp only
  try unfold run
  rw [wp_bind]
  iapply (part24 X W K c _ _ _ _ _) $$ [H0 H7 HO]
  · isplitr; · iexact Hr
    isplitl [H0]; · iexact H0
    isplitl [H7]; · iexact H7
    iexact HO
  iintro %r ⟨%hr, H0, H7, HO⟩
  try dsimp only
  try unfold run
  rw [wp_bind]
  iapply (part25 X W K c _ _ _) $$ [H1 H2 HO]
  · isplitr; · iexact Hr
    isplitl [H1]; · iexact H1
    isplitl [H2]; · iexact H2
    iexact HO
  iintro %r ⟨%hr, H1, H2, HO⟩
  try dsimp only
  try unfold run
  rw [wp_bind]
  iapply (part26 X W K c _ _ _) $$ [H2 H3 HO]
  · isplitr; · iexact Hr
    isplitl [H2]; · iexact H2
    isplitl [H3]; · iexact H3
    iexact HO
  iintro %r ⟨%hr, H2, H3, HO⟩
  subst hr
  try dsimp only
  try unfold run
  rw [wp_bind]
  iapply (part27 X W K c _ _ _) $$ [H3 H4 HO]
  · isplitr; · iexact Hr
    isplitl [H3]; · iexact H3
    isplitl [H4]; · iexact H4
    iexact HO
  iintro %r ⟨%hr, H3, H4, HO⟩
  try dsimp only
  try unfold run
  rw [wp_bind]
  iapply (part28 X W K c _ _ _) $$ [H5 H6 HO]
  · isplitr; · iexact Hr
    isplitl [H5]; · iexact H5
    isplitl [H6]; · iexact H6
    iexact HO
  iintro %r ⟨%hr, H5, H6, HO⟩
  try dsimp only
  try unfold run
  rw [wp_bind]
  iapply (part29 X W K c _ _ _) $$ [H6 H7 HO]
  · isplitr; · iexact Hr
    isplitl [H6]; · iexact H6
    isplitl [H7]; · iexact H7
    iexact HO
  iintro %r ⟨%hr, H6, H7, HO⟩
  subst hr
  try dsimp only
  try unfold run
  rw [wp_bind]
  iapply (part30 X W K c _ _ _ _) $$ [H0 H7 HO]
  · isplitr; · iexact Hr
    isplitl [H0]; · iexact H0
    isplitl [H7]; · iexact H7
    iexact HO
  iintro %r ⟨%hr, H0, H7, HO⟩
  try dsimp only
  try unfold run
  rw [wp_bind]
  iapply (part31 X W K c _ _ _) $$ [H0 H1 HO]
  · isplitr; · iexact Hr
    isplitl [H0]; · iexact H0
    isplitl [H1]; · iexact H1
    iexact HO
  iintro %r ⟨%hr, H0, H1, HO⟩
  obtain ⟨x0, x1⟩ := r
  try dsimp only
  try unfold run
  rw [wp_bind]
  iapply (part32 X W K c _ _ _ _) $$ [H1 H2 HO]
  · isplitr; · iexact Hr
    isplitl [H1]; · iexact H1
    isplitl [H2]; · iexact H2
    iexact HO
  iintro %r ⟨%hr, H1, H2, HO⟩
  try dsimp only
  try unfold run
  rw [wp_bind]
  iapply (part33 X W K c _ _ _) $$ [H2 H3 HO]
  · isplitr; · iexact Hr
    isplitl [H2]; · iexact H2
    isplitl [H3]; · iexact H3
    iexact HO
  iintro %r ⟨%hr, H2, H3, HO⟩
  subst hr
  try dsimp only
  try unfold run
  rw [wp_bind]
  iapply (part34 X W K c _ _ _) $$ [H3 H4 HO]
  · isplitr; · iexact Hr
    isplitl [H3]; · iexact H3
    isplitl [H4]; · iexact H4
    iexact HO
  iintro %r ⟨%hr, H3, H4, HO⟩
  subst hr
  try dsimp only
  try unfold run
  rw [wp_bind]
  iapply (part35 X W K c _ _ _ _) $$ [H4 H5 HO]
  · isplitr; · iexact Hr
    isplitl [H4]; · iexact H4
    isplitl [H5]; · iexact H5
    iexact HO
  iintro %r ⟨%hr, H4, H5, HO⟩
  try dsimp only
  try unfold run
  rw [wp_bind]
  iapply (part36 X W K c _ _ _) $$ [H5 H6 HO]
  · isplitr; · iexact Hr
    isplitl [H5]; · iexact H5
    isplitl [H6]; · iexact H6
    iexact HO
  iintro %r ⟨%hr, H5, H6, HO⟩
  try dsimp only
  try unfold run
  rw [wp_bind]
  iapply (part37 X W K c _ _ _) $$ [H6 H7 HO]
  · isplitr; · iexact Hr
    isplitl [H6]; · iexact H6
    isplitl [H7]; · iexact H7
    iexact HO
  iintro %r ⟨%hr, H6, H7, HO⟩
  try dsimp only
  try unfold run
  rw [wp_bind]
  iapply (part38 X W K c _ _ _ _ _) $$ [H0 H7 HO]
  · isplitr; · iexact Hr
    isplitl [H0]; · iexact H0
    isplitl [H7]; · iexact H7
    iexact HO
  iintro %r ⟨%hr, H0, H7, HO⟩
  subst hr
  try dsimp only
  try unfold run
  rw [wp_bind]
  iapply (part39 X W K c _ _ _ _ _ _ _) $$ [HU H1 H2 H3 H4 H5 H6 H7]
  · isplitr; · iexact Hr
    isplitl [HU]; · iexact HU
    isplitl [H1]; · iexact H1
    isplitl [H2]; · iexact H2
    isplitl [H3]; · iexact H3
    isplitl [H4]; · iexact H4
    isplitl [H5]; · iexact H5
    isplitl [H6]; · iexact H6
    iexact H7
  iintro %r ⟨%hr, HU, H1, H2, H3, H4, H5, H6, H7⟩
  try dsimp only
  try unfold run
  rw [wp_bind]
  iapply (part40 X W K c _ _ _) $$ [H0 H1 HO]
  · isplitr; · iexact Hr
    isplitl [H0]; · iexact H0
    isplitl [H1]; · iexact H1
    iexact HO
  iintro %r ⟨%hr, H0, H1, HO⟩
  try dsimp only
  try unfold run
  rw [wp_bind]
  iapply (part41 X W K c _ _ _) $$ [H1 H2 HO]
  · isplitr; · iexact Hr
    isplitl [H1]; · iexact H1
    isplitl [H2]; · iexact H2
    iexact HO
  iintro %r ⟨%hr, H1, H2, HO⟩
  try dsimp only
  try unfold run
  rw [wp_bind]
  iapply (part42 X W K c _ _ _) $$ [H3 H4 HO]
  · isplitr; · iexact Hr
    isplitl [H3]; · iexact H3
    isplitl [H4]; · iexact H4
    iexact HO
  iintro %r ⟨%hr, H3, H4, HO⟩
  try dsimp only
  try unfold run
  rw [wp_bind]
  iapply (part43 X W K c _ _) $$ [H4 H5 H6 HO]
  · isplitr; · iexact Hr
    isplitl [H4]; · iexact H4
    isplitl [H5]; · iexact H5
    isplitl [H6]; · iexact H6
    iexact HO
  iintro %r ⟨%hr, H4, H5, H6, HO⟩
  try dsimp only
  try unfold run
  rw [wp_bind]
  iapply (part44 X W K c _ _ _ _) $$ [H6 H7 HO]
  · isplitr; · iexact Hr
    isplitl [H6]; · iexact H6
    isplitl [H7]; · iexact H7
    iexact HO
  iintro %r ⟨%hr, H6, H7, HO⟩
  try dsimp only
  try unfold run
  rw [wp_bind]
  iapply (part45 X W K c _ _ _ _ _ _ _ _) $$ [HU H0 H1 H2 H3 H4 H5 H6 H7 HO]
  · isplitr; · iexact Hr
    isplitl [HU]; · iexact HU
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact HO
  iintro %r ⟨%hr, HU, H0, H1, H2, H3, H4, H5, H6, H7, HO⟩
  try dsimp only
  try unfold run
  rw [wp_bind]
  iapply (part46 X W K c _ _ _ _) $$ [HU H0 H1 H7 HO]
  · isplitr; · iexact Hr
    isplitl [HU]; · iexact HU
    isplitl [H0]; · iexact H0
    isplitl [H1]; · iexact H1
    isplitl [H7]; · iexact H7
    iexact HO
  iintro %r ⟨%hr, HU, H0, H1, H7, HO⟩
  try dsimp only
  try unfold run
  rw [wp_bind]
  iapply (part47 X W K c _ _ _ _) $$ [HU H1 H2 H3 HO]
  · isplitr; · iexact Hr
    isplitl [HU]; · iexact HU
    isplitl [H1]; · iexact H1
    isplitl [H2]; · iexact H2
    isplitl [H3]; · iexact H3
    iexact HO
  iintro %r ⟨%hr, HU, H1, H2, H3, HO⟩
  try dsimp only
  try unfold run
  rw [wp_bind]
  iapply (part48 X W K c _ _ _ _) $$ [HU H3 H4 H5 HO]
  · isplitr; · iexact Hr
    isplitl [HU]; · iexact HU
    isplitl [H3]; · iexact H3
    isplitl [H4]; · iexact H4
    isplitl [H5]; · iexact H5
    iexact HO
  iintro %r ⟨%hr, HU, H3, H4, H5, HO⟩
  try dsimp only
  try unfold run
  rw [wp_bind]
  iapply (part49 X W K c _ _ _ _) $$ [HU H5 H6 H7 HO]
  · isplitr; · iexact Hr
    isplitl [HU]; · iexact HU
    isplitl [H5]; · iexact H5
    isplitl [H6]; · iexact H6
    isplitl [H7]; · iexact H7
    iexact HO
  iintro %r ⟨%hr, HU, H5, H6, H7, HO⟩
  try dsimp only
  try unfold run
  rw [wp_bind]
  iapply (part50 X W K c _ _ _ _) $$ [HU H0 H1 H7 HO]
  · isplitr; · iexact Hr
    isplitl [HU]; · iexact HU
    isplitl [H0]; · iexact H0
    isplitl [H1]; · iexact H1
    isplitl [H7]; · iexact H7
    iexact HO
  iintro %r ⟨%hr, HU, H0, H1, H7, HO⟩
  try dsimp only
  try unfold run
  rw [wp_bind]
  iapply (part51 X W K c _ _ _ _) $$ [HU H1 H2 H3 HO]
  · isplitr; · iexact Hr
    isplitl [HU]; · iexact HU
    isplitl [H1]; · iexact H1
    isplitl [H2]; · iexact H2
    isplitl [H3]; · iexact H3
    iexact HO
  iintro %r ⟨%hr, HU, H1, H2, H3, HO⟩
  try dsimp only
  try unfold run
  rw [wp_bind]
  iapply (part52 X W K c _ _ _ _) $$ [HU H3 H4 H5 HO]
  · isplitr; · iexact Hr
    isplitl [HU]; · iexact HU
    isplitl [H3]; · iexact H3
    isplitl [H4]; · iexact H4
    isplitl [H5]; · iexact H5
    iexact HO
  iintro %r ⟨%hr, HU, H3, H4, H5, HO⟩
  try dsimp only
  try unfold run
  rw [wp_bind]
  iapply (part53 X W K c _ _ _ _) $$ [HU H5 H6 HO]
  · isplitr; · iexact Hr
    isplitl [HU]; · iexact HU
    isplitl [H5]; · iexact H5
    isplitl [H6]; · iexact H6
    iexact HO
  iintro %r ⟨%hr, HU, H5, H6, HO⟩
  try dsimp only
  iapply (ev_ws6 X W K c 7 (sends.drop 56) (by decide) rfl (credit_q 7 rfl (off26 7 rfl c))) $$ [H7 HO]
  · isplitr; · iexact Hr
    isplitl [H7]; · iexact H7
    iexact HO
  iintro ⟨H7, HO⟩
  try unfold run
  simp only [Prog.bind]
  rw [wp_ret]; imodintro
  iapply Hk
  isplitr; · ipureintro; rfl
  isplitl [HX]; · iexact HX
  isplitl [HW]; · iexact HW
  isplitl [HU]; · iexact HU
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HO]; · iexact HO
  iexact HZ

set_option maxHeartbeats 4000000 in
/-- The whole kernel. -/
theorem body (c : Dev nD) {Q : PUnit → sProp 𝕄} :
    iprop(recs X W K ∗ owns (c : Thread nD τ) xM fullShare (X c) ∗ owns (c : Thread nD τ) wM fullShare (W c) ∗ outSt X W c (outs c 0) ∗ B0 c ∗ G0 c 0 ∗ G0 c 1 ∗ G0 c 2 ∗ G0 c 3 ∗ G0 c 4 ∗ G0 c 5 ∗ G0 c 6 ∗ G0 c 7)
      ⊢ iprop(((owns (c : Thread nD τ) xM fullShare (X c) ∗ owns (c : Thread nD τ) wM fullShare (W c) ∗ outSt X W c (outs c 32) ∗ G27 X W c 0 ∗ G27 X W c 1 ∗ G27 X W c 2 ∗ G27 X W c 3 ∗ G27 X W c 4 ∗ G27 X W c 5 ∗ G27 X W c 6 ∗ G27 X W c 7 ∗ owing c (sends.drop 56) ∗ semVal (barCell c) 0) -∗ Q ⟨⟩)
        -∗ run c (atArgs cc0_body) Q) := by
  unfold atArgs
  rw [cc0_body_eq_skeleton]; unfold cc0_body_skel
  simp only [Prog.lift, Prog.pure_eq_ret]
  iintro ⟨#Hr, HX, HW, HU, HB, H0, H1, H2, H3, H4, H5, H6, H7⟩
  iintro Hk
  unfold run
  rw [wp_bind]
  iapply (part54 X W K c) $$ [HX HW HU HB H0 H1 H2 H3 H4 H5 H6 H7]
  · isplitr; · iexact Hr
    isplitl [HX]; · iexact HX
    isplitl [HW]; · iexact HW
    isplitl [HU]; · iexact HU
    isplitl [HB]; · iexact HB
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iintro %r ⟨%hr, HX, HW, HU, H0, H1, H2, H3, H4, H5, H6, H7, HO, HZ⟩
  obtain ⟨d0, x0, x1, x2⟩ := r
  dsimp only at hr ⊢
  subst d0
  simp only [Prog.bind_op, Prog.bind_ret]
  iapply (ev_wr6 X W K c 7 (sends.drop 56) (by decide) rfl (credit_q 7 rfl (off26 7 rfl c))) $$ [H7 HO]
  · isplitr; · iexact Hr
    isplitl [H7]; · iexact H7
    iexact HO
  iintro ⟨H7, HO⟩
  iapply (ev_ld27 X W c 7 rfl (off66 7 rfl c)) $$ H7
  iintro H7
  iapply (ev_outld X W c rfl) $$ HU
  iintro %_v
  iintro HU
  iapply (ev_outst X W c (fl (crd 7 0 c)) (fl (crd 7 1 c)) 7 _ (own_ds c 7) rfl (off74 c) (hw := rfl)) $$ HU
  iintro HU
  try unfold run
  rw [wp_ret]; imodintro
  iapply Hk
  isplitl [HX]; · iexact HX
  isplitl [HW]; · iexact HW
  isplitl [HU]; · iexact HU
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HO]; · iexact HO
  iexact HZ

end Body

end Cert.ReduceProof

end
-- ==== Proof.Result.lean ====
/-
# What is left at the end, and what is there at the start

The result's buffer once every block is stored, and the scratch buffers whole: cut into the pieces the kernel works on, and
joined again.
-/
module

public import proofs.«01_k».proof.Proof.Body

@[expose] public section

noncomputable section

namespace Cert.ReduceProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The result -/

/-- The half of the rows an entry of the result lies in, -/
def rowHalf (i : S1024x1024.Idx) : Fin 2 := ⟨(i 0).val / 512, by have h : (i 0).val < 1024 := (i 0).isLt; omega⟩
/-- the quarter of that half, -/
def rowQuarter (i : S1024x1024.Idx) : Fin 2 := ⟨(i 0).val % 512 / 256, by omega⟩
/-- the group of columns, -/
def colGroup (i : S1024x1024.Idx) : Fin 8 := ⟨(i 1).val / 128, by have h : (i 1).val < 1024 := (i 1).isLt; omega⟩
/-- and its place in the block these name. -/
def inBlock (i : S1024x1024.Idx) : S256x128.Idx := fun a => match a with
  | ⟨0, _⟩ => ⟨(i 0).val % 256, Nat.mod_lt _ (by decide)⟩
  | ⟨1, _⟩ => ⟨(i 1).val % 128, Nat.mod_lt _ (by decide)⟩

/-- An entry is where its block and its place in it say. -/
theorem oRect_at (i : S1024x1024.Idx) : (oRect (rowHalf i) (rowQuarter i) (colGroup i)).emb (inBlock i) = i := by
  funext a
  refine Fin.ext ?_
  rw [Rect.emb_apply]
  match a with
  | ⟨0, _⟩ =>
    show ((i 0).val / 512 * 512 + (i 0).val % 512 / 256 * 256) + 1 * ((i 0).val % 256) = (i 0).val
    omega
  | ⟨1, _⟩ =>
    show (i 1).val / 128 * 128 + 1 * ((i 1).val % 128) = (i 1).val
    omega

/-- Every block of the result is stored. -/
theorem mem_blocks (c : Dev nD) (b e : Fin 2) (g : Fin 8) : (b, e, g) ∈ blocks c := by revert c b e g; decide +kernel

section Out
variable (X : Dev nD → Vec F S1024x128 .bf16) (W : Dev nD → Vec F S128x1024 .bf16)

/-- What device `c` ends with. -/
def outVal (c : Dev nD) : Vec F S1024x1024 .f32 := fun i =>
  k0_pay1 (A3 X W (own c (colGroup i) (rowHalf i) (rowQuarter i)) (colGroup i)) (inBlock i)

/-- When every block is stored the result's buffer holds it. -/
theorem outSt_all (c : Dev nD) : outSt X W c (outs c 32) ⊢ (owns (c : Thread nD τ) oM fullShare (outVal X W c) : sProp 𝕄) := by
  unfold outSt
  iintro ⟨%f, %hf, H⟩
  have h : f = outVal X W c := by
    funext i
    have h := hf (rowHalf i, rowQuarter i, colGroup i) (mem_blocks c _ _ _) (inBlock i)
    rw [oRect_at] at h
    exact h
  subst h
  iexact H

/-- Before any block is stored it holds anything. -/
theorem outSt_none (c : Dev nD) (f : Vec F S1024x1024 .f32) : (owns (c : Thread nD τ) oM fullShare f : sProp 𝕄) ⊢ outSt X W c (outs c 0) := by
  unfold outSt
  iintro H
  iexists f
  isplitr
  · ipureintro
    intro p hp
    exact absurd hp (List.not_mem_nil)
  iexact H

/-! ## The scratch buffers -/

/-- The buffers of group `g` of device `c`, whatever they hold. -/
def bufs (c : Dev nD) (g : Fin 8) : sProp 𝕄 :=
  iprop((∃ V, owns (c : Thread nD τ) (accM g) fullShare V) ∗ (∃ V, owns (c : Thread nD τ) (r0M g) fullShare V)
    ∗ (∃ V, owns (c : Thread nD τ) (r1M g) fullShare V) ∗ ∃ V, owns (c : Thread nD τ) (r2M g) fullShare V)

/-- A whole buffer at what it holds. -/
theorem owns_buf (c : Dev nD) (b : Ref sig .tc) (V : b.ty.Contents (Elt F)) :
    (owns (c : Thread nD τ) (Memref.whole b) fullShare V : sProp 𝕄)
      = iprop(∃ f : Buf (Elt F) ((c : Thread nD τ).loc b), ⌜f = V⌝ ∗ ((c : Thread nD τ).loc b) ↦{fullShare} f) := by
  unfold owns; simp only [Memref.view_whole, View.read_whole, View.set_whole]

/-- A whole buffer, whatever it holds. -/
theorem owns_some (c : Dev nD) (b : Ref sig .tc) :
    (iprop(∃ f : Buf (Elt F) ((c : Thread nD τ).loc b), ((c : Thread nD τ).loc b) ↦{fullShare} f) : sProp 𝕄)
      = iprop(∃ V, owns (c : Thread nD τ) (Memref.whole b) fullShare V) := by
  have h₁ : (iprop(∃ f : Buf (Elt F) ((c : Thread nD τ).loc b), ((c : Thread nD τ).loc b) ↦{fullShare} f) : sProp 𝕄)
      ⊢ iprop(∃ V, owns (c : Thread nD τ) (Memref.whole b) fullShare V) := by
    iintro ⟨%f, H⟩
    iexists f
    rw [owns_buf]
    iexists f
    isplitr; · ipureintro; rfl
    iexact H
  have h₂ : (iprop(∃ V, owns (c : Thread nD τ) (Memref.whole b) fullShare V) : sProp 𝕄)
      ⊢ iprop(∃ f : Buf (Elt F) ((c : Thread nD τ).loc b), ((c : Thread nD τ).loc b) ↦{fullShare} f) := by
    iintro ⟨%V, H⟩
    ihave H := (Entails.of_eq (owns_buf c b V)) $$ H
    icases H with ⟨%f, -, H⟩
    iexists f
    iexact H
  exact Entails.antisymm h₁ h₂

set_option maxHeartbeats 1000000 in
/-- The scratch buffers, group by group. -/
theorem scratch_bufs (c : Dev nD) :
    (Pipeline.scopedRest (Ix := Unit) (Name := ℕ) (U := UU) (Lvl := ℕ) (Val := Elt F) spec0 c : sProp 𝕄)
      ⊢ bigSep Finset.univ fun g : Fin 8 => bufs (F := F) c g := by
  rw [scopedRest0_eq, eight]
  simp only [owns_some]
  unfold bufs
  iintro ⟨S0, S1, S2, S3, S4, S5, S6, S7, S8, S9, S10, S11, S12, S13, S14, S15, S16, S17, S18, S19, S20, S21, S22, S23, S24, S25, S26, S27, S28, S29, S30, S31⟩
  isplitl [S0 S8 S9 S10]
  · isplitl [S0]; · iexact S0
    isplitl [S8]; · iexact S8
    isplitl [S9]; · iexact S9
    iexact S10
  isplitl [S1 S11 S12 S13]
  · isplitl [S1]; · iexact S1
    isplitl [S11]; · iexact S11
    isplitl [S12]; · iexact S12
    iexact S13
  isplitl [S2 S14 S15 S16]
  · isplitl [S2]; · iexact S2
    isplitl [S14]; · iexact S14
    isplitl [S15]; · iexact S15
    iexact S16
  isplitl [S3 S17 S18 S19]
  · isplitl [S3]; · iexact S3
    isplitl [S17]; · iexact S17
    isplitl [S18]; · iexact S18
    iexact S19
  isplitl [S4 S20 S21 S22]
  · isplitl [S4]; · iexact S4
    isplitl [S20]; · iexact S20
    isplitl [S21]; · iexact S21
    iexact S22
  isplitl [S5 S23 S24 S25]
  · isplitl [S5]; · iexact S5
    isplitl [S23]; · iexact S23
    isplitl [S24]; · iexact S24
    iexact S25
  isplitl [S6 S26 S27 S28]
  · isplitl [S6]; · iexact S6
    isplitl [S26]; · iexact S26
    isplitl [S27]; · iexact S27
    iexact S28
  isplitl [S7]; · iexact S7
  isplitl [S29]; · iexact S29
  isplitl [S30]; · iexact S30
  iexact S31

set_option maxHeartbeats 1000000 in
/-- And back. -/
theorem bufs_scratch (c : Dev nD) :
    (bigSep Finset.univ fun g : Fin 8 => bufs (F := F) c g)
      ⊢ (Pipeline.scopedRest (Ix := Unit) (Name := ℕ) (U := UU) (Lvl := ℕ) (Val := Elt F) spec0 c : sProp 𝕄) := by
  rw [scopedRest0_eq, eight]
  simp only [owns_some]
  unfold bufs
  iintro ⟨⟨S0, S8, S9, S10⟩, ⟨S1, S11, S12, S13⟩, ⟨S2, S14, S15, S16⟩, ⟨S3, S17, S18, S19⟩, ⟨S4, S20, S21, S22⟩, ⟨S5, S23, S24, S25⟩, ⟨S6, S26, S27, S28⟩, ⟨S7, S29, S30, S31⟩⟩
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S17]; · iexact S17
  isplitl [S18]; · iexact S18
  isplitl [S19]; · iexact S19
  isplitl [S20]; · iexact S20
  isplitl [S21]; · iexact S21
  isplitl [S22]; · iexact S22
  isplitl [S23]; · iexact S23
  isplitl [S24]; · iexact S24
  isplitl [S25]; · iexact S25
  isplitl [S26]; · iexact S26
  isplitl [S27]; · iexact S27
  isplitl [S28]; · iexact S28
  isplitl [S29]; · iexact S29
  isplitl [S30]; · iexact S30
  iexact S31

omit [FloatOps F] in
/-- The seven copies of a group, one by one. -/
theorem seven (Φ : Fin 7 → sProp 𝕄) :
    bigSep Finset.univ Φ = iprop(Φ 0 ∗ Φ 1 ∗ Φ 2 ∗ Φ 3 ∗ Φ 4 ∗ Φ 5 ∗ Φ 6) := by
  rw [bigSep_univ_eq_bigSepL [0, 1, 2, 3, 4, 5, 6] (by decide) (by decide)]
  simp only [bigSepL_cons_cons, bigSepL_singleton]
  rfl

/-- The pieces of group `g` the kernel starts from. -/
theorem group_start (c : Dev nD) (g : Fin 8) :
    iprop(bufs (F := F) c g ∗ bigSep Finset.univ fun r : Fin 7 => tok0 (F := F) c (g, r))
      ⊢ iprop(G0 (F := F) c g ∗ (rbuf (F := F) c g 0 ∗ rbuf c g 1 ∗ rbuf c g 2)) := by
  rw [seven]
  unfold bufs G0 rbuf
  iintro ⟨⟨⟨%V, A⟩, ⟨%V', B⟩, C, D⟩, T0, T1, T2, T3, T4, T5, T6⟩
  ihave A := (acc_split c g (crd g 0 c) (crd g 1 c) V) $$ A
  icases A with ⟨⟨A0, A1⟩, A2, A3⟩
  ihave B := (r0_split c g (crd g 1 c) V') $$ B
  isplitr [B C D]
  · isplitl [T0]; · iexact T0
    isplitl [T1]; · iexact T1
    isplitl [T2]; · iexact T2
    isplitl [T3]; · iexact T3
    isplitl [T4]; · iexact T4
    isplitl [T5]; · iexact T5
    isplitl [T6]; · iexact T6
    isplitl [A0]; · iexact A0
    isplitl [A1]; · iexact A1
    isplitl [A2]; · iexact A2
    iexact A3
  isplitl [B]; · iexact B
  isplitl [C]; · iexact C
  iexact D

/-- What group `g` leaves. -/
theorem group_end (c : Dev nD) (g : Fin 8) :
    G27 X W c g ⊢ iprop(bufs (F := F) c g ∗ bigSep Finset.univ fun r : Fin 7 => tok3 (F := F) c (g, r)) := by
  rw [seven]
  unfold bufs G27
  iintro ⟨T0, T1, T2, T3, T4, T5, T6, A0, A1, A2, A3, B0, B1, C, D⟩
  isplitl [A0 A1 A2 A3 B0 B1 C D]
  · isplitl [A0 A1 A2 A3]
    · iapply (acc_join c g (crd g 0 c) (crd g 1 c))
      unfold anyQ
      isplitl [A0 A1]
      · isplitl [A0]
        · iexists _; iexact A0
        iexists _; iexact A1
      isplitl [A2]
      · iexists _; iexact A2
      iexists _; iexact A3
    isplitl [B0 B1]
    · iapply (r0_join c g (crd g 1 c))
      isplitl [B0]
      · iexists _; iexact B0
      iexists _; iexact B1
    isplitl [C]
    · iexists _; iexact C
    iexists _; iexact D
  isplitl [T0]; · iexact T0
  isplitl [T1]; · iexact T1
  isplitl [T2]; · iexact T2
  isplitl [T3]; · iexact T3
  isplitl [T4]; · iexact T4
  isplitl [T5]; · iexact T5
  iexact T6

end Out

end Cert.ReduceProof

end
-- ==== Proof.Deal.lean ====
/-
# Dealing the protocol's resources

At the launch every cell of every device gets its invariant, and each device the positions on its own cells and the tokens
of the duties it pays; each device's credit is what the others owe its cells.
-/
module

public import proofs.«01_k».proof.Proof.Result

@[expose] public section

noncomputable section

namespace Cert.ReduceProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Deal
variable (X : Dev nD → Vec F S1024x128 .bf16) (W : Dev nD → Vec F S128x1024 .bf16)

/-! ## Cells and tokens -/

/-- Different cells are different semaphores. -/
theorem kcell_injective : Function.Injective (kcell : Dev nD × CK → GSem nD τ sig) := by
  rintro ⟨c, k⟩ ⟨c', k'⟩ h
  have h₁ : c = c' := congrArg (fun g : GSem nD τ sig => g.1.1) h
  have h₂ : k = k' := csem_injective (congrArg Prod.snd h)
  rw [h₁, h₂]

/-- All cells of the protocol. -/
def allCells : Finset (GSem nD τ sig) := Finset.univ.map ⟨kcell, kcell_injective⟩

/-- A duty's token: the cell, the round, the duty. -/
abbrev tokOf (x : (Dev nD × CK) × Fin 3) : GSem nD τ sig × ℕ × Fin 3 := (kcell x.1, 0, x.2)
/-- Different tokens have different names. -/
theorem tokOf_injective : Function.Injective tokOf := by
  rintro ⟨k, a⟩ ⟨k', a'⟩ h
  have h₁ : k = k' := kcell_injective (congrArg Prod.fst h)
  have h₂ : a = a' := congrArg (fun x : GSem nD τ sig × ℕ × Fin 3 => x.2.2) h
  rw [h₁, h₂]
/-- All tokens of the protocol. -/
def allToks : Finset (GSem nD τ sig × ℕ × Fin 3) := Finset.univ.map ⟨tokOf, tokOf_injective⟩

/-- What the machine starts with: the staging's part and the protocol's. -/
def u₀ : UU := (initOf (Pipeline.cells cfgs cellOf_inj) (Pipeline.launchToks cfgs cellOf_inj), initOf allCells allToks)

/-- What the launch gives device `c` at first: the states, positions and tokens of its own cells. -/
def dealt (c : Dev nD) : sProp 𝕄 :=
  iprop((bigSep Finset.univ fun k : CK => roundState ER (Rd X W) (kcell (c, k)) 0)
    ∗ (bigSep Finset.univ fun k : CK => iprop(atPos ER (kcell (c, k)) 0 ∅ 0 ∗ reached ER (kcell (c, k)) 0))
    ∗ bigSep Finset.univ fun k : CK => bigSep Finset.univ fun a : Fin 3 => dutyTok ER (kcell (c, k)) 0 a)

/-- The protocol's part of the start, device by device. -/
theorem fund_all : BI.own (ER (initOf allCells allToks)) ⊢ (|==> bigSep Finset.univ (dealt X W) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄))
      = bigSep Finset.univ fun c : Dev nD => bigSep Finset.univ fun k : CK => bigSep Finset.univ fun a : Fin 3 => dutyTok ER (kcell (c, k)) 0 a := by
    unfold allToks; rw [bigSep_map, bigSep_univ_prod, bigSep_univ_prod]; rfl
  iintro HX
  imod (Rounds.fund ER (Rd X W) allCells allToks) $$ HX with ⟨Hst, Hr, Hat, Htok⟩
  imodintro
  ihave Hst' := (Entails.of_eq (hX fun g => roundState ER (Rd X W) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

/-- A conjunction over a device's cells. -/
theorem cells_split (Φ : CK → sProp 𝕄) :
    bigSep Finset.univ Φ = iprop(Φ (.inl ()) ∗ (bigSep Finset.univ fun n : Cp => Φ (.inr (.inl n))) ∗ bigSep Finset.univ fun n : Cp => Φ (.inr (.inr n))) := by
  rw [bigSep_univ_sum, bigSep_univ_of_subsingleton (), bigSep_univ_sum]; rfl

/-- The barrier semaphore is the launch's one semaphore outside the kernel's own. -/
theorem unscoped_bar (c : Dev nD) : (unscopedSems0 c : sProp 𝕄) = semVal (barCell c) 0 := by
  unfold unscopedSems0; rw [bigSep_eq_bigSepL_of_eq [SemLoc.reg barS] (by decide +kernel) (by decide)]; rfl

/-- The counters of a device's cells, all at zero. -/
theorem sems_cells (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  unfold Pipeline.ownSems0
  have e : (bigSep Finset.univ fun k : Cp ⊕ Cp => (semVal (((c : Dev nD) : Thread nD τ), osem k) 0 : sProp 𝕄))
      = iprop((bigSep Finset.univ fun n : Cp => semVal (sendCell c n) 0) ∗ bigSep Finset.univ fun n : Cp => semVal (recvCell c n) 0) := bigSep_univ_sum ..
  rw [unscoped_bar, cells_split, e]
  iintro ⟨⟨HS, HR⟩, HB⟩
  isplitl [HB]; · iexact HB
  isplitl [HS]; · iexact HS
  iexact HR

/-- A device's cells get their invariants. -/
theorem alloc_cells (c : Dev nD) :
    iprop(Pipeline.ownSems0 (Ix := Unit) (Name := ℕ) (U := UU) (Lvl := ℕ) (Val := Elt F) (τ := τ) osem c ∗ unscopedSems0 c ∗ dealt X W c)
      ⊢ |={Set.univ}=> iprop((bigSep Finset.univ fun k : CK => iprop(∃ κ : ℕ, cellInv ER (Rd X W) κ (kcell (c, k))))
          ∗ (bigSep Finset.univ fun k : CK => iprop(atPos ER (kcell (c, k)) 0 ∅ 0 ∗ reached ER (kcell (c, k)) 0))
          ∗ bigSep Finset.univ fun k : CK => bigSep Finset.univ fun a : Fin 3 => dutyTok ER (kcell (c, k)) 0 a) := by
  unfold dealt
  iintro ⟨Hos, Hus, Hst, Hat, Htok⟩
  ihave Hv := (sems_cells (F := F) c) $$ [Hos Hus]
  · isplitl [Hos] <;> iassumption
  imod (show iprop((bigSep Finset.univ fun k : CK => semVal (kcell (c, k)) 0) ∗ bigSep Finset.univ fun k : CK => roundState ER (Rd X W) (kcell (c, k)) 0)
      ⊢ (|={Set.univ}=> bigSep Finset.univ fun k : CK => iprop(∃ κ : ℕ, cellInv ER (Rd X W) κ (kcell (c, k))) : sProp 𝕄) from by
        rw [← bigSep_sep']
        exact (bigSep_mono fun k _ => (Rounds.body_intro ER (Rd X W) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens go to the devices that pay -/

/-- The barrier's tokens, passed to the neighbours. -/
def passBar : Dev nD × Fin 3 ≃ Dev nD × Fin 3 :=
  ⟨fun x => (tb x.2 x.1, x.2), fun x => (tb x.2 x.1, x.2), fun _ => Prod.ext (tb_tb _ _) rfl, fun _ => Prod.ext (tb_tb _ _) rfl⟩
/-- The receive cells' tokens, passed to the partners. -/
def passRecv : Dev nD × Cp ≃ Dev nD × Cp :=
  ⟨fun x => (dst x.1 x.2, x.2), fun x => (dst x.1 x.2, x.2), fun _ => Prod.ext (dst_dst _ _) rfl, fun _ => Prod.ext (dst_dst _ _) rfl⟩

/-- The tokens of the duties a device pays. -/
def payToks (c : Dev nD) : sProp 𝕄 :=
  iprop((bigSep Finset.univ fun a : Fin 3 => dutyTok ER (barCell (tb a c)) 0 a)
    ∗ (bigSep Finset.univ fun n : Cp => dutyTok ER (sendCell c n) 0 (0 : Fin 3))
    ∗ bigSep Finset.univ fun n : Cp => dutyTok ER (recvCell (dst c n) n) 0 (0 : Fin 3))

/-- The tokens of a device's own cells that are used. -/
theorem toks_used (c : Dev nD) :
    (bigSep Finset.univ fun k : CK => bigSep Finset.univ fun a : Fin 3 => (dutyTok ER (kcell (c, k)) 0 a : sProp 𝕄))
      ⊢ iprop((bigSep Finset.univ fun a : Fin 3 => dutyTok ER (barCell c) 0 a)
        ∗ (bigSep Finset.univ fun n : Cp => dutyTok ER (sendCell c n) 0 (0 : Fin 3))
        ∗ bigSep Finset.univ fun n : Cp => dutyTok ER (recvCell c n) 0 (0 : Fin 3)) := by
  have h (g : GSem nD τ sig) : (bigSep Finset.univ fun a : Fin 3 => (dutyTok ER g 0 a : sProp 𝕄)) ⊢ dutyTok ER g 0 (0 : Fin 3) :=
    bigSep_elim (Φ := fun a : Fin 3 => (dutyTok ER g 0 a : sProp 𝕄)) (Finset.mem_univ 0)
  rw [cells_split]
  refine BI.sep_mono ?_ (BI.sep_mono ?_ ?_)
  · exact bigSep_mono fun a _ => Entails.of_eq (rfl : (dutyTok ER (barCell c) 0 a : sProp 𝕄) = dutyTok ER (barCell c) 0 a)
  · exact bigSep_mono fun n _ => h (sendCell c n)
  · exact bigSep_mono fun n _ => h (recvCell c n)

/-- All tokens, to the devices that pay with them. -/
theorem toks_around :
    (bigSep Finset.univ fun c : Dev nD => bigSep Finset.univ fun k : CK => bigSep Finset.univ fun a : Fin 3 => (dutyTok ER (kcell (c, k)) 0 a : sProp 𝕄))
      ⊢ bigSep Finset.univ fun c : Dev nD => payToks (F := F) c := by
  refine (bigSep_mono fun c _ => toks_used (F := F) c).trans ?_
  have e₁ := bigSep_univ_equiv passBar (fun x => (dutyTok ER (barCell x.1) 0 x.2 : sProp 𝕄))
  have e₂ := bigSep_univ_equiv passRecv (fun x => (dutyTok ER (recvCell x.1 x.2) 0 (0 : Fin 3) : sProp 𝕄))
  rw [bigSep_univ_prod, bigSep_univ_prod] at e₁ e₂
  have h : iprop((bigSep Finset.univ fun c : Dev nD => bigSep Finset.univ fun a : Fin 3 => (dutyTok ER (barCell c) 0 a : sProp 𝕄))
      ∗ (bigSep Finset.univ fun c : Dev nD => bigSep Finset.univ fun n : Cp => dutyTok ER (sendCell c n) 0 (0 : Fin 3))
      ∗ bigSep Finset.univ fun c : Dev nD => bigSep Finset.univ fun n : Cp => dutyTok ER (recvCell c n) 0 (0 : Fin 3))
      ⊢ iprop((bigSep Finset.univ fun c : Dev nD => bigSep Finset.univ fun a : Fin 3 => (dutyTok ER (barCell (tb a c)) 0 a : sProp 𝕄))
      ∗ (bigSep Finset.univ fun c : Dev nD => bigSep Finset.univ fun n : Cp => dutyTok ER (sendCell c n) 0 (0 : Fin 3))
      ∗ bigSep Finset.univ fun c : Dev nD => bigSep Finset.univ fun n : Cp => dutyTok ER (recvCell (dst c n) n) 0 (0 : Fin 3)) := by
    iintro ⟨H₁, H₂, H₃⟩
    isplitl [H₁]; · iapply (Entails.of_eq e₁); iexact H₁
    isplitl [H₂]; · iexact H₂
    iapply (Entails.of_eq e₂); iexact H₃
  unfold payToks
  rw [bigSep_sep', bigSep_sep', bigSep_sep', bigSep_sep']
  exact h

/-! ## What each device starts from -/

/-- The invariants and marks of all cells. -/
def records (K : Dev nD × CK → ℕ) : sProp 𝕄 :=
  iprop((bigSep Finset.univ fun ck : Dev nD × CK => cellInv ER (Rd X W) (K ck) (kcell ck))
    ∗ bigSep Finset.univ fun ck : Dev nD × CK => reached ER (kcell ck) 0)
/-- The records can be kept while they are used. -/
instance records_persistent (K : Dev nD × CK → ℕ) : Persistent (records X W K) := by unfold records; infer_instance

/-- What is a device's alone: its positions and the tokens it pays with. -/
def alone (c : Dev nD) : sProp 𝕄 := iprop((bigSep Finset.univ fun k : CK => atPos ER (kcell (c, k)) 0 ∅ 0) ∗ payToks c)

/-- The protocol's resources of a device. -/
def ghost (c : Dev nD) : sProp 𝕄 := iprop(∃ K, records X W K ∗ alone c)

/-- Something that can be kept goes to every summand. -/
theorem bigSep_keep {I : Type} [DecidableEq I] {S : Finset I} {R : sProp 𝕄} [Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All devices' cells allocated, dealt to the devices. -/
theorem regroup :
    (bigSep Finset.univ fun c : Dev nD => iprop((bigSep Finset.univ fun k : CK => iprop(∃ κ : ℕ, cellInv ER (Rd X W) κ (kcell (c, k))))
          ∗ (bigSep Finset.univ fun k : CK => iprop(atPos ER (kcell (c, k)) 0 ∅ 0 ∗ reached ER (kcell (c, k)) 0))
          ∗ bigSep Finset.univ fun k : CK => bigSep Finset.univ fun a : Fin 3 => dutyTok ER (kcell (c, k)) 0 a) : sProp 𝕄)
      ⊢ bigSep Finset.univ (ghost X W) := by
  rw [bigSep_sep', bigSep_sep', ← bigSep_univ_prod (fun ck : Dev nD × CK => iprop(∃ κ : ℕ, cellInv ER (Rd X W) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd X W) κ (kcell ck) : sProp 𝕄))) $$ HI
  icases HK with ⟨%K, #HI⟩
  ihave Htk := (toks_around (F := F)) $$ Htok
  have hg (c : Dev nD) : iprop(records X W K ∗ alone (F := F) c) ⊢ ghost X W c := by
    unfold ghost
    iintro ⟨H, H'⟩
    iexists K
    isplitl [H]; · iexact H
    iexact H'
  iapply (bigSep_keep (R := records X W K) fun c _ => hg c)
  isplitr
  · unfold records; isplitl; · iexact HI
    iexact HR
  · iapply (Entails.of_eq (bigSep_sep' Finset.univ (fun c : Dev nD => bigSep Finset.univ fun k : CK => (atPos ER (kcell (c, k)) 0 ∅ 0 : sProp 𝕄)) payToks).symm)
    isplitl [Hat]; · iexact Hat
    iexact Htk

/-- The launch's one step for all devices. -/
theorem deal_all : (bigSep Finset.univ fun c => iprop(Pipeline.ownSems0 (Ix := Unit) (Name := ℕ) (U := UU) (Lvl := ℕ) (Val := Elt F) (τ := τ) osem c ∗ unscopedSems0 c ∗ dealt X W c) : sProp 𝕄)
    ⊢ |={Set.univ}=> bigSep Finset.univ (ghost X W) :=
  ((bigSep_mono fun c _ => alloc_cells X W c).trans (bigSep_fupd _ _)).trans (BI.fupd_mono (regroup X W))

/-! ## The credit -/

/-- A receive cell is its device's and its copy's. -/
theorem recvCell_inj {c c' : Dev nD} {n n' : Cp} (h : recvCell c n = recvCell c' n') : c = c' ∧ n = n' := by
  have h' := kcell_injective (show kcell (c, .inr (.inr n)) = kcell (c', .inr (.inr n')) from h)
  exact ⟨congrArg Prod.fst h', by have := congrArg Prod.snd h'; exact Sum.inr.inj (Sum.inr.inj this)⟩
/-- A barrier cell is its device's. -/
theorem barCell_inj {c c' : Dev nD} (h : barCell c = barCell c') : c = c' :=
  congrArg Prod.fst (kcell_injective (show kcell (c, .inl ()) = kcell (c', .inl ()) from h))
/-- A barrier cell is no receive cell. -/
theorem barCell_ne (c c' : Dev nD) (n : Cp) : barCell c ≠ recvCell c' n := fun h =>
  absurd (congrArg Prod.snd (kcell_injective (show kcell (c, .inl ()) = kcell (c', .inr (.inr n)) from h))) (by simp)

/-- What a device owes a receive cell for the copies of a list. -/
theorem owe_recv (d c : Dev nD) (n : Cp) (l : List Cp) (hl : l.Nodup) :
    owe d l (recvCell c n) () = if n ∈ l ∧ d = dst c n then N else 0 := by
  induction l with
  | nil => unfold owe; simp
  | cons k l ih =>
    rw [List.nodup_cons] at hl
    unfold owe
    rw [Pi.add_apply, Finsupp.add_apply, tallyAt_apply, ih hl.2]
    by_cases hk : n = k
    · subst hk
      rw [if_neg (fun h => hl.1 h.1), Nat.zero_add]
      by_cases hc : d = dst c n
      · subst hc; rw [dst_dst, if_pos ⟨rfl, rfl⟩, if_pos ⟨List.mem_cons_self, rfl⟩]
      · rw [if_neg (fun h => hc (by rw [(recvCell_inj h.1).1, dst_dst])), if_neg (fun h => hc h.2)]
    · rw [if_neg (c := recvCell c n = recvCell (dst d k) k ∧ () = ()) (fun h => hk (recvCell_inj h.1).2), Nat.add_zero]
      by_cases hn : n ∈ l ∧ d = dst c n
      · rw [if_pos hn, if_pos ⟨List.mem_cons_of_mem _ hn.1, hn.2⟩]
      · rw [if_neg hn, if_neg (fun h => hn ⟨(List.mem_cons.mp h.1).resolve_left hk, h.2⟩)]

/-- What a device owes a receive cell at the start. -/
theorem owed_recv (d c : Dev nD) (n : Cp) : O₀ d (recvCell c n) () = if d = dst c n then N else 0 := by
  unfold O₀ O₁ O₂
  rw [Pi.add_apply, Finsupp.add_apply, Pi.add_apply, Finsupp.add_apply, Pi.add_apply, Finsupp.add_apply, tallyAt_apply, tallyAt_apply, tallyAt_apply,
    if_neg (fun h => barCell_ne _ _ _ h.1.symm), if_neg (fun h => barCell_ne _ _ _ h.1.symm), if_neg (fun h => barCell_ne _ _ _ h.1.symm),
    owe_recv d c n sends sends_nodup]
  simp only [mem_sends, true_and, Nat.add_zero]

/-- What a device owes a barrier cell at the start. -/
theorem owed_bar (d c : Dev nD) : O₀ d (barCell c) () = (if c = tb 2 d then 1 else 0) + (if c = tb 1 d then 1 else 0) + (if c = tb 0 d then 1 else 0) := by
  have h : owe d sends (barCell c) () = 0 := by
    by_contra h
    obtain ⟨n, -, e⟩ := owe_pos (Nat.pos_of_ne_zero h)
    exact barCell_ne _ _ _ e
  have hi (a : Fin 3) : (if barCell c = barCell (tb a d) ∧ () = () then 1 else 0 : ℕ) = if c = tb a d then 1 else 0 :=
    if_congr ⟨fun h => barCell_inj h.1, fun h => ⟨by rw [h], rfl⟩⟩ rfl rfl
  unfold O₀ O₁ O₂
  rw [Pi.add_apply, Finsupp.add_apply, Pi.add_apply, Finsupp.add_apply, Pi.add_apply, Finsupp.add_apply, tallyAt_apply, tallyAt_apply, tallyAt_apply,
    h, hi, hi, hi, Nat.zero_add]

/-- Three devices owe a unit to each barrier cell. -/
theorem sum_bar (c : Dev nD) : ∑ d : Dev nD, ((if c = tb 2 d then 1 else 0) + (if c = tb 1 d then 1 else 0) + (if c = tb 0 d then 1 else 0)) = 3 := by
  revert c; decide +kernel

/-- The credit of a barrier cell. -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, sum_bar]

/-- The credit of a receive cell. -/
theorem launch_recv (c : Dev nD) (n : Cp) :
    tallyOn (recvCell c n) (launchCredit (Pipeline.owing O₀) 0 (recvCell c n)) = (tallyAt (recvCell c n) () N : CellTallies nD τ sig Unit) := by
  unfold tallyAt; refine congrArg _ (Finsupp.ext fun u => ?_); cases u
  rw [Pipeline.launchCredit_owing, Finsupp.single_eq_same, Finset.sum_congr rfl fun d _ => owed_recv d c n, Finset.sum_ite_eq' Finset.univ (dst c n) fun _ => N,
    if_pos (Finset.mem_univ _)]

/-- A device's credit at the launch. -/
theorem creds (c : Dev nD) :
    (Pipeline.launchCred O₀ c : sProp 𝕄) ⊢ iprop(cred (tallyAt (barCell c) () 3) ∗ bigSep Finset.univ fun n : Cp => cred (tallyAt (recvCell c n) () N)) := by
  unfold Pipeline.launchCred
  refine (bigSep_subset (Finset.subset_univ (Finset.univ.map ⟨csem, csem_injective⟩))).trans ?_
  have h (Φ : SemLoc sig → sProp 𝕄) : bigSep (Finset.univ.map ⟨csem, csem_injective⟩) Φ ⊢
      iprop(Φ (csem (.inl ())) ∗ bigSep Finset.univ fun n : Cp => Φ (csem (.inr (.inr n)))) := by
    rw [bigSep_map, cells_split]
    have h' : iprop(Φ (csem (.inl ())) ∗ (bigSep Finset.univ fun n : Cp => Φ (csem (.inr (.inl n)))) ∗ bigSep Finset.univ fun n : Cp => Φ (csem (.inr (.inr n))))
        ⊢ iprop(Φ (csem (.inl ())) ∗ bigSep Finset.univ fun n : Cp => Φ (csem (.inr (.inr n)))) := by
      iintro ⟨H₁, -, H₃⟩
      isplitl [H₁] <;> iassumption
    exact h'
  refine (h _).trans ?_
  refine BI.sep_mono (Entails.of_eq (congrArg cred (launch_bar c))) (bigSep_mono fun n _ => Entails.of_eq (congrArg cred (launch_recv c n)))

end Deal

end Cert.ReduceProof

end
-- ==== Proof.Launch.lean ====
/-
# The run of the whole program

The kernel's one region as the launch theorem takes it, and what every run of the program on the eight devices ends in.
-/
module

public import proofs.«01_k».proof.Proof.Deal
public import proofs.«01_k».proof.Proof.Gen.KernelIdeal.Points
public import Idealize.ShloMosaic.Lib.Pipeline.CollectiveSegs

@[expose] public section

noncomputable section

namespace Cert.ReduceProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

section Run
variable (m : (ℓ : Loc nD τ sig) → Buf (Elt F) ℓ) (ρ : Dev nD → PrngReg)

/-- The memory at the start: any contents, every counter at zero. -/
def s₀ : MemSt nD τ sig (Elt F) := ⟨m, fun _ => 0, ρ⟩

/-- Device `c`'s block of the first operand. -/
def inX (c : Dev nD) : Vec F S1024x128 .bf16 := (win0_0.blk (0 : Fin 1)).view.read (Elt F) (m ((c : Thread nD τ).loc main_arg0))
/-- Device `c`'s block of the second operand. -/
def inW (c : Dev nD) : Vec F S128x1024 .bf16 := (win0_1.blk (0 : Fin 1)).view.read (Elt F) (m ((c : Thread nD τ).loc main_arg1))

/-! ## The region's data -/

/-- The one point of the grid. -/
theorem one_point : cfg0.N = 1 := by decide
/-- That point. -/
def t₀ : Fin cfg0.N := ⟨0, by rw [one_point]; decide⟩
/-- Every point is that one. -/
theorem only_point (t : Fin cfg0.N) : t = t₀ := by
  obtain ⟨t, ht⟩ := t; have := one_point; exact Fin.ext (by simp only [t₀]; omega)

/-- The protocol's resources and credit of a device. -/
def start (c : Dev nD) : sProp 𝕄 :=
  iprop(ghost (inX m) (inW m) c ∗ (cred (tallyAt (barCell c) () 3) ∗ bigSep Finset.univ fun n : Cp => cred (tallyAt (recvCell c n) () N)) ∗ levAts L lv)
/-- Before the kernel. -/
def Φ₀ (c : Dev nD) : sProp 𝕄 := iprop(start m c ∗ bigSep Finset.univ fun g : Fin 8 => bufs (F := F) c g)
/-- After the kernel. -/
def Φ₁ (c : Dev nD) : sProp 𝕄 :=
  iprop((bigSep Finset.univ fun g : Fin 8 => iprop(bufs (F := F) c g ∗ bigSep Finset.univ fun r : Fin 7 => tok3 (F := F) c (g, r))) ∗ semVal (barCell c) 0)

/-- The region's data: what the arrays hold, what the staging buffers hold after the kernel, what is owed. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => inX m c
    | ⟨1, _⟩ => inW m c
    | ⟨2, _⟩ => outVal (inX m) (inW m) c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

/-- The kernel takes the first operand's block. -/
theorem before_x (c : Dev nD) (d) : (dats m ρ 0 c).before (0 : Fin 3) t₀ d = inX m c := by
  unfold Dat.before; rw [if_pos (fetch0_0 t₀)]; rfl
/-- The kernel takes the second operand's block. -/
theorem before_w (c : Dev nD) (d) : (dats m ρ 0 c).before (1 : Fin 3) t₀ d = inW m c := by
  unfold Dat.before; rw [if_pos (fetch0_1 t₀)]; rfl

/-! ## The kernel on a device -/

/-- A conjunction of three. -/
theorem three_parts (Φ : Fin 3 → sProp 𝕄) : bigSep Finset.univ Φ = iprop(Φ 0 ∗ Φ 1 ∗ Φ 2) := bigSep_W0 Φ

/-- What the kernel starts from, put together. -/
theorem gather (c : Dev nD) (K : Dev nD × CK → ℕ) :
    iprop(records (inX m) (inW m) K ∗ alone c
      ∗ (cred (tallyAt (barCell c) () 3) ∗ bigSep Finset.univ fun n : Cp => cred (tallyAt (recvCell c n) () N)) ∗ levAts L lv
      ∗ (bigSep Finset.univ fun g : Fin 8 => bufs (F := F) c g) ∗ ∃ Wt, owes (c : Thread nD τ) (O₀ c) Wt)
      ⊢ iprop(recs (inX m) (inW m) K ∗ B0 (F := F) c ∗ bigSep Finset.univ fun g : Fin 8 => G0 (F := F) c g) := by
  have hn : iprop((bigSep Finset.univ fun n : Cp => (dutyTok ER (sendCell c n) 0 (0 : Fin 3) : sProp 𝕄))
      ∗ (bigSep Finset.univ fun n : Cp => dutyTok ER (recvCell (dst c n) n) 0 (0 : Fin 3))
      ∗ (bigSep Finset.univ fun n : Cp => atPos ER (sendCell c n) 0 ∅ 0) ∗ (bigSep Finset.univ fun n : Cp => atPos ER (recvCell c n) 0 ∅ 0)
      ∗ bigSep Finset.univ fun n : Cp => cred (tallyAt (recvCell c n) () N))
      ⊢ bigSep Finset.univ fun g : Fin 8 => bigSep Finset.univ fun r : Fin 7 => tok0 (F := F) c (g, r) := by
    rw [← bigSep_univ_prod (fun n : Cp => tok0 (F := F) c n)]
    unfold tok0
    rw [bigSep_sep', bigSep_sep', bigSep_sep', bigSep_sep']
  have hs : iprop((bigSep Finset.univ fun g : Fin 8 => bufs (F := F) c g) ∗ bigSep Finset.univ fun g : Fin 8 => bigSep Finset.univ fun r : Fin 7 => tok0 (F := F) c (g, r))
      ⊢ iprop((bigSep Finset.univ fun g : Fin 8 => G0 (F := F) c g) ∗ bigSep Finset.univ fun g : Fin 8 => iprop(rbuf (F := F) c g 0 ∗ rbuf c g 1 ∗ rbuf c g 2)) := by
    rw [← bigSep_sep', ← bigSep_sep']
    exact bigSep_mono fun g _ => group_start c g
  unfold records alone payToks
  rw [cells_split]
  iintro ⟨⟨HI, HR⟩, ⟨⟨HaB, HaS, HaR⟩, HtB, HtS, HtR⟩, ⟨HcB, HcR⟩, HL, Hb, HO⟩
  ihave Hn := hn $$ [HaS HaR HtS HtR HcR]
  · isplitl [HtS]; · iexact HtS
    isplitl [HtR]; · iexact HtR
    isplitl [HaS]; · iexact HaS
    isplitl [HaR]; · iexact HaR
    iexact HcR
  ihave Hg := hs $$ [Hb Hn]
  · isplitl [Hb] <;> iassumption
  icases Hg with ⟨HG, Hr⟩
  ihave Ho := (ownBuf_groups (F := F) c) $$ Hr
  icases Ho with ⟨o0, o1, o2⟩
  ihave Ht := (Entails.of_eq (three_parts (fun a : Fin 3 => (dutyTok ER (barCell (tb a c)) 0 a : sProp 𝕄)))) $$ HtB
  icases Ht with ⟨t0, t1, t2⟩
  isplitl [HI HR HL]
  · unfold recs
    isplitl [HI]; · iexact HI
    isplitl [HR]; · iexact HR
    iexact HL
  isplitl [HO o0 o1 o2 t0 t1 t2 HcB HaB]
  · unfold B0
    isplitl [HO]; · iexact HO
    isplitl [t0 o0]
    · isplitl [t0] <;> iassumption
    isplitl [t1 o1]
    · isplitl [t1] <;> iassumption
    isplitl [t2 o2]
    · isplitl [t2] <;> iassumption
    isplitl [HcB]; · iexact HcB
    iexact HaB
  iexact HG

/-- Before the kernel, as the region gives it. -/
def bodyPre (c : Dev nD) : sProp 𝕄 :=
  iprop(Φ₀ m c ∗ (dats m ρ 0 c).owesAt () t₀.castSucc
    ∗ (∃ d, owns (c : Thread nD τ) xM fullShare ((dats m ρ 0 c).before (0 : Fin 3) t₀ d))
    ∗ (∃ d, owns (c : Thread nD τ) wM fullShare ((dats m ρ 0 c).before (1 : Fin 3) t₀ d))
    ∗ (∃ d, owns (c : Thread nD τ) oM fullShare ((dats m ρ 0 c).before (2 : Fin 3) t₀ d)))
/-- After the kernel, as the region takes it. -/
def bodyPost (c : Dev nD) : sProp 𝕄 :=
  iprop(Φ₁ (F := F) c ∗ (dats m ρ 0 c).owesAt () t₀.succ ∗ owns (c : Thread nD τ) xM fullShare (inX m c) ∗ owns (c : Thread nD τ) wM fullShare (inW m c)
    ∗ owns (c : Thread nD τ) oM fullShare (outVal (inX m) (inW m) c))

/-- The kernel on device `c`. -/
theorem body_run (c : Dev nD) : bodyPre m ρ c ⊢ run c (atArgs cc0_body) (fun _ => bodyPost m ρ c) := by
  have he : (bigSep Finset.univ fun g : Fin 8 => G27 (inX m) (inW m) c g)
      ⊢ bigSep Finset.univ fun g : Fin 8 => iprop(bufs (F := F) c g ∗ bigSep Finset.univ fun r : Fin 7 => tok3 (F := F) c (g, r)) :=
    bigSep_mono fun g _ => group_end (inX m) (inW m) c g
  unfold bodyPre Φ₀ start ghost
  simp only [before_x, before_w]
  iintro ⟨⟨⟨⟨%K, HR, HA⟩, HC, HL⟩, Hb⟩, Ho, ⟨%d0, HX⟩, ⟨%d1, HW⟩, ⟨%d2, HU⟩⟩
  unfold Dat.owesAt Pipeline.owesWithin
  icases Ho with ⟨%Wt, %hW, HO⟩
  rw [show (dats m ρ 0 c).owed t₀.castSucc = O₀ c from rfl]
  ihave Hg := (gather m c K) $$ [HR HA HC HL Hb HO]
  · isplitl [HR]; · iexact HR
    isplitl [HA]; · iexact HA
    isplitl [HC]; · iexact HC
    isplitl [HL]; · iexact HL
    isplitl [Hb]; · iexact Hb
    iexists Wt; iexact HO
  icases Hg with ⟨HR, HB, HG⟩
  ihave HG := (Entails.of_eq (eight (fun g => G0 (F := F) c g))) $$ HG
  icases HG with ⟨H0, H1, H2, H3, H4, H5, H6, H7⟩
  ihave HU := (outSt_none (inX m) (inW m) c _) $$ HU
  iapply (body (inX m) (inW m) K c) $$ [HR HB H0 H1 H2 H3 H4 H5 H6 H7 HU HX HW]
  · isplitl [HR]; · iexact HR
    isplitl [HX]; · iexact HX
    isplitl [HW]; · iexact HW
    isplitl [HU]; · iexact HU
    isplitl [HB]; · iexact HB
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iintro ⟨HX, HW, HU, H0, H1, H2, H3, H4, H5, H6, H7, HO, HZ⟩
  ihave HU := (outSt_all (inX m) (inW m) c) $$ HU
  ihave HG := (Entails.of_eq (eight (fun g => G27 (inX m) (inW m) c g)).symm) $$ [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  ihave HG := he $$ HG
  unfold owing
  icases HO with ⟨%Wt', HO⟩
  unfold bodyPost Φ₁ Dat.owesAt Pipeline.owesWithin
  rw [show (dats m ρ 0 c).owed t₀.succ = 0 from rfl]
  isplitl [HG HZ]
  · isplitl [HG] <;> iassumption
  isplitl [HO]
  · iexists Wt'
    isplitr; · ipureintro; exact fun _ _ => Or.inl trivial
    iexact HO
  isplitl [HX]; · iexact HX
  isplitl [HW]; · iexact HW
  iexact HU

set_option maxRecDepth 100000 in
/-- The kernel on device `c`, as the launch theorem asks for it. -/
theorem body_obligation (c : Dev nD) : BodyObligation (dats (F := F) m ρ 0 c) (defs₀ (F := F)) 𝒱₀ () Set.univ := fun t => by
  rw [only_point t, bigSep_W0, bigSep_W0]
  exact body_run m ρ c

/-! ## The launch -/

/-- The kernel's own semaphores are what the launch says they are. -/
theorem own_sems : Pipeline.OwnSemFacts cfg0.spec osem := by decide +kernel

/-- Every share is full. -/
theorem share_full (c : Dev nD) (w : Fin cfg0.W) : (dats m ρ 0 c).share w = fullShare := by unfold Dat.share; split <;> rfl

/-- What the region starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost (inX m) (inW m) c)
      ⊢ |={Set.univ}=> iprop(start m c ∗ emp) := by
  iintro ⟨-, HL, Hcr, -, HG⟩
  ihave Hc := (creds (F := F) c) $$ Hcr
  imodintro
  unfold start
  isplitl
  · isplitl [HG]; · iexact HG
    isplitl [Hc]; · iexact Hc
    iexact HL
  · iempintro

/-- Before the kernel, with the scratch buffers. -/
theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (scratch_bufs (F := F) c); iexact Hr

/-- After the kernel, back what the launch gave. -/
theorem leave (c : Dev nD) :
    (dats m ρ 0 c).Φ (Fin.last cfg0.N) ⊢ iprop(unscopedSems0 c ∗ Pipeline.ownSems0 osem c ∗ Pipeline.scopedRest cfg0.spec c) := by
  have ht : (bigSep Finset.univ fun g : Fin 8 => bigSep Finset.univ fun r : Fin 7 => tok3 (F := F) c (g, r)) ⊢ Pipeline.ownSems0 osem c := by
    have e : (Pipeline.ownSems0 osem c : sProp 𝕄)
      = iprop((bigSep Finset.univ fun n : Cp => semVal (sendCell c n) 0) ∗ bigSep Finset.univ fun n : Cp => semVal (recvCell c n) 0) := by
      unfold Pipeline.ownSems0; exact bigSep_univ_sum ..
    rw [e, ← bigSep_univ_prod (fun n : Cp => tok3 (F := F) c n), ← bigSep_sep']
    exact Entails.of_eq (rfl : (bigSep Finset.univ fun n : Cp => tok3 (F := F) c n)
      = bigSep Finset.univ fun n : Cp => iprop(semVal (sendCell c n) 0 ∗ semVal (recvCell c n) 0))
  rw [show (dats m ρ 0 c).Φ (Fin.last cfg0.N) = Φ₁ (F := F) c from rfl, unscoped_bar]
  unfold Φ₁
  rw [bigSep_sep']
  iintro ⟨⟨Hb, Ht⟩, Hz⟩
  isplitl [Hz]; · iexact Hz
  isplitl [Ht]; · iapply ht; iexact Ht
  iapply (bufs_scratch (F := F) c); iexact Hb

/-- The staging may wait. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What an array holds at the end. -/
def finalA (c : Dev nD) (w : Fin cfg0.W) : Buf (Elt F) ((cfg0.win w).arr.view.loc (c : Thread nD τ)) := (dats m ρ 0 c).arrAt w cfg0.N

/-- Every device's arrays hold that. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- Every run on the eight devices, for any float values and any contents, terminates with every device's arrays at the
    computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ own_sems (Pipeline.PreFacts.none _) EP defs₀ 𝒱₀ m ρ main
    (hmain := fun _ => rfl)
    (hbody := body_obligation m ρ) (hne := block_pos0) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := waits m ρ)
    (G := dealt (inX m) (inW m)) (G' := ghost (inX m) (inW m)) (u₀ := u₀)
    (hu₀ := by
      unfold u₀
      iintro Hu
      ihave H := (ownU_pair _ _) $$ Hu
      icases H with ⟨HP, HX⟩
      imod (fund_all (inX m) (inW m)) $$ HX with HG
      imodintro
      isplitl [HP] <;> iassumption)
    (hglob := deal_all (inX m) (inW m))
    (hA := fun _ _ => rfl) (hpf := fun _ k => k.elim0)
    (X := start m) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The first operand's array holds what it held. -/
theorem final_x (c : Dev nD) : finalA m ρ c (0 : Fin 3) = (s₀ m ρ).mem (win0_0.arr.view.loc (c : Thread nD τ)) :=
  (dats (F := F) m ρ 0 c).arrAt_in (0 : Fin 3) rfl _
/-- The second operand's array holds what it held. -/
theorem final_w (c : Dev nD) : finalA m ρ c (1 : Fin 3) = (s₀ m ρ).mem (win0_1.arr.view.loc (c : Thread nD τ)) :=
  (dats (F := F) m ρ 0 c).arrAt_in (1 : Fin 3) rfl _

end Run

end Cert.ReduceProof

end
-- ==== Proof.Values.lean ====
/-
# What the devices compute

Over the extended reals the kernel's result, read at an entry, is the sum over all eight devices of the products of their
columns of the first operand with their rows of the second, negative sums replaced by zero. That sum of sums is the whole
contraction, which is what the reference computes.
-/
module

public import proofs.«01_k».proof.Proof.Launch
public import Idealize.ShloMosaic.Lib.Pointwise
public import Idealize.ShloMosaic.Lib.Layout

@[expose] public section

noncomputable section

namespace Cert.ReduceProof

open Cert.KernelIdeal Cert.KernelIdeal.Gen
open Idealize.ShloMosaic
open Idealize.ShloMosaic.TcCoe

/-! ## The devices of a reduction -/

/-- The devices whose contributions a reduction adds, in the order in which device `c` adds those of group `g`. -/
def adds (g : Fin 8) (c : Dev nD) : List (Dev nD) :=
  [c, par g 0 c, par g 1 c, par g 0 (par g 1 c), par g 2 c, par g 0 (par g 2 c), par g 1 (par g 2 c), par g 0 (par g 1 (par g 2 c))]

/-- They are all the devices, each once. -/
theorem adds_perm (g : Fin 8) (c : Dev nD) : (adds g c).Perm (List.finRange 8) := by
  revert g c; decide +kernel

/-- Added up in that order, a value per device gives the sum over all devices. -/
theorem adds_sum {A : Type} [AddCommMonoid A] (g : Fin 8) (c : Dev nD) (f : Dev nD → A) :
    (f c + f (par g 0 c) + (f (par g 1 c) + f (par g 0 (par g 1 c))))
      + (f (par g 2 c) + f (par g 0 (par g 2 c)) + (f (par g 1 (par g 2 c)) + f (par g 0 (par g 1 (par g 2 c)))))
      = ∑ d : Dev nD, f d := by
  have h : ((adds g c).map f).sum = ((List.finRange 8).map f).sum := ((adds_perm g c).map f).sum_eq
  have h' : ((List.finRange 8).map f).sum = ∑ d : Fin 8, f d := by rw [Fin.sum_univ_def]
  rw [h'] at h
  rw [← h]
  simp only [adds, List.map_cons, List.map_nil, List.sum_cons, List.sum_nil, add_zero, add_assoc]

/-- The device that reduces a quarter lies on the quarter's side in the first exchange, -/
theorem crd0_own (g : Fin 8) (b e : Fin 2) (c : Dev nD) : crd g 0 (own c g b e) = b := by
  revert g b e c; decide +kernel
/-- and in the second. -/
theorem crd1_own (g : Fin 8) (b e : Fin 2) (c : Dev nD) : crd g 1 (own c g b e) = e := by
  revert g b e c; decide +kernel

/-! ## The kernel's result at an entry -/

/-- An addition at an entry. -/
theorem add_at (a b : Vec Ideal S256x128 .bf16) (j : S256x128.Idx) : k0_pay23 a b j = a j + b j := by
  pointwise [k0_pay23]

/-- The last addition at an entry. -/
theorem clamp_at (a b : Vec Ideal S256x128 .bf16) (j : S256x128.Idx) : k0_pay49 a b j = max (a j + b j) 0 := by
  pointwise [k0_pay49]

/-- The widening changes nothing. -/
theorem widen_at (a : Vec Ideal S256x128 .bf16) (j : S256x128.Idx) : k0_pay1 a j = a j := by
  pointwise [k0_pay1]

/-- A product of blocks at an entry. -/
theorem mul_at (a : Vec Ideal S512x128 .bf16) (b : Vec Ideal S128x128 .bf16) (j : S512x128.Idx) :
    k0_pay2 a b j = ∑ k : Fin 128, a (ix2 (j 0) k) * b (ix2 k (j 1)) := by
  pointwise [k0_pay2]

section
variable (X : Dev nD → Vec Ideal S1024x128 .bf16) (W : Dev nD → Vec Ideal S128x1024 .bf16)

/-- The sum after the third exchange is the sum of all devices' contributions to the device's quarter. -/
theorem A3_at (c : Dev nD) (g : Fin 8) (j : S256x128.Idx) :
    A3 X W c g j = max (∑ d : Dev nD, A0 X W d g (crd g 0 c) (crd g 1 c) j) 0 := by
  unfold A3 A2 A1
  simp only [clamp_at, add_at, crd01, crd02, crd12]
  rw [← adds_sum g c (fun d => A0 X W d g (crd g 0 c) (crd g 1 c) j)]

/-- A device's contribution to an entry of the result. -/
theorem A0_at (d : Dev nD) (i : S1024x1024.Idx) :
    A0 X W d (colGroup i) (rowHalf i) (rowQuarter i) (inBlock i)
      = ∑ k : Fin 128, X d (ix2 (i 0) k) * W d (ix2 k (i 1)) := by
  unfold A0 M0
  rw [mul_at]
  refine Finset.sum_congr rfl fun k _ => ?_
  have h0 : (hRect (rowHalf i)).emb (ix2 ((eRect (rowQuarter i)).emb (inBlock i) 0) k) = ix2 (i 0) k := by
    funext a
    refine Fin.ext ?_
    rw [Rect.emb_apply]
    match a with
    | ⟨0, _⟩ =>
      show (i 0).val / 512 * 512 + 1 * ((i 0).val % 512 / 256 * 256 + 1 * ((i 0).val % 256)) = (i 0).val
      omega
    | ⟨1, _⟩ => show 0 + 1 * k.val = k.val; omega
  have h1 : (cRect (colGroup i)).emb (ix2 k ((eRect (rowQuarter i)).emb (inBlock i) 1)) = ix2 k (i 1) := by
    funext a
    refine Fin.ext ?_
    rw [Rect.emb_apply]
    match a with
    | ⟨0, _⟩ => show 0 + 1 * k.val = k.val; omega
    | ⟨1, _⟩ => show (i 1).val / 128 * 128 + 1 * (0 + 1 * ((i 1).val % 128)) = (i 1).val; omega
  exact congrArg₂ (· * ·) (congrArg (X d) h0) (congrArg (W d) h1)

/-- The kernel's result at an entry. -/
theorem outVal_at (c : Dev nD) (i : S1024x1024.Idx) :
    outVal X W c i = max (∑ d : Dev nD, ∑ k : Fin 128, X d (ix2 (i 0) k) * W d (ix2 k (i 1))) 0 := by
  unfold outVal
  rw [widen_at, A3_at, crd0_own, crd1_own]
  simp only [A0_at]

end

/-! ## The reference's value at an entry -/

/-- The devices' contractions together are the contraction of the whole operands. -/
theorem sum_blocks (f : Fin 1024 → EReal) :
    ∑ d : Fin 8, ∑ k : Fin 128, f ⟨d.val * 128 + k.val, by omega⟩ = ∑ K : Fin 1024, f K := by
  rw [← Fintype.sum_prod_type' (fun (d : Fin 8) (k : Fin 128) => f ⟨d.val * 128 + k.val, by omega⟩)]
  refine Fintype.sum_equiv (finProdFinEquiv (m := 8) (n := 128)) _ f fun p => congrArg f (Fin.ext ?_)
  show p.1.val * 128 + p.2.val = p.2.val + 128 * p.1.val
  omega

section
variable (x w : (⟨2, ![1024, 1024]⟩ : Shape).Idx → EReal)

/-- The product of the whole operands, negative entries replaced by zero. -/
def prodVal : S1024x1024.Idx → EReal := fun i => max (∑ K : Fin 1024, x (ix2 (i 0) K) * w (ix2 K (i 1))) 0

/-- On blocks of the whole operands every device's result is that. -/
theorem outVal_blocks (X : Dev nD → Vec Ideal S1024x128 .bf16) (W : Dev nD → Vec Ideal S128x1024 .bf16)
    (hX : ∀ c : Dev nD, X c = Layout.block ⟨2, ![1024, 128]⟩ ⟨2, ![1024, 1024]⟩ 1 8 c x)
    (hW : ∀ c : Dev nD, W c = Layout.block ⟨2, ![128, 1024]⟩ ⟨2, ![1024, 1024]⟩ 0 8 c w) (c : Dev nD) :
    outVal X W c = prodVal x w := by
  funext i
  rw [outVal_at]
  unfold prodVal
  rw [← sum_blocks]
  refine congrArg (max · 0) (Finset.sum_congr rfl fun d _ => Finset.sum_congr rfl fun k _ => ?_)
  rw [hX, hW, Layout.block_apply, Layout.block_apply]
  refine congrArg₂ (· * ·) (congrArg x ?_) (congrArg w ?_)
  · funext a
    match a with
    | ⟨0, _⟩ => rfl
    | ⟨1, _⟩ => rfl
  · funext a
    match a with
    | ⟨0, _⟩ => rfl
    | ⟨1, _⟩ => rfl

end

/-! ## The arrays around the region -/

section
variable (m : (ℓ : Loc nD τ sig) → Buf (Elt Ideal) ℓ) (ρ : Dev nD → PrngReg)

/-- The first operand's block is the whole array. -/
theorem emb_x (j : S1024x128.Idx) : (win0_0.blk (0 : Fin 1)).view.emb j = j := by
  funext a
  match a with
  | ⟨0, _⟩ => refine Fin.ext ?_; show 0 * 1024 + 1 * (j 0).val = (j 0).val; omega
  | ⟨1, _⟩ => refine Fin.ext ?_; show 0 * 128 + 1 * (j 1).val = (j 1).val; omega
/-- The second operand's block is the whole array. -/
theorem emb_w (j : S128x1024.Idx) : (win0_1.blk (0 : Fin 1)).view.emb j = j := by
  funext a
  match a with
  | ⟨0, _⟩ => refine Fin.ext ?_; show 0 * 128 + 1 * (j 0).val = (j 0).val; omega
  | ⟨1, _⟩ => refine Fin.ext ?_; show 0 * 1024 + 1 * (j 1).val = (j 1).val; omega
/-- The result's block is the whole array. -/
theorem emb_out (j : S1024x1024.Idx) : (win0_2.blk (0 : Fin 1)).view.emb j = j := by
  funext a
  match a with
  | ⟨0, _⟩ => refine Fin.ext ?_; show 0 * 1024 + 1 * (j 0).val = (j 0).val; omega
  | ⟨1, _⟩ => refine Fin.ext ?_; show 0 * 1024 + 1 * (j 1).val = (j 1).val; omega

/-- The kernel's first input is the first argument. -/
theorem inX_eq (c : Dev nD) : inX m c = m ((c : Thread nD τ).loc main_arg0) := by
  funext j; unfold inX; rw [View.read_apply, emb_x]
  rfl
/-- The kernel's second input is the second argument. -/
theorem inW_eq (c : Dev nD) : inW m c = m ((c : Thread nD τ).loc main_arg1) := by
  funext j; unfold inW; rw [View.read_apply, emb_w]
  rfl

/-- The result array ends at the kernel's result. -/
theorem final_out (c : Dev nD) : finalA m ρ c (2 : Fin 3) = outVal (inX m) (inW m) c := by
  refine (dats m ρ 0 c).arrAt_eq_of_cover (2 : Fin 3) (outVal (inX m) (inW m) c) (fun t _ => ?_) fun i => ⟨t₀, flush0_2 _, ?_⟩
  · rw [only_point t]
    funext j
    rw [View.read_apply]
    have h : ((cfg0.win 2).blk t₀).view.emb j = j := emb_out j
    rw [h]
    rfl
  · have h := ((cfg0.win 2).blk t₀).view.emb_mem_set i
    have h' : ((cfg0.win 2).blk t₀).view.emb i = i := emb_out i
    rw [h'] at h
    exact h

end

end Cert.ReduceProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Values
public import Idealize.ShloMosaic.Adequacy
public import Idealize.ShloMosaic.Init

@[expose] public section

noncomputable section

namespace Cert.Proof

open Idealize.ShloMosaic Idealize.SL.Sem Cert.Kernel

/-- The operands after the run hold what they held, and every counter is zero. -/
theorem kept {F : FTy → Type} [FloatOps F]
    (m : (ℓ : Loc Cert.KernelIdeal.nD Cert.KernelIdeal.τ Cert.KernelIdeal.sig) → Buf (Elt F) ℓ) (ρ : Dev Cert.KernelIdeal.nD → PrngReg)
    {r : PUnit × MemSt Cert.KernelIdeal.nD Cert.KernelIdeal.τ Cert.KernelIdeal.sig (Elt F)}
    (h : Cert.ReduceProof.QC m ρ r ∧ r.2.sem = fun _ => 0) :
    (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0 :=
  ⟨fun c => ⟨(h.1 c (0 : Fin 3)).trans (Cert.ReduceProof.final_x m ρ c), (h.1 c (1 : Fin 3)).trans (Cert.ReduceProof.final_w m ρ c)⟩, h.2⟩

set_option maxRecDepth 100000 in
/-- The printed kernel's body table is the idealized kernel's. -/
theorem bodies_eq : Cert.Kernel.defs₀ (F := Bits) = Cert.KernelIdeal.defs₀ :=
  congrArg Defs.onTc (funext fun l => funext fun a => by
    match l, a with
    | 0, (t, s) => rfl)

set_option maxRecDepth 100000 in
/-- And so is the whole table. -/
theorem defs_eq : Cert.Kernel.defs (F := Bits) = Cert.KernelIdeal.defs := by
  unfold Cert.Kernel.defs Cert.KernelIdeal.defs
  exact congrArg (Pipeline.defs (Cert.KernelIdeal.pcfgs (F := Bits))) bodies_eq

/-- The printed kernel runs on the eight devices, keeps its operands and ends with every counter at zero: its text is the
    idealized kernel's, whose run is proved for any float values. -/
theorem frame_kernel : Cert.quiescent_Kernel := fun m ρ _ => by
  have h := (θ_run (Cert.KernelIdeal.defs (F := Bits)) _ _).mono (fun _ h => kept (F := Bits) m ρ h) (Cert.ReduceProof.run_main (F := Bits) m ρ)
  rw [← defs_eq] at h
  exact h

/-- The idealized kernel runs, keeps its operands and ends with every counter at zero. -/
theorem frame_kernelIdeal : Cert.quiescent_KernelIdeal := fun m ρ _ =>
  (θ_run Cert.KernelIdeal.defs _ _).mono (fun _ h => kept (F := Ideal) m ρ h) (Cert.ReduceProof.run_main (F := Ideal) m ρ)

/-- The reference runs and keeps its operands; it has no semaphores. -/
theorem frame_referenceIdeal : Cert.quiescent_ReferenceIdeal := fun m ρ _ =>
  (θ_run Cert.ReferenceIdeal.defs _ _).mono (fun r h => ⟨fun c => (h c).2, funext fun ⟨_, sm⟩ => by
    cases sm with
    | reg i => exact i.elim0
    | dma i => exact i.elim0⟩)
    (Cert.ReferenceIdeal.Value.run (F := Ideal) m ρ)

/-- The reference's result at an entry. -/
theorem reference_value (x w : FVec Ideal Cert.ReferenceIdeal.S1024x1024 .bf16) :
    maximumf (F := Ideal) (extf .f32 (truncf .bf16 (Host.dotGeneral Cert.ReferenceIdeal.dot_S1024x1024_S1024x1024_S1024x1024_1_0_0_1_n_n none x w) Cert.ReferenceIdeal.Facts₀.bitsLt_bf16_f32) Cert.ReferenceIdeal.Facts₀.bitsLt_bf16_f32)
      (broadcastInDim Cert.ReferenceIdeal.S1024x1024 ![] Cert.ReferenceIdeal.Facts₀.bcast_S_S1024x1024 (constant Cert.ReferenceIdeal.S_ .f32 0x00000000#32))
      = Cert.ReduceProof.prodVal x w := by
  funext i
  unfold Cert.ReduceProof.prodVal
  pointwise

/-- On blocks of the same operands every device of the kernel ends with the reference's result. -/
theorem algebraic_kernel : Cert.algebraic_KernelIdeal_ReferenceIdeal := by
  intro m ρ m' ρ' _ hagree
  refine ⟨Cert.ReduceProof.prodVal (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · refine (θ_run Cert.KernelIdeal.defs _ _).mono (fun _ h c => ⟨?_, (kept (F := Ideal) m ρ h).1 c⟩)
      (Cert.ReduceProof.run_main (F := Ideal) m ρ)
    refine (h.1 c (2 : Fin 3)).trans ((Cert.ReduceProof.final_out m ρ c).trans ?_)
    exact Cert.ReduceProof.outVal_blocks _ _ _ _ (fun d => (Cert.ReduceProof.inX_eq m d).trans (hagree d).1)
      (fun d => (Cert.ReduceProof.inW_eq m d).trans (hagree d).2) c
  · exact (θ_run Cert.ReferenceIdeal.defs _ _).mono (fun _ h => ⟨(h 0).1.trans (reference_value _ _), (h 0).2⟩)
      (Cert.ReferenceIdeal.Value.run (F := Ideal) m' ρ')

/-- All claims. -/
theorem claim : Cert.Claim := ⟨Cert.Kernel.Gen.facts, Cert.KernelIdeal.Gen.facts, Cert.ReferenceIdeal.Gen.facts,
  frame_kernel, frame_kernelIdeal, frame_referenceIdeal, trivial, algebraic_kernel⟩

end Cert.Proof

end
